-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutRefIdeal (m : (ℓ : Loc Cert.S5OutRefIdeal.nD Cert.S5OutRefIdeal.τ Cert.S5OutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_QkPrep (m : (ℓ : Loc Cert.QkPrep.nD Cert.QkPrep.τ Cert.QkPrep.sig) → Buf (Elt Bits) ℓ) : Prop :=
  True

def Pre_QkPrepIdeal (m : (ℓ : Loc Cert.QkPrepIdeal.nD Cert.QkPrepIdeal.τ Cert.QkPrepIdeal.sig) → Buf (Elt Ideal) ℓ) : Prop :=
  True

def Pre_QkPrepRefIdeal (m : (ℓ : Loc Cert.QkPrepRefIdeal.nD Cert.QkPrepRefIdeal.τ Cert.QkPrepRefIdeal.sig) → Buf (Elt Ideal) ℓ) : Prop :=
  True

def Pre_S5Pow (m : (ℓ : Loc Cert.S5Pow.nD Cert.S5Pow.τ Cert.S5Pow.sig) → Buf (Elt Bits) ℓ) : Prop :=
  True

def Pre_S5PowIdeal (m : (ℓ : Loc Cert.S5PowIdeal.nD Cert.S5PowIdeal.τ Cert.S5PowIdeal.sig) → Buf (Elt Ideal) ℓ) : Prop :=
  True

def Pre_S5PowIdeal_finite_transitions [hPre_finite_transitions : Cert.Pre_finite_transitions.Facts] (m : (ℓ : Loc Cert.S5PowIdeal.nD Cert.S5PowIdeal.τ Cert.S5PowIdeal.sig) → Buf (Elt Ideal) ℓ) : Prop :=
  ∀ c : Dev Cert.S5PowIdeal.nD,
    (Cert.Pre_finite_transitions.fn (F := Ideal) (m ((c.tc : Thread Cert.S5PowIdeal.nD Cert.S5PowIdeal.τ).loc Cert.S5PowIdeal.main_arg0)) (m ((c.tc : Thread Cert.S5PowIdeal.nD Cert.S5PowIdeal.τ).loc Cert.S5PowIdeal.main_arg1)) (m ((c.tc : Thread Cert.S5PowIdeal.nD Cert.S5PowIdeal.τ).loc Cert.S5PowIdeal.main_arg2)) (m ((c.tc : Thread Cert.S5PowIdeal.nD Cert.S5PowIdeal.τ).loc Cert.S5PowIdeal.main_arg3)) (m ((c.tc : Thread Cert.S5PowIdeal.nD Cert.S5PowIdeal.τ).loc Cert.S5PowIdeal.main_arg4)) (m ((c.tc : Thread Cert.S5PowIdeal.nD Cert.S5PowIdeal.τ).loc Cert.S5PowIdeal.main_arg5)) (m ((c.tc : Thread Cert.S5PowIdeal.nD Cert.S5PowIdeal.τ).loc Cert.S5PowIdeal.main_arg6))).1 = (fun _ => 1#1)
    ∧ (Cert.Pre_finite_transitions.fn (F := Ideal) (m ((c.tc : Thread Cert.S5PowIdeal.nD Cert.S5PowIdeal.τ).loc Cert.S5PowIdeal.main_arg0)) (m ((c.tc : Thread Cert.S5PowIdeal.nD Cert.S5PowIdeal.τ).loc Cert.S5PowIdeal.main_arg1)) (m ((c.tc : Thread Cert.S5PowIdeal.nD Cert.S5PowIdeal.τ).loc Cert.S5PowIdeal.main_arg2)) (m ((c.tc : Thread Cert.S5PowIdeal.nD Cert.S5PowIdeal.τ).loc Cert.S5PowIdeal.main_arg3)) (m ((c.tc : Thread Cert.S5PowIdeal.nD Cert.S5PowIdeal.τ).loc Cert.S5PowIdeal.main_arg4)) (m ((c.tc : Thread Cert.S5PowIdeal.nD Cert.S5PowIdeal.τ).loc Cert.S5PowIdeal.main_arg5)) (m ((c.tc : Thread Cert.S5PowIdeal.nD Cert.S5PowIdeal.τ).loc Cert.S5PowIdeal.main_arg6))).2.1 = (fun _ => 1#1)
    ∧ (Cert.Pre_finite_transitions.fn (F := Ideal) (m ((c.tc : Thread Cert.S5PowIdeal.nD Cert.S5PowIdeal.τ).loc Cert.S5PowIdeal.main_arg0)) (m ((c.tc : Thread Cert.S5PowIdeal.nD Cert.S5PowIdeal.τ).loc Cert.S5PowIdeal.main_arg1)) (m ((c.tc : Thread Cert.S5PowIdeal.nD Cert.S5PowIdeal.τ).loc Cert.S5PowIdeal.main_arg2)) (m ((c.tc : Thread Cert.S5PowIdeal.nD Cert.S5PowIdeal.τ).loc Cert.S5PowIdeal.main_arg3)) (m ((c.tc : Thread Cert.S5PowIdeal.nD Cert.S5PowIdeal.τ).loc Cert.S5PowIdeal.main_arg4)) (m ((c.tc : Thread Cert.S5PowIdeal.nD Cert.S5PowIdeal.τ).loc Cert.S5PowIdeal.main_arg5)) (m ((c.tc : Thread Cert.S5PowIdeal.nD Cert.S5PowIdeal.τ).loc Cert.S5PowIdeal.main_arg6))).2.2 = (fun _ => 1#1)

def Pre_S5PowRefIdeal (m : (ℓ : Loc Cert.S5PowRefIdeal.nD Cert.S5PowRefIdeal.τ Cert.S5PowRefIdeal.sig) → Buf (Elt Ideal) ℓ) : Prop :=
  True

def Pre_S5PowRefIdeal_finite_transitions [hPre_finite_transitions : Cert.Pre_finite_transitions.Facts] (m : (ℓ : Loc Cert.S5PowRefIdeal.nD Cert.S5PowRefIdeal.τ Cert.S5PowRefIdeal.sig) → Buf (Elt Ideal) ℓ) : Prop :=
  ∀ c : Dev Cert.S5PowRefIdeal.nD,
    (Cert.Pre_finite_transitions.fn (F := Ideal) (m ((c.tc : Thread Cert.S5PowRefIdeal.nD Cert.S5PowRefIdeal.τ).loc Cert.S5PowRefIdeal.main_arg0)) (m ((c.tc : Thread Cert.S5PowRefIdeal.nD Cert.S5PowRefIdeal.τ).loc Cert.S5PowRefIdeal.main_arg1)) (m ((c.tc : Thread Cert.S5PowRefIdeal.nD Cert.S5PowRefIdeal.τ).loc Cert.S5PowRefIdeal.main_arg2)) (m ((c.tc : Thread Cert.S5PowRefIdeal.nD Cert.S5PowRefIdeal.τ).loc Cert.S5PowRefIdeal.main_arg3)) (m ((c.tc : Thread Cert.S5PowRefIdeal.nD Cert.S5PowRefIdeal.τ).loc Cert.S5PowRefIdeal.main_arg4)) (m ((c.tc : Thread Cert.S5PowRefIdeal.nD Cert.S5PowRefIdeal.τ).loc Cert.S5PowRefIdeal.main_arg5)) (m ((c.tc : Thread Cert.S5PowRefIdeal.nD Cert.S5PowRefIdeal.τ).loc Cert.S5PowRefIdeal.main_arg6))).1 = (fun _ => 1#1)
    ∧ (Cert.Pre_finite_transitions.fn (F := Ideal) (m ((c.tc : Thread Cert.S5PowRefIdeal.nD Cert.S5PowRefIdeal.τ).loc Cert.S5PowRefIdeal.main_arg0)) (m ((c.tc : Thread Cert.S5PowRefIdeal.nD Cert.S5PowRefIdeal.τ).loc Cert.S5PowRefIdeal.main_arg1)) (m ((c.tc : Thread Cert.S5PowRefIdeal.nD Cert.S5PowRefIdeal.τ).loc Cert.S5PowRefIdeal.main_arg2)) (m ((c.tc : Thread Cert.S5PowRefIdeal.nD Cert.S5PowRefIdeal.τ).loc Cert.S5PowRefIdeal.main_arg3)) (m ((c.tc : Thread Cert.S5PowRefIdeal.nD Cert.S5PowRefIdeal.τ).loc Cert.S5PowRefIdeal.main_arg4)) (m ((c.tc : Thread Cert.S5PowRefIdeal.nD Cert.S5PowRefIdeal.τ).loc Cert.S5PowRefIdeal.main_arg5)) (m ((c.tc : Thread Cert.S5PowRefIdeal.nD Cert.S5PowRefIdeal.τ).loc Cert.S5PowRefIdeal.main_arg6))).2.1 = (fun _ => 1#1)
    ∧ (Cert.Pre_finite_transitions.fn (F := Ideal) (m ((c.tc : Thread Cert.S5PowRefIdeal.nD Cert.S5PowRefIdeal.τ).loc Cert.S5PowRefIdeal.main_arg0)) (m ((c.tc : Thread Cert.S5PowRefIdeal.nD Cert.S5PowRefIdeal.τ).loc Cert.S5PowRefIdeal.main_arg1)) (m ((c.tc : Thread Cert.S5PowRefIdeal.nD Cert.S5PowRefIdeal.τ).loc Cert.S5PowRefIdeal.main_arg2)) (m ((c.tc : Thread Cert.S5PowRefIdeal.nD Cert.S5PowRefIdeal.τ).loc Cert.S5PowRefIdeal.main_arg3)) (m ((c.tc : Thread Cert.S5PowRefIdeal.nD Cert.S5PowRefIdeal.τ).loc Cert.S5PowRefIdeal.main_arg4)) (m ((c.tc : Thread Cert.S5PowRefIdeal.nD Cert.S5PowRefIdeal.τ).loc Cert.S5PowRefIdeal.main_arg5)) (m ((c.tc : Thread Cert.S5PowRefIdeal.nD Cert.S5PowRefIdeal.τ).loc Cert.S5PowRefIdeal.main_arg6))).2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2)
      ∧ r.2.mem ((c.tc : Thread Cert.S5Out.nD Cert.S5Out.τ).loc Cert.S5Out.main_arg3) = m ((c.tc : Thread Cert.S5Out.nD Cert.S5Out.τ).loc Cert.S5Out.main_arg3))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3))
      ∧ r.2.sem = fun _ => 0)

def quiescent_S5OutRefIdeal [hS5OutRefIdeal : Cert.S5OutRefIdeal.Facts] : Prop :=
  ∀ (m : (ℓ : Loc Cert.S5OutRefIdeal.nD Cert.S5OutRefIdeal.τ Cert.S5OutRefIdeal.sig) → Buf (Elt Ideal) ℓ) (g : Dev Cert.S5OutRefIdeal.nD → PrngReg), Pre_S5OutRefIdeal m →
    θ_run (Cert.S5OutRefIdeal.defs (F := Ideal)) (onTc (τ := Cert.S5OutRefIdeal.τ) (Cert.S5OutRefIdeal.main (F := Ideal))) ⟨m, fun _ => 0, g⟩ (fun r => (∀ c : Dev Cert.S5OutRefIdeal.nD,
      r.2.mem ((c.tc : Thread Cert.S5OutRefIdeal.nD Cert.S5OutRefIdeal.τ).loc Cert.S5OutRefIdeal.main_arg0) = m ((c.tc : Thread Cert.S5OutRefIdeal.nD Cert.S5OutRefIdeal.τ).loc Cert.S5OutRefIdeal.main_arg0)
      ∧ r.2.mem ((c.tc : Thread Cert.S5OutRefIdeal.nD Cert.S5OutRefIdeal.τ).loc Cert.S5OutRefIdeal.main_arg1) = m ((c.tc : Thread Cert.S5OutRefIdeal.nD Cert.S5OutRefIdeal.τ).loc Cert.S5OutRefIdeal.main_arg1)
      ∧ r.2.mem ((c.tc : Thread Cert.S5OutRefIdeal.nD Cert.S5OutRefIdeal.τ).loc Cert.S5OutRefIdeal.main_arg2) = m ((c.tc : Thread Cert.S5OutRefIdeal.nD Cert.S5OutRefIdeal.τ).loc Cert.S5OutRefIdeal.main_arg2)
      ∧ r.2.mem ((c.tc : Thread Cert.S5OutRefIdeal.nD Cert.S5OutRefIdeal.τ).loc Cert.S5OutRefIdeal.main_arg3) = m ((c.tc : Thread Cert.S5OutRefIdeal.nD Cert.S5OutRefIdeal.τ).loc Cert.S5OutRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_QkPrep [hQkPrep : Cert.QkPrep.Facts] : Prop :=
  ∀ (m : (ℓ : Loc Cert.QkPrep.nD Cert.QkPrep.τ Cert.QkPrep.sig) → Buf (Elt Bits) ℓ) (g : Dev Cert.QkPrep.nD → PrngReg), Pre_QkPrep m →
    θ_run (Cert.QkPrep.defs (F := Bits)) (onTc (τ := Cert.QkPrep.τ) (Cert.QkPrep.main (F := Bits))) ⟨m, fun _ => 0, g⟩ (fun r => (∀ c : Dev Cert.QkPrep.nD,
      r.2.mem ((c.tc : Thread Cert.QkPrep.nD Cert.QkPrep.τ).loc Cert.QkPrep.main_arg0) = m ((c.tc : Thread Cert.QkPrep.nD Cert.QkPrep.τ).loc Cert.QkPrep.main_arg0)
      ∧ r.2.mem ((c.tc : Thread Cert.QkPrep.nD Cert.QkPrep.τ).loc Cert.QkPrep.main_arg1) = m ((c.tc : Thread Cert.QkPrep.nD Cert.QkPrep.τ).loc Cert.QkPrep.main_arg1)
      ∧ r.2.mem ((c.tc : Thread Cert.QkPrep.nD Cert.QkPrep.τ).loc Cert.QkPrep.main_arg2) = m ((c.tc : Thread Cert.QkPrep.nD Cert.QkPrep.τ).loc Cert.QkPrep.main_arg2)
      ∧ r.2.mem ((c.tc : Thread Cert.QkPrep.nD Cert.QkPrep.τ).loc Cert.QkPrep.main_arg3) = m ((c.tc : Thread Cert.QkPrep.nD Cert.QkPrep.τ).loc Cert.QkPrep.main_arg3)
      ∧ r.2.mem ((c.tc : Thread Cert.QkPrep.nD Cert.QkPrep.τ).loc Cert.QkPrep.main_arg4) = m ((c.tc : Thread Cert.QkPrep.nD Cert.QkPrep.τ).loc Cert.QkPrep.main_arg4))
      ∧ r.2.sem = fun _ => 0)

def quiescent_QkPrepIdeal [hQkPrepIdeal : Cert.QkPrepIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
      ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
      ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ r.2.sem = fun _ => 0)

def quiescent_QkPrepRefIdeal [hQkPrepRefIdeal : Cert.QkPrepRefIdeal.Facts] : Prop :=
  ∀ (m : (ℓ : Loc Cert.QkPrepRefIdeal.nD Cert.QkPrepRefIdeal.τ Cert.QkPrepRefIdeal.sig) → Buf (Elt Ideal) ℓ) (g : Dev Cert.QkPrepRefIdeal.nD → PrngReg), Pre_QkPrepRefIdeal m →
    θ_run (Cert.QkPrepRefIdeal.defs (F := Ideal)) (onTc (τ := Cert.QkPrepRefIdeal.τ) (Cert.QkPrepRefIdeal.main (F := Ideal))) ⟨m, fun _ => 0, g⟩ (fun r => (∀ c : Dev Cert.QkPrepRefIdeal.nD,
      r.2.mem ((c.tc : Thread Cert.QkPrepRefIdeal.nD Cert.QkPrepRefIdeal.τ).loc Cert.QkPrepRefIdeal.main_arg0) = m ((c.tc : Thread Cert.QkPrepRefIdeal.nD Cert.QkPrepRefIdeal.τ).loc Cert.QkPrepRefIdeal.main_arg0)
      ∧ r.2.mem ((c.tc : Thread Cert.QkPrepRefIdeal.nD Cert.QkPrepRefIdeal.τ).loc Cert.QkPrepRefIdeal.main_arg1) = m ((c.tc : Thread Cert.QkPrepRefIdeal.nD Cert.QkPrepRefIdeal.τ).loc Cert.QkPrepRefIdeal.main_arg1)
      ∧ r.2.mem ((c.tc : Thread Cert.QkPrepRefIdeal.nD Cert.QkPrepRefIdeal.τ).loc Cert.QkPrepRefIdeal.main_arg2) = m ((c.tc : Thread Cert.QkPrepRefIdeal.nD Cert.QkPrepRefIdeal.τ).loc Cert.QkPrepRefIdeal.main_arg2)
      ∧ r.2.mem ((c.tc : Thread Cert.QkPrepRefIdeal.nD Cert.QkPrepRefIdeal.τ).loc Cert.QkPrepRefIdeal.main_arg3) = m ((c.tc : Thread Cert.QkPrepRefIdeal.nD Cert.QkPrepRefIdeal.τ).loc Cert.QkPrepRefIdeal.main_arg3)
      ∧ r.2.mem ((c.tc : Thread Cert.QkPrepRefIdeal.nD Cert.QkPrepRefIdeal.τ).loc Cert.QkPrepRefIdeal.main_arg4) = m ((c.tc : Thread Cert.QkPrepRefIdeal.nD Cert.QkPrepRefIdeal.τ).loc Cert.QkPrepRefIdeal.main_arg4))
      ∧ r.2.sem = fun _ => 0)

def quiescent_S5Pow [hS5Pow : Cert.S5Pow.Facts] : Prop :=
  ∀ (m : (ℓ : Loc Cert.S5Pow.nD Cert.S5Pow.τ Cert.S5Pow.sig) → Buf (Elt Bits) ℓ) (g : Dev Cert.S5Pow.nD → PrngReg), Pre_S5Pow m →
    θ_run (Cert.S5Pow.defs (F := Bits)) (onTc (τ := Cert.S5Pow.τ) (Cert.S5Pow.main (F := Bits))) ⟨m, fun _ => 0, g⟩ (fun r => (∀ c : Dev Cert.S5Pow.nD,
      r.2.mem ((c.tc : Thread Cert.S5Pow.nD Cert.S5Pow.τ).loc Cert.S5Pow.main_arg0) = m ((c.tc : Thread Cert.S5Pow.nD Cert.S5Pow.τ).loc Cert.S5Pow.main_arg0)
      ∧ r.2.mem ((c.tc : Thread Cert.S5Pow.nD Cert.S5Pow.τ).loc Cert.S5Pow.main_arg1) = m ((c.tc : Thread Cert.S5Pow.nD Cert.S5Pow.τ).loc Cert.S5Pow.main_arg1)
      ∧ r.2.mem ((c.tc : Thread Cert.S5Pow.nD Cert.S5Pow.τ).loc Cert.S5Pow.main_arg2) = m ((c.tc : Thread Cert.S5Pow.nD Cert.S5Pow.τ).loc Cert.S5Pow.main_arg2)
      ∧ r.2.mem ((c.tc : Thread Cert.S5Pow.nD Cert.S5Pow.τ).loc Cert.S5Pow.main_arg3) = m ((c.tc : Thread Cert.S5Pow.nD Cert.S5Pow.τ).loc Cert.S5Pow.main_arg3)
      ∧ r.2.mem ((c.tc : Thread Cert.S5Pow.nD Cert.S5Pow.τ).loc Cert.S5Pow.main_arg4) = m ((c.tc : Thread Cert.S5Pow.nD Cert.S5Pow.τ).loc Cert.S5Pow.main_arg4)
      ∧ r.2.mem ((c.tc : Thread Cert.S5Pow.nD Cert.S5Pow.τ).loc Cert.S5Pow.main_arg5) = m ((c.tc : Thread Cert.S5Pow.nD Cert.S5Pow.τ).loc Cert.S5Pow.main_arg5)
      ∧ r.2.mem ((c.tc : Thread Cert.S5Pow.nD Cert.S5Pow.τ).loc Cert.S5Pow.main_arg6) = m ((c.tc : Thread Cert.S5Pow.nD Cert.S5Pow.τ).loc Cert.S5Pow.main_arg6))
      ∧ r.2.sem = fun _ => 0)

def quiescent_S5PowIdeal [hS5PowIdeal : Cert.S5PowIdeal.Facts] : Prop :=
  ∀ (m : (ℓ : Loc Cert.S5PowIdeal.nD Cert.S5PowIdeal.τ Cert.S5PowIdeal.sig) → Buf (Elt Ideal) ℓ) (g : Dev Cert.S5PowIdeal.nD → PrngReg), Pre_S5PowIdeal m →
    θ_run (Cert.S5PowIdeal.defs (F := Ideal)) (onTc (τ := Cert.S5PowIdeal.τ) (Cert.S5PowIdeal.main (F := Ideal))) ⟨m, fun _ => 0, g⟩ (fun r => (∀ c : Dev Cert.S5PowIdeal.nD,
      r.2.mem ((c.tc : Thread Cert.S5PowIdeal.nD Cert.S5PowIdeal.τ).loc Cert.S5PowIdeal.main_arg0) = m ((c.tc : Thread Cert.S5PowIdeal.nD Cert.S5PowIdeal.τ).loc Cert.S5PowIdeal.main_arg0)
      ∧ r.2.mem ((c.tc : Thread Cert.S5PowIdeal.nD Cert.S5PowIdeal.τ).loc Cert.S5PowIdeal.main_arg1) = m ((c.tc : Thread Cert.S5PowIdeal.nD Cert.S5PowIdeal.τ).loc Cert.S5PowIdeal.main_arg1)
      ∧ r.2.mem ((c.tc : Thread Cert.S5PowIdeal.nD Cert.S5PowIdeal.τ).loc Cert.S5PowIdeal.main_arg2) = m ((c.tc : Thread Cert.S5PowIdeal.nD Cert.S5PowIdeal.τ).loc Cert.S5PowIdeal.main_arg2)
      ∧ r.2.mem ((c.tc : Thread Cert.S5PowIdeal.nD Cert.S5PowIdeal.τ).loc Cert.S5PowIdeal.main_arg3) = m ((c.tc : Thread Cert.S5PowIdeal.nD Cert.S5PowIdeal.τ).loc Cert.S5PowIdeal.main_arg3)
      ∧ r.2.mem ((c.tc : Thread Cert.S5PowIdeal.nD Cert.S5PowIdeal.τ).loc Cert.S5PowIdeal.main_arg4) = m ((c.tc : Thread Cert.S5PowIdeal.nD Cert.S5PowIdeal.τ).loc Cert.S5PowIdeal.main_arg4)
      ∧ r.2.mem ((c.tc : Thread Cert.S5PowIdeal.nD Cert.S5PowIdeal.τ).loc Cert.S5PowIdeal.main_arg5) = m ((c.tc : Thread Cert.S5PowIdeal.nD Cert.S5PowIdeal.τ).loc Cert.S5PowIdeal.main_arg5)
      ∧ r.2.mem ((c.tc : Thread Cert.S5PowIdeal.nD Cert.S5PowIdeal.τ).loc Cert.S5PowIdeal.main_arg6) = m ((c.tc : Thread Cert.S5PowIdeal.nD Cert.S5PowIdeal.τ).loc Cert.S5PowIdeal.main_arg6))
      ∧ r.2.sem = fun _ => 0)

def quiescent_S5PowIdeal_pre_finite_transitions [hS5PowIdeal : Cert.S5PowIdeal.Facts] [hPre_finite_transitions : Cert.Pre_finite_transitions.Facts] : Prop :=
  ∀ (m : (ℓ : Loc Cert.S5PowIdeal.nD Cert.S5PowIdeal.τ Cert.S5PowIdeal.sig) → Buf (Elt Ideal) ℓ) (g : Dev Cert.S5PowIdeal.nD → PrngReg), Pre_S5PowIdeal_finite_transitions m →
    θ_run (Cert.S5PowIdeal.defs (F := Ideal)) (onTc (τ := Cert.S5PowIdeal.τ) (Cert.S5PowIdeal.main (F := Ideal))) ⟨m, fun _ => 0, g⟩ (fun r => (∀ c : Dev Cert.S5PowIdeal.nD,
      r.2.mem ((c.tc : Thread Cert.S5PowIdeal.nD Cert.S5PowIdeal.τ).loc Cert.S5PowIdeal.main_arg0) = m ((c.tc : Thread Cert.S5PowIdeal.nD Cert.S5PowIdeal.τ).loc Cert.S5PowIdeal.main_arg0)
      ∧ r.2.mem ((c.tc : Thread Cert.S5PowIdeal.nD Cert.S5PowIdeal.τ).loc Cert.S5PowIdeal.main_arg1) = m ((c.tc : Thread Cert.S5PowIdeal.nD Cert.S5PowIdeal.τ).loc Cert.S5PowIdeal.main_arg1)
      ∧ r.2.mem ((c.tc : Thread Cert.S5PowIdeal.nD Cert.S5PowIdeal.τ).loc Cert.S5PowIdeal.main_arg2) = m ((c.tc : Thread Cert.S5PowIdeal.nD Cert.S5PowIdeal.τ).loc Cert.S5PowIdeal.main_arg2)
      ∧ r.2.mem ((c.tc : Thread Cert.S5PowIdeal.nD Cert.S5PowIdeal.τ).loc Cert.S5PowIdeal.main_arg3) = m ((c.tc : Thread Cert.S5PowIdeal.nD Cert.S5PowIdeal.τ).loc Cert.S5PowIdeal.main_arg3)
      ∧ r.2.mem ((c.tc : Thread Cert.S5PowIdeal.nD Cert.S5PowIdeal.τ).loc Cert.S5PowIdeal.main_arg4) = m ((c.tc : Thread Cert.S5PowIdeal.nD Cert.S5PowIdeal.τ).loc Cert.S5PowIdeal.main_arg4)
      ∧ r.2.mem ((c.tc : Thread Cert.S5PowIdeal.nD Cert.S5PowIdeal.τ).loc Cert.S5PowIdeal.main_arg5) = m ((c.tc : Thread Cert.S5PowIdeal.nD Cert.S5PowIdeal.τ).loc Cert.S5PowIdeal.main_arg5)
      ∧ r.2.mem ((c.tc : Thread Cert.S5PowIdeal.nD Cert.S5PowIdeal.τ).loc Cert.S5PowIdeal.main_arg6) = m ((c.tc : Thread Cert.S5PowIdeal.nD Cert.S5PowIdeal.τ).loc Cert.S5PowIdeal.main_arg6))
      ∧ r.2.sem = fun _ => 0)

def quiescent_S5PowRefIdeal [hS5PowRefIdeal : Cert.S5PowRefIdeal.Facts] : Prop :=
  ∀ (m : (ℓ : Loc Cert.S5PowRefIdeal.nD Cert.S5PowRefIdeal.τ Cert.S5PowRefIdeal.sig) → Buf (Elt Ideal) ℓ) (g : Dev Cert.S5PowRefIdeal.nD → PrngReg), Pre_S5PowRefIdeal m →
    θ_run (Cert.S5PowRefIdeal.defs (F := Ideal)) (onTc (τ := Cert.S5PowRefIdeal.τ) (Cert.S5PowRefIdeal.main (F := Ideal))) ⟨m, fun _ => 0, g⟩ (fun r => (∀ c : Dev Cert.S5PowRefIdeal.nD,
      r.2.mem ((c.tc : Thread Cert.S5PowRefIdeal.nD Cert.S5PowRefIdeal.τ).loc Cert.S5PowRefIdeal.main_arg0) = m ((c.tc : Thread Cert.S5PowRefIdeal.nD Cert.S5PowRefIdeal.τ).loc Cert.S5PowRefIdeal.main_arg0)
      ∧ r.2.mem ((c.tc : Thread Cert.S5PowRefIdeal.nD Cert.S5PowRefIdeal.τ).loc Cert.S5PowRefIdeal.main_arg1) = m ((c.tc : Thread Cert.S5PowRefIdeal.nD Cert.S5PowRefIdeal.τ).loc Cert.S5PowRefIdeal.main_arg1)
      ∧ r.2.mem ((c.tc : Thread Cert.S5PowRefIdeal.nD Cert.S5PowRefIdeal.τ).loc Cert.S5PowRefIdeal.main_arg2) = m ((c.tc : Thread Cert.S5PowRefIdeal.nD Cert.S5PowRefIdeal.τ).loc Cert.S5PowRefIdeal.main_arg2)
      ∧ r.2.mem ((c.tc : Thread Cert.S5PowRefIdeal.nD Cert.S5PowRefIdeal.τ).loc Cert.S5PowRefIdeal.main_arg3) = m ((c.tc : Thread Cert.S5PowRefIdeal.nD Cert.S5PowRefIdeal.τ).loc Cert.S5PowRefIdeal.main_arg3)
      ∧ r.2.mem ((c.tc : Thread Cert.S5PowRefIdeal.nD Cert.S5PowRefIdeal.τ).loc Cert.S5PowRefIdeal.main_arg4) = m ((c.tc : Thread Cert.S5PowRefIdeal.nD Cert.S5PowRefIdeal.τ).loc Cert.S5PowRefIdeal.main_arg4)
      ∧ r.2.mem ((c.tc : Thread Cert.S5PowRefIdeal.nD Cert.S5PowRefIdeal.τ).loc Cert.S5PowRefIdeal.main_arg5) = m ((c.tc : Thread Cert.S5PowRefIdeal.nD Cert.S5PowRefIdeal.τ).loc Cert.S5PowRefIdeal.main_arg5)
      ∧ r.2.mem ((c.tc : Thread Cert.S5PowRefIdeal.nD Cert.S5PowRefIdeal.τ).loc Cert.S5PowRefIdeal.main_arg6) = m ((c.tc : Thread Cert.S5PowRefIdeal.nD Cert.S5PowRefIdeal.τ).loc Cert.S5PowRefIdeal.main_arg6))
      ∧ r.2.sem = fun _ => 0)

def quiescent_S5PowRefIdeal_pre_finite_transitions [hS5PowRefIdeal : Cert.S5PowRefIdeal.Facts] [hPre_finite_transitions : Cert.Pre_finite_transitions.Facts] : Prop :=
  ∀ (m : (ℓ : Loc Cert.S5PowRefIdeal.nD Cert.S5PowRefIdeal.τ Cert.S5PowRefIdeal.sig) → Buf (Elt Ideal) ℓ) (g : Dev Cert.S5PowRefIdeal.nD → PrngReg), Pre_S5PowRefIdeal_finite_transitions m →
    θ_run (Cert.S5PowRefIdeal.defs (F := Ideal)) (onTc (τ := Cert.S5PowRefIdeal.τ) (Cert.S5PowRefIdeal.main (F := Ideal))) ⟨m, fun _ => 0, g⟩ (fun r => (∀ c : Dev Cert.S5PowRefIdeal.nD,
      r.2.mem ((c.tc : Thread Cert.S5PowRefIdeal.nD Cert.S5PowRefIdeal.τ).loc Cert.S5PowRefIdeal.main_arg0) = m ((c.tc : Thread Cert.S5PowRefIdeal.nD Cert.S5PowRefIdeal.τ).loc Cert.S5PowRefIdeal.main_arg0)
      ∧ r.2.mem ((c.tc : Thread Cert.S5PowRefIdeal.nD Cert.S5PowRefIdeal.τ).loc Cert.S5PowRefIdeal.main_arg1) = m ((c.tc : Thread Cert.S5PowRefIdeal.nD Cert.S5PowRefIdeal.τ).loc Cert.S5PowRefIdeal.main_arg1)
      ∧ r.2.mem ((c.tc : Thread Cert.S5PowRefIdeal.nD Cert.S5PowRefIdeal.τ).loc Cert.S5PowRefIdeal.main_arg2) = m ((c.tc : Thread Cert.S5PowRefIdeal.nD Cert.S5PowRefIdeal.τ).loc Cert.S5PowRefIdeal.main_arg2)
      ∧ r.2.mem ((c.tc : Thread Cert.S5PowRefIdeal.nD Cert.S5PowRefIdeal.τ).loc Cert.S5PowRefIdeal.main_arg3) = m ((c.tc : Thread Cert.S5PowRefIdeal.nD Cert.S5PowRefIdeal.τ).loc Cert.S5PowRefIdeal.main_arg3)
      ∧ r.2.mem ((c.tc : Thread Cert.S5PowRefIdeal.nD Cert.S5PowRefIdeal.τ).loc Cert.S5PowRefIdeal.main_arg4) = m ((c.tc : Thread Cert.S5PowRefIdeal.nD Cert.S5PowRefIdeal.τ).loc Cert.S5PowRefIdeal.main_arg4)
      ∧ r.2.mem ((c.tc : Thread Cert.S5PowRefIdeal.nD Cert.S5PowRefIdeal.τ).loc Cert.S5PowRefIdeal.main_arg5) = m ((c.tc : Thread Cert.S5PowRefIdeal.nD Cert.S5PowRefIdeal.τ).loc Cert.S5PowRefIdeal.main_arg5)
      ∧ r.2.mem ((c.tc : Thread Cert.S5PowRefIdeal.nD Cert.S5PowRefIdeal.τ).loc Cert.S5PowRefIdeal.main_arg6) = m ((c.tc : Thread Cert.S5PowRefIdeal.nD Cert.S5PowRefIdeal.τ).loc Cert.S5PowRefIdeal.main_arg6))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v49) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v105) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v37) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)) →
    ∃ (v0 : (c : Dev Cert.MixOutIdeal.nD) → Buf (Elt Ideal) ((c.tc : Thread Cert.MixOutIdeal.nD Cert.MixOutIdeal.τ).loc Cert.MixOutIdeal.main_v6)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v105) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11))

def preserves_S5Out_S5OutIdeal : Prop :=
  True

def algebraic_S5OutIdeal_S5OutRefIdeal [hS5OutIdeal : Cert.S5OutIdeal.Facts] [hS5OutRefIdeal : Cert.S5OutRefIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutRefIdeal.nD Cert.S5OutRefIdeal.τ Cert.S5OutRefIdeal.sig) → Buf (Elt Ideal) ℓ) (g' : Dev Cert.S5OutRefIdeal.nD → PrngReg), Pre_S5OutIdeal m →
    (∀ c : Dev Cert.S5OutIdeal.nD,
      m' ((c.tc : Thread Cert.S5OutRefIdeal.nD Cert.S5OutRefIdeal.τ).loc Cert.S5OutRefIdeal.main_arg0) = m ((c.tc : Thread Cert.S5OutIdeal.nD Cert.S5OutIdeal.τ).loc Cert.S5OutIdeal.main_arg0)
      ∧ m' ((c.tc : Thread Cert.S5OutRefIdeal.nD Cert.S5OutRefIdeal.τ).loc Cert.S5OutRefIdeal.main_arg1) = m ((c.tc : Thread Cert.S5OutIdeal.nD Cert.S5OutIdeal.τ).loc Cert.S5OutIdeal.main_arg1)
      ∧ m' ((c.tc : Thread Cert.S5OutRefIdeal.nD Cert.S5OutRefIdeal.τ).loc Cert.S5OutRefIdeal.main_arg2) = m ((c.tc : Thread Cert.S5OutIdeal.nD Cert.S5OutIdeal.τ).loc Cert.S5OutIdeal.main_arg2)
      ∧ m' ((c.tc : Thread Cert.S5OutRefIdeal.nD Cert.S5OutRefIdeal.τ).loc Cert.S5OutRefIdeal.main_arg3) = m ((c.tc : Thread Cert.S5OutIdeal.nD Cert.S5OutIdeal.τ).loc Cert.S5OutIdeal.main_arg3)) →
    ∃ (v0 : (c : Dev Cert.S5OutIdeal.nD) → Buf (Elt Ideal) ((c.tc : Thread Cert.S5OutIdeal.nD Cert.S5OutIdeal.τ).loc Cert.S5OutIdeal.main_v2)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v2) = v0 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
          ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3))
      ∧ θ_run (Cert.S5OutRefIdeal.defs (F := Ideal)) (onTc (τ := Cert.S5OutRefIdeal.τ) (Cert.S5OutRefIdeal.main (F := Ideal))) ⟨m', fun _ => 0, g'⟩ (fun r => ∀ c : Dev Cert.S5OutRefIdeal.nD,
          r.2.mem ((c.tc : Thread Cert.S5OutRefIdeal.nD Cert.S5OutRefIdeal.τ).loc Cert.S5OutRefIdeal.main_v27) = v0 c
          ∧ r.2.mem ((c.tc : Thread Cert.S5OutRefIdeal.nD Cert.S5OutRefIdeal.τ).loc Cert.S5OutRefIdeal.main_arg0) = m' ((c.tc : Thread Cert.S5OutRefIdeal.nD Cert.S5OutRefIdeal.τ).loc Cert.S5OutRefIdeal.main_arg0)
          ∧ r.2.mem ((c.tc : Thread Cert.S5OutRefIdeal.nD Cert.S5OutRefIdeal.τ).loc Cert.S5OutRefIdeal.main_arg1) = m' ((c.tc : Thread Cert.S5OutRefIdeal.nD Cert.S5OutRefIdeal.τ).loc Cert.S5OutRefIdeal.main_arg1)
          ∧ r.2.mem ((c.tc : Thread Cert.S5OutRefIdeal.nD Cert.S5OutRefIdeal.τ).loc Cert.S5OutRefIdeal.main_arg2) = m' ((c.tc : Thread Cert.S5OutRefIdeal.nD Cert.S5OutRefIdeal.τ).loc Cert.S5OutRefIdeal.main_arg2)
          ∧ r.2.mem ((c.tc : Thread Cert.S5OutRefIdeal.nD Cert.S5OutRefIdeal.τ).loc Cert.S5OutRefIdeal.main_arg3) = m' ((c.tc : Thread Cert.S5OutRefIdeal.nD Cert.S5OutRefIdeal.τ).loc Cert.S5OutRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_QkPrep_QkPrepIdeal : Prop :=
  True

def algebraic_QkPrepIdeal_QkPrepRefIdeal [hQkPrepIdeal : Cert.QkPrepIdeal.Facts] [hQkPrepRefIdeal : Cert.QkPrepRefIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg)
    (m' : (ℓ : Loc Cert.QkPrepRefIdeal.nD Cert.QkPrepRefIdeal.τ Cert.QkPrepRefIdeal.sig) → Buf (Elt Ideal) ℓ) (g' : Dev Cert.QkPrepRefIdeal.nD → PrngReg), Pre_QkPrepIdeal m →
    (∀ c : Dev Cert.QkPrepIdeal.nD,
      m' ((c.tc : Thread Cert.QkPrepRefIdeal.nD Cert.QkPrepRefIdeal.τ).loc Cert.QkPrepRefIdeal.main_arg0) = m ((c.tc : Thread Cert.QkPrepIdeal.nD Cert.QkPrepIdeal.τ).loc Cert.QkPrepIdeal.main_arg0)
      ∧ m' ((c.tc : Thread Cert.QkPrepRefIdeal.nD Cert.QkPrepRefIdeal.τ).loc Cert.QkPrepRefIdeal.main_arg1) = m ((c.tc : Thread Cert.QkPrepIdeal.nD Cert.QkPrepIdeal.τ).loc Cert.QkPrepIdeal.main_arg1)
      ∧ m' ((c.tc : Thread Cert.QkPrepRefIdeal.nD Cert.QkPrepRefIdeal.τ).loc Cert.QkPrepRefIdeal.main_arg2) = m ((c.tc : Thread Cert.QkPrepIdeal.nD Cert.QkPrepIdeal.τ).loc Cert.QkPrepIdeal.main_arg2)
      ∧ m' ((c.tc : Thread Cert.QkPrepRefIdeal.nD Cert.QkPrepRefIdeal.τ).loc Cert.QkPrepRefIdeal.main_arg3) = m ((c.tc : Thread Cert.QkPrepIdeal.nD Cert.QkPrepIdeal.τ).loc Cert.QkPrepIdeal.main_arg3)
      ∧ m' ((c.tc : Thread Cert.QkPrepRefIdeal.nD Cert.QkPrepRefIdeal.τ).loc Cert.QkPrepRefIdeal.main_arg4) = m ((c.tc : Thread Cert.QkPrepIdeal.nD Cert.QkPrepIdeal.τ).loc Cert.QkPrepIdeal.main_arg4)) →
    ∃ (v0 : (c : Dev Cert.QkPrepIdeal.nD) → Buf (Elt Ideal) ((c.tc : Thread Cert.QkPrepIdeal.nD Cert.QkPrepIdeal.τ).loc Cert.QkPrepIdeal.main_v13_0)) (v1 : (c : Dev Cert.QkPrepIdeal.nD) → Buf (Elt Ideal) ((c.tc : Thread Cert.QkPrepIdeal.nD Cert.QkPrepIdeal.τ).loc Cert.QkPrepIdeal.main_v13_1)),
      θ_run (Cert.QkPrepIdeal.defs (F := Ideal)) (onTc (τ := Cert.QkPrepIdeal.τ) (Cert.QkPrepIdeal.main (F := Ideal))) ⟨m, fun _ => 0, g⟩ (fun r => ∀ c : Dev Cert.QkPrepIdeal.nD,
          r.2.mem ((c.tc : Thread Cert.QkPrepIdeal.nD Cert.QkPrepIdeal.τ).loc Cert.QkPrepIdeal.main_v13_0) = v0 c
          ∧ r.2.mem ((c.tc : Thread Cert.QkPrepIdeal.nD Cert.QkPrepIdeal.τ).loc Cert.QkPrepIdeal.main_v13_1) = v1 c
          ∧ r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
          ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
          ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
          ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
          ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ θ_run (Cert.QkPrepRefIdeal.defs (F := Ideal)) (onTc (τ := Cert.QkPrepRefIdeal.τ) (Cert.QkPrepRefIdeal.main (F := Ideal))) ⟨m', fun _ => 0, g'⟩ (fun r => ∀ c : Dev Cert.QkPrepRefIdeal.nD,
          r.2.mem ((c.tc : Thread Cert.QkPrepRefIdeal.nD Cert.QkPrepRefIdeal.τ).loc Cert.QkPrepRefIdeal.main_v91) = v0 c
          ∧ r.2.mem ((c.tc : Thread Cert.QkPrepRefIdeal.nD Cert.QkPrepRefIdeal.τ).loc Cert.QkPrepRefIdeal.main_v93) = v1 c
          ∧ r.2.mem ((c.tc : Thread Cert.QkPrepRefIdeal.nD Cert.QkPrepRefIdeal.τ).loc Cert.QkPrepRefIdeal.main_arg0) = m' ((c.tc : Thread Cert.QkPrepRefIdeal.nD Cert.QkPrepRefIdeal.τ).loc Cert.QkPrepRefIdeal.main_arg0)
          ∧ r.2.mem ((c.tc : Thread Cert.QkPrepRefIdeal.nD Cert.QkPrepRefIdeal.τ).loc Cert.QkPrepRefIdeal.main_arg1) = m' ((c.tc : Thread Cert.QkPrepRefIdeal.nD Cert.QkPrepRefIdeal.τ).loc Cert.QkPrepRefIdeal.main_arg1)
          ∧ r.2.mem ((c.tc : Thread Cert.QkPrepRefIdeal.nD Cert.QkPrepRefIdeal.τ).loc Cert.QkPrepRefIdeal.main_arg2) = m' ((c.tc : Thread Cert.QkPrepRefIdeal.nD Cert.QkPrepRefIdeal.τ).loc Cert.QkPrepRefIdeal.main_arg2)
          ∧ r.2.mem ((c.tc : Thread Cert.QkPrepRefIdeal.nD Cert.QkPrepRefIdeal.τ).loc Cert.QkPrepRefIdeal.main_arg3) = m' ((c.tc : Thread Cert.QkPrepRefIdeal.nD Cert.QkPrepRefIdeal.τ).loc Cert.QkPrepRefIdeal.main_arg3)
          ∧ r.2.mem ((c.tc : Thread Cert.QkPrepRefIdeal.nD Cert.QkPrepRefIdeal.τ).loc Cert.QkPrepRefIdeal.main_arg4) = m' ((c.tc : Thread Cert.QkPrepRefIdeal.nD Cert.QkPrepRefIdeal.τ).loc Cert.QkPrepRefIdeal.main_arg4))

def preserves_S5Pow_S5PowIdeal : Prop :=
  True

def algebraic_S5PowIdeal_S5PowRefIdeal_pre_finite_transitions [hS5PowIdeal : Cert.S5PowIdeal.Facts] [hS5PowRefIdeal : Cert.S5PowRefIdeal.Facts] [hPre_finite_transitions : Cert.Pre_finite_transitions.Facts] : Prop :=
  ∀ (m : (ℓ : Loc Cert.S5PowIdeal.nD Cert.S5PowIdeal.τ Cert.S5PowIdeal.sig) → Buf (Elt Ideal) ℓ) (g : Dev Cert.S5PowIdeal.nD → PrngReg)
    (m' : (ℓ : Loc Cert.S5PowRefIdeal.nD Cert.S5PowRefIdeal.τ Cert.S5PowRefIdeal.sig) → Buf (Elt Ideal) ℓ) (g' : Dev Cert.S5PowRefIdeal.nD → PrngReg), Pre_S5PowIdeal_finite_transitions m →
    (∀ c : Dev Cert.S5PowIdeal.nD,
      m' ((c.tc : Thread Cert.S5PowRefIdeal.nD Cert.S5PowRefIdeal.τ).loc Cert.S5PowRefIdeal.main_arg0) = m ((c.tc : Thread Cert.S5PowIdeal.nD Cert.S5PowIdeal.τ).loc Cert.S5PowIdeal.main_arg0)
      ∧ m' ((c.tc : Thread Cert.S5PowRefIdeal.nD Cert.S5PowRefIdeal.τ).loc Cert.S5PowRefIdeal.main_arg1) = m ((c.tc : Thread Cert.S5PowIdeal.nD Cert.S5PowIdeal.τ).loc Cert.S5PowIdeal.main_arg1)
      ∧ m' ((c.tc : Thread Cert.S5PowRefIdeal.nD Cert.S5PowRefIdeal.τ).loc Cert.S5PowRefIdeal.main_arg2) = m ((c.tc : Thread Cert.S5PowIdeal.nD Cert.S5PowIdeal.τ).loc Cert.S5PowIdeal.main_arg2)
      ∧ m' ((c.tc : Thread Cert.S5PowRefIdeal.nD Cert.S5PowRefIdeal.τ).loc Cert.S5PowRefIdeal.main_arg3) = m ((c.tc : Thread Cert.S5PowIdeal.nD Cert.S5PowIdeal.τ).loc Cert.S5PowIdeal.main_arg3)
      ∧ m' ((c.tc : Thread Cert.S5PowRefIdeal.nD Cert.S5PowRefIdeal.τ).loc Cert.S5PowRefIdeal.main_arg4) = m ((c.tc : Thread Cert.S5PowIdeal.nD Cert.S5PowIdeal.τ).loc Cert.S5PowIdeal.main_arg4)
      ∧ m' ((c.tc : Thread Cert.S5PowRefIdeal.nD Cert.S5PowRefIdeal.τ).loc Cert.S5PowRefIdeal.main_arg5) = m ((c.tc : Thread Cert.S5PowIdeal.nD Cert.S5PowIdeal.τ).loc Cert.S5PowIdeal.main_arg5)
      ∧ m' ((c.tc : Thread Cert.S5PowRefIdeal.nD Cert.S5PowRefIdeal.τ).loc Cert.S5PowRefIdeal.main_arg6) = m ((c.tc : Thread Cert.S5PowIdeal.nD Cert.S5PowIdeal.τ).loc Cert.S5PowIdeal.main_arg6)) →
    ∃ (v0 : (c : Dev Cert.S5PowIdeal.nD) → Buf (Elt Ideal) ((c.tc : Thread Cert.S5PowIdeal.nD Cert.S5PowIdeal.τ).loc Cert.S5PowIdeal.main_v13_3)) (v1 : (c : Dev Cert.S5PowIdeal.nD) → Buf (Elt Ideal) ((c.tc : Thread Cert.S5PowIdeal.nD Cert.S5PowIdeal.τ).loc Cert.S5PowIdeal.main_v13_4)),
      θ_run (Cert.S5PowIdeal.defs (F := Ideal)) (onTc (τ := Cert.S5PowIdeal.τ) (Cert.S5PowIdeal.main (F := Ideal))) ⟨m, fun _ => 0, g⟩ (fun r => ∀ c : Dev Cert.S5PowIdeal.nD,
          r.2.mem ((c.tc : Thread Cert.S5PowIdeal.nD Cert.S5PowIdeal.τ).loc Cert.S5PowIdeal.main_v13_3) = v0 c
          ∧ r.2.mem ((c.tc : Thread Cert.S5PowIdeal.nD Cert.S5PowIdeal.τ).loc Cert.S5PowIdeal.main_v13_4) = v1 c
          ∧ r.2.mem ((c.tc : Thread Cert.S5PowIdeal.nD Cert.S5PowIdeal.τ).loc Cert.S5PowIdeal.main_arg0) = m ((c.tc : Thread Cert.S5PowIdeal.nD Cert.S5PowIdeal.τ).loc Cert.S5PowIdeal.main_arg0)
          ∧ r.2.mem ((c.tc : Thread Cert.S5PowIdeal.nD Cert.S5PowIdeal.τ).loc Cert.S5PowIdeal.main_arg1) = m ((c.tc : Thread Cert.S5PowIdeal.nD Cert.S5PowIdeal.τ).loc Cert.S5PowIdeal.main_arg1)
          ∧ r.2.mem ((c.tc : Thread Cert.S5PowIdeal.nD Cert.S5PowIdeal.τ).loc Cert.S5PowIdeal.main_arg2) = m ((c.tc : Thread Cert.S5PowIdeal.nD Cert.S5PowIdeal.τ).loc Cert.S5PowIdeal.main_arg2)
          ∧ r.2.mem ((c.tc : Thread Cert.S5PowIdeal.nD Cert.S5PowIdeal.τ).loc Cert.S5PowIdeal.main_arg3) = m ((c.tc : Thread Cert.S5PowIdeal.nD Cert.S5PowIdeal.τ).loc Cert.S5PowIdeal.main_arg3)
          ∧ r.2.mem ((c.tc : Thread Cert.S5PowIdeal.nD Cert.S5PowIdeal.τ).loc Cert.S5PowIdeal.main_arg4) = m ((c.tc : Thread Cert.S5PowIdeal.nD Cert.S5PowIdeal.τ).loc Cert.S5PowIdeal.main_arg4)
          ∧ r.2.mem ((c.tc : Thread Cert.S5PowIdeal.nD Cert.S5PowIdeal.τ).loc Cert.S5PowIdeal.main_arg5) = m ((c.tc : Thread Cert.S5PowIdeal.nD Cert.S5PowIdeal.τ).loc Cert.S5PowIdeal.main_arg5)
          ∧ r.2.mem ((c.tc : Thread Cert.S5PowIdeal.nD Cert.S5PowIdeal.τ).loc Cert.S5PowIdeal.main_arg6) = m ((c.tc : Thread Cert.S5PowIdeal.nD Cert.S5PowIdeal.τ).loc Cert.S5PowIdeal.main_arg6))
      ∧ θ_run (Cert.S5PowRefIdeal.defs (F := Ideal)) (onTc (τ := Cert.S5PowRefIdeal.τ) (Cert.S5PowRefIdeal.main (F := Ideal))) ⟨m', fun _ => 0, g'⟩ (fun r => ∀ c : Dev Cert.S5PowRefIdeal.nD,
          r.2.mem ((c.tc : Thread Cert.S5PowRefIdeal.nD Cert.S5PowRefIdeal.τ).loc Cert.S5PowRefIdeal.main_v49) = v0 c
          ∧ r.2.mem ((c.tc : Thread Cert.S5PowRefIdeal.nD Cert.S5PowRefIdeal.τ).loc Cert.S5PowRefIdeal.main_v57) = v1 c
          ∧ r.2.mem ((c.tc : Thread Cert.S5PowRefIdeal.nD Cert.S5PowRefIdeal.τ).loc Cert.S5PowRefIdeal.main_arg0) = m' ((c.tc : Thread Cert.S5PowRefIdeal.nD Cert.S5PowRefIdeal.τ).loc Cert.S5PowRefIdeal.main_arg0)
          ∧ r.2.mem ((c.tc : Thread Cert.S5PowRefIdeal.nD Cert.S5PowRefIdeal.τ).loc Cert.S5PowRefIdeal.main_arg1) = m' ((c.tc : Thread Cert.S5PowRefIdeal.nD Cert.S5PowRefIdeal.τ).loc Cert.S5PowRefIdeal.main_arg1)
          ∧ r.2.mem ((c.tc : Thread Cert.S5PowRefIdeal.nD Cert.S5PowRefIdeal.τ).loc Cert.S5PowRefIdeal.main_arg2) = m' ((c.tc : Thread Cert.S5PowRefIdeal.nD Cert.S5PowRefIdeal.τ).loc Cert.S5PowRefIdeal.main_arg2)
          ∧ r.2.mem ((c.tc : Thread Cert.S5PowRefIdeal.nD Cert.S5PowRefIdeal.τ).loc Cert.S5PowRefIdeal.main_arg3) = m' ((c.tc : Thread Cert.S5PowRefIdeal.nD Cert.S5PowRefIdeal.τ).loc Cert.S5PowRefIdeal.main_arg3)
          ∧ r.2.mem ((c.tc : Thread Cert.S5PowRefIdeal.nD Cert.S5PowRefIdeal.τ).loc Cert.S5PowRefIdeal.main_arg4) = m' ((c.tc : Thread Cert.S5PowRefIdeal.nD Cert.S5PowRefIdeal.τ).loc Cert.S5PowRefIdeal.main_arg4)
          ∧ r.2.mem ((c.tc : Thread Cert.S5PowRefIdeal.nD Cert.S5PowRefIdeal.τ).loc Cert.S5PowRefIdeal.main_arg5) = m' ((c.tc : Thread Cert.S5PowRefIdeal.nD Cert.S5PowRefIdeal.τ).loc Cert.S5PowRefIdeal.main_arg5)
          ∧ r.2.mem ((c.tc : Thread Cert.S5PowRefIdeal.nD Cert.S5PowRefIdeal.τ).loc Cert.S5PowRefIdeal.main_arg6) = m' ((c.tc : Thread Cert.S5PowRefIdeal.nD Cert.S5PowRefIdeal.τ).loc Cert.S5PowRefIdeal.main_arg6))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hS5Out : Cert.S5Out.Facts) (hS5OutIdeal : Cert.S5OutIdeal.Facts) (hS5OutRefIdeal : Cert.S5OutRefIdeal.Facts) (hAda : Cert.Ada.Facts) (hAdaIdeal : Cert.AdaIdeal.Facts) (hAdaRefIdeal : Cert.AdaRefIdeal.Facts) (hQkPrep : Cert.QkPrep.Facts) (hQkPrepIdeal : Cert.QkPrepIdeal.Facts) (hQkPrepRefIdeal : Cert.QkPrepRefIdeal.Facts) (hS5Pow : Cert.S5Pow.Facts) (hS5PowIdeal : Cert.S5PowIdeal.Facts) (hS5PowRefIdeal : Cert.S5PowRefIdeal.Facts) (hPre_finite_scores : Cert.Pre_finite_scores.Facts) (hPre_finite_transitions : Cert.Pre_finite_transitions.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_S5Out (hS5Out := hS5Out)
    ∧ quiescent_S5OutIdeal (hS5OutIdeal := hS5OutIdeal)
    ∧ quiescent_S5OutRefIdeal (hS5OutRefIdeal := hS5OutRefIdeal)
    ∧ quiescent_Ada (hAda := hAda)
    ∧ quiescent_AdaIdeal (hAdaIdeal := hAdaIdeal)
    ∧ quiescent_AdaRefIdeal (hAdaRefIdeal := hAdaRefIdeal)
    ∧ quiescent_QkPrep (hQkPrep := hQkPrep)
    ∧ quiescent_QkPrepIdeal (hQkPrepIdeal := hQkPrepIdeal)
    ∧ quiescent_QkPrepRefIdeal (hQkPrepRefIdeal := hQkPrepRefIdeal)
    ∧ quiescent_S5Pow (hS5Pow := hS5Pow)
    ∧ quiescent_S5PowIdeal (hS5PowIdeal := hS5PowIdeal)
    ∧ quiescent_S5PowIdeal_pre_finite_transitions (hS5PowIdeal := hS5PowIdeal) (hPre_finite_transitions := hPre_finite_transitions)
    ∧ quiescent_S5PowRefIdeal (hS5PowRefIdeal := hS5PowRefIdeal)
    ∧ quiescent_S5PowRefIdeal_pre_finite_transitions (hS5PowRefIdeal := hS5PowRefIdeal) (hPre_finite_transitions := hPre_finite_transitions)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_MixOut_MixOutIdeal
    ∧ algebraic_MixOutIdeal_MixOutRefIdeal (hMixOutIdeal := hMixOutIdeal) (hMixOutRefIdeal := hMixOutRefIdeal)
    ∧ preserves_S5Out_S5OutIdeal
    ∧ algebraic_S5OutIdeal_S5OutRefIdeal (hS5OutIdeal := hS5OutIdeal) (hS5OutRefIdeal := hS5OutRefIdeal)
    ∧ preserves_Ada_AdaIdeal
    ∧ algebraic_AdaIdeal_AdaRefIdeal (hAdaIdeal := hAdaIdeal) (hAdaRefIdeal := hAdaRefIdeal)
    ∧ preserves_QkPrep_QkPrepIdeal
    ∧ algebraic_QkPrepIdeal_QkPrepRefIdeal (hQkPrepIdeal := hQkPrepIdeal) (hQkPrepRefIdeal := hQkPrepRefIdeal)
    ∧ preserves_S5Pow_S5PowIdeal
    ∧ algebraic_S5PowIdeal_S5PowRefIdeal_pre_finite_transitions (hS5PowIdeal := hS5PowIdeal) (hS5PowRefIdeal := hS5PowRefIdeal) (hPre_finite_transitions := hPre_finite_transitions)
-- ==== Pre_finite_scores.lean ====
abbrev S4x2304x1024 : Shape := ⟨3, ![4, 2304, 1024]⟩
abbrev S4x2304x256 : Shape := ⟨3, ![4, 2304, 256]⟩
abbrev S4x2304x11776 : Shape := ⟨3, ![4, 2304, 11776]⟩
abbrev S_ : Shape := ⟨0, ![]⟩

class Facts : Prop where
  bitsLt_bf16_f32 : FTy.bits .bf16 < FTy.bits .f32
  bcast_S_S4x2304x1024 : S_.BroadcastsInDim S4x2304x1024 (![] : Fin 0 → Fin S4x2304x1024.rank)
  reducesTo_S4x2304x1024_S_d0_1_2 : S4x2304x1024.ReducesTo [0, 1, 2] S_
  h_S_ : 0 < S_.numel
  bcast_S_S4x2304x256 : S_.BroadcastsInDim S4x2304x256 (![] : Fin 0 → Fin S4x2304x256.rank)
  reducesTo_S4x2304x256_S_d0_1_2 : S4x2304x256.ReducesTo [0, 1, 2] S_

variable [Facts]

def fn {F : FTy → Type} [FloatOps F] (main_arg0 : FVec F S4x2304x1024 .bf16) (main_arg1 : FVec F S4x2304x256 .bf16) (main_arg2 : FVec F S4x2304x11776 .bf16) : IVec S_ 1 × IVec S_ 1 :=
  let main_v0 : FVec F S4x2304x1024 .f32 := (extf .f32 · bitsLt_bf16_f32) main_arg0
  let main_v1 : FVec F S4x2304x1024 .f32 := Host.absf main_v0
  let main_cst : FVec F S_ .f32 := constant S_ .f32 0x7F800000#32
  let main_v2 : FVec F S4x2304x1024 .f32 := broadcastInDim S4x2304x1024 ![] bcast_S_S4x2304x1024 main_cst
  let main_v3 : IVec S4x2304x1024 1 := cmpf .olt main_v1 main_v2
  let main_c : IVec S_ 1 := constantI S_ 1 1#1
  let main_v4 : IVec S_ 1 := (fun x v => Host.reduce IntOp.andi x v reducesTo_S4x2304x1024_S_d0_1_2 h_S_) main_v3 main_c
  let main_v5 : FVec F S4x2304x256 .f32 := (extf .f32 · bitsLt_bf16_f32) main_arg1
  let main_v6 : FVec F S4x2304x256 .f32 := Host.absf main_v5
  let main_cst_0 : FVec F S_ .f32 := constant S_ .f32 0x7F800000#32
  let main_v7 : FVec F S4x2304x256 .f32 := broadcastInDim S4x2304x256 ![] bcast_S_S4x2304x256 main_cst_0
  let main_v8 : IVec S4x2304x256 1 := cmpf .olt main_v6 main_v7
  let main_c_1 : IVec S_ 1 := constantI S_ 1 1#1
  let main_v9 : IVec S_ 1 := (fun x v => Host.reduce IntOp.andi x v reducesTo_S4x2304x256_S_d0_1_2 h_S_) main_v8 main_c_1
  (main_v4, main_v9)
-- ==== Pre_finite_transitions.lean ====
abbrev S4x2x48x64 : Shape := ⟨4, ![4, 2, 48, 64]⟩
abbrev S4x2x48 : Shape := ⟨3, ![4, 2, 48]⟩
abbrev S4x48x64x16 : Shape := ⟨4, ![4, 48, 64, 16]⟩
abbrev S4x2x48x16x64 : Shape := ⟨5, ![4, 2, 48, 16, 64]⟩
abbrev S_ : Shape := ⟨0, ![]⟩

class Facts : Prop where
  bcast_S_S4x2x48x64 : S_.BroadcastsInDim S4x2x48x64 (![] : Fin 0 → Fin S4x2x48x64.rank)
  reducesTo_S4x2x48x64_S_d0_1_2_3 : S4x2x48x64.ReducesTo [0, 1, 2, 3] S_
  h_S_ : 0 < S_.numel
  bcast_S_S4x2x48 : S_.BroadcastsInDim S4x2x48 (![] : Fin 0 → Fin S4x2x48.rank)
  reducesTo_S4x2x48_S_d0_1_2 : S4x2x48.ReducesTo [0, 1, 2] S_

variable [Facts]

def fn {F : FTy → Type} [FloatOps F] (main_arg0 : FVec F S4x2x48x64 .f32) (main_arg1 : FVec F S4x2x48x64 .f32) (main_arg2 : FVec F S4x2x48 .f32) (main_arg3 : FVec F S4x48x64x16 .f32) (main_arg4 : FVec F S4x48x64x16 .f32) (main_arg5 : FVec F S4x2x48x16x64 .f32) (main_arg6 : FVec F S4x2x48x16x64 .f32) : IVec S_ 1 × IVec S_ 1 × IVec S_ 1 :=
  let main_v0 : FVec F S4x2x48x64 .f32 := Host.absf main_arg0
  let main_cst : FVec F S_ .f32 := constant S_ .f32 0x7F800000#32
  let main_v1 : FVec F S4x2x48x64 .f32 := broadcastInDim S4x2x48x64 ![] bcast_S_S4x2x48x64 main_cst
  let main_v2 : IVec S4x2x48x64 1 := cmpf .olt main_v0 main_v1
  let main_c : IVec S_ 1 := constantI S_ 1 1#1
  let main_v3 : IVec S_ 1 := (fun x v => Host.reduce IntOp.andi x v reducesTo_S4x2x48x64_S_d0_1_2_3 h_S_) main_v2 main_c
  let main_v4 : FVec F S4x2x48x64 .f32 := Host.absf main_arg1
  let main_cst_0 : FVec F S_ .f32 := constant S_ .f32 0x7F800000#32
  let main_v5 : FVec F S4x2x48x64 .f32 := broadcastInDim S4x2x48x64 ![] bcast_S_S4x2x48x64 main_cst_0
  let main_v6 : IVec S4x2x48x64 1 := cmpf .olt main_v4 main_v5
  let main_c_1 : IVec S_ 1 := constantI S_ 1 1#1
  let main_v7 : IVec S_ 1 := (fun x v => Host.reduce IntOp.andi x v reducesTo_S4x2x48x64_S_d0_1_2_3 h_S_) main_v6 main_c_1
  let main_v8 : FVec F S4x2x48 .f32 := Host.absf main_arg2
  let main_cst_2 : FVec F S_ .f32 := constant S_ .f32 0x7F800000#32
  let main_v9 : FVec F S4x2x48 .f32 := broadcastInDim S4x2x48 ![] bcast_S_S4x2x48 main_cst_2
  let main_v10 : IVec S4x2x48 1 := cmpf .olt main_v8 main_v9
  let main_c_3 : IVec S_ 1 := constantI S_ 1 1#1
  let main_v11 : IVec S_ 1 := (fun x v => Host.reduce IntOp.andi x v reducesTo_S4x2x48_S_d0_1_2 h_S_) main_v10 main_c_3
  (main_v3, main_v7, main_v11)
-- ==== Attn.lean ====
abbrev S4x2304x1024 : Shape := ⟨3, ![4, 2304, 1024]⟩
abbrev S4x2304x256 : Shape := ⟨3, ![4, 2304, 256]⟩
abbrev S4x2304x11776 : Shape := ⟨3, ![4, 2304, 11776]⟩
abbrev S1x256x512 : Shape := ⟨3, ![1, 256, 512]⟩
abbrev S1x2304x128 : Shape := ⟨3, ![1, 2304, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S2304x128 : Shape := ⟨2, ![2304, 128]⟩
abbrev S256x2304 : Shape := ⟨2, ![256, 2304]⟩

abbrev nBuf : Space → Nat
  | .hbm => 4
  | .vmem => 8
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x256, .bf16⟩
  | .hbm, ⟨2, _⟩ => ⟨S4x2304x11776, .bf16⟩
  | .hbm, ⟨3, _⟩ => ⟨S4x2304x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x512, .bf16⟩
  | .local _ .vmem, ⟨7, _⟩ => ⟨S1x256x512, .bf16⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 9], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32 : BitVec 32 := 1#32
  let v0 : BitVec 1 := Scalar.cmpi .slt arg2 c1_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c88_i32 : BitVec 32 := 88#32
  let v0 : BitVec 32 := Scalar.addi c88_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S4x2304x1024 : Shape := ⟨3, ![4, 2304, 1024]⟩
abbrev S4x2304x256 : Shape := ⟨3, ![4, 2304, 256]⟩
abbrev S4x2304x11776 : Shape := ⟨3, ![4, 2304, 11776]⟩
abbrev S4x2304x2x4x128 : Shape := ⟨5, ![4, 2304, 2, 4, 128]⟩
abbrev S4x2304x2x128 : Shape := ⟨4, ![4, 2304, 2, 128]⟩
abbrev S4x2048x2x128 : Shape := ⟨4, ![4, 2048, 2, 128]⟩
abbrev S4x256x2x128 : Shape := ⟨4, ![4, 256, 2, 128]⟩
abbrev S4x2048x2x4x128 : Shape := ⟨5, ![4, 2048, 2, 4, 128]⟩
abbrev S4x2x2304x2048x4 : Shape := ⟨5, ![4, 2, 2304, 2048, 4]⟩
abbrev S4x2x4x2048x2304 : Shape := ⟨5, ![4, 2, 4, 2048, 2304]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩
abbrev S4x256x2x4x128 : Shape := ⟨5, ![4, 256, 2, 4, 128]⟩
abbrev S4x2x256x256x4 : Shape := ⟨5, ![4, 2, 256, 256, 4]⟩
abbrev S4x2x4x256x256 : Shape := ⟨5, ![4, 2, 4, 256, 256]⟩
abbrev S4x2x4x256 : Shape := ⟨4, ![4, 2, 4, 256]⟩
abbrev S4x2x4x256x1 : Shape := ⟨5, ![4, 2, 4, 256, 1]⟩
abbrev S4x2x128x4x256 : Shape := ⟨5, ![4, 2, 128, 4, 256]⟩

abbrev nBuf : Space → Nat
  | .hbm => 59
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x256, .bf16⟩
  | .hbm, ⟨2, _⟩ => ⟨S4x2304x11776, .bf16⟩
  | .hbm, ⟨3, _⟩ => ⟨S4x2304x1024, .f32⟩
  | .hbm, ⟨4, _⟩ => ⟨S4x2304x2x4x128, .f32⟩
  | .hbm, ⟨5, _⟩ => ⟨S4x2304x256, .f32⟩
  | .hbm, ⟨6, _⟩ => ⟨S4x2304x2x128, .f32⟩
  | .hbm, ⟨7, _⟩ => ⟨S4x2304x256, .bf16⟩
  | .hbm, ⟨8, _⟩ => ⟨S4x2304x256, .f32⟩
  | .hbm, ⟨9, _⟩ => ⟨S4x2304x2x128, .f32⟩
  | .hbm, ⟨10, _⟩ => ⟨S4x2048x2x128, .f32⟩
  | .hbm, ⟨11, _⟩ => ⟨S4x256x2x128, .f32⟩
  | .hbm, ⟨12, _⟩ => ⟨S4x2304x2x128, .f32⟩
  | .hbm, ⟨13, _⟩ => ⟨S4x2048x2x128, .f32⟩
  | .hbm, ⟨14, _⟩ => ⟨S4x256x2x128, .f32⟩
  | .hbm, ⟨15, _⟩ => ⟨S4x2304x2x128, .f32⟩
  | .hbm, ⟨16, _⟩ => ⟨S4x2048x2x4x128, .f32⟩
  | .hbm, ⟨17, _⟩ => ⟨S4x2x2304x2048x4, .f32⟩
  | .hbm, ⟨18, _⟩ => ⟨S4x2x4x2048x2304, .f32⟩
  | .hbm, ⟨19, _⟩ => ⟨S_, .f32⟩
  | .hbm, ⟨20, _⟩ => ⟨S4x2x4x2048, .f32⟩
  | .hbm, ⟨21, _⟩ => ⟨S_, .f32⟩
  | .hbm, ⟨22, _⟩ => ⟨S4x2x4x2048, .f32⟩
  | .hbm, ⟨23, _⟩ => ⟨S4x2x4x2048, .f32⟩
  | .hbm, ⟨24, _⟩ => ⟨S4x2x4x2048x1, .f32⟩
  | .hbm, ⟨25, _⟩ => ⟨S4x2x4x2048x2304, .f32⟩
  | .hbm, ⟨26, _⟩ => ⟨S4x2x4x2048x2304, .f32⟩
  | .hbm, ⟨27, _⟩ => ⟨S4x2x4x2048x2304, .f32⟩
  | .hbm, ⟨28, _⟩ => ⟨S_, .f32⟩
  | .hbm, ⟨29, _⟩ => ⟨S4x2x4x2048, .f32⟩
  | .hbm, ⟨30, _⟩ => ⟨S4x2x4x2048x1, .f32⟩
  | .hbm, ⟨31, _⟩ => ⟨S4x2x4x2048x2304, .f32⟩
  | .hbm, ⟨32, _⟩ => ⟨S4x2x4x2048x2304, .f32⟩
  | .hbm, ⟨33, _⟩ => ⟨S4x2x128x4x2048, .f32⟩
  | .hbm, ⟨34, _⟩ => ⟨S4x2048x2x4x128, .f32⟩
  | .hbm, ⟨35, _⟩ => ⟨S4x256x2x4x128, .f32⟩
  | .hbm, ⟨36, _⟩ => ⟨S4x256x2x128, .f32⟩
  | .hbm, ⟨37, _⟩ => ⟨S4x256x2x128, .f32⟩
  | .hbm, ⟨38, _⟩ => ⟨S4x2x256x256x4, .f32⟩
  | .hbm, ⟨39, _⟩ => ⟨S4x2x4x256x256, .f32⟩
  | .hbm, ⟨40, _⟩ => ⟨S_, .f32⟩
  | .hbm, ⟨41, _⟩ => ⟨S4x2x4x256, .f32⟩
  | .hbm, ⟨42, _⟩ => ⟨S_, .f32⟩
  | .hbm, ⟨43, _⟩ => ⟨S4x2x4x256, .f32⟩
  | .hbm, ⟨44, _⟩ => ⟨S4x2x4x256, .f32⟩
  | .hbm, ⟨45, _⟩ => ⟨S4x2x4x256x1, .f32⟩
  | .hbm, ⟨46, _⟩ => ⟨S4x2x4x256x256, .f32⟩
  | .hbm, ⟨47, _⟩ => ⟨S4x2x4x256x256, .f32⟩
  | .hbm, ⟨48, _⟩ => ⟨S4x2x4x256x256, .f32⟩
  | .hbm, ⟨49, _⟩ => ⟨S_, .f32⟩
  | .hbm, ⟨50, _⟩ => ⟨S4x2x4x256, .f32⟩
  | .hbm, ⟨51, _⟩ => ⟨S4x2x4x256x1, .f32⟩
  | .hbm, ⟨52, _⟩ => ⟨S4x2x4x256x256, .f32⟩
  | .hbm, ⟨53, _⟩ => ⟨S4x2x4x256x256, .f32⟩
  | .hbm, ⟨54, _⟩ => ⟨S4x2x128x4x256, .f32⟩
  | .hbm, ⟨55, _⟩ => ⟨S4x256x2x4x128, .f32⟩
  | .hbm, ⟨56, _⟩ => ⟨S4x2304x2x4x128, .f32⟩
  | .hbm, ⟨57, _⟩ => ⟨S4x2304x1024, .f32⟩
  | .hbm, ⟨58, _⟩ => ⟨S4x2304x1024, .bf16⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Ffn.lean ====
abbrev S9216x2048 : Shape := ⟨2, ![9216, 2048]⟩
abbrev S8x12288 : Shape := ⟨2, ![8, 12288]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S768x2048 : Shape := ⟨2, ![768, 2048]⟩
abbrev S8x2048 : Shape := ⟨2, ![8, 2048]⟩
abbrev S2048x512 : Shape := ⟨2, ![2048, 512]⟩
abbrev S512x2048 : Shape := ⟨2, ![512, 2048]⟩
abbrev S256x2048 : Shape := ⟨2, ![256, 2048]⟩
abbrev S768x512 : Shape := ⟨2, ![768, 512]⟩
abbrev S256 : Shape := ⟨1, ![256]⟩
abbrev S256x1 : Shape := ⟨2, ![256, 1]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S9216x2048, .f32⟩
  | .hbm, ⟨1, _⟩ => ⟨S8x12288, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S1x2048, .f32⟩
  | .hbm, ⟨10, _⟩ => ⟨S9216x2048, .f32⟩
  | .local _ .vmem, ⟨0, _⟩ => ⟨S768x2048, .f32⟩
  | .local _ .vmem, ⟨1, _⟩ => ⟨S768x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S768x2048, .f32⟩
  | .local _ .vmem, ⟨14, _⟩ => ⟨S768x2048, .f32⟩
  | .local _ .vmem, ⟨15, _⟩ => ⟨S768x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![12, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c0_i32_15 : BitVec 32 := 0#32
  let v25 : BitVec 1 := Scalar.cmpi .sgt arg0 c0_i32_15
  let v26 : BitVec 32 := Scalar.extui v25
  let c0_i32_16 : BitVec 32 := 0#32
  let v27 : BitVec 1 := Scalar.cmpi .slt arg0 c0_i32_16
  let v28 : BitVec 32 := Scalar.extui v27
  let v29 : BitVec 32 := Scalar.subi v26 v28
  let c3_i32 : BitVec 32 := 3#32
  let c0_i32_17 : BitVec 32 := 0#32
  let v30 : BitVec 1 := Scalar.cmpi .sgt c3_i32 c0_i32_17
  let v31 : BitVec 32 := Scalar.extui v30
  let c0_i32_18 : BitVec 32 := 0#32
  let v32 : BitVec 1 := Scalar.cmpi .slt c3_i32 c0_i32_18
  let v33 : BitVec 32 := Scalar.extui v32
  let v34 : BitVec 32 := Scalar.subi v31 v33
  let v35 : BitVec 1 := Scalar.cmpi .ne v29 v34
  let v36 : BitVec 32 := Scalar.remsi arg0 c3_i32
  let c0_i32_19 : BitVec 32 := 0#32
  let v37 : BitVec 1 := Scalar.cmpi .ne v36 c0_i32_19
  let v38 : BitVec 1 := Scalar.andi v35 v37
  let v24 : BitVec 32 := Scalar.divsi arg0 c3_i32
  let c1_i32 : BitVec 32 := 1#32
  let v39 : BitVec 32 := Scalar.subi v24 c1_i32
  let v40 : BitVec 32 := Scalar.select v38 v39 v24
  let v41 : Index := Scalar.indexCast v40
  let c0_20 : Index := 0#32
  ![v41.toNat, 0]
def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_14 : BitVec 32 := 0#32
  let v23 : BitVec 1 := Scalar.cmpi .ne v22 c0_i32_14
  v23

def k0_off2 (i : grid0.Coords) : Fin 2 → Nat :=
  let arg0 : BitVec 32 := BitVec.ofNat 32 (i 0).val
  let c0_i32_15 : BitVec 32 := 0#32
  let v25 : BitVec 1 := Scalar.cmpi .sgt arg0 c0_i32_15
  let v26 : BitVec 32 := Scalar.extui v25
  let c0_i32_16 : BitVec 32 := 0#32
  let v27 : BitVec 1 := Scalar.cmpi .slt arg0 c0_i32_16
  let v28 : BitVec 32 := Scalar.extui v27
  let v29 : BitVec 32 := Scalar.subi v26 v28
  let c3_i32 : BitVec 32 := 3#32
  let c0_i32_17 : BitVec 32 := 0#32
  let v30 : BitVec 1 := Scalar.cmpi .sgt c3_i32 c0_i32_17
  let v31 : BitVec 32 := Scalar.extui v30
  let c0_i32_18 : BitVec 32 := 0#32
  let v32 : BitVec 1 := Scalar.cmpi .slt c3_i32 c0_i32_18
  let v33 : BitVec 32 := Scalar.extui v32
  let v34 : BitVec 32 := Scalar.subi v31 v33
  let v35 : BitVec 1 := Scalar.cmpi .ne v29 v34
  let v36 : BitVec 32 := Scalar.remsi arg0 c3_i32
  let c0_i32_19 : BitVec 32 := 0#32
  let v37 : BitVec 1 := Scalar.cmpi .ne v36 c0_i32_19
  let v38 : BitVec 1 := Scalar.andi v35 v37
  let v24 : BitVec 32 := Scalar.divsi arg0 c3_i32
  let c1_i32 : BitVec 32 := 1#32
  let v39 : BitVec 32 := Scalar.subi v24 c1_i32
  let v40 : BitVec 32 := Scalar.select v38 v39 v24
  let v41 : Index := Scalar.indexCast v40
  let c0_20 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S768x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S9216x2048 : Shape := ⟨2, ![9216, 2048]⟩
abbrev S8x12288 : Shape := ⟨2, ![8, 12288]⟩
abbrev S2048x11264 : Shape := ⟨2, ![2048, 11264]⟩
abbrev S5632x2048 : Shape := ⟨2, ![5632, 2048]⟩
abbrev S2048 : Shape := ⟨1, ![2048]⟩
abbrev S4x2304x2048 : Shape := ⟨3, ![4, 2304, 2048]⟩
abbrev S4x256x2048 : Shape := ⟨3, ![4, 256, 2048]⟩
abbrev S4x2048x2048 : Shape := ⟨3, ![4, 2048, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x12288 : Shape := ⟨2, ![1, 12288]⟩
abbrev S12288 : Shape := ⟨1, ![12288]⟩
abbrev S_ : Shape := ⟨0, ![]⟩
abbrev S4x2048x11264 : Shape := ⟨3, ![4, 2048, 11264]⟩
abbrev S4x2048x5632 : Shape := ⟨3, ![4, 2048, 5632]⟩
abbrev S4x2048 : Shape := ⟨2, ![4, 2048]⟩
abbrev S4x2048x1 : Shape := ⟨3, ![4, 2048, 1]⟩
abbrev S1x1x2048 : Shape := ⟨3, ![1, 1, 2048]⟩
abbrev S4x256x11264 : Shape := ⟨3, ![4, 256, 11264]⟩
abbrev S4x256x5632 : Shape := ⟨3, ![4, 256, 5632]⟩
abbrev S4x256 : Shape := ⟨2, ![4, 256]⟩
abbrev S4x256x1 : Shape := ⟨3, ![4, 256, 1]⟩

abbrev nBuf : Space → Nat
  | .hbm => 142
  | .vmem => 0
  | .smem => 0
  | _ => 0

abbrev hbmTy0_0 (i : Nat) : BufTy := match i % 128 with
  | 0 => ⟨S9216x2048, .f32⟩
  | 1 => ⟨S8x12288, .f32⟩
  | 2 => ⟨S2048x11264, .f32⟩
  | 3 => ⟨S5632x2048, .f32⟩
  | 4 => ⟨S2048, .f32⟩
  | 5 => ⟨S2048, .f32⟩
  | 6 => ⟨S4x2304x2048, .f32⟩
  | 7 => ⟨S4x256x2048, .f32⟩
  | 8 => ⟨S4x2048x2048, .f32⟩
  | 9 => ⟨S4x12288, .f32⟩
  | 10 => ⟨S4x1x12288, .f32⟩
  | 11 => ⟨S4x1x2048, .f32⟩
  | 12 => ⟨S4x1x2048, .f32⟩
  | 13 => ⟨S4x1x2048, .f32⟩
  | 14 => ⟨S4x1x2048, .f32⟩
  | 15 => ⟨S4x1x2048, .f32⟩
  | 16 => ⟨S4x1x2048, .f32⟩
  | 17 => ⟨S1x12288, .f32⟩
  | 18 => ⟨S12288, .f32⟩
  | 19 => ⟨S2048, .f32⟩
  | 20 => ⟨S2048, .f32⟩
  | 21 => ⟨S2048, .f32⟩
  | 22 => ⟨S2048, .f32⟩
  | 23 => ⟨S2048, .f32⟩
  | 24 => ⟨S2048, .f32⟩
  | 25 => ⟨S_, .f32⟩
  | 26 => ⟨S4x1x2048, .f32⟩
  | 27 => ⟨S4x1x2048, .f32⟩
  | 28 => ⟨S4x2048x2048, .f32⟩
  | 29 => ⟨S4x2048x2048, .f32⟩
  | 30 => ⟨S4x2048x2048, .f32⟩
  | 31 => ⟨S4x2048x2048, .f32⟩
  | 32 => ⟨S4x2048x11264, .f32⟩
  | 33 => ⟨S4x2048x5632, .f32⟩
  | 34 => ⟨S4x2048x5632, .f32⟩
  | 35 => ⟨S4x2048x5632, .f32⟩
  | 36 => ⟨S4x2048x5632, .f32⟩
  | 37 => ⟨S_, .f32⟩
  | 38 => ⟨S4x2048x5632, .f32⟩
  | 39 => ⟨S4x2048x5632, .f32⟩
  | 40 => ⟨S_, .f32⟩
  | 41 => ⟨S4x2048x5632, .f32⟩
  | 42 => ⟨S4x2048x5632, .f32⟩
  | 43 => ⟨S4x2048x5632, .f32⟩
  | 44 => ⟨S4x2048x5632, .f32⟩
  | 45 => ⟨S4x2048x2048, .f32⟩
  | 46 => ⟨S4x2048x2048, .f32⟩
  | 47 => ⟨S4x2048x2048, .f32⟩
  | 48 => ⟨S_, .f32⟩
  | 49 => ⟨S4x2048x2048, .f32⟩
  | 50 => ⟨S4x2048x2048, .f32⟩
  | 51 => ⟨S4x2048x2048, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S4x2048x2048, .f32⟩
  | 59 => ⟨S4x2048x2048, .f32⟩
  | 60 => ⟨S4x2048x2048, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S4x2048x2048, .f32⟩
  | 68 => ⟨S4x2048x2048, .f32⟩
  | 69 => ⟨S_, .f32⟩
  | 70 => ⟨S4x2048x1, .f32⟩
  | 71 => ⟨S4x2048x1, .f32⟩
  | 72 => ⟨S4x2048x1, .f32⟩
  | 73 => ⟨S4x2048x2048, .f32⟩
  | 74 => ⟨S4x2048x2048, .f32⟩
  | 75 => ⟨S1x1x2048, .f32⟩
  | 76 => ⟨S4x2048x2048, .f32⟩
  | 77 => ⟨S4x2048x2048, .f32⟩
  | 78 => ⟨S1x1x2048, .f32⟩
  | 79 => ⟨S4x2048x2048, .f32⟩
  | 80 => ⟨S4x2048x2048, .f32⟩
  | 81 => ⟨S_, .f32⟩
  | 82 => ⟨S2048, .f32⟩
  | 83 => ⟨S2048, .f32⟩
  | 84 => ⟨S1x1x2048, .f32⟩
  | 85 => ⟨S4x256x2048, .f32⟩
  | 86 => ⟨S4x256x2048, .f32⟩
  | 87 => ⟨S1x1x2048, .f32⟩
  | 88 => ⟨S4x256x2048, .f32⟩
  | 89 => ⟨S4x256x2048, .f32⟩
  | 90 => ⟨S4x256x11264, .f32⟩
  | 91 => ⟨S4x256x5632, .f32⟩
  | 92 => ⟨S4x256x5632, .f32⟩
  | 93 => ⟨S4x256x5632, .f32⟩
  | 94 => ⟨S4x256x5632, .f32⟩
  | 95 => ⟨S_, .f32⟩
  | 96 => ⟨S4x256x5632, .f32⟩
  | 97 => ⟨S4x256x5632, .f32⟩
  | 98 => ⟨S_, .f32⟩
  | 99 => ⟨S4x256x5632, .f32⟩
  | 100 => ⟨S4x256x5632, .f32⟩
  | 101 => ⟨S4x256x5632, .f32⟩
  | 102 => ⟨S4x256x5632, .f32⟩
  | 103 => ⟨S4x256x2048, .f32⟩
  | 104 => ⟨S1x1x2048, .f32⟩
  | 105 => ⟨S4x256x2048, .f32⟩
  | 106 => ⟨S4x256x2048, .f32⟩
  | 107 => ⟨S_, .f32⟩
  | 108 => ⟨S4x256x2048, .f32⟩
  | 109 => ⟨S4x256x2048, .f32⟩
  | 110 => ⟨S4x256x2048, .f32⟩
  | 111 => ⟨S_, .f32⟩
  | 112 => ⟨S4x256, .f32⟩
  | 113 => ⟨S4x256x1, .f32⟩
  | 114 => ⟨S_, .f32⟩
  | 115 => ⟨S4x256x1, .f32⟩
  | 116 => ⟨S4x256x1, .f32⟩
  | 117 => ⟨S4x256x2048, .f32⟩
  | 118 => ⟨S4x256x2048, .f32⟩
  | 119 => ⟨S4x256x2048, .f32⟩
  | 120 => ⟨S_, .f32⟩
  | 121 => ⟨S4x256, .f32⟩
  | 122 => ⟨S4x256x1, .f32⟩
  | 123 => ⟨S_, .f32⟩
  | 124 => ⟨S4x256x1, .f32⟩
  | 125 => ⟨S4x256x1, .f32⟩
  | 126 => ⟨S4x256x2048, .f32⟩
  | 127 => ⟨S4x256x2048, .f32⟩
  | _ => ⟨S9216x2048, .f32⟩

abbrev hbmTy0_1 (i : Nat) : BufTy := match i % 128 with
  | 0 => ⟨S_, .f32⟩
  | 1 => ⟨S4x256x1, .f32⟩
  | 2 => ⟨S4x256x1, .f32⟩
  | 3 => ⟨S4x256x1, .f32⟩
  | 4 => ⟨S4x256x2048, .f32⟩
  | 5 => ⟨S4x256x2048, .f32⟩
  | 6 => ⟨S1x1x2048, .f32⟩
  | 7 => ⟨S4x256x2048, .f32⟩
  | 8 => ⟨S4x256x2048, .f32⟩
  | 9 => ⟨S1x1x2048, .f32⟩
  | 10 => ⟨S4x256x2048, .f32⟩
  | 11 => ⟨S4x256x2048, .f32⟩
  | 12 => ⟨S4x2304x2048, .f32⟩
  | 13 => ⟨S9216x2048, .f32⟩
  | _ => ⟨S9216x2048, .f32⟩

abbrev hbmTy (i : Nat) : BufTy := match i / 128 with
  | 0 => hbmTy0_0 i
  | 1 => hbmTy0_1 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_7 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_8 : Ref sig .tc := ⟨.hbm, 111, rfl⟩
abbrev main_v80 : Ref sig .tc := ⟨.hbm, 112, rfl⟩
abbrev main_v81 : Ref sig .tc := ⟨.hbm, 113, rfl⟩
abbrev main_cst_9 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_10 : Ref sig .tc := ⟨.hbm, 120, rfl⟩
abbrev main_v87 : Ref sig .tc := ⟨.hbm, 121, rfl⟩
abbrev main_v88 : Ref sig .tc := ⟨.hbm, 122, rfl⟩
abbrev main_cst_11 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_12 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== InProj.lean ====
abbrev S9216x2048 : Shape := ⟨2, ![9216, 2048]⟩
abbrev S8x12288 : Shape := ⟨2, ![8, 12288]⟩
abbrev S2048x11776 : Shape := ⟨2, ![2048, 11776]⟩
abbrev S9216x11776 : Shape := ⟨2, ![9216, 11776]⟩
abbrev S1152x2048 : Shape := ⟨2, ![1152, 2048]⟩
abbrev S8x2048 : Shape := ⟨2, ![8, 2048]⟩
abbrev S2048x512 : Shape := ⟨2, ![2048, 512]⟩
abbrev S1152x512 : Shape := ⟨2, ![1152, 512]⟩
abbrev S1x2048 : Shape := ⟨2, ![1, 2048]⟩
abbrev S256x2048 : Shape := ⟨2, ![256, 2048]⟩
abbrev S896x2048 : Shape := ⟨2, ![896, 2048]⟩

abbrev nBuf : Space → Nat
  | .hbm => 4
  | .vmem => 9
  | .smem => 0
  | _ => 0

abbrev bufTy : (tb : Table) → Fin (tcTables nBuf tb) → BufTy
  | .hbm, ⟨0, _⟩ => ⟨S9216x2048, .f32⟩
  | .hbm, ⟨1, _⟩ => ⟨S8x12288, .f32⟩
  | .hbm, ⟨2, _⟩ => ⟨S2048x11776, .bf16⟩
  | .hbm, ⟨3, _⟩ => ⟨S9216x11776, .bf16⟩
  | .local _ .vmem, ⟨0, _⟩ => ⟨S1152x2048, .f32⟩
  | .local _ .vmem, ⟨1, _⟩ => ⟨S1152x2048, .f32⟩
  | .local _ .vmem, ⟨2, _⟩ => ⟨S8x2048, .f32⟩
  | .local _ .vmem, ⟨3, _⟩ => ⟨S8x2048, .f32⟩
  | .local _ .vmem, ⟨4, _⟩ => ⟨S2048x512, .bf16⟩
  | .local _ .vmem, ⟨5, _⟩ => ⟨S2048x512, .bf16⟩
  | .local _ .vmem, ⟨6, _⟩ => ⟨S1152x512, .bf16⟩
  | .local _ .vmem, ⟨7, _⟩ => ⟨S1152x512, .bf16⟩
  | .local _ .vmem, ⟨8, _⟩ => ⟨S1152x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 23], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c0_i32_6 : BitVec 32 := 0#32
  let v9 : BitVec 1 := Scalar.cmpi .sgt arg0 c0_i32_6
  let v10 : BitVec 32 := Scalar.extui v9
  let c0_i32_7 : BitVec 32 := 0#32
  let v11 : BitVec 1 := Scalar.cmpi .slt arg0 c0_i32_7
  let v12 : BitVec 32 := Scalar.extui v11
  let v13 : BitVec 32 := Scalar.subi v10 v12
  let c2_i32 : BitVec 32 := 2#32
  let c0_i32_8 : BitVec 32 := 0#32
  let v14 : BitVec 1 := Scalar.cmpi .sgt c2_i32 c0_i32_8
  let v15 : BitVec 32 := Scalar.extui v14
  let c0_i32_9 : BitVec 32 := 0#32
  let v16 : BitVec 1 := Scalar.cmpi .slt c2_i32 c0_i32_9
  let v17 : BitVec 32 := Scalar.extui v16
  let v18 : BitVec 32 := Scalar.subi v15 v17
  let v19 : BitVec 1 := Scalar.cmpi .ne v13 v18
  let v20 : BitVec 32 := Scalar.remsi arg0 c2_i32
  let c0_i32_10 : BitVec 32 := 0#32
  let v21 : BitVec 1 := Scalar.cmpi .ne v20 c0_i32_10
  let v22 : BitVec 1 := Scalar.andi v19 v21
  let v8 : BitVec 32 := Scalar.divsi arg0 c2_i32
  let c1_i32 : BitVec 32 := 1#32
  let v23 : BitVec 32 := Scalar.subi v8 c1_i32
  let v24 : BitVec 32 := Scalar.select v22 v23 v8
  let v25 : Index := Scalar.indexCast v24
  let c0_11 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S9216x2048 : Shape := ⟨2, ![9216, 2048]⟩
abbrev S8x12288 : Shape := ⟨2, ![8, 12288]⟩
abbrev S2048x11776 : Shape := ⟨2, ![2048, 11776]⟩
abbrev S4x2304x2048 : Shape := ⟨3, ![4, 2304, 2048]⟩
abbrev S4x256x2048 : Shape := ⟨3, ![4, 256, 2048]⟩
abbrev S4x2048x2048 : Shape := ⟨3, ![4, 2048, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x12288 : Shape := ⟨2, ![1, 12288]⟩
abbrev S12288 : Shape := ⟨1, ![12288]⟩
abbrev S2048 : Shape := ⟨1, ![2048]⟩
abbrev S_ : Shape := ⟨0, ![]⟩
abbrev S1x1x2048 : Shape := ⟨3, ![1, 1, 2048]⟩
abbrev S4x2304x11776 : Shape := ⟨3, ![4, 2304, 11776]⟩
abbrev S9216x11776 : Shape := ⟨2, ![9216, 11776]⟩

abbrev nBuf : Space → Nat
  | .hbm => 43
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S8x12288, .f32⟩
  | .hbm, ⟨2, _⟩ => ⟨S2048x11776, .bf16⟩
  | .hbm, ⟨3, _⟩ => ⟨S4x2304x2048, .f32⟩
  | .hbm, ⟨4, _⟩ => ⟨S4x256x2048, .f32⟩
  | .hbm, ⟨5, _⟩ => ⟨S4x2048x2048, .f32⟩
  | .hbm, ⟨6, _⟩ => ⟨S4x12288, .f32⟩
  | .hbm, ⟨7, _⟩ => ⟨S4x1x12288, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S1x12288, .f32⟩
  | .hbm, ⟨15, _⟩ => ⟨S12288, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S1x1x2048, .f32⟩
  | .hbm, ⟨26, _⟩ => ⟨S4x256x2048, .f32⟩
  | .hbm, ⟨27, _⟩ => ⟨S4x256x2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2304x2048, .f32⟩
  | .hbm, ⟨39, _⟩ => ⟨S2048x11776, .f32⟩
  | .hbm, ⟨40, _⟩ => ⟨S4x2304x11776, .f32⟩
  | .hbm, ⟨41, _⟩ => ⟨S9216x11776, .f32⟩
  | .hbm, ⟨42, _⟩ => ⟨S9216x11776, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== MixOut.lean ====
abbrev S9216x1024 : Shape := ⟨2, ![9216, 1024]⟩
abbrev S9216x768 : Shape := ⟨2, ![9216, 768]⟩
abbrev S1024x2048 : Shape := ⟨2, ![1024, 2048]⟩
abbrev S768x2048 : Shape := ⟨2, ![768, 2048]⟩
abbrev S2048x2048 : Shape := ⟨2, ![2048, 2048]⟩
abbrev S9216x11776 : Shape := ⟨2, ![9216, 11776]⟩
abbrev S9216x2048 : Shape := ⟨2, ![9216, 2048]⟩
abbrev S8x12288 : Shape := ⟨2, ![8, 12288]⟩
abbrev S2048 : Shape := ⟨1, ![2048]⟩
abbrev S1x2048 : Shape := ⟨2, ![1, 2048]⟩
abbrev S768x1024 : Shape := ⟨2, ![768, 1024]⟩
abbrev S768x768 : Shape := ⟨2, ![768, 768]⟩
abbrev S1024x256 : Shape := ⟨2, ![1024, 256]⟩
abbrev S768x256 : Shape := ⟨2, ![768, 256]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 27
  | .smem => 0
  | _ => 0

abbrev bufTy : (tb : Table) → Fin (tcTables nBuf tb) → BufTy
  | .hbm, ⟨0, _⟩ => ⟨S9216x1024, .bf16⟩
  | .hbm, ⟨1, _⟩ => ⟨S9216x768, .bf16⟩
  | .hbm, ⟨2, _⟩ => ⟨S9216x1024, .bf16⟩
  | .hbm, ⟨3, _⟩ => ⟨S1024x2048, .f32⟩
  | .hbm, ⟨4, _⟩ => ⟨S768x2048, .f32⟩
  | .hbm, ⟨5, _⟩ => ⟨S1024x2048, .f32⟩
  | .hbm, ⟨6, _⟩ => ⟨S2048x2048, .f32⟩
  | .hbm, ⟨7, _⟩ => ⟨S9216x11776, .bf16⟩
  | .hbm, ⟨8, _⟩ => ⟨S9216x2048, .f32⟩
  | .hbm, ⟨9, _⟩ => ⟨S8x12288, .f32⟩
  | .hbm, ⟨10, _⟩ => ⟨S2048, .f32⟩
  | .hbm, ⟨11, _⟩ => ⟨S2048, .f32⟩
  | .hbm, ⟨12, _⟩ => ⟨S1024x2048, .bf16⟩
  | .hbm, ⟨13, _⟩ => ⟨S768x2048, .bf16⟩
  | .hbm, ⟨14, _⟩ => ⟨S1024x2048, .bf16⟩
  | .hbm, ⟨15, _⟩ => ⟨S2048x2048, .bf16⟩
  | .hbm, ⟨16, _⟩ => ⟨S1x2048, .f32⟩
  | .hbm, ⟨17, _⟩ => ⟨S1x2048, .f32⟩
  | .hbm, ⟨18, _⟩ => ⟨S9216x2048, .f32⟩
  | .local _ .vmem, ⟨0, _⟩ => ⟨S768x1024, .bf16⟩
  | .local _ .vmem, ⟨1, _⟩ => ⟨S768x1024, .bf16⟩
  | .local _ .vmem, ⟨2, _⟩ => ⟨S768x768, .bf16⟩
  | .local _ .vmem, ⟨3, _⟩ => ⟨S768x768, .bf16⟩
  | .local _ .vmem, ⟨4, _⟩ => ⟨S768x1024, .bf16⟩
  | .local _ .vmem, ⟨5, _⟩ => ⟨S768x1024, .bf16⟩
  | .local _ .vmem, ⟨6, _⟩ => ⟨S1024x256, .bf16⟩
  | .local _ .vmem, ⟨7, _⟩ => ⟨S1024x256, .bf16⟩
  | .local _ .vmem, ⟨8, _⟩ => ⟨S768x256, .bf16⟩
  | .local _ .vmem, ⟨9, _⟩ => ⟨S768x256, .bf16⟩
  | .local _ .vmem, ⟨10, _⟩ => ⟨S1024x256, .bf16⟩
  | .local _ .vmem, ⟨11, _⟩ => ⟨S1024x256, .bf16⟩
  | .local _ .vmem, ⟨12, _⟩ => ⟨S768x256, .bf16⟩
  | .local _ .vmem, ⟨13, _⟩ => ⟨S768x256, .bf16⟩
  | .local _ .vmem, ⟨14, _⟩ => ⟨S768x256, .bf16⟩
  | .local _ .vmem, ⟨15, _⟩ => ⟨S768x256, .bf16⟩
  | .local _ .vmem, ⟨16, _⟩ => ⟨S768x256, .bf16⟩
  | .local _ .vmem, ⟨17, _⟩ => ⟨S768x256, .bf16⟩
  | .local _ .vmem, ⟨18, _⟩ => ⟨S256x2048, .bf16⟩
  | .local _ .vmem, ⟨19, _⟩ => ⟨S256x2048, .bf16⟩
  | .local _ .vmem, ⟨20, _⟩ => ⟨S768x2048, .f32⟩
  | .local _ .vmem, ⟨21, _⟩ => ⟨S768x2048, .f32⟩
  | .local _ .vmem, ⟨22, _⟩ => ⟨S8x2048, .f32⟩
  | .local _ .vmem, ⟨23, _⟩ => ⟨S1x2048, .f32⟩
  | .local _ .vmem, ⟨24, _⟩ => ⟨S1x2048, .f32⟩
  | .local _ .vmem, ⟨25, _⟩ => ⟨S768x2048, .f32⟩
  | .local _ .vmem, ⟨26, _⟩ => ⟨S768x2048, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_27 : BitVec 32 := 0#32
  let v39 : BitVec 1 := Scalar.cmpi .ne v38 c0_i32_27
  v39

def k0_off1 (i : grid0.Coords) : Fin 2 → Nat :=
  let arg0 : BitVec 32 := BitVec.ofNat 32 (i 0).val
  let c0_i32_28 : BitVec 32 := 0#32
  let v41 : BitVec 1 := Scalar.cmpi .sgt arg0 c0_i32_28
  let v42 : BitVec 32 := Scalar.extui v41
  let c0_i32_29 : BitVec 32 := 0#32
  let v43 : BitVec 1 := Scalar.cmpi .slt arg0 c0_i32_29
  let v44 : BitVec 32 := Scalar.extui v43
  let v45 : BitVec 32 := Scalar.subi v42 v44
  let c3_i32 : BitVec 32 := 3#32
  let c0_i32_30 : BitVec 32 := 0#32
  let v46 : BitVec 1 := Scalar.cmpi .sgt c3_i32 c0_i32_30
  let v47 : BitVec 32 := Scalar.extui v46
  let c0_i32_31 : BitVec 32 := 0#32
  let v48 : BitVec 1 := Scalar.cmpi .slt c3_i32 c0_i32_31
  let v49 : BitVec 32 := Scalar.extui v48
  let v50 : BitVec 32 := Scalar.subi v47 v49
  let v51 : BitVec 1 := Scalar.cmpi .ne v45 v50
  let v52 : BitVec 32 := Scalar.remsi arg0 c3_i32
  let c0_i32_32 : BitVec 32 := 0#32
  let v53 : BitVec 1 := Scalar.cmpi .ne v52 c0_i32_32
  let v54 : BitVec 1 := Scalar.andi v51 v53
  let v40 : BitVec 32 := Scalar.divsi arg0 c3_i32
  let c1_i32 : BitVec 32 := 1#32
  let v55 : BitVec 32 := Scalar.subi v40 c1_i32
  let v56 : BitVec 32 := Scalar.select v54 v55 v40
  let v57 : Index := Scalar.indexCast v56
  let c0_33 : Index := 0#32
  ![v57.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S768x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S768x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MixOutRefIdeal.lean ====
abbrev S9216x1024 : Shape := ⟨2, ![9216, 1024]⟩
abbrev S9216x768 : Shape := ⟨2, ![9216, 768]⟩
abbrev S1024x2048 : Shape := ⟨2, ![1024, 2048]⟩
abbrev S768x2048 : Shape := ⟨2, ![768, 2048]⟩
abbrev S2048x2048 : Shape := ⟨2, ![2048, 2048]⟩
abbrev S9216x11776 : Shape := ⟨2, ![9216, 11776]⟩
abbrev S9216x2048 : Shape := ⟨2, ![9216, 2048]⟩
abbrev S8x12288 : Shape := ⟨2, ![8, 12288]⟩
abbrev S2048 : Shape := ⟨1, ![2048]⟩
abbrev S9216x6144 : Shape := ⟨2, ![9216, 6144]⟩
abbrev S_ : Shape := ⟨0, ![]⟩
abbrev S4x2304x2048 : Shape := ⟨3, ![4, 2304, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x12288 : Shape := ⟨2, ![1, 12288]⟩
abbrev S12288 : Shape := ⟨1, ![12288]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x256x2048 : Shape := ⟨3, ![4, 256, 2048]⟩
abbrev S4x256 : Shape := ⟨2, ![4, 256]⟩
abbrev S4x256x1 : Shape := ⟨3, ![4, 256, 1]⟩

abbrev nBuf : Space → Nat
  | .hbm => 132
  | .vmem => 0
  | .smem => 0
  | _ => 0

abbrev hbmTy0_0 (i : Nat) : BufTy := match i % 128 with
  | 0 => ⟨S9216x1024, .bf16⟩
  | 1 => ⟨S9216x768, .bf16⟩
  | 2 => ⟨S9216x1024, .bf16⟩
  | 3 => ⟨S1024x2048, .f32⟩
  | 4 => ⟨S768x2048, .f32⟩
  | 5 => ⟨S1024x2048, .f32⟩
  | 6 => ⟨S2048x2048, .f32⟩
  | 7 => ⟨S9216x11776, .bf16⟩
  | 8 => ⟨S9216x2048, .f32⟩
  | 9 => ⟨S8x12288, .f32⟩
  | 10 => ⟨S2048, .f32⟩
  | 11 => ⟨S2048, .f32⟩
  | 12 => ⟨S9216x6144, .bf16⟩
  | 13 => ⟨S9216x6144, .f32⟩
  | 14 => ⟨S9216x6144, .f32⟩
  | 15 => ⟨S9216x6144, .f32⟩
  | 16 => ⟨S_, .f32⟩
  | 17 => ⟨S9216x6144, .f32⟩
  | 18 => ⟨S9216x6144, .f32⟩
  | 19 => ⟨S_, .f32⟩
  | 20 => ⟨S9216x6144, .f32⟩
  | 21 => ⟨S9216x6144, .f32⟩
  | 22 => ⟨S9216x2048, .f32⟩
  | 23 => ⟨S9216x2048, .f32⟩
  | 24 => ⟨S9216x2048, .f32⟩
  | 25 => ⟨S9216x1024, .f32⟩
  | 26 => ⟨S9216x2048, .f32⟩
  | 27 => ⟨S9216x2048, .f32⟩
  | 28 => ⟨S9216x768, .f32⟩
  | 29 => ⟨S9216x2048, .f32⟩
  | 30 => ⟨S9216x2048, .f32⟩
  | 31 => ⟨S9216x2048, .f32⟩
  | 32 => ⟨S9216x1024, .f32⟩
  | 33 => ⟨S9216x2048, .f32⟩
  | 34 => ⟨S9216x2048, .f32⟩
  | 35 => ⟨S9216x2048, .f32⟩
  | 36 => ⟨S9216x2048, .f32⟩
  | 37 => ⟨S4x2304x2048, .f32⟩
  | 38 => ⟨S4x2304x2048, .f32⟩
  | 39 => ⟨S4x12288, .f32⟩
  | 40 => ⟨S4x1x12288, .f32⟩
  | 41 => ⟨S4x1x2048, .f32⟩
  | 42 => ⟨S4x1x2048, .f32⟩
  | 43 => ⟨S4x1x2048, .f32⟩
  | 44 => ⟨S4x1x2048, .f32⟩
  | 45 => ⟨S4x1x2048, .f32⟩
  | 46 => ⟨S4x1x2048, .f32⟩
  | 47 => ⟨S1x12288, .f32⟩
  | 48 => ⟨S12288, .f32⟩
  | 49 => ⟨S2048, .f32⟩
  | 50 => ⟨S2048, .f32⟩
  | 51 => ⟨S2048, .f32⟩
  | 52 => ⟨S2048, .f32⟩
  | 53 => ⟨S2048, .f32⟩
  | 54 => ⟨S2048, .f32⟩
  | 55 => ⟨S4x2048x2048, .f32⟩
  | 56 => ⟨S4x2048x2048, .f32⟩
  | 57 => ⟨S4x2048x2048, .f32⟩
  | 58 => ⟨S4x2048x2048, .f32⟩
  | 59 => ⟨S_, .f32⟩
  | 60 => ⟨S4x2048x2048, .f32⟩
  | 61 => ⟨S4x2048x2048, .f32⟩
  | 62 => ⟨S4x2048x2048, .f32⟩
  | 63 => ⟨S_, .f32⟩
  | 64 => ⟨S4x2048, .f32⟩
  | 65 => ⟨S4x2048x1, .f32⟩
  | 66 => ⟨S_, .f32⟩
  | 67 => ⟨S4x2048x1, .f32⟩
  | 68 => ⟨S4x2048x1, .f32⟩
  | 69 => ⟨S4x2048x2048, .f32⟩
  | 70 => ⟨S4x2048x2048, .f32⟩
  | 71 => ⟨S4x2048x2048, .f32⟩
  | 72 => ⟨S_, .f32⟩
  | 73 => ⟨S4x2048, .f32⟩
  | 74 => ⟨S4x2048x1, .f32⟩
  | 75 => ⟨S_, .f32⟩
  | 76 => ⟨S4x2048x1, .f32⟩
  | 77 => ⟨S4x2048x1, .f32⟩
  | 78 => ⟨S4x2048x2048, .f32⟩
  | 79 => ⟨S4x2048x2048, .f32⟩
  | 80 => ⟨S_, .f32⟩
  | 81 => ⟨S4x2048x1, .f32⟩
  | 82 => ⟨S4x2048x1, .f32⟩
  | 83 => ⟨S4x2048x1, .f32⟩
  | 84 => ⟨S4x2048x2048, .f32⟩
  | 85 => ⟨S4x2048x2048, .f32⟩
  | 86 => ⟨S1x1x2048, .f32⟩
  | 87 => ⟨S4x2048x2048, .f32⟩
  | 88 => ⟨S4x2048x2048, .f32⟩
  | 89 => ⟨S1x1x2048, .f32⟩
  | 90 => ⟨S4x2048x2048, .f32⟩
  | 91 => ⟨S4x2048x2048, .f32⟩
  | 92 => ⟨S4x256x2048, .f32⟩
  | 93 => ⟨S4x256x2048, .f32⟩
  | 94 => ⟨S1x1x2048, .f32⟩
  | 95 => ⟨S4x256x2048, .f32⟩
  | 96 => ⟨S4x256x2048, .f32⟩
  | 97 => ⟨S_, .f32⟩
  | 98 => ⟨S4x256x2048, .f32⟩
  | 99 => ⟨S4x256x2048, .f32⟩
  | 100 => ⟨S4x256x2048, .f32⟩
  | 101 => ⟨S_, .f32⟩
  | 102 => ⟨S4x256, .f32⟩
  | 103 => ⟨S4x256x1, .f32⟩
  | 104 => ⟨S_, .f32⟩
  | 105 => ⟨S4x256x1, .f32⟩
  | 106 => ⟨S4x256x1, .f32⟩
  | 107 => ⟨S4x256x2048, .f32⟩
  | 108 => ⟨S4x256x2048, .f32⟩
  | 109 => ⟨S4x256x2048, .f32⟩
  | 110 => ⟨S_, .f32⟩
  | 111 => ⟨S4x256, .f32⟩
  | 112 => ⟨S4x256x1, .f32⟩
  | 113 => ⟨S_, .f32⟩
  | 114 => ⟨S4x256x1, .f32⟩
  | 115 => ⟨S4x256x1, .f32⟩
  | 116 => ⟨S4x256x2048, .f32⟩
  | 117 => ⟨S4x256x2048, .f32⟩
  | 118 => ⟨S_, .f32⟩
  | 119 => ⟨S4x256x1, .f32⟩
  | 120 => ⟨S4x256x1, .f32⟩
  | 121 => ⟨S4x256x1, .f32⟩
  | 122 => ⟨S4x256x2048, .f32⟩
  | 123 => ⟨S4x256x2048, .f32⟩
  | 124 => ⟨S1x1x2048, .f32⟩
  | 125 => ⟨S4x256x2048, .f32⟩
  | 126 => ⟨S4x256x2048, .f32⟩
  | 127 => ⟨S1x1x2048, .f32⟩
  | _ => ⟨S9216x1024, .bf16⟩

abbrev hbmTy0_1 (i : Nat) : BufTy := match i % 128 with
  | 0 => ⟨S4x256x2048, .f32⟩
  | 1 => ⟨S4x256x2048, .f32⟩
  | 2 => ⟨S4x2304x2048, .f32⟩
  | 3 => ⟨S9216x2048, .f32⟩
  | _ => ⟨S9216x1024, .bf16⟩

abbrev hbmTy (i : Nat) : BufTy := match i / 128 with
  | 0 => hbmTy0_0 i
  | 1 => hbmTy0_1 i
  | _ => ⟨S9216x1024, .bf16⟩

abbrev bufTy : (tb : Table) → Fin (tcTables nBuf tb) → BufTy
  | .hbm, ⟨i, _⟩ => hbmTy i
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_2 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_4 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_7 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_cst_9 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_10 : Ref sig .tc := ⟨.hbm, 110, rfl⟩
abbrev main_v87 : Ref sig .tc := ⟨.hbm, 111, rfl⟩
abbrev main_v88 : Ref sig .tc := ⟨.hbm, 112, rfl⟩
abbrev main_cst_11 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_12 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]
-- ==== S5Out.lean ====
abbrev S9216x768 : Shape := ⟨2, ![9216, 768]⟩
abbrev S9216x11776 : Shape := ⟨2, ![9216, 11776]⟩
abbrev S768 : Shape := ⟨1, ![768]⟩
abbrev S768x768 : Shape := ⟨2, ![768, 768]⟩
abbrev S1x768 : Shape := ⟨2, ![1, 768]⟩

abbrev nBuf : Space → Nat
  | .hbm => 7
  | .vmem => 8
  | .smem => 0
  | _ => 0

abbrev bufTy : (tb : Table) → Fin (tcTables nBuf tb) → BufTy
  | .hbm, ⟨0, _⟩ => ⟨S9216x768, .f32⟩
  | .hbm, ⟨1, _⟩ => ⟨S9216x11776, .bf16⟩
  | .hbm, ⟨2, _⟩ => ⟨S768, .f32⟩
  | .hbm, ⟨3, _⟩ => ⟨S768x768, .f32⟩
  | .hbm, ⟨4, _⟩ => ⟨S768x768, .bf16⟩
  | .hbm, ⟨5, _⟩ => ⟨S1x768, .f32⟩
  | .hbm, ⟨6, _⟩ => ⟨S9216x768, .bf16⟩
  | .local _ .vmem, ⟨0, _⟩ => ⟨S768x768, .f32⟩
  | .local _ .vmem, ⟨1, _⟩ => ⟨S768x768, .f32⟩
  | .local _ .vmem, ⟨2, _⟩ => ⟨S768x768, .bf16⟩
  | .local _ .vmem, ⟨3, _⟩ => ⟨S768x768, .bf16⟩
  | .local _ .vmem, ⟨4, _⟩ => ⟨S1x768, .f32⟩
  | .local _ .vmem, ⟨5, _⟩ => ⟨S768x768, .bf16⟩
  | .local _ .vmem, ⟨6, _⟩ => ⟨S768x768, .bf16⟩
  | .local _ .vmem, ⟨7, _⟩ => ⟨S768x768, .bf16⟩
  | _, _ => ⟨S9216x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== S5OutRefIdeal.lean ====
abbrev S9216x768 : Shape := ⟨2, ![9216, 768]⟩
abbrev S9216x11776 : Shape := ⟨2, ![9216, 11776]⟩
abbrev S768 : Shape := ⟨1, ![768]⟩
abbrev S768x768 : Shape := ⟨2, ![768, 768]⟩
abbrev S1x768 : Shape := ⟨2, ![1, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S9216x768, .f32⟩
  | .hbm, ⟨1, _⟩ => ⟨S9216x11776, .bf16⟩
  | .hbm, ⟨2, _⟩ => ⟨S768, .f32⟩
  | .hbm, ⟨3, _⟩ => ⟨S768x768, .f32⟩
  | .hbm, ⟨4, _⟩ => ⟨S9216x768, .bf16⟩
  | .hbm, ⟨5, _⟩ => ⟨S9216x768, .f32⟩
  | .hbm, ⟨6, _⟩ => ⟨S1x768, .f32⟩
  | .hbm, ⟨7, _⟩ => ⟨S9216x768, .f32⟩
  | .hbm, ⟨8, _⟩ => ⟨S9216x768, .f32⟩
  | .hbm, ⟨9, _⟩ => ⟨S9216x768, .f32⟩
  | .hbm, ⟨10, _⟩ => ⟨S9216x768, .f32⟩
  | .hbm, ⟨11, _⟩ => ⟨S9216x768, .f32⟩
  | .hbm, ⟨12, _⟩ => ⟨S_, .f32⟩
  | .hbm, ⟨13, _⟩ => ⟨S9216x768, .f32⟩
  | .hbm, ⟨14, _⟩ => ⟨S9216x768, .f32⟩
  | .hbm, ⟨15, _⟩ => ⟨S9216x768, .f32⟩
  | .hbm, ⟨16, _⟩ => ⟨S_, .f32⟩
  | .hbm, ⟨17, _⟩ => ⟨S9216x768, .f32⟩
  | .hbm, ⟨18, _⟩ => ⟨S9216x768, .f32⟩
  | .hbm, ⟨19, _⟩ => ⟨S9216x768, .f32⟩
  | .hbm, ⟨20, _⟩ => ⟨S_, .f32⟩
  | .hbm, ⟨21, _⟩ => ⟨S9216x768, .f32⟩
  | .hbm, ⟨22, _⟩ => ⟨S9216x768, .f32⟩
  | .hbm, ⟨23, _⟩ => ⟨S_, .f32⟩
  | .hbm, ⟨24, _⟩ => ⟨S9216x768, .f32⟩
  | .hbm, ⟨25, _⟩ => ⟨S9216x768, .f32⟩
  | .hbm, ⟨26, _⟩ => ⟨S9216x768, .f32⟩
  | .hbm, ⟨27, _⟩ => ⟨S9216x768, .f32⟩
  | .hbm, ⟨28, _⟩ => ⟨S9216x768, .f32⟩
  | .hbm, ⟨29, _⟩ => ⟨S9216x768, .f32⟩
  | .hbm, ⟨30, _⟩ => ⟨S_, .f32⟩
  | .hbm, ⟨31, _⟩ => ⟨S9216x768, .f32⟩
  | .hbm, ⟨32, _⟩ => ⟨S9216x768, .f32⟩
  | .hbm, ⟨33, _⟩ => ⟨S_, .f32⟩
  | .hbm, ⟨34, _⟩ => ⟨S9216x768, .f32⟩
  | .hbm, ⟨35, _⟩ => ⟨S9216x768, .f32⟩
  | .hbm, ⟨36, _⟩ => ⟨S9216x768, .f32⟩
  | .hbm, ⟨37, _⟩ => ⟨S9216x768, .bf16⟩
  | _, _ => ⟨S9216x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Ada.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== QkPrep.lean ====
abbrev S9216x11776 : Shape := ⟨2, ![9216, 11776]⟩
abbrev S2048x64 : Shape := ⟨2, ![2048, 64]⟩
abbrev S128 : Shape := ⟨1, ![128]⟩
abbrev S_ : Shape := ⟨0, ![]⟩
abbrev S256x128 : Shape := ⟨2, ![256, 128]⟩
abbrev S2048x64x2 : Shape := ⟨3, ![2048, 64, 2]⟩
abbrev S2048x128 : Shape := ⟨2, ![2048, 128]⟩
abbrev S2304x128 : Shape := ⟨2, ![2304, 128]⟩
abbrev S2048x64x1 : Shape := ⟨3, ![2048, 64, 1]⟩
abbrev S1x128 : Shape := ⟨2, ![1, 128]⟩
abbrev S9216x1024 : Shape := ⟨2, ![9216, 1024]⟩
abbrev S9216x256 : Shape := ⟨2, ![9216, 256]⟩
abbrev S768x1024 : Shape := ⟨2, ![768, 1024]⟩
abbrev S768x256 : Shape := ⟨2, ![768, 256]⟩
abbrev S768x128 : Shape := ⟨2, ![768, 128]⟩
abbrev S768 : Shape := ⟨1, ![768]⟩
abbrev S768x1 : Shape := ⟨2, ![768, 1]⟩

abbrev nBuf : Space → Nat
  | .hbm => 22
  | .vmem => 14
  | .smem => 0
  | _ => 0

abbrev bufTy : (tb : Table) → Fin (tcTables nBuf tb) → BufTy
  | .hbm, ⟨0, _⟩ => ⟨S9216x11776, .bf16⟩
  | .hbm, ⟨1, _⟩ => ⟨S2048x64, .f32⟩
  | .hbm, ⟨2, _⟩ => ⟨S2048x64, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S256x128, .f32⟩
  | .hbm, ⟨7, _⟩ => ⟨S2048x64x2, .f32⟩
  | .hbm, ⟨8, _⟩ => ⟨S2048x128, .f32⟩
  | .hbm, ⟨9, _⟩ => ⟨S2304x128, .f32⟩
  | .hbm, ⟨10, _⟩ => ⟨S_, .f32⟩
  | .hbm, ⟨11, _⟩ => ⟨S256x128, .f32⟩
  | .hbm, ⟨12, _⟩ => ⟨S2048x64, .f32⟩
  | .hbm, ⟨13, _⟩ => ⟨S2048x64x1, .f32⟩
  | .hbm, ⟨14, _⟩ => ⟨S2048x64x1, .f32⟩
  | .hbm, ⟨15, _⟩ => ⟨S2048x64x2, .f32⟩
  | .hbm, ⟨16, _⟩ => ⟨S2048x128, .f32⟩
  | .hbm, ⟨17, _⟩ => ⟨S2304x128, .f32⟩
  | .hbm, ⟨18, _⟩ => ⟨S1x128, .f32⟩
  | .hbm, ⟨19, _⟩ => ⟨S1x128, .f32⟩
  | .hbm, ⟨20, _⟩ => ⟨S9216x1024, .bf16⟩
  | .hbm, ⟨21, _⟩ => ⟨S9216x256, .bf16⟩
  | .local _ .vmem, ⟨0, _⟩ => ⟨S768x1024, .bf16⟩
  | .local _ .vmem, ⟨1, _⟩ => ⟨S768x1024, .bf16⟩
  | .local _ .vmem, ⟨2, _⟩ => ⟨S768x256, .bf16⟩
  | .local _ .vmem, ⟨3, _⟩ => ⟨S768x256, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S1x128, .f32⟩
  | .local _ .vmem, ⟨9, _⟩ => ⟨S1x128, .f32⟩
  | .local _ .vmem, ⟨10, _⟩ => ⟨S768x1024, .bf16⟩
  | .local _ .vmem, ⟨11, _⟩ => ⟨S768x1024, .bf16⟩
  | .local _ .vmem, ⟨12, _⟩ => ⟨S768x256, .bf16⟩
  | .local _ .vmem, ⟨13, _⟩ => ⟨S768x256, .bf16⟩
  | _, _ => ⟨S9216x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c43_i32 : BitVec 32 := 43#32
  let c0_i32 : BitVec 32 := 0#32
  ![arg0.toNat, c43_i32.toNat]

def cc0_transform_2 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkPrepRefIdeal.lean ====
abbrev S9216x11776 : Shape := ⟨2, ![9216, 11776]⟩
abbrev S2048x64 : Shape := ⟨2, ![2048, 64]⟩
abbrev S128 : Shape := ⟨1, ![128]⟩
abbrev S9216x1024 : Shape := ⟨2, ![9216, 1024]⟩
abbrev S4x2304x8x128 : Shape := ⟨4, ![4, 2304, 8, 128]⟩
abbrev S_ : Shape := ⟨0, ![]⟩
abbrev S4x2304x8 : Shape := ⟨3, ![4, 2304, 8]⟩
abbrev S4x2304x8x1 : Shape := ⟨4, ![4, 2304, 8, 1]⟩
abbrev S1x1x1x128 : Shape := ⟨4, ![1, 1, 1, 128]⟩
abbrev S4x256x8x128 : Shape := ⟨4, ![4, 256, 8, 128]⟩
abbrev S4x2048x8x128 : Shape := ⟨4, ![4, 2048, 8, 128]⟩
abbrev S4x2048x8x64x2 : Shape := ⟨5, ![4, 2048, 8, 64, 2]⟩
abbrev S4x2048x8x64x1 : Shape := ⟨5, ![4, 2048, 8, 64, 1]⟩
abbrev S4x2048x8x64 : Shape := ⟨4, ![4, 2048, 8, 64]⟩
abbrev S2048x1x64 : Shape := ⟨3, ![2048, 1, 64]⟩
abbrev S1x2048x1x64 : Shape := ⟨4, ![1, 2048, 1, 64]⟩
abbrev S9216x256 : Shape := ⟨2, ![9216, 256]⟩
abbrev S4x2304x2x128 : Shape := ⟨4, ![4, 2304, 2, 128]⟩
abbrev S4x2304x2 : Shape := ⟨3, ![4, 2304, 2]⟩
abbrev S4x2304x2x1 : Shape := ⟨4, ![4, 2304, 2, 1]⟩
abbrev S4x256x2x128 : Shape := ⟨4, ![4, 256, 2, 128]⟩
abbrev S4x2048x2x128 : Shape := ⟨4, ![4, 2048, 2, 128]⟩
abbrev S4x2048x2x64x2 : Shape := ⟨5, ![4, 2048, 2, 64, 2]⟩
abbrev S4x2048x2x64x1 : Shape := ⟨5, ![4, 2048, 2, 64, 1]⟩
abbrev S4x2048x2x64 : Shape := ⟨4, ![4, 2048, 2, 64]⟩

abbrev nBuf : Space → Nat
  | .hbm => 106
  | .vmem => 0
  | .smem => 0
  | _ => 0

abbrev bufTy : (tb : Table) → Fin (tcTables nBuf tb) → BufTy
  | .hbm, ⟨0, _⟩ => ⟨S9216x11776, .bf16⟩
  | .hbm, ⟨1, _⟩ => ⟨S2048x64, .f32⟩
  | .hbm, ⟨2, _⟩ => ⟨S2048x64, .f32⟩
  | .hbm, ⟨3, _⟩ => ⟨S128, .f32⟩
  | .hbm, ⟨4, _⟩ => ⟨S128, .f32⟩
  | .hbm, ⟨5, _⟩ => ⟨S9216x1024, .bf16⟩
  | .hbm, ⟨6, _⟩ => ⟨S9216x1024, .f32⟩
  | .hbm, ⟨7, _⟩ => ⟨S4x2304x8x128, .f32⟩
  | .hbm, ⟨8, _⟩ => ⟨S4x2304x8x128, .f32⟩
  | .hbm, ⟨9, _⟩ => ⟨S_, .f32⟩
  | .hbm, ⟨10, _⟩ => ⟨S4x2304x8, .f32⟩
  | .hbm, ⟨11, _⟩ => ⟨S4x2304x8x1, .f32⟩
  | .hbm, ⟨12, _⟩ => ⟨S_, .f32⟩
  | .hbm, ⟨13, _⟩ => ⟨S4x2304x8x1, .f32⟩
  | .hbm, ⟨14, _⟩ => ⟨S4x2304x8x1, .f32⟩
  | .hbm, ⟨15, _⟩ => ⟨S_, .f32⟩
  | .hbm, ⟨16, _⟩ => ⟨S4x2304x8x1, .f32⟩
  | .hbm, ⟨17, _⟩ => ⟨S4x2304x8x1, .f32⟩
  | .hbm, ⟨18, _⟩ => ⟨S4x2304x8x1, .f32⟩
  | .hbm, ⟨19, _⟩ => ⟨S4x2304x8x128, .f32⟩
  | .hbm, ⟨20, _⟩ => ⟨S4x2304x8x128, .f32⟩
  | .hbm, ⟨21, _⟩ => ⟨S1x1x1x128, .f32⟩
  | .hbm, ⟨22, _⟩ => ⟨S4x2304x8x128, .f32⟩
  | .hbm, ⟨23, _⟩ => ⟨S4x2304x8x128, .f32⟩
  | .hbm, ⟨24, _⟩ => ⟨S4x256x8x128, .f32⟩
  | .hbm, ⟨25, _⟩ => ⟨S4x2048x8x128, .f32⟩
  | .hbm, ⟨26, _⟩ => ⟨S4x2048x8x64x2, .f32⟩
  | .hbm, ⟨27, _⟩ => ⟨S4x2048x8x64x1, .f32⟩
  | .hbm, ⟨28, _⟩ => ⟨S4x2048x8x64, .f32⟩
  | .hbm, ⟨29, _⟩ => ⟨S4x2048x8x64x1, .f32⟩
  | .hbm, ⟨30, _⟩ => ⟨S4x2048x8x64, .f32⟩
  | .hbm, ⟨31, _⟩ => ⟨S2048x1x64, .f32⟩
  | .hbm, ⟨32, _⟩ => ⟨S2048x1x64, .f32⟩
  | .hbm, ⟨33, _⟩ => ⟨S1x2048x1x64, .f32⟩
  | .hbm, ⟨34, _⟩ => ⟨S4x2048x8x64, .f32⟩
  | .hbm, ⟨35, _⟩ => ⟨S4x2048x8x64, .f32⟩
  | .hbm, ⟨36, _⟩ => ⟨S1x2048x1x64, .f32⟩
  | .hbm, ⟨37, _⟩ => ⟨S4x2048x8x64, .f32⟩
  | .hbm, ⟨38, _⟩ => ⟨S4x2048x8x64, .f32⟩
  | .hbm, ⟨39, _⟩ => ⟨S4x2048x8x64, .f32⟩
  | .hbm, ⟨40, _⟩ => ⟨S1x2048x1x64, .f32⟩
  | .hbm, ⟨41, _⟩ => ⟨S4x2048x8x64, .f32⟩
  | .hbm, ⟨42, _⟩ => ⟨S4x2048x8x64, .f32⟩
  | .hbm, ⟨43, _⟩ => ⟨S1x2048x1x64, .f32⟩
  | .hbm, ⟨44, _⟩ => ⟨S4x2048x8x64, .f32⟩
  | .hbm, ⟨45, _⟩ => ⟨S4x2048x8x64, .f32⟩
  | .hbm, ⟨46, _⟩ => ⟨S4x2048x8x64, .f32⟩
  | .hbm, ⟨47, _⟩ => ⟨S4x2048x8x64x1, .f32⟩
  | .hbm, ⟨48, _⟩ => ⟨S4x2048x8x64x1, .f32⟩
  | .hbm, ⟨49, _⟩ => ⟨S4x2048x8x64x2, .f32⟩
  | .hbm, ⟨50, _⟩ => ⟨S4x2048x8x128, .f32⟩
  | .hbm, ⟨51, _⟩ => ⟨S4x2304x8x128, .f32⟩
  | .hbm, ⟨52, _⟩ => ⟨S_, .f32⟩
  | .hbm, ⟨53, _⟩ => ⟨S4x2304x8x128, .f32⟩
  | .hbm, ⟨54, _⟩ => ⟨S4x2304x8x128, .f32⟩
  | .hbm, ⟨55, _⟩ => ⟨S9216x256, .bf16⟩
  | .hbm, ⟨56, _⟩ => ⟨S9216x256, .f32⟩
  | .hbm, ⟨57, _⟩ => ⟨S4x2304x2x128, .f32⟩
  | .hbm, ⟨58, _⟩ => ⟨S4x2304x2x128, .f32⟩
  | .hbm, ⟨59, _⟩ => ⟨S_, .f32⟩
  | .hbm, ⟨60, _⟩ => ⟨S4x2304x2, .f32⟩
  | .hbm, ⟨61, _⟩ => ⟨S4x2304x2x1, .f32⟩
  | .hbm, ⟨62, _⟩ => ⟨S_, .f32⟩
  | .hbm, ⟨63, _⟩ => ⟨S4x2304x2x1, .f32⟩
  | .hbm, ⟨64, _⟩ => ⟨S4x2304x2x1, .f32⟩
  | .hbm, ⟨65, _⟩ => ⟨S_, .f32⟩
  | .hbm, ⟨66, _⟩ => ⟨S4x2304x2x1, .f32⟩
  | .hbm, ⟨67, _⟩ => ⟨S4x2304x2x1, .f32⟩
  | .hbm, ⟨68, _⟩ => ⟨S4x2304x2x1, .f32⟩
  | .hbm, ⟨69, _⟩ => ⟨S4x2304x2x128, .f32⟩
  | .hbm, ⟨70, _⟩ => ⟨S4x2304x2x128, .f32⟩
  | .hbm, ⟨71, _⟩ => ⟨S1x1x1x128, .f32⟩
  | .hbm, ⟨72, _⟩ => ⟨S4x2304x2x128, .f32⟩
  | .hbm, ⟨73, _⟩ => ⟨S4x2304x2x128, .f32⟩
  | .hbm, ⟨74, _⟩ => ⟨S4x256x2x128, .f32⟩
  | .hbm, ⟨75, _⟩ => ⟨S4x2048x2x128, .f32⟩
  | .hbm, ⟨76, _⟩ => ⟨S4x2048x2x64x2, .f32⟩
  | .hbm, ⟨77, _⟩ => ⟨S4x2048x2x64x1, .f32⟩
  | .hbm, ⟨78, _⟩ => ⟨S4x2048x2x64, .f32⟩
  | .hbm, ⟨79, _⟩ => ⟨S4x2048x2x64x1, .f32⟩
  | .hbm, ⟨80, _⟩ => ⟨S4x2048x2x64, .f32⟩
  | .hbm, ⟨81, _⟩ => ⟨S2048x1x64, .f32⟩
  | .hbm, ⟨82, _⟩ => ⟨S2048x1x64, .f32⟩
  | .hbm, ⟨83, _⟩ => ⟨S1x2048x1x64, .f32⟩
  | .hbm, ⟨84, _⟩ => ⟨S4x2048x2x64, .f32⟩
  | .hbm, ⟨85, _⟩ => ⟨S4x2048x2x64, .f32⟩
  | .hbm, ⟨86, _⟩ => ⟨S1x2048x1x64, .f32⟩
  | .hbm, ⟨87, _⟩ => ⟨S4x2048x2x64, .f32⟩
  | .hbm, ⟨88, _⟩ => ⟨S4x2048x2x64, .f32⟩
  | .hbm, ⟨89, _⟩ => ⟨S4x2048x2x64, .f32⟩
  | .hbm, ⟨90, _⟩ => ⟨S1x2048x1x64, .f32⟩
  | .hbm, ⟨91, _⟩ => ⟨S4x2048x2x64, .f32⟩
  | .hbm, ⟨92, _⟩ => ⟨S4x2048x2x64, .f32⟩
  | .hbm, ⟨93, _⟩ => ⟨S1x2048x1x64, .f32⟩
  | .hbm, ⟨94, _⟩ => ⟨S4x2048x2x64, .f32⟩
  | .hbm, ⟨95, _⟩ => ⟨S4x2048x2x64, .f32⟩
  | .hbm, ⟨96, _⟩ => ⟨S4x2048x2x64, .f32⟩
  | .hbm, ⟨97, _⟩ => ⟨S4x2048x2x64x1, .f32⟩
  | .hbm, ⟨98, _⟩ => ⟨S4x2048x2x64x1, .f32⟩
  | .hbm, ⟨99, _⟩ => ⟨S4x2048x2x64x2, .f32⟩
  | .hbm, ⟨100, _⟩ => ⟨S4x2048x2x128, .f32⟩
  | .hbm, ⟨101, _⟩ => ⟨S4x2304x2x128, .f32⟩
  | .hbm, ⟨102, _⟩ => ⟨S9216x1024, .f32⟩
  | .hbm, ⟨103, _⟩ => ⟨S9216x1024, .bf16⟩
  | .hbm, ⟨104, _⟩ => ⟨S9216x256, .f32⟩
  | .hbm, ⟨105, _⟩ => ⟨S9216x256, .bf16⟩
  | _, _ => ⟨S9216x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩

abbrev nD : Nat := 1
abbrev τ : Topo := Topo.v7x

variable {F : FTy → Type} [FloatOps F]
-- ==== S5Pow.lean ====
abbrev S4x2x48x64 : Shape := ⟨4, ![4, 2, 48, 64]⟩
abbrev S4x2x48 : Shape := ⟨3, ![4, 2, 48]⟩
abbrev S4x48x64x16 : Shape := ⟨4, ![4, 48, 64, 16]⟩
abbrev S4x2x48x16x64 : Shape := ⟨5, ![4, 2, 48, 16, 64]⟩
abbrev S4x2x48x64x1 : Shape := ⟨5, ![4, 2, 48, 64, 1]⟩
abbrev S4x2x48x128 : Shape := ⟨4, ![4, 2, 48, 128]⟩
abbrev S4x2x48x1x128 : Shape := ⟨5, ![4, 2, 48, 1, 128]⟩
abbrev S4x2x48x1x1 : Shape := ⟨5, ![4, 2, 48, 1, 1]⟩
abbrev S4x48x16x64 : Shape := ⟨4, ![4, 48, 16, 64]⟩
abbrev S4x48x16x128 : Shape := ⟨4, ![4, 48, 16, 128]⟩
abbrev S4x2x48x64x16 : Shape := ⟨5, ![4, 2, 48, 64, 16]⟩
abbrev S4x2x6x128x2048 : Shape := ⟨5, ![4, 2, 6, 128, 2048]⟩
abbrev S4x2x6x1024x2048 : Shape := ⟨5, ![4, 2, 6, 1024, 2048]⟩
abbrev S4x2x48x16x128 : Shape := ⟨5, ![4, 2, 48, 16, 128]⟩
abbrev S1x2x8x64x1 : Shape := ⟨5, ![1, 2, 8, 64, 1]⟩
abbrev S1x2x8x1x128 : Shape := ⟨5, ![1, 2, 8, 1, 128]⟩
abbrev S1x2x8x1x1 : Shape := ⟨5, ![1, 2, 8, 1, 1]⟩
abbrev S1x8x64x16 : Shape := ⟨4, ![1, 8, 64, 16]⟩
abbrev S1x8x16x128 : Shape := ⟨4, ![1, 8, 16, 128]⟩
abbrev S1x2x8x64x16 : Shape := ⟨5, ![1, 2, 8, 64, 16]⟩
abbrev S1x2x1x128x2048 : Shape := ⟨5, ![1, 2, 1, 128, 2048]⟩
abbrev S1x2x1x1024x2048 : Shape := ⟨5, ![1, 2, 1, 1024, 2048]⟩
abbrev S1x2x8x16x128 : Shape := ⟨5, ![1, 2, 8, 16, 128]⟩
abbrev S64x256 : Shape := ⟨2, ![64, 256]⟩
abbrev S1x128 : Shape := ⟨2, ![1, 128]⟩
abbrev S16x256 : Shape := ⟨2, ![16, 256]⟩
abbrev S256x2048 : Shape := ⟨2, ![256, 2048]⟩
abbrev S1x1x1x1x1 : Shape := ⟨5, ![1, 1, 1, 1, 1]⟩
abbrev S1x1 : Shape := ⟨2, ![1, 1]⟩
abbrev S1x1x1x64x1 : Shape := ⟨5, ![1, 1, 1, 64, 1]⟩
abbrev S64x1 : Shape := ⟨2, ![64, 1]⟩
abbrev S1x1x64x16 : Shape := ⟨4, ![1, 1, 64, 16]⟩
abbrev S64x16 : Shape := ⟨2, ![64, 16]⟩
abbrev S1x1x1x64x16 : Shape := ⟨5, ![1, 1, 1, 64, 16]⟩
abbrev S1x1x1x1x128 : Shape := ⟨5, ![1, 1, 1, 1, 128]⟩
abbrev S1x1x16x128 : Shape := ⟨4, ![1, 1, 16, 128]⟩
abbrev S16x128 : Shape := ⟨2, ![16, 128]⟩
abbrev S128x256 : Shape := ⟨2, ![128, 256]⟩
abbrev S272x256 : Shape := ⟨2, ![272, 256]⟩
abbrev S272x2048 : Shape := ⟨2, ![272, 2048]⟩
abbrev S16x2048 : Shape := ⟨2, ![16, 2048]⟩
abbrev S1x1x1x16x2048 : Shape := ⟨5, ![1, 1, 1, 16, 2048]⟩
abbrev S64x2048 : Shape := ⟨2, ![64, 2048]⟩
abbrev S1x1x1x64x2048 : Shape := ⟨5, ![1, 1, 1, 64, 2048]⟩
abbrev S4x128 : Shape := ⟨2, ![4, 128]⟩
abbrev S1x1x1x4x128 : Shape := ⟨5, ![1, 1, 1, 4, 128]⟩

abbrev nBuf : Space → Nat
  | .hbm => 25
  | .vmem => 32
  | .smem => 0
  | _ => 0

abbrev bufTy : (tb : Table) → Fin (tcTables nBuf tb) → BufTy
  | .hbm, ⟨0, _⟩ => ⟨S4x2x48x64, .f32⟩
  | .hbm, ⟨1, _⟩ => ⟨S4x2x48x64, .f32⟩
  | .hbm, ⟨2, _⟩ => ⟨S4x2x48, .f32⟩
  | .hbm, ⟨3, _⟩ => ⟨S4x48x64x16, .f32⟩
  | .hbm, ⟨4, _⟩ => ⟨S4x48x64x16, .f32⟩
  | .hbm, ⟨5, _⟩ => ⟨S4x2x48x16x64, .f32⟩
  | .hbm, ⟨6, _⟩ => ⟨S4x2x48x16x64, .f32⟩
  | .hbm, ⟨7, _⟩ => ⟨S4x2x48x64x1, .f32⟩
  | .hbm, ⟨8, _⟩ => ⟨S4x2x48x64x1, .f32⟩
  | .hbm, ⟨9, _⟩ => ⟨S4x2x48x128, .f32⟩
  | .hbm, ⟨10, _⟩ => ⟨S4x2x48x1x128, .f32⟩
  | .hbm, ⟨11, _⟩ => ⟨S4x2x48x128, .f32⟩
  | .hbm, ⟨12, _⟩ => ⟨S4x2x48x1x128, .f32⟩
  | .hbm, ⟨13, _⟩ => ⟨S4x2x48x1x1, .f32⟩
  | .hbm, ⟨14, _⟩ => ⟨S4x48x16x64, .f32⟩
  | .hbm, ⟨15, _⟩ => ⟨S4x48x16x128, .f32⟩
  | .hbm, ⟨16, _⟩ => ⟨S4x48x16x64, .f32⟩
  | .hbm, ⟨17, _⟩ => ⟨S4x48x16x128, .f32⟩
  | .hbm, ⟨18, _⟩ => ⟨S4x2x48x64x16, .f32⟩
  | .hbm, ⟨19, _⟩ => ⟨S4x2x48x64x16, .f32⟩
  | .hbm, ⟨20, _⟩ => ⟨S4x2x6x128x2048, .bf16⟩
  | .hbm, ⟨21, _⟩ => ⟨S4x2x6x1024x2048, .bf16⟩
  | .hbm, ⟨22, _⟩ => ⟨S4x2x6x1024x2048, .bf16⟩
  | .hbm, ⟨23, _⟩ => ⟨S4x2x48x16x128, .f32⟩
  | .hbm, ⟨24, _⟩ => ⟨S4x2x48x16x128, .f32⟩
  | .local _ .vmem, ⟨0, _⟩ => ⟨S1x2x8x64x1, .f32⟩
  | .local _ .vmem, ⟨1, _⟩ => ⟨S1x2x8x64x1, .f32⟩
  | .local _ .vmem, ⟨2, _⟩ => ⟨S1x2x8x64x1, .f32⟩
  | .local _ .vmem, ⟨3, _⟩ => ⟨S1x2x8x64x1, .f32⟩
  | .local _ .vmem, ⟨4, _⟩ => ⟨S1x2x8x1x128, .f32⟩
  | .local _ .vmem, ⟨5, _⟩ => ⟨S1x2x8x1x128, .f32⟩
  | .local _ .vmem, ⟨6, _⟩ => ⟨S1x2x8x1x128, .f32⟩
  | .local _ .vmem, ⟨7, _⟩ => ⟨S1x2x8x1x128, .f32⟩
  | .local _ .vmem, ⟨8, _⟩ => ⟨S1x2x8x1x1, .f32⟩
  | .local _ .vmem, ⟨9, _⟩ => ⟨S1x2x8x1x1, .f32⟩
  | .local _ .vmem, ⟨10, _⟩ => ⟨S1x8x64x16, .f32⟩
  | .local _ .vmem, ⟨11, _⟩ => ⟨S1x8x64x16, .f32⟩
  | .local _ .vmem, ⟨12, _⟩ => ⟨S1x8x64x16, .f32⟩
  | .local _ .vmem, ⟨13, _⟩ => ⟨S1x8x64x16, .f32⟩
  | .local _ .vmem, ⟨14, _⟩ => ⟨S1x8x16x128, .f32⟩
  | .local _ .vmem, ⟨15, _⟩ => ⟨S1x8x16x128, .f32⟩
  | .local _ .vmem, ⟨16, _⟩ => ⟨S1x8x16x128, .f32⟩
  | .local _ .vmem, ⟨17, _⟩ => ⟨S1x8x16x128, .f32⟩
  | .local _ .vmem, ⟨18, _⟩ => ⟨S1x2x8x64x16, .f32⟩
  | .local _ .vmem, ⟨19, _⟩ => ⟨S1x2x8x64x16, .f32⟩
  | .local _ .vmem, ⟨20, _⟩ => ⟨S1x2x8x64x16, .f32⟩
  | .local _ .vmem, ⟨21, _⟩ => ⟨S1x2x8x64x16, .f32⟩
  | .local _ .vmem, ⟨22, _⟩ => ⟨S1x2x1x128x2048, .bf16⟩
  | .local _ .vmem, ⟨23, _⟩ => ⟨S1x2x1x128x2048, .bf16⟩
  | .local _ .vmem, ⟨24, _⟩ => ⟨S1x2x1x1024x2048, .bf16⟩
  | .local _ .vmem, ⟨25, _⟩ => ⟨S1x2x1x1024x2048, .bf16⟩
  | .local _ .vmem, ⟨26, _⟩ => ⟨S1x2x1x1024x2048, .bf16⟩
  | .local _ .vmem, ⟨27, _⟩ => ⟨S1x2x1x1024x2048, .bf16⟩
  | .local _ .vmem, ⟨28, _⟩ => ⟨S1x2x8x16x128, .f32⟩
  | .local _ .vmem, ⟨29, _⟩ => ⟨S1x2x8x16x128, .f32⟩
  | .local _ .vmem, ⟨30, _⟩ => ⟨S1x2x8x16x128, .f32⟩
  | .local _ .vmem, ⟨31, _⟩ => ⟨S1x2x8x16x128, .f32⟩
  | _, _ => ⟨S4x2x48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 6], ![false, false]⟩

@[reducible] def k0_t1_loop : Scf.Loop 32 :=
  let c0_i32_48 : BitVec 32 := 0#32
  let c8_i32 : BitVec 32 := 8#32
  let v172 : BitVec 32 := Scalar.addi c0_i32_48 c8_i32
  let c1_i32_49 : BitVec 32 := 1#32
  ⟨c0_i32_48, v172, c1_i32_49⟩
def k0_mult1 (k0_t1 : Fin k0_t1_loop.trips) : BitVec 32 :=
  let c0_i32_48 : BitVec 32 := 0#32
  let c1_i32_49 : BitVec 32 := 1#32
  let arg18 : BitVec 32 := Scf.iv c0_i32_48 c1_i32_49 k0_t1
  let c16_i32_52 : BitVec 32 := 16#32
  let v180 : BitVec 32 := Scalar.muli arg18 c16_i32_52
  v180
def k0_mult2 (k0_t1 : Fin k0_t1_loop.trips) : BitVec 32 :=
  let c0_i32_48 : BitVec 32 := 0#32
  let c1_i32_49 : BitVec 32 := 1#32
  let arg18 : BitVec 32 := Scf.iv c0_i32_48 c1_i32_49 k0_t1
  let c64_i32 : BitVec 32 := 64#32
  let v182 : BitVec 32 := Scalar.muli arg18 c64_i32
  v182
def k0_mult3 (k0_t1 : Fin k0_t1_loop.trips) : BitVec 32 :=
  let c512_i32 : BitVec 32 := 512#32
  let c0_i32_48 : BitVec 32 := 0#32
  let c1_i32_49 : BitVec 32 := 1#32
  let arg18 : BitVec 32 := Scf.iv c0_i32_48 c1_i32_49 k0_t1
  let c64_i32_53 : BitVec 32 := 64#32
  let v184 : BitVec 32 := Scalar.muli arg18 c64_i32_53
  let v185 : BitVec 32 := Scalar.addi c512_i32 v184
  v185
def k0_off1 (k0_t1 : Fin k0_t1_loop.trips) : Fin 5 → Nat :=
  let c0 : Index := 0#32
  let c0_54 : Index := 0#32
  let c0_i32_48 : BitVec 32 := 0#32
  let c1_i32_49 : BitVec 32 := 1#32
  let arg18 : BitVec 32 := Scf.iv c0_i32_48 c1_i32_49 k0_t1
  let v187 : Index := Scalar.indexCast arg18
  let c0_55 : Index := 0#32
  let c0_56 : Index := 0#32
  ![0, 0, v187.toNat, 0, 0]
def k0_off2 (k0_t1 : Fin k0_t1_loop.trips) : Fin 5 → Nat :=
  let c0_57 : Index := 0#32
  let c0_58 : Index := 0#32
  let c0_i32_48 : BitVec 32 := 0#32
  let c1_i32_49 : BitVec 32 := 1#32
  let arg18 : BitVec 32 := Scf.iv c0_i32_48 c1_i32_49 k0_t1
  let v191 : Index := Scalar.indexCast arg18
  let c0_59 : Index := 0#32
  let c0_60 : Index := 0#32
  ![0, 0, v191.toNat, 0, 0]
def k0_off3 (k0_t1 : Fin k0_t1_loop.trips) : Fin 4 → Nat :=
  let c0_66 : Index := 0#32
  let c0_i32_48 : BitVec 32 := 0#32
  let c1_i32_49 : BitVec 32 := 1#32
  let arg18 : BitVec 32 := Scf.iv c0_i32_48 c1_i32_49 k0_t1
  let v221 : Index := Scalar.indexCast arg18
  let c0_67 : Index := 0#32
  let c0_68 : Index := 0#32
  ![0, v221.toNat, 0, 0]
def k0_off4 (k0_t1 : Fin k0_t1_loop.trips) : Fin 5 → Nat :=
  let c0_98 : Index := 0#32
  let c0_99 : Index := 0#32
  let c0_i32_48 : BitVec 32 := 0#32
  let c1_i32_49 : BitVec 32 := 1#32
  let arg18 : BitVec 32 := Scf.iv c0_i32_48 c1_i32_49 k0_t1
  let v395 : Index := Scalar.indexCast arg18
  let c0_100 : Index := 0#32
  let c0_101 : Index := 0#32
  ![0, 0, v395.toNat, 0, 0]
def k0_off5 (k0_t1 : Fin k0_t1_loop.trips) : Fin 5 → Nat :=
  let c0_108 : Index := 0#32
  let c0_109 : Index := 0#32
  let c0_i32_48 : BitVec 32 := 0#32
  let c1_i32_49 : BitVec 32 := 1#32
  let arg18 : BitVec 32 := Scf.iv c0_i32_48 c1_i32_49 k0_t1
  let v409 : Index := Scalar.indexCast arg18
  let c0_110 : Index := 0#32
  let c0_111 : Index := 0#32
  ![0, 0, v409.toNat, 0, 0]
def k0_off6 (k0_t1 : Fin k0_t1_loop.trips) : Fin 4 → Nat :=
  let c0_117 : Index := 0#32
  let c0_i32_48 : BitVec 32 := 0#32
  let c1_i32_49 : BitVec 32 := 1#32
  let arg18 : BitVec 32 := Scf.iv c0_i32_48 c1_i32_49 k0_t1
  let v439 : Index := Scalar.indexCast arg18
  let c0_118 : Index := 0#32
  let c0_119 : Index := 0#32
  ![0, v439.toNat, 0, 0]
def k0_off7 (k0_t1 : Fin k0_t1_loop.trips) : Fin 5 → Nat :=
  let c0_130 : Index := 0#32
  let c0_131 : Index := 0#32
  let c0_132 : Index := 0#32
  let c0_i32_48 : BitVec 32 := 0#32
  let c1_i32_49 : BitVec 32 := 1#32
  let arg18 : BitVec 32 := Scf.iv c0_i32_48 c1_i32_49 k0_t1
  let c16_i32_52 : BitVec 32 := 16#32
  let v180 : BitVec 32 := Scalar.muli arg18 c16_i32_52
  let v181 : BitVec 32 := v180
  let v485 : Index := Scalar.indexCast v181
  let c0_133 : Index := 0#32
  ![0, 0, 0, v485.toNat, 0]
def k0_off8 (k0_t1 : Fin k0_t1_loop.trips) : Fin 5 → Nat :=
  let c0_134 : Index := 0#32
  let c0_135 : Index := 0#32
  let c0_136 : Index := 0#32
  let c0_i32_48 : BitVec 32 := 0#32
  let c1_i32_49 : BitVec 32 := 1#32
  let arg18 : BitVec 32 := Scf.iv c0_i32_48 c1_i32_49 k0_t1
  let c64_i32 : BitVec 32 := 64#32
  let v182 : BitVec 32 := Scalar.muli arg18 c64_i32
  let v183 : BitVec 32 := v182
  let v490 : Index := Scalar.indexCast v183
  let c0_137 : Index := 0#32
  ![0, 0, 0, v490.toNat, 0]
def k0_off9 (k0_t1 : Fin k0_t1_loop.trips) : Fin 5 → Nat :=
  let c0_138 : Index := 0#32
  let c0_139 : Index := 0#32
  let c0_140 : Index := 0#32
  let c512_i32 : BitVec 32 := 512#32
  let c0_i32_48 : BitVec 32 := 0#32
  let c1_i32_49 : BitVec 32 := 1#32
  let arg18 : BitVec 32 := Scf.iv c0_i32_48 c1_i32_49 k0_t1
  let c64_i32_53 : BitVec 32 := 64#32
  let v184 : BitVec 32 := Scalar.muli arg18 c64_i32_53
  let v185 : BitVec 32 := Scalar.addi c512_i32 v184
  let v186 : BitVec 32 := v185
  let v495 : Index := Scalar.indexCast v186
  let c0_141 : Index := 0#32
  ![0, 0, 0, v495.toNat, 0]
def k0_off10 (k0_t1 : Fin k0_t1_loop.trips) : Fin 5 → Nat :=
  let c0_152 : Index := 0#32
  let c0_153 : Index := 0#32
  let c0_i32_48 : BitVec 32 := 0#32
  let c1_i32_49 : BitVec 32 := 1#32
  let arg18 : BitVec 32 := Scf.iv c0_i32_48 c1_i32_49 k0_t1
  let v583 : Index := Scalar.indexCast arg18
  let c0_154 : Index := 0#32
  let c0_155 : Index := 0#32
  ![0, 0, v583.toNat, 0, 0]
def k0_off11 (k0_t1 : Fin k0_t1_loop.trips) : Fin 5 → Nat :=
  let c0_160 : Index := 0#32
  let c0_161 : Index := 0#32
  let c0_i32_48 : BitVec 32 := 0#32
  let c1_i32_49 : BitVec 32 := 1#32
  let arg18 : BitVec 32 := Scf.iv c0_i32_48 c1_i32_49 k0_t1
  let v591 : Index := Scalar.indexCast arg18
  let c1 : Index := 1#32
  let c0_162 : Index := 0#32
  ![0, 0, v591.toNat, 1, 0]
def k0_off12 (k0_t1 : Fin k0_t1_loop.trips) : Fin 5 → Nat :=
  let c0_167 : Index := 0#32
  let c0_168 : Index := 0#32
  let c0_i32_48 : BitVec 32 := 0#32
  let c1_i32_49 : BitVec 32 := 1#32
  let arg18 : BitVec 32 := Scf.iv c0_i32_48 c1_i32_49 k0_t1
  let v599 : Index := Scalar.indexCast arg18
  let c2 : Index := 2#32
  let c0_169 : Index := 0#32
  ![0, 0, v599.toNat, 2, 0]
def k0_off13 (k0_t1 : Fin k0_t1_loop.trips) : Fin 5 → Nat :=
  let c0_174 : Index := 0#32
  let c0_175 : Index := 0#32
  let c0_i32_48 : BitVec 32 := 0#32
  let c1_i32_49 : BitVec 32 := 1#32
  let arg18 : BitVec 32 := Scf.iv c0_i32_48 c1_i32_49 k0_t1
  let v607 : Index := Scalar.indexCast arg18
  let c3 : Index := 3#32
  let c0_176 : Index := 0#32
  ![0, 0, v607.toNat, 3, 0]
def k0_off14 (k0_t1 : Fin k0_t1_loop.trips) : Fin 5 → Nat :=
  let c0_181 : Index := 0#32
  let c0_182 : Index := 0#32
  let c0_i32_48 : BitVec 32 := 0#32
  let c1_i32_49 : BitVec 32 := 1#32
  let arg18 : BitVec 32 := Scf.iv c0_i32_48 c1_i32_49 k0_t1
  let v615 : Index := Scalar.indexCast arg18
  let c4 : Index := 4#32
  let c0_183 : Index := 0#32
  ![0, 0, v615.toNat, 4, 0]
def k0_off15 (k0_t1 : Fin k0_t1_loop.trips) : Fin 5 → Nat :=
  let c0_188 : Index := 0#32
  let c0_189 : Index := 0#32
  let c0_i32_48 : BitVec 32 := 0#32
  let c1_i32_49 : BitVec 32 := 1#32
  let arg18 : BitVec 32 := Scf.iv c0_i32_48 c1_i32_49 k0_t1
  let v623 : Index := Scalar.indexCast arg18
  let c5 : Index := 5#32
  let c0_190 : Index := 0#32
  ![0, 0, v623.toNat, 5, 0]
def k0_off16 (k0_t1 : Fin k0_t1_loop.trips) : Fin 5 → Nat :=
  let c0_195 : Index := 0#32
  let c0_196 : Index := 0#32
  let c0_i32_48 : BitVec 32 := 0#32
  let c1_i32_49 : BitVec 32 := 1#32
  let arg18 : BitVec 32 := Scf.iv c0_i32_48 c1_i32_49 k0_t1
  let v631 : Index := Scalar.indexCast arg18
  let c6 : Index := 6#32
  let c0_197 : Index := 0#32
  ![0, 0, v631.toNat, 6, 0]
def k0_off17 (k0_t1 : Fin k0_t1_loop.trips) : Fin 5 → Nat :=
  let c0_202 : Index := 0#32
  let c0_203 : Index := 0#32
  let c0_i32_48 : BitVec 32 := 0#32
  let c1_i32_49 : BitVec 32 := 1#32
  let arg18 : BitVec 32 := Scf.iv c0_i32_48 c1_i32_49 k0_t1
  let v639 : Index := Scalar.indexCast arg18
  let c7 : Index := 7#32
  let c0_204 : Index := 0#32
  ![0, 0, v639.toNat, 7, 0]
def k0_off18 (k0_t1 : Fin k0_t1_loop.trips) : Fin 5 → Nat :=
  let c0_209 : Index := 0#32
  let c0_210 : Index := 0#32
  let c0_i32_48 : BitVec 32 := 0#32
  let c1_i32_49 : BitVec 32 := 1#32
  let arg18 : BitVec 32 := Scf.iv c0_i32_48 c1_i32_49 k0_t1
  let v647 : Index := Scalar.indexCast arg18
  let c8 : Index := 8#32
  let c0_211 : Index := 0#32
  ![0, 0, v647.toNat, 8, 0]
def k0_off19 (k0_t1 : Fin k0_t1_loop.trips) : Fin 5 → Nat :=
  let c0_216 : Index := 0#32
  let c0_217 : Index := 0#32
  let c0_i32_48 : BitVec 32 := 0#32
  let c1_i32_49 : BitVec 32 := 1#32
  let arg18 : BitVec 32 := Scf.iv c0_i32_48 c1_i32_49 k0_t1
  let v655 : Index := Scalar.indexCast arg18
  let c9 : Index := 9#32
  let c0_218 : Index := 0#32
  ![0, 0, v655.toNat, 9, 0]
def k0_off20 (k0_t1 : Fin k0_t1_loop.trips) : Fin 5 → Nat :=
  let c0_223 : Index := 0#32
  let c0_224 : Index := 0#32
  let c0_i32_48 : BitVec 32 := 0#32
  let c1_i32_49 : BitVec 32 := 1#32
  let arg18 : BitVec 32 := Scf.iv c0_i32_48 c1_i32_49 k0_t1
  let v663 : Index := Scalar.indexCast arg18
  let c10 : Index := 10#32
  let c0_225 : Index := 0#32
  ![0, 0, v663.toNat, 10, 0]
def k0_off21 (k0_t1 : Fin k0_t1_loop.trips) : Fin 5 → Nat :=
  let c0_230 : Index := 0#32
  let c0_231 : Index := 0#32
  let c0_i32_48 : BitVec 32 := 0#32
  let c1_i32_49 : BitVec 32 := 1#32
  let arg18 : BitVec 32 := Scf.iv c0_i32_48 c1_i32_49 k0_t1
  let v671 : Index := Scalar.indexCast arg18
  let c11 : Index := 11#32
  let c0_232 : Index := 0#32
  ![0, 0, v671.toNat, 11, 0]
def k0_off22 (k0_t1 : Fin k0_t1_loop.trips) : Fin 5 → Nat :=
  let c0_238 : Index := 0#32
  let c0_239 : Index := 0#32
  let c0_i32_48 : BitVec 32 := 0#32
  let c1_i32_49 : BitVec 32 := 1#32
  let arg18 : BitVec 32 := Scf.iv c0_i32_48 c1_i32_49 k0_t1
  let v680 : Index := Scalar.indexCast arg18
  let c12 : Index := 12#32
  let c0_240 : Index := 0#32
  ![0, 0, v680.toNat, 12, 0]
def k0_off23 (k0_t1 : Fin k0_t1_loop.trips) : Fin 5 → Nat :=
  let c0_246 : Index := 0#32
  let c1_247 : Index := 1#32
  let c0_i32_48 : BitVec 32 := 0#32
  let c1_i32_49 : BitVec 32 := 1#32
  let arg18 : BitVec 32 := Scf.iv c0_i32_48 c1_i32_49 k0_t1
  let v689 : Index := Scalar.indexCast arg18
  let c0_248 : Index := 0#32
  let c0_249 : Index := 0#32
  ![0, 1, v689.toNat, 0, 0]
def k0_off24 (k0_t1 : Fin k0_t1_loop.trips) : Fin 5 → Nat :=
  let c0_250 : Index := 0#32
  let c1_251 : Index := 1#32
  let c0_i32_48 : BitVec 32 := 0#32
  let c1_i32_49 : BitVec 32 := 1#32
  let arg18 : BitVec 32 := Scf.iv c0_i32_48 c1_i32_49 k0_t1
  let v693 : Index := Scalar.indexCast arg18
  let c0_252 : Index := 0#32
  let c0_253 : Index := 0#32
  ![0, 1, v693.toNat, 0, 0]
def k0_off25 (k0_t1 : Fin k0_t1_loop.trips) : Fin 5 → Nat :=
  let c0_294 : Index := 0#32
  let c1_295 : Index := 1#32
  let c0_i32_48 : BitVec 32 := 0#32
  let c1_i32_49 : BitVec 32 := 1#32
  let arg18 : BitVec 32 := Scf.iv c0_i32_48 c1_i32_49 k0_t1
  let v897 : Index := Scalar.indexCast arg18
  let c0_296 : Index := 0#32
  let c0_297 : Index := 0#32
  ![0, 1, v897.toNat, 0, 0]
def k0_off26 (k0_t1 : Fin k0_t1_loop.trips) : Fin 5 → Nat :=
  let c0_304 : Index := 0#32
  let c1_305 : Index := 1#32
  let c0_i32_48 : BitVec 32 := 0#32
  let c1_i32_49 : BitVec 32 := 1#32
  let arg18 : BitVec 32 := Scf.iv c0_i32_48 c1_i32_49 k0_t1
  let v911 : Index := Scalar.indexCast arg18
  let c0_306 : Index := 0#32
  let c0_307 : Index := 0#32
  ![0, 1, v911.toNat, 0, 0]
def k0_off27 (k0_t1 : Fin k0_t1_loop.trips) : Fin 5 → Nat :=
  let c0_326 : Index := 0#32
  let c1_327 : Index := 1#32
  let c0_328 : Index := 0#32
  let c0_i32_48 : BitVec 32 := 0#32
  let c1_i32_49 : BitVec 32 := 1#32
  let arg18 : BitVec 32 := Scf.iv c0_i32_48 c1_i32_49 k0_t1
  let c16_i32_52 : BitVec 32 := 16#32
  let v180 : BitVec 32 := Scalar.muli arg18 c16_i32_52
  let v181 : BitVec 32 := v180
  let v987 : Index := Scalar.indexCast v181
  let c0_329 : Index := 0#32
  ![0, 1, 0, v987.toNat, 0]
def k0_off28 (k0_t1 : Fin k0_t1_loop.trips) : Fin 5 → Nat :=
  let c0_330 : Index := 0#32
  let c1_331 : Index := 1#32
  let c0_332 : Index := 0#32
  let c0_i32_48 : BitVec 32 := 0#32
  let c1_i32_49 : BitVec 32 := 1#32
  let arg18 : BitVec 32 := Scf.iv c0_i32_48 c1_i32_49 k0_t1
  let c64_i32 : BitVec 32 := 64#32
  let v182 : BitVec 32 := Scalar.muli arg18 c64_i32
  let v183 : BitVec 32 := v182
  let v992 : Index := Scalar.indexCast v183
  let c0_333 : Index := 0#32
  ![0, 1, 0, v992.toNat, 0]
def k0_off29 (k0_t1 : Fin k0_t1_loop.trips) : Fin 5 → Nat :=
  let c0_334 : Index := 0#32
  let c1_335 : Index := 1#32
  let c0_336 : Index := 0#32
  let c512_i32 : BitVec 32 := 512#32
  let c0_i32_48 : BitVec 32 := 0#32
  let c1_i32_49 : BitVec 32 := 1#32
  let arg18 : BitVec 32 := Scf.iv c0_i32_48 c1_i32_49 k0_t1
  let c64_i32_53 : BitVec 32 := 64#32
  let v184 : BitVec 32 := Scalar.muli arg18 c64_i32_53
  let v185 : BitVec 32 := Scalar.addi c512_i32 v184
  let v186 : BitVec 32 := v185
  let v997 : Index := Scalar.indexCast v186
  let c0_337 : Index := 0#32
  ![0, 1, 0, v997.toNat, 0]
def k0_off30 (k0_t1 : Fin k0_t1_loop.trips) : Fin 5 → Nat :=
  let c0_348 : Index := 0#32
  let c1_349 : Index := 1#32
  let c0_i32_48 : BitVec 32 := 0#32
  let c1_i32_49 : BitVec 32 := 1#32
  let arg18 : BitVec 32 := Scf.iv c0_i32_48 c1_i32_49 k0_t1
  let v1085 : Index := Scalar.indexCast arg18
  let c0_350 : Index := 0#32
  let c0_351 : Index := 0#32
  ![0, 1, v1085.toNat, 0, 0]
def k0_off31 (k0_t1 : Fin k0_t1_loop.trips) : Fin 5 → Nat :=
  let c0_356 : Index := 0#32
  let c1_357 : Index := 1#32
  let c0_i32_48 : BitVec 32 := 0#32
  let c1_i32_49 : BitVec 32 := 1#32
  let arg18 : BitVec 32 := Scf.iv c0_i32_48 c1_i32_49 k0_t1
  let v1093 : Index := Scalar.indexCast arg18
  let c1_358 : Index := 1#32
  let c0_359 : Index := 0#32
  ![0, 1, v1093.toNat, 1, 0]
def k0_off32 (k0_t1 : Fin k0_t1_loop.trips) : Fin 5 → Nat :=
  let c0_364 : Index := 0#32
  let c1_365 : Index := 1#32
  let c0_i32_48 : BitVec 32 := 0#32
  let c1_i32_49 : BitVec 32 := 1#32
  let arg18 : BitVec 32 := Scf.iv c0_i32_48 c1_i32_49 k0_t1
  let v1101 : Index := Scalar.indexCast arg18
  let c2_366 : Index := 2#32
  let c0_367 : Index := 0#32
  ![0, 1, v1101.toNat, 2, 0]
def k0_off33 (k0_t1 : Fin k0_t1_loop.trips) : Fin 5 → Nat :=
  let c0_372 : Index := 0#32
  let c1_373 : Index := 1#32
  let c0_i32_48 : BitVec 32 := 0#32
  let c1_i32_49 : BitVec 32 := 1#32
  let arg18 : BitVec 32 := Scf.iv c0_i32_48 c1_i32_49 k0_t1
  let v1109 : Index := Scalar.indexCast arg18
  let c3_374 : Index := 3#32
  let c0_375 : Index := 0#32
  ![0, 1, v1109.toNat, 3, 0]
def k0_off34 (k0_t1 : Fin k0_t1_loop.trips) : Fin 5 → Nat :=
  let c0_380 : Index := 0#32
  let c1_381 : Index := 1#32
  let c0_i32_48 : BitVec 32 := 0#32
  let c1_i32_49 : BitVec 32 := 1#32
  let arg18 : BitVec 32 := Scf.iv c0_i32_48 c1_i32_49 k0_t1
  let v1117 : Index := Scalar.indexCast arg18
  let c4_382 : Index := 4#32
  let c0_383 : Index := 0#32
  ![0, 1, v1117.toNat, 4, 0]
def k0_off35 (k0_t1 : Fin k0_t1_loop.trips) : Fin 5 → Nat :=
  let c0_388 : Index := 0#32
  let c1_389 : Index := 1#32
  let c0_i32_48 : BitVec 32 := 0#32
  let c1_i32_49 : BitVec 32 := 1#32
  let arg18 : BitVec 32 := Scf.iv c0_i32_48 c1_i32_49 k0_t1
  let v1125 : Index := Scalar.indexCast arg18
  let c5_390 : Index := 5#32
  let c0_391 : Index := 0#32
  ![0, 1, v1125.toNat, 5, 0]
def k0_off36 (k0_t1 : Fin k0_t1_loop.trips) : Fin 5 → Nat :=
  let c0_396 : Index := 0#32
  let c1_397 : Index := 1#32
  let c0_i32_48 : BitVec 32 := 0#32
  let c1_i32_49 : BitVec 32 := 1#32
  let arg18 : BitVec 32 := Scf.iv c0_i32_48 c1_i32_49 k0_t1
  let v1133 : Index := Scalar.indexCast arg18
  let c6_398 : Index := 6#32
  let c0_399 : Index := 0#32
  ![0, 1, v1133.toNat, 6, 0]
def k0_off37 (k0_t1 : Fin k0_t1_loop.trips) : Fin 5 → Nat :=
  let c0_404 : Index := 0#32
  let c1_405 : Index := 1#32
  let c0_i32_48 : BitVec 32 := 0#32
  let c1_i32_49 : BitVec 32 := 1#32
  let arg18 : BitVec 32 := Scf.iv c0_i32_48 c1_i32_49 k0_t1
  let v1141 : Index := Scalar.indexCast arg18
  let c7_406 : Index := 7#32
  let c0_407 : Index := 0#32
  ![0, 1, v1141.toNat, 7, 0]
def k0_off38 (k0_t1 : Fin k0_t1_loop.trips) : Fin 5 → Nat :=
  let c0_412 : Index := 0#32
  let c1_413 : Index := 1#32
  let c0_i32_48 : BitVec 32 := 0#32
  let c1_i32_49 : BitVec 32 := 1#32
  let arg18 : BitVec 32 := Scf.iv c0_i32_48 c1_i32_49 k0_t1
  let v1149 : Index := Scalar.indexCast arg18
  let c8_414 : Index := 8#32
  let c0_415 : Index := 0#32
  ![0, 1, v1149.toNat, 8, 0]
def k0_off39 (k0_t1 : Fin k0_t1_loop.trips) : Fin 5 → Nat :=
  let c0_420 : Index := 0#32
  let c1_421 : Index := 1#32
  let c0_i32_48 : BitVec 32 := 0#32
  let c1_i32_49 : BitVec 32 := 1#32
  let arg18 : BitVec 32 := Scf.iv c0_i32_48 c1_i32_49 k0_t1
  let v1157 : Index := Scalar.indexCast arg18
  let c9_422 : Index := 9#32
  let c0_423 : Index := 0#32
  ![0, 1, v1157.toNat, 9, 0]
def k0_off40 (k0_t1 : Fin k0_t1_loop.trips) : Fin 5 → Nat :=
  let c0_428 : Index := 0#32
  let c1_429 : Index := 1#32
  let c0_i32_48 : BitVec 32 := 0#32
  let c1_i32_49 : BitVec 32 := 1#32
  let arg18 : BitVec 32 := Scf.iv c0_i32_48 c1_i32_49 k0_t1
  let v1165 : Index := Scalar.indexCast arg18
  let c10_430 : Index := 10#32
  let c0_431 : Index := 0#32
  ![0, 1, v1165.toNat, 10, 0]
def k0_off41 (k0_t1 : Fin k0_t1_loop.trips) : Fin 5 → Nat :=
  let c0_436 : Index := 0#32
  let c1_437 : Index := 1#32
  let c0_i32_48 : BitVec 32 := 0#32
  let c1_i32_49 : BitVec 32 := 1#32
  let arg18 : BitVec 32 := Scf.iv c0_i32_48 c1_i32_49 k0_t1
  let v1173 : Index := Scalar.indexCast arg18
  let c11_438 : Index := 11#32
  let c0_439 : Index := 0#32
  ![0, 1, v1173.toNat, 11, 0]
def k0_off42 (k0_t1 : Fin k0_t1_loop.trips) : Fin 5 → Nat :=
  let c0_445 : Index := 0#32
  let c1_446 : Index := 1#32
  let c0_i32_48 : BitVec 32 := 0#32
  let c1_i32_49 : BitVec 32 := 1#32
  let arg18 : BitVec 32 := Scf.iv c0_i32_48 c1_i32_49 k0_t1
  let v1182 : Index := Scalar.indexCast arg18
  let c12_447 : Index := 12#32
  let c0_448 : Index := 0#32
  ![0, 1, v1182.toNat, 12, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x2x8x64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x8x64x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x8x64x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x1x1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x1x1024x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x8x16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x8x16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== S5PowRefIdeal.lean ====
abbrev S4x2x48x64 : Shape := ⟨4, ![4, 2, 48, 64]⟩
abbrev S4x2x48 : Shape := ⟨3, ![4, 2, 48]⟩
abbrev S4x48x64x16 : Shape := ⟨4, ![4, 48, 64, 16]⟩
abbrev S4x2x48x16x64 : Shape := ⟨5, ![4, 2, 48, 16, 64]⟩
abbrev S4x2x48x1 : Shape := ⟨4, ![4, 2, 48, 1]⟩
abbrev S4x2x48x1x64 : Shape := ⟨5, ![4, 2, 48, 1, 64]⟩
abbrev S16 : Shape := ⟨1, ![16]⟩
abbrev S_ : Shape := ⟨0, ![]⟩
abbrev S1x16 : Shape := ⟨2, ![1, 16]⟩
abbrev S2x16 : Shape := ⟨2, ![2, 16]⟩
abbrev S2x1x16x1 : Shape := ⟨4, ![2, 1, 16, 1]⟩
abbrev S1x2x1x16x1 : Shape := ⟨5, ![1, 2, 1, 16, 1]⟩
abbrev S16x1 : Shape := ⟨2, ![16, 1]⟩
abbrev S4x2x48x16x128 : Shape := ⟨5, ![4, 2, 48, 16, 128]⟩

abbrev nBuf : Space → Nat
  | .hbm => 91
  | .vmem => 0
  | .smem => 0
  | _ => 0

abbrev bufTy : (tb : Table) → Fin (tcTables nBuf tb) → BufTy
  | .hbm, ⟨0, _⟩ => ⟨S4x2x48x64, .f32⟩
  | .hbm, ⟨1, _⟩ => ⟨S4x2x48x64, .f32⟩
  | .hbm, ⟨2, _⟩ => ⟨S4x2x48, .f32⟩
  | .hbm, ⟨3, _⟩ => ⟨S4x48x64x16, .f32⟩
  | .hbm, ⟨4, _⟩ => ⟨S4x48x64x16, .f32⟩
  | .hbm, ⟨5, _⟩ => ⟨S4x2x48x16x64, .f32⟩
  | .hbm, ⟨6, _⟩ => ⟨S4x2x48x16x64, .f32⟩
  | .hbm, ⟨7, _⟩ => ⟨S4x2x48, .f32⟩
  | .hbm, ⟨8, _⟩ => ⟨S4x2x48x1, .f32⟩
  | .hbm, ⟨9, _⟩ => ⟨S4x2x48x64, .f32⟩
  | .hbm, ⟨10, _⟩ => ⟨S4x2x48x64, .f32⟩
  | .hbm, ⟨11, _⟩ => ⟨S4x2x48x1x64, .f32⟩
  | .hbm, ⟨12, _⟩ => ⟨S4x2x48x64, .f32⟩
  | .hbm, ⟨13, _⟩ => ⟨S4x2x48x64, .f32⟩
  | .hbm, ⟨14, _⟩ => ⟨S4x2x48x1x64, .f32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S_, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S16, .i32⟩
  | .hbm, ⟨40, _⟩ => ⟨S16, .i32⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S16, .i32⟩
  | .hbm, ⟨49, _⟩ => ⟨S1x16, .i32⟩
  | .hbm, ⟨50, _⟩ => ⟨S1x16, .i32⟩
  | .hbm, ⟨51, _⟩ => ⟨S2x16, .i32⟩
  | .hbm, ⟨52, _⟩ => ⟨S_, .i32⟩
  | .hbm, ⟨53, _⟩ => ⟨S2x16, .i32⟩
  | .hbm, ⟨54, _⟩ => ⟨S2x16, .i32⟩
  | .hbm, ⟨55, _⟩ => ⟨S2x16, .f32⟩
  | .hbm, ⟨56, _⟩ => ⟨S2x1x16x1, .f32⟩
  | .hbm, ⟨57, _⟩ => ⟨S1x2x1x16x1, .f32⟩
  | .hbm, ⟨58, _⟩ => ⟨S4x2x48x16x64, .f32⟩
  | .hbm, ⟨59, _⟩ => ⟨S4x2x48x16x64, .f32⟩
  | .hbm, ⟨60, _⟩ => ⟨S4x2x48x16x64, .f32⟩
  | .hbm, ⟨61, _⟩ => ⟨S4x2x48x16x64, .f32⟩
  | .hbm, ⟨62, _⟩ => ⟨S16, .i32⟩
  | .hbm, ⟨63, _⟩ => ⟨S_, .i32⟩
  | .hbm, ⟨64, _⟩ => ⟨S16, .i32⟩
  | .hbm, ⟨65, _⟩ => ⟨S16, .i1⟩
  | .hbm, ⟨66, _⟩ => ⟨S16x1, .i1⟩
  | .hbm, ⟨67, _⟩ => ⟨S1x2x1x16x1, .f32⟩
  | .hbm, ⟨68, _⟩ => ⟨S4x2x48x16x64, .f32⟩
  | .hbm, ⟨69, _⟩ => ⟨S4x2x48x16x64, .f32⟩
  | .hbm, ⟨70, _⟩ => ⟨S4x2x48x16x64, .f32⟩
  | .hbm, ⟨71, _⟩ => ⟨S4x2x48x16x64, .f32⟩
  | .hbm, ⟨72, _⟩ => ⟨S4x2x48x16x64, .f32⟩
  | .hbm, ⟨73, _⟩ => ⟨S4x2x48x16x128, .f32⟩
  | .hbm, ⟨74, _⟩ => ⟨S_, .f32⟩
  | .hbm, ⟨75, _⟩ => ⟨S_, .f32⟩
  | .hbm, ⟨76, _⟩ => ⟨S4x2x48x16x128, .i1⟩
  | .hbm, ⟨77, _⟩ => ⟨S4x2x48x16x128, .f32⟩
  | .hbm, ⟨78, _⟩ => ⟨S4x2x48x16x128, .f32⟩
  | .hbm, ⟨79, _⟩ => ⟨S1x2x1x16x1, .f32⟩
  | .hbm, ⟨80, _⟩ => ⟨S4x2x48x16x64, .f32⟩
  | .hbm, ⟨81, _⟩ => ⟨S4x2x48x16x64, .f32⟩
  | .hbm, ⟨82, _⟩ => ⟨S4x2x48x16x64, .f32⟩
  | .hbm, ⟨83, _⟩ => ⟨S4x2x48x16x64, .f32⟩
  | .hbm, ⟨84, _⟩ => ⟨S4x2x48x16x64, .f32⟩
  | .hbm, ⟨85, _⟩ => ⟨S4x2x48x16x128, .f32⟩
  | .hbm, ⟨86, _⟩ => ⟨S_, .f32⟩
  | .hbm, ⟨87, _⟩ => ⟨S_, .f32⟩
  | .hbm, ⟨88, _⟩ => ⟨S4x2x48x16x128, .i1⟩
  | .hbm, ⟨89, _⟩ => ⟨S4x2x48x16x128, .f32⟩
  | .hbm, ⟨90, _⟩ => ⟨S4x2x48x16x128, .f32⟩
  | _, _ => ⟨S4x2x48x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c_4 : Ref sig .tc := ⟨.hbm, 30, rfl⟩
abbrev main_call1_v0 : Ref sig .tc := ⟨.hbm, 31, rfl⟩
abbrev main_v16 : Ref sig .tc := ⟨.hbm, 32, rfl⟩
abbrev main_c_5 : Ref sig .tc := ⟨.hbm, 33, rfl⟩
abbrev main_call2_v0 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_call3_v0 : Ref sig .tc := ⟨.hbm, 39, rfl⟩
abbrev main_v20 : Ref sig .tc := ⟨.hbm, 40, rfl⟩
abbrev main_c_7 : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_call4_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Proof.Softmax.lean ====
/-
  Softmax of one row of scores over the extended reals, in the two orders in which attention uses it: the weighted sum
  first and one division at the end, or the division of every weight first. The two agree where the scores are real
  numbers, and neither depends on the order in which the keys are listed.
-/
module

public import Idealize.ShloMosaic.PureOps.Ideal.Laws
public import Idealize.ShloMosaic.Lib.ValueIdx
public import Idealize.ShloMosaic.Lib.ValueIdxCoords

@[expose] public section

noncomputable section

namespace Cert.Softmax

open Idealize.ShloMosaic
open scoped BigOperators

variable {n : ℕ}

/-- The largest score of the row (−∞ when there is none). -/
def top (s : Fin n → EReal) : EReal := Finset.univ.fold max ⊥ s

/-- The weight of key `k` before normalisation. -/
def weight (s : Fin n → EReal) (k : Fin n) : EReal := Ideal.exp (s k - top s)

/-- The sum of the row's weights. -/
def total (s : Fin n → EReal) : EReal := ∑ k, weight s k

/-- The weighted sum of the values, divided once at the end. -/
def late (s v : Fin n → EReal) : EReal := Ideal.div (∑ k, weight s k * v k) (total s)

/-- The sum of the values, each times its normalised weight. -/
def early (s v : Fin n → EReal) : EReal := ∑ k, v k * Ideal.div (weight s k) (total s)

theorem top_eq_sup (s : Fin n → EReal) : top s = Finset.univ.sup s := by
  unfold top; rw [Finset.sup_def]; rfl

/-- The largest of finitely many real scores, at least one, is real. -/
theorem top_real (hn : 0 < n) (s : Fin n → EReal) (hs : ∀ k, ∃ r : ℝ, s k = r) : ∃ r : ℝ, top s = r := by
  rw [top_eq_sup]
  have : (Finset.univ : Finset (Fin n)).Nonempty := ⟨⟨0, hn⟩, Finset.mem_univ _⟩
  obtain ⟨k, -, hk⟩ := Finset.exists_mem_eq_sup _ this s
  rw [hk]; exact hs k

/-- With real scores every weight is a positive real. -/
theorem weight_real (hn : 0 < n) (s : Fin n → EReal) (hs : ∀ k, ∃ r : ℝ, s k = r) (k : Fin n) :
    ∃ r : ℝ, 0 < r ∧ weight s k = r := by
  obtain ⟨a, ha⟩ := hs k
  obtain ⟨b, hb⟩ := top_real hn s hs
  refine ⟨Real.exp (a - b), Real.exp_pos _, ?_⟩
  unfold weight
  rw [ha, hb, ← EReal.coe_sub]
  rfl

/-- With real scores the sum of the weights is a positive real. -/
theorem total_real (hn : 0 < n) (s : Fin n → EReal) (hs : ∀ k, ∃ r : ℝ, s k = r) : ∃ r : ℝ, 0 < r ∧ total s = r := by
  choose w hw hwe using weight_real hn s hs
  refine ⟨∑ k, w k, Finset.sum_pos (fun k _ => hw k) ⟨⟨0, hn⟩, Finset.mem_univ _⟩, ?_⟩
  unfold total
  simp only [hwe]
  induction (Finset.univ : Finset (Fin n)) using Finset.cons_induction with
  | empty => simp
  | cons a t ha ih => rw [Finset.sum_cons, Finset.sum_cons, ih, EReal.coe_add]

/-- A sum of extended reals times a nonnegative real is the sum of the products. -/
theorem sum_mul_real {ι : Type*} (t : Finset ι) (f : ι → EReal) (c : ℝ) (hc : 0 ≤ c) :
    (∑ k ∈ t, f k) * (c : EReal) = ∑ k ∈ t, f k * (c : EReal) := by
  induction t using Finset.cons_induction with
  | empty => simp
  | cons a t ha ih =>
    rw [Finset.sum_cons, Finset.sum_cons, ← ih]
    exact EReal.right_distrib_of_nonneg_of_ne_top (EReal.coe_nonneg.mpr hc) (EReal.coe_ne_top c) _ _

/-- With real scores, dividing once at the end is dividing every weight first. -/
theorem late_eq_early (hn : 0 < n) (s v : Fin n → EReal) (hs : ∀ k, ∃ r : ℝ, s k = r) : late s v = early s v := by
  obtain ⟨l, hl, hle⟩ := total_real hn s hs
  unfold late early
  rw [hle, Ideal.div_coe hl.ne', sum_mul_real _ _ _ (by positivity)]
  refine Finset.sum_congr rfl fun k _ => ?_
  rw [Ideal.div_coe hl.ne', mul_comm (weight s k) (v k), mul_assoc]

theorem top_perm (e : Fin n ≃ Fin n) (s : Fin n → EReal) : top (s ∘ e) = top s := by
  rw [top_eq_sup, top_eq_sup]
  refine le_antisymm (Finset.sup_le fun k _ => Finset.le_sup (f := s) (Finset.mem_univ (e k))) (Finset.sup_le fun k _ => ?_)
  have := Finset.le_sup (f := s ∘ e) (Finset.mem_univ (e.symm k))
  simpa using this

theorem total_perm (e : Fin n ≃ Fin n) (s : Fin n → EReal) : total (s ∘ e) = total s := by
  unfold total weight
  rw [top_perm]
  exact Equiv.sum_comp e fun k => Ideal.exp (s k - top s)

/-- The order in which the keys are listed does not matter. -/
theorem early_perm (e : Fin n ≃ Fin n) (s v : Fin n → EReal) : early (s ∘ e) (v ∘ e) = early s v := by
  unfold early
  rw [total_perm]
  unfold weight
  rw [top_perm]
  exact Equiv.sum_comp e fun k => v k * Ideal.div (Ideal.exp (s k - top s)) (total s)

end Cert.Softmax
-- ==== Proof.AttnSpec.lean ====
/-
  Grouped attention as one function of its three operands, entry by entry, in the order of operations of the kernel:
  eight query heads, four to each key head; the first 256 rows see the first 256 keys, the others see all 2304; the
  values of key head `g` are the columns from `11264 + 128 g` of the projection.
-/
module

public import proofs.«01_k».proof.Proof.Softmax

@[expose] public section

noncomputable section

namespace Cert.AttnSpec

open Idealize.ShloMosaic Idealize.ShloMosaic.ValueIdx Cert.Softmax
open scoped BigOperators

abbrev Q := (⟨3, ![4, 2304, 1024]⟩ : Shape).Idx → EReal
abbrev K := (⟨3, ![4, 2304, 256]⟩ : Shape).Idx → EReal
abbrev P := (⟨3, ![4, 2304, 11776]⟩ : Shape).Idx → EReal

/-- The score of query row `r` against key row `j`, in head `h` of batch element `b`. -/
def score (q : Q) (k : K) (b : Fin 4) (h : Fin 8) (r j : Fin 2304) : EReal :=
  ∑ e : Fin 128, q (ix3 b r (⟨h.val * 128 + e.val, by omega⟩ : Fin 1024)) * k (ix3 b j (⟨h.val / 4 * 128 + e.val, by omega⟩ : Fin 256))

/-- Column `d` of value row `j` of the key head that serves head `h`. -/
def value (p : P) (b : Fin 4) (h : Fin 8) (d : Fin 128) (j : Fin 2304) : EReal :=
  p (ix3 b j (⟨11264 + h.val / 4 * 128 + d.val, by omega⟩ : Fin 11776))

/-- One entry when the first `n` keys are seen. -/
def row (n : ℕ) (hn : n ≤ 2304) (q : Q) (k : K) (p : P) (b : Fin 4) (r : Fin 2304) (h : Fin 8) (d : Fin 128) : EReal :=
  late (n := n) (fun j => score q k b h r (j.castLE hn)) (fun j => value p b h d (j.castLE hn))

/-- The head a column belongs to. -/
def headOf (c : Fin 1024) : Fin 8 := ⟨c.val / 128, by omega⟩
/-- The column inside its head. -/
def colOf (c : Fin 1024) : Fin 128 := ⟨c.val % 128, Nat.mod_lt _ (by norm_num)⟩

/-- The whole result. -/
def out (q : Q) (k : K) (p : P) (i : (⟨3, ![4, 2304, 1024]⟩ : Shape).Idx) : EReal :=
  if (i 1).val < 256 then row 256 (by norm_num) q k p (i 0) (i 1) (headOf (i 2)) (colOf (i 2))
  else row 2304 le_rfl q k p (i 0) (i 1) (headOf (i 2)) (colOf (i 2))

end Cert.AttnSpec
-- ==== Proof.AttnHead.lean ====
/-
  One head's block of attention as the kernel computes it, read at one entry: 256 queries against `n` keys.
-/
module

public import proofs.«01_k».proof.Proof.Softmax
public import Idealize.ShloMosaic.Lib.MatmulPlain
public import Idealize.ShloMosaic.Lib.ValueLayoutCasts
public import Idealize.ShloMosaic.Lib.Pipeline.Value

@[expose] public section

set_option maxRecDepth 16384

noncomputable section

namespace Cert.AttnHead

open Idealize.ShloMosaic Idealize.ShloMosaic.ValueIdx Cert.Softmax
open scoped BigOperators

/-- The scores of 256 queries against `n` keys. -/
def scores {n : ℕ} (q : FVec Ideal ⟨2, ![256, 128]⟩ .bf16) (k : FVec Ideal ⟨2, ![n, 128]⟩ .bf16) : FVec Ideal ⟨2, ![256, n]⟩ .f32 :=
  matmul (DotDims.transposedRhs 256 128 n) none q k (constant (⟨2, ![256, n]⟩ : Shape) .f32 0x00000000#32)

theorem scores_apply {n : ℕ} (q : FVec Ideal ⟨2, ![256, 128]⟩ .bf16) (k : FVec Ideal ⟨2, ![n, 128]⟩ .bf16) (r : Fin 256) (j : Fin n) :
    scores q k (ix2 r j) = ∑ d : Fin 128, q (ix2 r d) * k (ix2 j d) := by
  refine (Ideal.matmul_transposedRhs_apply none q k _ r j).trans ?_
  rw [constant_apply, Ideal.ofBits_zero_f32, zero_add]

variable {n : ℕ}
  (hr : (⟨2, ![256, n]⟩ : Shape).Reduces [1] ⟨1, ![256]⟩)
  (hc : (⟨1, ![256]⟩ : Shape).ShapeCasts ⟨2, ![256, 1]⟩)
  (hb : (⟨2, ![256, 1]⟩ : Shape).Broadcasts ⟨2, ![256, n]⟩)
  (hb' : (⟨2, ![256, 1]⟩ : Shape).Broadcasts ⟨2, ![256, 128]⟩)
  (ht : (FTy.bf16).bits < (FTy.f32).bits)

/-- The unnormalised weights of those queries: the exponential of a score minus its row's largest. -/
def weights (s : FVec Ideal ⟨2, ![256, n]⟩ .f32) : FVec Ideal ⟨2, ![256, n]⟩ .f32 :=
  exp (subf s (broadcastTo (⟨2, ![256, n]⟩ : Shape)
    (shapeCast (⟨2, ![256, 1]⟩ : Shape) (multiReduction .maximumf [1] (⟨1, ![256]⟩ : Shape) s 0xFF800000#32 hr (.inl rfl) rfl) hc) hb))

/-- One head's block: the weighted sum of the values over the sum of the weights. -/
def head (q : FVec Ideal ⟨2, ![256, 128]⟩ .bf16) (k v : FVec Ideal ⟨2, ![n, 128]⟩ .bf16) : FVec Ideal ⟨2, ![256, 128]⟩ .f32 :=
  divf (matmul (DotDims.plain 256 n 128) none (truncf .bf16 (weights hr hc hb (scores q k)) ht) v
      (constant (⟨2, ![256, 128]⟩ : Shape) .f32 0x00000000#32))
    (broadcastTo (⟨2, ![256, 128]⟩ : Shape) (shapeCast (⟨2, ![256, 1]⟩ : Shape)
      (multiReduction .add [1] (⟨1, ![256]⟩ : Shape) (weights hr hc hb (scores q k)) 0x00000000#32 hr (.inl rfl) rfl) hc) hb')

theorem lift_row (r : Fin 256) (k : Fin n) : hr.lift (ix1 r) k = ix2 r k := by
  funext c
  match c with
  | ⟨0, _⟩ => rfl
  | ⟨1, _⟩ => rfl

/-- A row statistic, copied along the row. -/
theorem column_apply {m : ℕ} (x : (⟨1, ![256]⟩ : Shape).Idx → EReal) (hm : (⟨2, ![256, 1]⟩ : Shape).Broadcasts ⟨2, ![256, m]⟩)
    (r : Fin 256) (j : Fin m) :
    broadcastTo (⟨2, ![256, m]⟩ : Shape) (shapeCast (⟨2, ![256, 1]⟩ : Shape) x hc) hm (ix2 r j) = x (ix1 r) := by
  rw [broadcastTo_apply _ hm (ix2 r j) (ix2 r (0 : Fin 1)) (by
    intro a
    match a with
    | ⟨0, _⟩ => rfl
    | ⟨1, _⟩ => rfl)]
  exact shapeCast_a_a1_apply x hc r 0

theorem lowest : (FloatOps.ofBits (F := Ideal) .f32 0xFF800000#32 : EReal) = ⊥ := by
  simp [Ideal.ofBits_def, Ideal.ofBits, Ideal.ieee]

/-- The row's maximum. -/
theorem rowMax_apply (s : FVec Ideal ⟨2, ![256, n]⟩ .f32) (r : Fin 256) :
    multiReduction .maximumf [1] (⟨1, ![256]⟩ : Shape) s 0xFF800000#32 hr (.inl rfl) rfl (ix1 r) = top fun j => s (ix2 r j) := by
  refine (Ideal.multiReduction_maximumf_single s _ hr _ _ (ix1 r)).trans ?_
  rw [lowest]
  exact congrArg (Finset.univ.fold max (⊥ : EReal)) (funext fun j => congrArg s (lift_row hr r j))

/-- The row's sum. -/
theorem rowSum_apply (s : FVec Ideal ⟨2, ![256, n]⟩ .f32) (r : Fin 256) :
    multiReduction .add [1] (⟨1, ![256]⟩ : Shape) s 0x00000000#32 hr (.inl rfl) rfl (ix1 r) = ∑ j : Fin n, s (ix2 r j) := by
  refine (Ideal.multiReduction_add_single s _ hr _ _ (ix1 r)).trans ?_
  exact Finset.sum_congr rfl fun j _ => congrArg s (lift_row hr r j)

theorem weights_apply (s : FVec Ideal ⟨2, ![256, n]⟩ .f32) (r : Fin 256) (k : Fin n) :
    weights hr hc hb s (ix2 r k) = weight (fun j => s (ix2 r j)) k := by
  show Ideal.exp (s (ix2 r k) - _) = _
  refine congrArg (fun x => Ideal.exp (s (ix2 r k) - x)) ?_
  exact (column_apply hc _ hb r k).trans (rowMax_apply hr s r)

/-- One entry of a head's block is the softmax-weighted sum of that column of the values, divided at the end. -/
theorem head_apply (q : FVec Ideal ⟨2, ![256, 128]⟩ .bf16) (k v : FVec Ideal ⟨2, ![n, 128]⟩ .bf16) (r : Fin 256) (d : Fin 128) :
    head hr hc hb hb' ht q k v (ix2 r d) =
      late (fun j => ∑ e : Fin 128, q (ix2 r e) * k (ix2 j e)) (fun j => v (ix2 j d)) := by
  have hw : ∀ j, weights hr hc hb (scores q k) (ix2 r j) = weight (fun j => ∑ e : Fin 128, q (ix2 r e) * k (ix2 j e)) j := by
    intro j
    rw [weights_apply]
    simp only [scores_apply]
  refine congrArg₂ Ideal.div ?_ ?_
  · refine (Ideal.matmul_plain_apply none _ v _ r d).trans ?_
    rw [constant_apply, Ideal.ofBits_zero_f32, zero_add]
    refine Finset.sum_congr rfl fun j _ => ?_
    rw [truncf_apply, hw]
  · refine (column_apply hc _ hb' r d).trans ((rowSum_apply hr _ r).trans ?_)
    exact Finset.sum_congr rfl fun j _ => hw j

end Cert.AttnHead
-- ==== Proof.AttnBlock.lean ====
/-
  One grid step of the attention kernel: the block of 256 rows and four heads it writes, entry by entry, from the
  blocks of queries, keys and values it reads.
-/
module

public import proofs.«01_k».proof.Proof.AttnHead
public import proofs.«01_k».proof.Proof.Gen.AttnIdeal.Value

@[expose] public section

set_option maxRecDepth 16384

noncomputable section

namespace Cert.AttnIdeal.Block

open Idealize.ShloMosaic Idealize.ShloMosaic.TcCoe Idealize.ShloMosaic.Tactic Idealize.ShloMosaic.ValueIdx
open Idealize.SL Idealize.SL.Sem
open Cert.Softmax Cert.AttnHead Cert.AttnIdeal Cert.AttnIdeal.Gen
open scoped BigOperators

/-- Entry (row `r`, column `c`) of the block computed from a query block and the first `n` keys and values. -/
def entry (n : ℕ) (hn : n ≤ 2304) (x0 : Vec Ideal S1x256x512 .bf16) (x1 x2 : Vec Ideal S1x2304x128 .bf16) (y : S1x256x512.Idx) : EReal :=
  late (n := n)
    (fun j => ∑ e : Fin 128, x0 (ix3 (0 : Fin 1) (y 1 : Fin 256) (⟨(y 2).val / 128 * 128 + e.val, by have : (y 2).val < 512 := (y 2).isLt; omega⟩ : Fin 512))
      * x1 (ix3 (0 : Fin 1) (j.castLE hn) e))
    (fun j => x2 (ix3 (0 : Fin 1) (j.castLE hn) (⟨(y 2).val % 128, Nat.mod_lt _ (by norm_num)⟩ : Fin 128)))

/-- A block of `n` rows read through a slice that starts at column `o`, without its leading axis of extent one. -/
theorem rows_apply {A B n o : ℕ} (x : (⟨3, ![1, A, B]⟩ : Shape).Idx → EReal)
    (inb : ∀ a : Fin 3, (![0, 0, o] : Fin 3 → ℕ) a + (![1, n, 128] : Fin 3 → ℕ) a ≤ (⟨3, ![1, A, B]⟩ : Shape).size a)
    (h : (⟨3, ![1, n, 128]⟩ : Shape).ShapeCasts ⟨2, ![n, 128]⟩) (r : Fin n) (d : Fin 128) (hr : r.val < A) (hd : o + d.val < B) :
    shapeCast (⟨2, ![n, 128]⟩ : Shape)
      (View.ld (e' := .bf16) (Val := Elt Ideal) x (Rect.unit (s := ⟨3, ![1, A, B]⟩) ![0, 0, o] ![1, n, 128] inb)) h (ix2 r d)
      = x (ix3 (0 : Fin 1) ⟨r.val, hr⟩ ⟨o + d.val, hd⟩) := by
  rw [shapeCast_1ab_ab_apply]
  refine congrArg x (funext fun a => Fin.ext ?_)
  match a with
  | ⟨0, _⟩ => rfl
  | ⟨1, _⟩ => show 0 + 1 * r.val = r.val; omega
  | ⟨2, _⟩ => show o + 1 * d.val = o + d.val; omega

/-- What one head stores: the entries of the block in that head's 128 columns. -/
theorem piece (n : ℕ) (hn : n ≤ 2304) (h : ℕ) (h4 : h < 4) (o : ℕ) (ho : o = h * 128)
    (hr : (⟨2, ![256, n]⟩ : Shape).Reduces [1] ⟨1, ![256]⟩)
    (hc : (⟨1, ![256]⟩ : Shape).ShapeCasts ⟨2, ![256, 1]⟩)
    (hb : (⟨2, ![256, 1]⟩ : Shape).Broadcasts ⟨2, ![256, n]⟩)
    (hb' : (⟨2, ![256, 1]⟩ : Shape).Broadcasts ⟨2, ![256, 128]⟩)
    (ht : (FTy.bf16).bits < (FTy.f32).bits)
    (hq : (⟨3, ![1, 256, 128]⟩ : Shape).ShapeCasts ⟨2, ![256, 128]⟩) (hk : (⟨3, ![1, n, 128]⟩ : Shape).ShapeCasts ⟨2, ![n, 128]⟩)
    (hs : (⟨2, ![256, 128]⟩ : Shape).ShapeCasts ⟨3, ![1, 256, 128]⟩)
    (x0 : Vec Ideal S1x256x512 .bf16) (x1 x2 : Vec Ideal S1x2304x128 .bf16)
    (inb0 : ∀ a : Fin 3, (![0, 0, o] : Fin 3 → ℕ) a + (![1, 256, 128] : Fin 3 → ℕ) a ≤ S1x256x512.size a)
    (inb1 : ∀ a : Fin 3, (![0, 0, 0] : Fin 3 → ℕ) a + (![1, n, 128] : Fin 3 → ℕ) a ≤ S1x2304x128.size a)
    (x : (⟨3, ![1, 256, 128]⟩ : Shape).Idx) :
    shapeCast (⟨3, ![1, 256, 128]⟩ : Shape) (truncf .bf16 (head hr hc hb hb' ht
        (shapeCast (⟨2, ![256, 128]⟩ : Shape) (View.ld (e' := .bf16) (Val := Elt Ideal) x0 (Rect.unit (s := S1x256x512) ![0, 0, o] ![1, 256, 128] inb0)) hq)
        (shapeCast (⟨2, ![n, 128]⟩ : Shape) (View.ld (e' := .bf16) (Val := Elt Ideal) x1 (Rect.unit (s := S1x2304x128) ![0, 0, 0] ![1, n, 128] inb1)) hk)
        (shapeCast (⟨2, ![n, 128]⟩ : Shape) (View.ld (e' := .bf16) (Val := Elt Ideal) x2 (Rect.unit (s := S1x2304x128) ![0, 0, 0] ![1, n, 128] inb1)) hk)) ht) hs x
      = entry n hn x0 x1 x2 ((Rect.unit (s := S1x256x512) ![0, 0, o] ![1, 256, 128] inb0).emb x) := by
  obtain ⟨u, r, d, rfl⟩ : ∃ (u : Fin 1) (r : Fin 256) (d : Fin 128), x = ix3 u r d := ⟨x 0, x 1, x 2, eq_ix3 x⟩
  have hd := d.isLt
  rw [shapeCast_ab_1ab_apply, truncf_apply, head_apply]
  unfold entry
  refine congrArg₂ late (funext fun j => Finset.sum_congr rfl fun e _ => ?_) (funext fun j => ?_)
  · rw [rows_apply x0 inb0 hq r e (by omega) (by have := e.isLt; omega), rows_apply x1 inb1 hk j e (by omega) (by omega)]
    refine congrArg₂ (· * ·) (congrArg x0 ?_) (congrArg x1 ?_)
    · refine congrArg₂ (ix3 (0 : Fin 1)) (Fin.ext ?_) (Fin.ext ?_)
      · show r.val = 0 + 1 * r.val; omega
      · show o + e.val = (o + 1 * d.val) / 128 * 128 + e.val; omega
    · exact congrArg₂ (ix3 (0 : Fin 1)) (Fin.ext rfl) (Fin.ext (Nat.zero_add _))
  · rw [rows_apply x2 inb1 hk j d (by omega) (by omega)]
    refine congrArg x2 (congrArg₂ (ix3 (0 : Fin 1)) (Fin.ext rfl) (Fin.ext ?_))
    show 0 + d.val = (o + 1 * d.val) % 128; omega

/-- The block written at a point of the context rows, which attend to the first 256 keys only. -/
theorem out_A (c : Dev nD) (i : grid0.Coords) (arg3 : Memref sig .tc .vmem S1x256x512 .bf16) (harg3 : arg3.IsWhole)
    (arg4 : Memref sig .tc .vmem S1x2304x128 .bf16) (harg4 : arg4.IsWhole) (arg5 : Memref sig .tc .vmem S1x2304x128 .bf16) (harg5 : arg5.IsWhole)
    (arg6 : Memref sig .tc .vmem S1x256x512 .bf16) (harg6 : arg6.IsWhole) (hc0 : cond0_0 i) (hc1 : ¬cond0_1 i)
    (x0 : Vec Ideal S1x256x512 .bf16) (x1 x2 : Vec Ideal S1x2304x128 .bf16) (y : S1x256x512.Idx) :
    out0_A_3 c i arg3 harg3 arg4 harg4 arg5 harg5 arg6 harg6 hc0 hc1 x0 x1 x2 y = entry 256 (by norm_num) x0 x1 x2 y := by
  unfold out0_A_3
  rw [View.read_writes_eq_canon _ _ _ (cover0_A_3 c i arg3 harg3 arg4 harg4 arg5 harg5 arg6 harg6 hc0 hc1 x0 x1 x2)]
  refine View.canon_apply_of_pieces (fun y => entry 256 (by norm_num) x0 x1 x2 y) _ ?_ y
    (cover0_A_3 c i arg3 harg3 arg4 harg4 arg5 harg5 arg6 harg6 hc0 hc1 x0 x1 x2 y)
  unfold kernelRun0_A
  dsimp only
  sl_unfold_words
  simp only [View.readAt_eq_ld, harg3.read_unread, harg4.read_unread, harg5.read_unread]
  intro p hp x
  simp only [List.mem_cons, List.not_mem_nil, or_false] at hp
  rcases hp with rfl | rfl | rfl | rfl
  · exact piece 256 (by norm_num) 3 (by norm_num) 384 rfl _ _ _ _ _ _ _ _ x0 x1 x2 _ _ x
  · exact piece 256 (by norm_num) 2 (by norm_num) 256 rfl _ _ _ _ _ _ _ _ x0 x1 x2 _ _ x
  · exact piece 256 (by norm_num) 1 (by norm_num) 128 rfl _ _ _ _ _ _ _ _ x0 x1 x2 _ _ x
  · exact piece 256 (by norm_num) 0 (by norm_num) 0 rfl _ _ _ _ _ _ _ _ x0 x1 x2 _ _ x

/-- The block written at a point of the other rows, which attend to every key. -/
theorem out_B (c : Dev nD) (i : grid0.Coords) (arg3 : Memref sig .tc .vmem S1x256x512 .bf16) (harg3 : arg3.IsWhole)
    (arg4 : Memref sig .tc .vmem S1x2304x128 .bf16) (harg4 : arg4.IsWhole) (arg5 : Memref sig .tc .vmem S1x2304x128 .bf16) (harg5 : arg5.IsWhole)
    (arg6 : Memref sig .tc .vmem S1x256x512 .bf16) (harg6 : arg6.IsWhole) (hc0 : ¬cond0_0 i) (hc1 : cond0_1 i)
    (x0 : Vec Ideal S1x256x512 .bf16) (x1 x2 : Vec Ideal S1x2304x128 .bf16) (y : S1x256x512.Idx) :
    out0_B_3 c i arg3 harg3 arg4 harg4 arg5 harg5 arg6 harg6 hc0 hc1 x0 x1 x2 y = entry 2304 le_rfl x0 x1 x2 y := by
  unfold out0_B_3
  rw [View.read_writes_eq_canon _ _ _ (cover0_B_3 c i arg3 harg3 arg4 harg4 arg5 harg5 arg6 harg6 hc0 hc1 x0 x1 x2)]
  refine View.canon_apply_of_pieces (fun y => entry 2304 le_rfl x0 x1 x2 y) _ ?_ y
    (cover0_B_3 c i arg3 harg3 arg4 harg4 arg5 harg5 arg6 harg6 hc0 hc1 x0 x1 x2 y)
  unfold kernelRun0_B
  dsimp only
  sl_unfold_words
  simp only [View.readAt_eq_ld, harg3.read_unread, harg4.read_unread, harg5.read_unread]
  intro p hp x
  simp only [List.mem_cons, List.not_mem_nil, or_false] at hp
  rcases hp with rfl | rfl | rfl | rfl
  · exact piece 2304 le_rfl 3 (by norm_num) 384 rfl _ _ _ _ _ _ _ _ x0 x1 x2 _ _ x
  · exact piece 2304 le_rfl 2 (by norm_num) 256 rfl _ _ _ _ _ _ _ _ x0 x1 x2 _ _ x
  · exact piece 2304 le_rfl 1 (by norm_num) 128 rfl _ _ _ _ _ _ _ _ x0 x1 x2 _ _ x
  · exact piece 2304 le_rfl 0 (by norm_num) 0 rfl _ _ _ _ _ _ _ _ x0 x1 x2 _ _ x

end Cert.AttnIdeal.Block
-- ==== Proof.AttnArray.lean ====
/-
  The array the attention kernel leaves: every grid point writes its block of one function of the three operands
  (`AttnSpec.out`), and the blocks fill the array.
-/
module

public import proofs.«01_k».proof.Proof.AttnSpec
public import proofs.«01_k».proof.Proof.AttnBlock

@[expose] public section

set_option maxRecDepth 16384

noncomputable section

namespace Cert.AttnIdeal.Array

open Idealize.ShloMosaic Idealize.ShloMosaic.TcCoe Idealize.ShloMosaic.Tactic Idealize.ShloMosaic.ValueIdx
open Idealize.SL Idealize.SL.Sem
open Cert.Softmax Cert.AttnSpec Cert.AttnIdeal Cert.AttnIdeal.Gen
open scoped BigOperators

variable (m : (l : Loc nD τ sig) → Buf (Elt Ideal) l)

/-- Where each window's block lies at a grid point: batch element, row tile, key head. -/
theorem index0 : ∀ t : Fin cfg0.N, win0_0.index t = ![t.val / 18, t.val % 9, t.val / 9 % 2] :=
  (by decide +kernel : ∀ t : Fin grid0.N, win0_0.index t = ![t.val / 18, t.val % 9, t.val / 9 % 2])
theorem index1 : ∀ t : Fin cfg0.N, win0_1.index t = ![t.val / 18, 0, t.val / 9 % 2] :=
  (by decide +kernel : ∀ t : Fin grid0.N, win0_1.index t = ![t.val / 18, 0, t.val / 9 % 2])
theorem index2 : ∀ t : Fin cfg0.N, win0_2.index t = ![t.val / 18, 0, 88 + t.val / 9 % 2] :=
  (by decide +kernel : ∀ t : Fin grid0.N, win0_2.index t = ![t.val / 18, 0, 88 + t.val / 9 % 2])
theorem index3 : ∀ t : Fin cfg0.N, win0_3.index t = ![t.val / 18, t.val % 9, t.val / 9 % 2] :=
  (by decide +kernel : ∀ t : Fin grid0.N, win0_3.index t = ![t.val / 18, t.val % 9, t.val / 9 % 2])

theorem t_lt (t : Fin cfg0.N) : t.val < 72 := lt_of_lt_of_eq t.isLt (show cfg0.N = 72 from N_0)

/-- The query operand, the key operand and the projection, as arrays of extended reals. -/
abbrev qArr (c : Dev nD) : Q := m ((c : Thread nD τ).loc main_arg0)
abbrev kArr (c : Dev nD) : K := m ((c : Thread nD τ).loc main_arg1)
abbrev pArr (c : Dev nD) : P := m ((c : Thread nD τ).loc main_arg2)

theorem iblk0_apply (c : Dev nD) (t : Fin cfg0.N) (u : Fin 1) (r : Fin 256) (e : Fin 512) :
    (iblk m c 0 t : S1x256x512.Idx → EReal) (ix3 u r e)
      = qArr m c (ix3 (⟨t.val / 18, by have := t_lt t; omega⟩ : Fin 4) (⟨t.val % 9 * 256 + r.val, by omega⟩ : Fin 2304)
          (⟨t.val / 9 % 2 * 512 + e.val, by omega⟩ : Fin 1024)) := by
  show V m c main_arg0 ((win0_0.rect t).emb (ix3 u r e)) = _
  rw [V_main_arg0]
  refine congrArg (qArr m c) (funext fun a => Fin.ext ?_)
  rw [Pipeline.Window.rect_emb_val win0_0 t, index0]
  match a with
  | ⟨0, _⟩ => show t.val / 18 * 1 + u.val = t.val / 18; omega
  | ⟨1, _⟩ => rfl
  | ⟨2, _⟩ => rfl

theorem iblk1_apply (c : Dev nD) (t : Fin cfg0.N) (u : Fin 1) (r : Fin 2304) (e : Fin 128) :
    (iblk m c 1 t : S1x2304x128.Idx → EReal) (ix3 u r e)
      = kArr m c (ix3 (⟨t.val / 18, by have := t_lt t; omega⟩ : Fin 4) r (⟨t.val / 9 % 2 * 128 + e.val, by omega⟩ : Fin 256)) := by
  show V m c main_arg1 ((win0_1.rect t).emb (ix3 u r e)) = _
  rw [V_main_arg1]
  refine congrArg (kArr m c) (funext fun a => Fin.ext ?_)
  rw [Pipeline.Window.rect_emb_val win0_1 t, index1]
  match a with
  | ⟨0, _⟩ => show t.val / 18 * 1 + u.val = t.val / 18; omega
  | ⟨1, _⟩ => show 0 * 2304 + r.val = r.val; omega
  | ⟨2, _⟩ => rfl

theorem iblk2_apply (c : Dev nD) (t : Fin cfg0.N) (u : Fin 1) (r : Fin 2304) (e : Fin 128) :
    (iblk m c 2 t : S1x2304x128.Idx → EReal) (ix3 u r e)
      = pArr m c (ix3 (⟨t.val / 18, by have := t_lt t; omega⟩ : Fin 4) r (⟨(88 + t.val / 9 % 2) * 128 + e.val, by omega⟩ : Fin 11776)) := by
  show V m c main_arg2 ((win0_2.rect t).emb (ix3 u r e)) = _
  rw [V_main_arg2]
  refine congrArg (pArr m c) (funext fun a => Fin.ext ?_)
  rw [Pipeline.Window.rect_emb_val win0_2 t, index2]
  match a with
  | ⟨0, _⟩ => show t.val / 18 * 1 + u.val = t.val / 18; omega
  | ⟨1, _⟩ => show 0 * 2304 + r.val = r.val; omega
  | ⟨2, _⟩ => rfl

/-- An entry of the block computed at point `t` is that entry of the whole result. -/
theorem entry_eq (c : Dev nD) (t : Fin cfg0.N) (n : ℕ) (hn : n ≤ 2304) (u : Fin 1) (r : Fin 256) (e : Fin 512) :
    Block.entry n hn (iblk m c 0 t) (iblk m c 1 t) (iblk m c 2 t) (ix3 u r e)
      = row n hn (qArr m c) (kArr m c) (pArr m c) (⟨t.val / 18, by have := t_lt t; omega⟩ : Fin 4)
          (⟨t.val % 9 * 256 + r.val, by omega⟩ : Fin 2304)
          (headOf (⟨t.val / 9 % 2 * 512 + e.val, by omega⟩ : Fin 1024)) (colOf (⟨t.val / 9 % 2 * 512 + e.val, by omega⟩ : Fin 1024)) := by
  unfold Block.entry row score value headOf colOf
  refine congrArg₂ late (funext fun j => Finset.sum_congr rfl fun d _ => ?_) (funext fun j => ?_)
  · refine congrArg₂ (· * ·) ((iblk0_apply m c t _ _ _).trans (congrArg (qArr m c) ?_)) ((iblk1_apply m c t _ _ _).trans (congrArg (kArr m c) ?_))
    · refine congrArg₂ (ix3 _) rfl (Fin.ext ?_)
      show t.val / 9 % 2 * 512 + (e.val / 128 * 128 + d.val) = (t.val / 9 % 2 * 512 + e.val) / 128 * 128 + d.val
      omega
    · refine congrArg₂ (ix3 _) rfl (Fin.ext ?_)
      show t.val / 9 % 2 * 128 + d.val = (t.val / 9 % 2 * 512 + e.val) / 128 / 4 * 128 + d.val
      omega
  · refine (iblk2_apply m c t _ _ _).trans (congrArg (pArr m c) (congrArg₂ (ix3 _) rfl (Fin.ext ?_)))
    show (88 + t.val / 9 % 2) * 128 + e.val % 128 = 11264 + (t.val / 9 % 2 * 512 + e.val) / 128 / 4 * 128 + (t.val / 9 % 2 * 512 + e.val) % 128
    omega

/-- The place in the array of an entry of the block written at point `t`. -/
theorem emb3 (t : Fin cfg0.N) (u : Fin 1) (r : Fin 256) (e : Fin 512) :
    ((win0_3.rect t).emb (ix3 u r e) : S4x2304x1024.Idx) = ix3 (⟨t.val / 18, by have := t_lt t; omega⟩ : Fin 4)
      (⟨t.val % 9 * 256 + r.val, by omega⟩ : Fin 2304) (⟨t.val / 9 % 2 * 512 + e.val, by omega⟩ : Fin 1024) := by
  refine funext fun a => Fin.ext ?_
  rw [Pipeline.Window.rect_emb_val win0_3 t, index3]
  match a with
  | ⟨0, _⟩ => show t.val / 18 * 1 + u.val = t.val / 18; omega
  | ⟨1, _⟩ => rfl
  | ⟨2, _⟩ => rfl

/-- The whole result of the kernel. -/
def result (c : Dev nD) : S4x2304x1024.Idx → EReal := out (qArr m c) (kArr m c) (pArr m c)

theorem flushed_eq (c : Dev nD) (t : Fin cfg0.N) :
    (dats m 0 c).flushed 3 t = ((cfg0.win 3).blk t).view.read (Elt Ideal) (result m c) := by
  funext y
  obtain ⟨u, r, e, rfl⟩ : ∃ (u : Fin 1) (r : Fin 256) (e : Fin 512), y = ix3 u r e := ⟨y 0, y 1, y 2, eq_ix3 y⟩
  have hR : ((cfg0.win 3).blk t).view.read (Elt Ideal) (result m c) (ix3 u r e)
      = out (qArr m c) (kArr m c) (pArr m c) ((win0_3.rect t).emb (ix3 u r e)) := rfl
  rw [hR, emb3]
  by_cases h : t.val % 9 = 0
  · rw [Value.flushed3_A m c t h (by omega)]
    refine (Block.out_A c _ _ _ _ _ _ _ _ _ _ _ _ _ _ (ix3 u r e)).trans ((entry_eq m c t _ _ u r e).trans ?_)
    unfold out
    rw [if_pos (show t.val % 9 * 256 + r.val < 256 by omega)]
  · rw [Value.flushed3_B m c t h (by omega)]
    refine (Block.out_B c _ _ _ _ _ _ _ _ _ _ _ _ _ _ (ix3 u r e)).trans ((entry_eq m c t _ _ u r e).trans ?_)
    unfold out
    rw [if_neg (show ¬t.val % 9 * 256 + r.val < 256 by omega)]

/-- The blocks fill the array, so the array ends holding the result. -/
theorem final (c : Dev nD) : (dats m 0 c).arrAt 3 cfg0.N = result m c := by
  refine (dats m 0 c).arrAt_eq_of_cover 3 (result m c) (fun t _ => flushed_eq m c t) fun i => ?_
  obtain ⟨b, r, e, rfl⟩ : ∃ (b : Fin 4) (r : Fin 2304) (e : Fin 1024), i = ix3 b r e := ⟨i 0, i 1, i 2, eq_ix3 i⟩
  have hlt : b.val * 18 + e.val / 512 * 9 + r.val / 256 < cfg0.N := by rw [show cfg0.N = 72 from N_0]; omega
  refine ⟨⟨b.val * 18 + e.val / 512 * 9 + r.val / 256, hlt⟩, flush0_3 _, ?_⟩
  have he := emb3 ⟨b.val * 18 + e.val / 512 * 9 + r.val / 256, hlt⟩ (0 : Fin 1) (⟨r.val % 256, Nat.mod_lt _ (by norm_num)⟩ : Fin 256)
    (⟨e.val % 512, Nat.mod_lt _ (by norm_num)⟩ : Fin 512)
  have hi : (ix3 b r e : S4x2304x1024.Idx) = (win0_3.rect ⟨b.val * 18 + e.val / 512 * 9 + r.val / 256, hlt⟩).emb
      (ix3 (0 : Fin 1) (⟨r.val % 256, Nat.mod_lt _ (by norm_num)⟩ : Fin 256) (⟨e.val % 512, Nat.mod_lt _ (by norm_num)⟩ : Fin 512)) := by
    rw [he]
    refine congr (congrArg₂ ix3 (Fin.ext ?_) (Fin.ext ?_)) (Fin.ext ?_)
    · show b.val = (b.val * 18 + e.val / 512 * 9 + r.val / 256) / 18; omega
    · show r.val = (b.val * 18 + e.val / 512 * 9 + r.val / 256) % 9 * 256 + r.val % 256; omega
    · show e.val = (b.val * 18 + e.val / 512 * 9 + r.val / 256) / 9 % 2 * 512 + e.val % 512; omega
  rw [hi]
  exact ((cfg0.win 3).blk ⟨b.val * 18 + e.val / 512 * 9 + r.val / 256, hlt⟩).view.emb_mem_set _

/-- The run of the kernel: its result is `result`, its arguments are as launched. -/
theorem run (ρ : Dev nD → PrngReg) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.AttnIdeal.Array
-- ==== Proof.IdxExt.lean ====
/-
  Two indices of an array are equal when their coordinates are.
-/
module

public import Idealize.ShloMosaic.Lib.ValueIdx

@[expose] public section

namespace Cert.IdxExt

open Idealize.ShloMosaic

variable {n0 n1 n2 n3 n4 : ℕ}

theorem ext2 {i j : (⟨2, ![n0, n1]⟩ : Shape).Idx} (h0 : (i 0).val = (j 0).val) (h1 : (i 1).val = (j 1).val) : i = j := by
  funext a; apply Fin.ext
  match a with
  | ⟨0, _⟩ => exact h0
  | ⟨1, _⟩ => exact h1

theorem ext3 {i j : (⟨3, ![n0, n1, n2]⟩ : Shape).Idx} (h0 : (i 0).val = (j 0).val) (h1 : (i 1).val = (j 1).val)
    (h2 : (i 2).val = (j 2).val) : i = j := by
  funext a; apply Fin.ext
  match a with
  | ⟨0, _⟩ => exact h0
  | ⟨1, _⟩ => exact h1
  | ⟨2, _⟩ => exact h2

theorem ext4 {i j : (⟨4, ![n0, n1, n2, n3]⟩ : Shape).Idx} (h0 : (i 0).val = (j 0).val) (h1 : (i 1).val = (j 1).val)
    (h2 : (i 2).val = (j 2).val) (h3 : (i 3).val = (j 3).val) : i = j := by
  funext a; apply Fin.ext
  match a with
  | ⟨0, _⟩ => exact h0
  | ⟨1, _⟩ => exact h1
  | ⟨2, _⟩ => exact h2
  | ⟨3, _⟩ => exact h3

theorem ext5 {i j : (⟨5, ![n0, n1, n2, n3, n4]⟩ : Shape).Idx} (h0 : (i 0).val = (j 0).val) (h1 : (i 1).val = (j 1).val)
    (h2 : (i 2).val = (j 2).val) (h3 : (i 3).val = (j 3).val) (h4 : (i 4).val = (j 4).val) : i = j := by
  funext a; apply Fin.ext
  match a with
  | ⟨0, _⟩ => exact h0
  | ⟨1, _⟩ => exact h1
  | ⟨2, _⟩ => exact h2
  | ⟨3, _⟩ => exact h3
  | ⟨4, _⟩ => exact h4

end Cert.IdxExt
-- ==== Proof.AttnRefValue.lean ====
/-
  The reference attention, entry by entry: which entries of the operands each intermediate array holds, its softmax
  over the keys, and the two blocks of rows put together.
-/
module

public import proofs.«01_k».proof.Proof.AttnSpec
public import proofs.«01_k».proof.Proof.IdxExt
public import proofs.«01_k».proof.Proof.Gen.AttnRefIdeal.Read

@[expose] public section

set_option maxRecDepth 16384

noncomputable section

namespace Cert.AttnRefIdeal.RefValue

open Idealize.ShloMosaic Idealize.ShloMosaic.TcCoe Idealize.ShloMosaic.ValueIdx
open Idealize.SL Idealize.SL.Sem
open Cert.Softmax Cert.AttnSpec Cert.IdxExt Cert.AttnRefIdeal Cert.AttnRefIdeal.Gen Cert.AttnRefIdeal.Read
open scoped BigOperators

variable (x0 : (⟨S4x2304x1024, .bf16⟩ : BufTy).Contents (Elt Ideal)) (x1 : (⟨S4x2304x256, .bf16⟩ : BufTy).Contents (Elt Ideal))
  (x2 : (⟨S4x2304x11776, .bf16⟩ : BufTy).Contents (Elt Ideal))

/-- Head number `h` of key head `g`. -/
def hd (g : Fin 2) (h : Fin 4) : Fin 8 := ⟨g.val * 4 + h.val, by omega⟩

theorem v1_at (b : Fin 4) (r : Fin 2304) (g : Fin 2) (h : Fin 4) (d : Fin 128) :
    val_main_v1 (F := Ideal) x0 (ix5 b r g h d) = x0 (ix3 b r (⟨(hd g h).val * 128 + d.val, by unfold hd; dsimp only; omega⟩ : Fin 1024)) := by
  rw [val_main_v1_apply, val_main_v0_apply]
  refine congrArg x0 (funext fun a => Fin.ext ?_)
  match a with
  | ⟨0, _⟩ => show ((((b.val * 2304 + r.val) * 2 + g.val) * 4 + h.val) * 128 + d.val) / 2359296 = b.val; omega
  | ⟨1, _⟩ => show ((((b.val * 2304 + r.val) * 2 + g.val) * 4 + h.val) * 128 + d.val) / 1024 % 2304 = r.val; omega
  | ⟨2, _⟩ => show ((((b.val * 2304 + r.val) * 2 + g.val) * 4 + h.val) * 128 + d.val) % 1024 = (g.val * 4 + h.val) * 128 + d.val; omega

theorem v3_at (b : Fin 4) (r : Fin 2304) (g : Fin 2) (d : Fin 128) :
    val_main_v3 (F := Ideal) x1 (ix4 b r g d) = x1 (ix3 b r (⟨g.val * 128 + d.val, by omega⟩ : Fin 256)) := by
  rw [val_main_v3_apply, val_main_v2_apply]
  refine congrArg x1 (funext fun a => Fin.ext ?_)
  match a with
  | ⟨0, _⟩ => show (((b.val * 2304 + r.val) * 2 + g.val) * 128 + d.val) / 589824 = b.val; omega
  | ⟨1, _⟩ => show (((b.val * 2304 + r.val) * 2 + g.val) * 128 + d.val) / 256 % 2304 = r.val; omega
  | ⟨2, _⟩ => show (((b.val * 2304 + r.val) * 2 + g.val) * 128 + d.val) % 256 = g.val * 128 + d.val; omega

theorem v6_at (b : Fin 4) (r : Fin 2304) (g : Fin 2) (d : Fin 128) :
    val_main_v6 (F := Ideal) x2 (ix4 b r g d) = x2 (ix3 b r (⟨11264 + g.val * 128 + d.val, by omega⟩ : Fin 11776)) := by
  rw [val_main_v6_apply, val_main_v5_apply]
  refine (val_main_v4_apply x2 _).trans (congrArg x2 (funext fun a => Fin.ext ?_))
  match a with
  | ⟨0, _⟩ => show (((b.val * 2304 + r.val) * 2 + g.val) * 128 + d.val) / 589824 = b.val; omega
  | ⟨1, _⟩ => show (((b.val * 2304 + r.val) * 2 + g.val) * 128 + d.val) / 256 % 2304 = r.val; omega
  | ⟨2, _⟩ => show 11264 + (((b.val * 2304 + r.val) * 2 + g.val) * 128 + d.val) % 256 = 11264 + g.val * 128 + d.val; omega

/-- The row of the operands that comes `k`-th when the context rows are put last. -/
def rot (k : Fin 2304) : Fin 2304 := ⟨if k.val < 2048 then 256 + k.val else k.val - 2048, by split <;> omega⟩

/-- Putting the context rows last is a rearrangement of the rows. -/
def rotE : Fin 2304 ≃ Fin 2304 where
  toFun := rot
  invFun k := ⟨if k.val < 256 then 2048 + k.val else k.val - 256, by split <;> omega⟩
  left_inv k := by
    unfold rot; apply Fin.ext; dsimp only
    split_ifs <;> omega
  right_inv k := by
    unfold rot; apply Fin.ext; dsimp only
    split_ifs <;> omega

theorem v9_at (b : Fin 4) (k : Fin 2304) (g : Fin 2) (d : Fin 128) :
    val_main_v9 (F := Ideal) x1 (ix4 b k g d) = x1 (ix3 b (rot k) (⟨g.val * 128 + d.val, by omega⟩ : Fin 256)) := by
  unfold val_main_v9 rot
  by_cases h : k.val < 2048
  · refine (concatenate_pair_apply_left (t := S4x2304x2x128) (s₁ := S4x2048x2x128) (s₂ := S4x256x2x128) 1 _ _ _ (ix4 b k g d) rfl
      (ix4 b (⟨k.val, h⟩ : Fin 2048) g d) (fun a => by match a with | ⟨0, _⟩ => rfl | ⟨1, _⟩ => rfl | ⟨2, _⟩ => rfl | ⟨3, _⟩ => rfl)).trans ?_
    rw [val_main_v7_apply, (show idx_main_v7 (ix4 b (⟨k.val, h⟩ : Fin 2048) g d) = ix4 b (⟨256 + k.val, by omega⟩ : Fin 2304) g d from
      ext4 rfl rfl rfl rfl), v3_at]
    exact congrArg x1 (ext3 rfl (if_pos h).symm rfl)
  · refine (concatenate_pair_apply_right (t := S4x2304x2x128) (s₁ := S4x2048x2x128) (s₂ := S4x256x2x128) 1 _ _ _ (ix4 b k g d) rfl rfl
      (ix4 b (⟨k.val - 2048, by omega⟩ : Fin 256) g d)
      (fun a ha => by match a with | ⟨0, _⟩ => rfl | ⟨1, _⟩ => exact absurd rfl ha | ⟨2, _⟩ => rfl | ⟨3, _⟩ => rfl)
      (by show k.val - 2048 + 2048 = k.val; omega)).trans ?_
    rw [val_main_v8_apply, (show idx_main_v8 (ix4 b (⟨k.val - 2048, by omega⟩ : Fin 256) g d) = ix4 b (⟨k.val - 2048, by omega⟩ : Fin 2304) g d from
      ext4 rfl rfl rfl rfl), v3_at]
    exact congrArg x1 (ext3 rfl (if_neg h).symm rfl)

theorem v12_at (b : Fin 4) (k : Fin 2304) (g : Fin 2) (d : Fin 128) :
    val_main_v12 (F := Ideal) x2 (ix4 b k g d) = x2 (ix3 b (rot k) (⟨11264 + g.val * 128 + d.val, by omega⟩ : Fin 11776)) := by
  unfold val_main_v12 rot
  by_cases h : k.val < 2048
  · refine (concatenate_pair_apply_left (t := S4x2304x2x128) (s₁ := S4x2048x2x128) (s₂ := S4x256x2x128) 1 _ _ _ (ix4 b k g d) rfl
      (ix4 b (⟨k.val, h⟩ : Fin 2048) g d) (fun a => by match a with | ⟨0, _⟩ => rfl | ⟨1, _⟩ => rfl | ⟨2, _⟩ => rfl | ⟨3, _⟩ => rfl)).trans ?_
    rw [val_main_v10_apply, (show idx_main_v10 (ix4 b (⟨k.val, h⟩ : Fin 2048) g d) = ix4 b (⟨256 + k.val, by omega⟩ : Fin 2304) g d from
      ext4 rfl rfl rfl rfl), v6_at]
    exact congrArg x2 (ext3 rfl (if_pos h).symm rfl)
  · refine (concatenate_pair_apply_right (t := S4x2304x2x128) (s₁ := S4x2048x2x128) (s₂ := S4x256x2x128) 1 _ _ _ (ix4 b k g d) rfl rfl
      (ix4 b (⟨k.val - 2048, by omega⟩ : Fin 256) g d)
      (fun a ha => by match a with | ⟨0, _⟩ => rfl | ⟨1, _⟩ => exact absurd rfl ha | ⟨2, _⟩ => rfl | ⟨3, _⟩ => rfl)
      (by show k.val - 2048 + 2048 = k.val; omega)).trans ?_
    rw [val_main_v11_apply, (show idx_main_v11 (ix4 b (⟨k.val - 2048, by omega⟩ : Fin 256) g d) = ix4 b (⟨k.val - 2048, by omega⟩ : Fin 2304) g d from
      ext4 rfl rfl rfl rfl), v6_at]
    exact congrArg x2 (ext3 rfl (if_neg h).symm rfl)

theorem lowest : (FloatOps.ofBits (F := Ideal) .f32 0xFF800000#32 : EReal) = ⊥ := by
  simp [Ideal.ofBits_def, Ideal.ofBits, Ideal.ieee]

/-! ## The rows after the context -/

/-- Row `q` after the context rows. -/
def late' (q : Fin 2048) : Fin 2304 := ⟨256 + q.val, by omega⟩

theorem v15_at (b : Fin 4) (g : Fin 2) (h : Fin 4) (q : Fin 2048) (k : Fin 2304) :
    val_main_v15 (F := Ideal) x0 x1 (ix5 b g h q k) = score x0 x1 b (hd g h) (late' q) (rot k) := by
  rw [val_main_v15_apply, val_main_v14_apply]
  unfold score
  refine Finset.sum_congr rfl fun e _ => ?_
  rw [(show lidx_main_v14 (idx_main_v15 (ix5 b g h q k)) e = ix4 b k g e from ext4 rfl rfl rfl rfl),
    (show ridx_main_v14 (idx_main_v15 (ix5 b g h q k)) e = ix5 b q g h e from ext5 rfl rfl rfl rfl rfl),
    val_main_v13_apply, (show idx_main_v13 (ix5 b q g h e) = ix5 b (late' q) g h e from ext5 rfl rfl rfl rfl rfl), v1_at, v9_at, mul_comm]
  refine congrArg₂ (· * ·) rfl (congrArg x1 (ext3 rfl rfl ?_))
  show g.val * 128 + e.val = (g.val * 4 + h.val) / 4 * 128 + e.val
  omega

theorem v16_at (b : Fin 4) (g : Fin 2) (h : Fin 4) (q : Fin 2048) :
    val_main_v16 (F := Ideal) x0 x1 (ix4 b g h q) = top fun k => val_main_v15 (F := Ideal) x0 x1 (ix5 b g h q k) := by
  unfold val_main_v16
  generalize val_main_v15 (F := Ideal) x0 x1 = y
  refine (Host.reduce_eq_fold_single (FloatOps.maximumf (F := Ideal) (φ := .f32)) y _ reducesTo_S4x2x4x2048x2304_S4x2x4x2048_d4 (by decide) _ _).trans ?_
  exact congrArg₂ (Finset.univ.fold max) lowest (funext fun k => congrArg y (ext5 rfl rfl rfl rfl rfl))

theorem weight_at (b : Fin 4) (g : Fin 2) (h : Fin 4) (q : Fin 2048) (k : Fin 2304) :
    val_main_v22 (F := Ideal) x0 x1 (ix5 b g h q k) = weight (fun k => val_main_v15 (F := Ideal) x0 x1 (ix5 b g h q k)) k := by
  have hm : val_main_v18 (F := Ideal) x0 x1 (ix4 b g h q) = top fun k => val_main_v15 (F := Ideal) x0 x1 (ix5 b g h q k) := by
    rw [val_main_v18_apply, v16_at, val_main_v17_apply, val_main_cst_0_apply, lowest]
    exact max_eq_right bot_le
  rw [val_main_v22_apply, val_main_v21_apply, val_main_v20_apply, val_main_v19_apply,
    (show idx_main_v19 (idx_main_v20 (ix5 b g h q k)) = ix4 b g h q from ext4 rfl rfl rfl rfl), hm]
  rfl

/-- The rows after the context: softmax over all the keys, context keys last. -/
theorem v28_at (b : Fin 4) (q : Fin 2048) (g : Fin 2) (h : Fin 4) (d : Fin 128) :
    val_main_v28 (F := Ideal) x0 x1 x2 (ix5 b q g h d)
      = early (fun k => score x0 x1 b (hd g h) (late' q) (rot k)) (fun k => value x2 b (hd g h) d (rot k)) := by
  have hs : (fun k => score x0 x1 b (hd g h) (late' q) (rot k)) = fun k => val_main_v15 (F := Ideal) x0 x1 (ix5 b g h q k) :=
    funext fun k => (v15_at x0 x1 b g h q k).symm
  rw [val_main_v28_apply, val_main_v27_apply, hs]
  unfold early total
  refine Finset.sum_congr rfl fun k _ => ?_
  rw [(show lidx_main_v27 (idx_main_v28 (ix5 b q g h d)) k = ix4 b k g d from ext4 rfl rfl rfl rfl),
    (show ridx_main_v27 (idx_main_v28 (ix5 b q g h d)) k = ix5 b g h q k from ext5 rfl rfl rfl rfl rfl),
    v12_at, val_main_v26_apply, weight_at x0 x1 b g h q k,
    val_main_v25_apply, val_main_v24_apply, val_main_v23_apply, val_main_cst_1_apply, Ideal.ofBits_def, Ideal.ofBits_zero_f32, zero_add,
    (show idx_main_v24 (idx_main_v25 (ix5 b g h q k)) = ix4 b g h q from ext4 rfl rfl rfl rfl)]
  refine congrArg₂ (· * ·) (congrArg x2 (ext3 rfl rfl ?_)) (congrArg (Ideal.div _) (Finset.sum_congr rfl fun k' _ => ?_))
  · show 11264 + g.val * 128 + d.val = 11264 + (g.val * 4 + h.val) / 4 * 128 + d.val
    omega
  · rw [(show idx_main_v23 (ix4 b g h q) k' = ix5 b g h q k' from ext5 rfl rfl rfl rfl rfl), weight_at]

/-! ## The context rows -/

/-- Row `q` of the context. -/
def ctx (q : Fin 256) : Fin 2304 := q.castLE (by norm_num)

theorem v33_at (b : Fin 4) (g : Fin 2) (h : Fin 4) (q : Fin 256) (k : Fin 256) :
    val_main_v33 (F := Ideal) x0 x1 (ix5 b g h q k) = score x0 x1 b (hd g h) (ctx q) (ctx k) := by
  rw [val_main_v33_apply, val_main_v32_apply]
  unfold score
  refine Finset.sum_congr rfl fun e _ => ?_
  rw [(show lidx_main_v32 (idx_main_v33 (ix5 b g h q k)) e = ix4 b k g e from ext4 rfl rfl rfl rfl),
    (show ridx_main_v32 (idx_main_v33 (ix5 b g h q k)) e = ix5 b q g h e from ext5 rfl rfl rfl rfl rfl),
    val_main_v29_apply, (show idx_main_v29 (ix5 b q g h e) = ix5 b (ctx q) g h e from ext5 rfl (by first | rfl | exact Nat.zero_add _) rfl rfl rfl),
    val_main_v30_apply, (show idx_main_v30 (ix4 b k g e) = ix4 b (ctx k) g e from ext4 rfl (by first | rfl | exact Nat.zero_add _) rfl rfl),
    v1_at, v3_at, mul_comm]
  refine congrArg₂ (· * ·) rfl (congrArg x1 (ext3 rfl rfl ?_))
  show g.val * 128 + e.val = (g.val * 4 + h.val) / 4 * 128 + e.val
  omega

theorem v34_at (b : Fin 4) (g : Fin 2) (h : Fin 4) (q : Fin 256) :
    val_main_v34 (F := Ideal) x0 x1 (ix4 b g h q) = top fun k => val_main_v33 (F := Ideal) x0 x1 (ix5 b g h q k) := by
  unfold val_main_v34
  generalize val_main_v33 (F := Ideal) x0 x1 = y
  refine (Host.reduce_eq_fold_single (FloatOps.maximumf (F := Ideal) (φ := .f32)) y _ reducesTo_S4x2x4x256x256_S4x2x4x256_d4 (by decide) _ _).trans ?_
  exact congrArg₂ (Finset.univ.fold max) lowest (funext fun k => congrArg y (ext5 rfl rfl rfl rfl rfl))

theorem ctx_weight_at (b : Fin 4) (g : Fin 2) (h : Fin 4) (q : Fin 256) (k : Fin 256) :
    val_main_v40 (F := Ideal) x0 x1 (ix5 b g h q k) = weight (fun k => val_main_v33 (F := Ideal) x0 x1 (ix5 b g h q k)) k := by
  have hm : val_main_v36 (F := Ideal) x0 x1 (ix4 b g h q) = top fun k => val_main_v33 (F := Ideal) x0 x1 (ix5 b g h q k) := by
    rw [val_main_v36_apply, v34_at, val_main_v35_apply, val_main_cst_3_apply, lowest]
    exact max_eq_right bot_le
  rw [val_main_v40_apply, val_main_v39_apply, val_main_v38_apply, val_main_v37_apply,
    (show idx_main_v37 (idx_main_v38 (ix5 b g h q k)) = ix4 b g h q from ext4 rfl rfl rfl rfl), hm]
  rfl

/-- The context rows: softmax over the context keys. -/
theorem v46_at (b : Fin 4) (q : Fin 256) (g : Fin 2) (h : Fin 4) (d : Fin 128) :
    val_main_v46 (F := Ideal) x0 x1 x2 (ix5 b q g h d)
      = early (fun k => score x0 x1 b (hd g h) (ctx q) (ctx k)) (fun k => value x2 b (hd g h) d (ctx k)) := by
  have hs : (fun k => score x0 x1 b (hd g h) (ctx q) (ctx k)) = fun k => val_main_v33 (F := Ideal) x0 x1 (ix5 b g h q k) :=
    funext fun k => (v33_at x0 x1 b g h q k).symm
  rw [val_main_v46_apply, val_main_v45_apply, hs]
  unfold early total
  refine Finset.sum_congr rfl fun k _ => ?_
  rw [(show lidx_main_v45 (idx_main_v46 (ix5 b q g h d)) k = ix4 b k g d from ext4 rfl rfl rfl rfl),
    (show ridx_main_v45 (idx_main_v46 (ix5 b q g h d)) k = ix5 b g h q k from ext5 rfl rfl rfl rfl rfl),
    val_main_v31_apply, (show idx_main_v31 (ix4 b k g d) = ix4 b (ctx k) g d from ext4 rfl (by first | rfl | exact Nat.zero_add _) rfl rfl), v6_at, val_main_v44_apply, ctx_weight_at x0 x1 b g h q k,
    val_main_v43_apply, val_main_v42_apply, val_main_v41_apply, val_main_cst_4_apply, Ideal.ofBits_def, Ideal.ofBits_zero_f32, zero_add,
    (show idx_main_v42 (idx_main_v43 (ix5 b g h q k)) = ix4 b g h q from ext4 rfl rfl rfl rfl)]
  refine congrArg₂ (· * ·) (congrArg x2 (ext3 rfl rfl ?_)) (congrArg (Ideal.div _) (Finset.sum_congr rfl fun k' _ => ?_))
  · show 11264 + g.val * 128 + d.val = 11264 + (g.val * 4 + h.val) / 4 * 128 + d.val
    omega
  · rw [(show idx_main_v41 (ix4 b g h q) k' = ix5 b g h q k' from ext5 rfl rfl rfl rfl rfl), ctx_weight_at]

/-! ## The result -/

/-- The key head and the place in its group of head number `h`. -/
theorem hd_split (h : Fin 8) : hd (⟨h.val / 4, by omega⟩ : Fin 2) (⟨h.val % 4, Nat.mod_lt _ (by norm_num)⟩ : Fin 4) = h := by
  unfold hd; apply Fin.ext; dsimp only; omega

/-- One entry of the reference's result. -/
theorem v49_at (b : Fin 4) (r : Fin 2304) (c : Fin 1024) :
    val_main_v49 (F := Ideal) x0 x1 x2 (ix3 b r c)
      = if r.val < 256 then early (fun k : Fin 256 => score x0 x1 b (headOf c) r (ctx k)) (fun k => value x2 b (headOf c) (colOf c) (ctx k))
        else early (fun k => score x0 x1 b (headOf c) r (rot k)) (fun k => value x2 b (headOf c) (colOf c) (rot k)) := by
  rw [val_main_v49_apply, val_main_v48_apply]
  have hi : idx_main_v48 (ix3 b r c) = ix5 b r (⟨(headOf c).val / 4, by unfold headOf; dsimp only; omega⟩ : Fin 2)
      (⟨(headOf c).val % 4, Nat.mod_lt _ (by norm_num)⟩ : Fin 4) (colOf c) := by
    refine ext5 ?_ ?_ ?_ ?_ ?_
    · show ((b.val * 2304 + r.val) * 1024 + c.val) / 2359296 = b.val; omega
    · show ((b.val * 2304 + r.val) * 1024 + c.val) / 1024 % 2304 = r.val; omega
    · show ((b.val * 2304 + r.val) * 1024 + c.val) / 512 % 2 = c.val / 128 / 4; omega
    · show ((b.val * 2304 + r.val) * 1024 + c.val) / 128 % 4 = c.val / 128 % 4; omega
    · show ((b.val * 2304 + r.val) * 1024 + c.val) % 128 = c.val % 128; omega
  rw [hi]
  show val_main_v47 (F := Ideal) x0 x1 x2 _ = _
  generalize hg : (⟨(headOf c).val / 4, by unfold headOf; dsimp only; omega⟩ : Fin 2) = g
  generalize hh : (⟨(headOf c).val % 4, Nat.mod_lt _ (by norm_num)⟩ : Fin 4) = h
  have hc : headOf c = hd g h := by rw [← hg, ← hh, hd_split]
  rw [hc]
  unfold val_main_v47
  by_cases hr : r.val < 256
  · rw [if_pos hr]
    refine (concatenate_pair_apply_left (t := S4x2304x2x4x128) (s₁ := S4x256x2x4x128) (s₂ := S4x2048x2x4x128) 1 _ _ _ (ix5 b r g h (colOf c)) rfl
      (ix5 b (⟨r.val, hr⟩ : Fin 256) g h (colOf c))
      (fun a => by match a with | ⟨0, _⟩ => rfl | ⟨1, _⟩ => rfl | ⟨2, _⟩ => rfl | ⟨3, _⟩ => rfl | ⟨4, _⟩ => rfl)).trans ?_
    exact v46_at x0 x1 x2 b (⟨r.val, hr⟩ : Fin 256) g h (colOf c)
  · rw [if_neg hr]
    refine (concatenate_pair_apply_right (t := S4x2304x2x4x128) (s₁ := S4x256x2x4x128) (s₂ := S4x2048x2x4x128) 1 _ _ _ (ix5 b r g h (colOf c)) rfl rfl
      (ix5 b (⟨r.val - 256, by omega⟩ : Fin 2048) g h (colOf c))
      (fun a ha => by match a with | ⟨0, _⟩ => rfl | ⟨1, _⟩ => exact absurd rfl ha | ⟨2, _⟩ => rfl | ⟨3, _⟩ => rfl | ⟨4, _⟩ => rfl)
      (by show r.val - 256 + 256 = r.val; omega)).trans ?_
    refine (v28_at x0 x1 x2 b (⟨r.val - 256, by omega⟩ : Fin 2048) g h (colOf c)).trans ?_
    have hl : late' (⟨r.val - 256, by omega⟩ : Fin 2048) = r := Fin.ext (by show 256 + (r.val - 256) = r.val; omega)
    rw [hl]

end Cert.AttnRefIdeal.RefValue
-- ==== Proof.AttnEq.lean ====
/-
  With finite queries and keys every score is a real number, and then the kernel's order of operations and the
  reference's give the same attention.
-/
module

public import proofs.«01_k».proof.Proof.AttnArray
public import proofs.«01_k».proof.Proof.AttnRefValue
public import proofs.«01_k».proof.Proof.Gen.AttnRefIdeal.Run
public import proofs.«01_k».proof.Defs
public import Idealize.ShloMosaic.Lib.ReduceAll

@[expose] public section

set_option maxRecDepth 16384

noncomputable section

namespace Cert.AttnEq

open Idealize.ShloMosaic Idealize.ShloMosaic.TcCoe Idealize.ShloMosaic.ValueIdx
open Idealize.SL Idealize.SL.Sem
open Cert.Softmax Cert.AttnSpec Cert.IdxExt
open scoped BigOperators

/-! ## What the precondition says -/

/-- A value whose magnitude is below infinity is a real number. -/
theorem real_of_abs_lt (x : EReal) (h : max x (-x) < ⊤) : ∃ r : ℝ, x = r := by
  refine ⟨x.toReal, (EReal.coe_toReal ?_ ?_).symm⟩
  · intro e; rw [e] at h; simp at h
  · intro e; rw [e] at h; simp at h

/-- The test the precondition makes of one element. -/
theorem real_of_test (x : EReal)
    (h : FloatOps.cmpf (F := Ideal) (φ := .f32) .olt (FloatOps.absf (F := Ideal) (φ := .f32) x) (FloatOps.ofBits (F := Ideal) .f32 0x7F800000#32) = 1#1) :
    ∃ r : ℝ, x = r := by
  have ht : (FloatOps.ofBits (F := Ideal) .f32 0x7F800000#32 : EReal) = ⊤ := by
    simp [Ideal.ofBits_def, Ideal.ofBits, Ideal.ieee]
  rw [ht] at h
  refine real_of_abs_lt x ?_
  by_contra hn
  have h' : Ideal.cmp .olt (max x (-x)) ⊤ = 1#1 := h
  simp [Ideal.cmp, hn] at h'

theorem subsingleton_scalar : Subsingleton Cert.Pre_finite_scores.S_.Idx := ⟨fun a b => funext fun i => i.elim0⟩

section
variable [Cert.Pre_finite_scores.Facts]
variable (q : FVec Ideal Cert.Pre_finite_scores.S4x2304x1024 .bf16) (k : FVec Ideal Cert.Pre_finite_scores.S4x2304x256 .bf16)
  (p : FVec Ideal Cert.Pre_finite_scores.S4x2304x11776 .bf16)

/-- The precondition makes every query real. -/
theorem queries_real (h : (Cert.Pre_finite_scores.fn (F := Ideal) q k p).1 = fun _ => 1#1) (i : Cert.Pre_finite_scores.S4x2304x1024.Idx) :
    ∃ r : ℝ, (q i : EReal) = r := by
  have := subsingleton_scalar
  have h0 := congrFun h ix0
  dsimp only [Cert.Pre_finite_scores.fn] at h0
  exact real_of_test (q i) (Host.reduce_andi_all _ _ _ _ _ h0 i)

/-- The precondition makes every key real. -/
theorem keys_real (h : (Cert.Pre_finite_scores.fn (F := Ideal) q k p).2 = fun _ => 1#1) (i : Cert.Pre_finite_scores.S4x2304x256.Idx) :
    ∃ r : ℝ, (k i : EReal) = r := by
  have := subsingleton_scalar
  have h0 := congrFun h ix0
  dsimp only [Cert.Pre_finite_scores.fn] at h0
  exact real_of_test (k i) (Host.reduce_andi_all _ _ _ _ _ h0 i)
end

/-! ## The equation -/

/-- A sum of products of real numbers is real. -/
theorem sum_real {n : ℕ} (f g : Fin n → EReal) (hf : ∀ e, ∃ r : ℝ, f e = r) (hg : ∀ e, ∃ r : ℝ, g e = r) : ∃ r : ℝ, ∑ e, f e * g e = r := by
  choose a ha using hf
  choose b hb using hg
  refine ⟨∑ e, a e * b e, ?_⟩
  induction (Finset.univ : Finset (Fin n)) using Finset.cons_induction with
  | empty => simp
  | cons e t _ ih => rw [Finset.sum_cons, Finset.sum_cons, ih, ha, hb, EReal.coe_add, EReal.coe_mul]

/-- With real queries and keys the scores are real. -/
theorem score_real (q : Q) (k : K) (hq : ∀ i, ∃ r : ℝ, q i = r) (hk : ∀ i, ∃ r : ℝ, k i = r) (b : Fin 4) (h : Fin 8) (r j : Fin 2304) :
    ∃ x : ℝ, score q k b h r j = x :=
  sum_real _ _ (fun _ => hq _) fun _ => hk _

open Cert.AttnRefIdeal Cert.AttnRefIdeal.Read Cert.AttnRefIdeal.RefValue in
/-- With real queries and keys the reference's result is the kernel's. -/
theorem reference_eq (q : (⟨S4x2304x1024, .bf16⟩ : BufTy).Contents (Elt Ideal)) (k : (⟨S4x2304x256, .bf16⟩ : BufTy).Contents (Elt Ideal))
    (p : (⟨S4x2304x11776, .bf16⟩ : BufTy).Contents (Elt Ideal)) (hq : ∀ i, ∃ r : ℝ, (q i : EReal) = r) (hk : ∀ i, ∃ r : ℝ, (k i : EReal) = r) :
    val_main_v49 (F := Ideal) q k p = AttnSpec.out q k p := by
  funext i
  obtain ⟨b, r, c, rfl⟩ : ∃ (b : Fin 4) (r : Fin 2304) (c : Fin 1024), i = ix3 b r c := ⟨i 0, i 1, i 2, eq_ix3 i⟩
  rw [v49_at]
  show _ = if r.val < 256 then row 256 (by norm_num) q k p b r (headOf c) (colOf c) else row 2304 le_rfl q k p b r (headOf c) (colOf c)
  unfold row
  by_cases hr : r.val < 256
  · rw [if_pos hr, if_pos hr, late_eq_early (by norm_num) _ _ fun j => score_real q k hq hk b (headOf c) r _]
    rfl
  · rw [if_neg hr, if_neg hr, late_eq_early (by norm_num) _ _ fun j => score_real q k hq hk b (headOf c) r _]
    exact early_perm rotE (fun j => score q k b (headOf c) r j) (fun j => value p b (headOf c) (colOf c) j)

open Cert.AttnRefIdeal in
/-- From finite queries and keys the reference ends with the kernel's attention of its operands. -/
theorem run_ref (m : (ℓ : Loc nD τ sig) → Buf (Elt Ideal) ℓ) (ρ : Dev nD → PrngReg)
    (hq : ∀ (c : Dev nD) (i : S4x2304x1024.Idx), ∃ r : ℝ, @Eq EReal (m ((c.tc : Thread nD τ).loc main_arg0) i) r)
    (hk : ∀ (c : Dev nD) (i : S4x2304x256.Idx), ∃ r : ℝ, @Eq EReal (m ((c.tc : Thread nD τ).loc main_arg1) i) r) :
    θ_run defs (onTc (τ := τ) (main (F := Ideal))) ⟨m, fun _ => 0, ρ⟩ fun r => ∀ c : Dev nD,
      r.2.mem ((c.tc : Thread nD τ).loc main_v49)
        = AttnSpec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((Read.val_main_v49_eq m c).trans (reference_eq _ _ _ (hq c) (hk c))), (h c).2⟩)
    (Value.run (F := Ideal) m ρ)

end Cert.AttnEq

end
-- ==== Proof.Rows.lean ====
/-
  Row-wise operations on a block of rows, read at one entry: the layer norm of a row, and a row copied down the block.
-/
module

public import proofs.«01_k».proof.Proof.AttnHead
public import Idealize.ShloMosaic.Lib.Pointwise.ElementwiseCore

@[expose] public section

set_option maxRecDepth 16384

noncomputable section

namespace Cert.Rows

open Idealize.ShloMosaic Idealize.ShloMosaic.ValueIdx
open scoped BigOperators

/-- The row length 2048, as the kernels and the references write it. -/
def len : EReal := FloatOps.ofBits (F := Ideal) .f32 0x45000000#32

/-- The small number added to a variance. -/
def eps : EReal := FloatOps.ofBits (F := Ideal) .f32 0x358637BD#32

/-- The weight of the residual input. -/
def alpha : EReal := FloatOps.ofBits (F := Ideal) .f32 0x3FD744FD#32

/-- The number one, as it is written. -/
def one : EReal := FloatOps.ofBits (F := Ideal) .f32 0x3F800000#32

/-- An entry of a row minus the row's mean. -/
def centred {n : ℕ} (z : Fin n → EReal) (k : Fin n) : EReal := z k - Ideal.div (∑ j, z j) len

/-- An entry of a centred row over the row's deviation, scaled and shifted. -/
def finish {n : ℕ} (z w b : Fin n → EReal) (k : Fin n) : EReal :=
  z k * Ideal.rsqrt (Ideal.div (∑ j, z j * z j) len + eps) * w k + b k

/-- One entry of the layer norm of a row. -/
def normRow {n : ℕ} (z w b : Fin n → EReal) (k : Fin n) : EReal := finish (centred z) w b k

variable {R C : ℕ}
  (hr : (⟨2, ![R, C]⟩ : Shape).Reduces [1] ⟨1, ![R]⟩)
  (hc : (⟨1, ![R]⟩ : Shape).ShapeCasts ⟨2, ![R, 1]⟩)
  (hb : (⟨2, ![R, 1]⟩ : Shape).Broadcasts ⟨2, ![R, C]⟩)
  (hw : (⟨2, ![1, C]⟩ : Shape).Broadcasts ⟨2, ![R, C]⟩)
  (h1 : (⟨2, ![1, C]⟩ : Shape).ShapeCasts ⟨2, ![1, C]⟩)

theorem lift_row (r : Fin R) (k : Fin C) : hr.lift (ix1 r) k = ix2 r k := by
  funext c
  match c with
  | ⟨0, _⟩ => rfl
  | ⟨1, _⟩ => rfl

/-- The sum of a row. -/
theorem rowSum_apply (s : FVec Ideal ⟨2, ![R, C]⟩ .f32) (r : Fin R) :
    multiReduction .add [1] (⟨1, ![R]⟩ : Shape) s 0x00000000#32 hr (.inl rfl) rfl (ix1 r) = ∑ j : Fin C, s (ix2 r j) := by
  refine (Ideal.multiReduction_add_single s _ hr _ _ (ix1 r)).trans ?_
  exact Finset.sum_congr rfl fun j _ => congrArg s (lift_row hr r j)

/-- A column copied along the rows. -/
theorem column_apply (x : (⟨2, ![R, 1]⟩ : Shape).Idx → EReal) (r : Fin R) (j : Fin C) :
    broadcastTo (⟨2, ![R, C]⟩ : Shape) x hb (ix2 r j) = x (ix2 r 0) :=
  broadcastTo_apply _ hb (ix2 r j) (ix2 r (0 : Fin 1)) (by
    intro a
    match a with
    | ⟨0, _⟩ =>
      show r.val = if R = 1 then 0 else r.val
      have := r.isLt
      split_ifs <;> omega
    | ⟨1, _⟩ => rfl)

/-- The mean of each row, as a column. -/
def mean (z : FVec Ideal ⟨2, ![R, C]⟩ .f32) : FVec Ideal ⟨2, ![R, 1]⟩ .f32 :=
  divf (shapeCast (⟨2, ![R, 1]⟩ : Shape) (multiReduction .add [1] (⟨1, ![R]⟩ : Shape) z 0x00000000#32 hr (.inl rfl) rfl) hc)
    (broadcast (⟨2, ![R, 1]⟩ : Shape) (Scalar.ofBits .f32 0x45000000#32))

theorem mean_apply (z : FVec Ideal ⟨2, ![R, C]⟩ .f32) (r : Fin R) :
    mean hr hc z (ix2 r 0) = Ideal.div (∑ j, z (ix2 r j)) len :=
  congrArg (fun x => Ideal.div x len) ((shapeCast_a_a1_apply _ hc r 0).trans (rowSum_apply hr z r))

/-- The block with each row's mean taken off. -/
def centre (z : FVec Ideal ⟨2, ![R, C]⟩ .f32) : FVec Ideal ⟨2, ![R, C]⟩ .f32 :=
  subf z (broadcastTo (⟨2, ![R, C]⟩ : Shape) (mean hr hc z) hb)

theorem centre_apply (z : FVec Ideal ⟨2, ![R, C]⟩ .f32) (r : Fin R) (k : Fin C) :
    centre hr hc hb z (ix2 r k) = centred (fun j => z (ix2 r j)) k :=
  congrArg (fun x => z (ix2 r k) - x) ((column_apply hb _ r k).trans (mean_apply hr hc z r))

/-- The second half of the layer norm of a block, from the centred block. -/
def tail (z : FVec Ideal ⟨2, ![R, C]⟩ .f32) (w b : FVec Ideal ⟨2, ![1, C]⟩ .f32) : FVec Ideal ⟨2, ![R, C]⟩ .f32 :=
  addf (mulf (mulf z (broadcastTo (⟨2, ![R, C]⟩ : Shape) (rsqrt (addf (mean hr hc (mulf z z))
      (broadcast (⟨2, ![R, 1]⟩ : Shape) (Scalar.ofBits .f32 0x358637BD#32)))) hb))
    (broadcastTo (⟨2, ![R, C]⟩ : Shape) (shapeCast (⟨2, ![1, C]⟩ : Shape) w h1) hw))
    (broadcastTo (⟨2, ![R, C]⟩ : Shape) (shapeCast (⟨2, ![1, C]⟩ : Shape) b h1) hw)

theorem tail_apply (z : FVec Ideal ⟨2, ![R, C]⟩ .f32) (w b : FVec Ideal ⟨2, ![1, C]⟩ .f32) (r : Fin R) (k : Fin C) :
    tail hr hc hb hw h1 z w b (ix2 r k)
      = finish (fun j => z (ix2 r j)) (fun j => w (ix2 0 j)) (fun j => b (ix2 0 j)) k := by
  unfold tail finish
  rw [shapeCast_self, shapeCast_self, addf_apply, mulf_apply, mulf_apply, broadcastTo_1b_ab_apply, broadcastTo_1b_ab_apply,
    column_apply]
  show z (ix2 r k) * Ideal.rsqrt (mean hr hc (mulf z z) (ix2 r 0) + eps) * _ + _ = _
  rw [mean_apply]
  rfl

/-- The layer norm of a block, read at one entry. -/
theorem norm_apply (z : FVec Ideal ⟨2, ![R, C]⟩ .f32) (w b : FVec Ideal ⟨2, ![1, C]⟩ .f32) (r : Fin R) (k : Fin C) :
    tail hr hc hb hw h1 (centre hr hc hb z) w b (ix2 r k)
      = normRow (fun j => z (ix2 r j)) (fun j => w (ix2 0 j)) (fun j => b (ix2 0 j)) k := by
  rw [tail_apply]
  exact congrArg (fun f => finish f _ _ k) (funext fun j => centre_apply hr hc hb z r j)

/-- The block `alpha · x + gate · y` normalized, read at one entry. -/
theorem post_apply (xs acc : FVec Ideal ⟨2, ![R, C]⟩ .f32) (g w b : FVec Ideal ⟨2, ![1, C]⟩ .f32)
    (h2 : (⟨2, ![R, C]⟩ : Shape).ShapeCasts ⟨2, ![R, C]⟩) (r : Fin R) (k : Fin C) :
    tail hr hc hb hw h1 (centre hr hc hb (addf (mulf (broadcast (⟨2, ![R, C]⟩ : Shape) (Scalar.ofBits .f32 0x3FD744FD#32)) xs)
      (mulf (broadcastTo (⟨2, ![R, C]⟩ : Shape) g hw) (shapeCast (⟨2, ![R, C]⟩ : Shape) acc h2)))) w b (ix2 r k)
      = normRow (fun j => alpha * xs (ix2 r j) + g (ix2 0 j) * acc (ix2 r j)) (fun j => w (ix2 0 j)) (fun j => b (ix2 0 j)) k := by
  rw [norm_apply, shapeCast_self]
  refine congrArg (fun f => normRow f _ _ k) (funext fun j => ?_)
  rw [addf_apply, mulf_apply, mulf_apply, broadcastTo_1b_ab_apply]
  rfl

/-- The block `x · (1 + scale) + shift`, read at one entry. -/
theorem modulate_apply (xs : FVec Ideal ⟨2, ![R, C]⟩ .f32) (s t : FVec Ideal ⟨2, ![1, C]⟩ .f32) (r : Fin R) (k : Fin C) :
    addf (mulf xs (broadcastTo (⟨2, ![R, C]⟩ : Shape) (addf (broadcast (⟨2, ![1, C]⟩ : Shape) (Scalar.ofBits .f32 0x3F800000#32)) s) hw))
      (broadcastTo (⟨2, ![R, C]⟩ : Shape) t hw) (ix2 r k)
      = xs (ix2 r k) * (one + s (ix2 0 k)) + t (ix2 0 k) := by
  rw [addf_apply, mulf_apply, broadcastTo_1b_ab_apply, broadcastTo_1b_ab_apply]
  rfl

/-- A product of two matrices added to zero, read at one entry. -/
theorem dot_apply {M K N : ℕ} {φ₁ φ₂ : FTy} (x : FVec Ideal ⟨2, ![M, K]⟩ φ₁) (y : FVec Ideal ⟨2, ![K, N]⟩ φ₂) (r : Fin M) (k : Fin N) :
    matmul (DotDims.plain M K N) none x y (constant (⟨2, ![M, N]⟩ : Shape) .f32 0x00000000#32) (ix2 r k)
      = ∑ e : Fin K, x (ix2 r e) * y (ix2 e k) := by
  refine (Ideal.matmul_plain_apply none x y _ r k).trans ?_
  rw [constant_apply, Ideal.ofBits_zero_f32, zero_add]

end Cert.Rows

end
-- ==== Proof.FfnSpec.lean ====
/-
  The feed-forward sublayer as one function of its arrays: modulate the rows, two projections joined by a gate, project
  back, and normalize the sum with the weighted input.
-/
module

public import proofs.«01_k».proof.Proof.Rows

@[expose] public section

set_option maxRecDepth 16384

noncomputable section

namespace Cert.FfnSpec

open Idealize.ShloMosaic Idealize.ShloMosaic.ValueIdx Cert.Rows
open scoped BigOperators

/-- Rows, modulation table, first weight, second weight, and a vector of the norm. -/
abbrev XS : Type := (⟨2, ![9216, 2048]⟩ : Shape).Idx → EReal
abbrev MD : Type := (⟨2, ![8, 12288]⟩ : Shape).Idx → EReal
abbrev W1 : Type := (⟨2, ![2048, 11264]⟩ : Shape).Idx → EReal
abbrev W2 : Type := (⟨2, ![5632, 2048]⟩ : Shape).Idx → EReal
abbrev LN : Type := (⟨1, ![2048]⟩ : Shape).Idx → EReal

variable (xs : XS) (md : MD) (w1 : W1) (w2 : W2) (lw lb : LN)

/-- The modulation row of a row of the array: the first 256 rows of each sequence of 2304 are context and use row 4. -/
def modRow (r : Fin 9216) : Fin 8 := if r.val % 2304 < 256 then 4 else ⟨r.val / 2304, by have := r.isLt; omega⟩

/-- An entry of the `j`-th of the six parts of a modulation row. -/
def part (j : ℕ) (hj : j < 6) (r : Fin 9216) (k : Fin 2048) : EReal :=
  md (ix2 (modRow r) (⟨j * 2048 + k.val, by have := k.isLt; omega⟩ : Fin 12288))

/-- A modulated entry. -/
def h (r : Fin 9216) (k : Fin 2048) : EReal :=
  xs (ix2 r k) * (one + part md 4 (by norm_num) r k) + part md 3 (by norm_num) r k

/-- An entry of the first projection. -/
def up (r : Fin 9216) (f : Fin 11264) : EReal := ∑ e : Fin 2048, h xs md r e * w1 (ix2 e f)

/-- A gated hidden value. -/
def act (r : Fin 9216) (f : Fin 5632) : EReal :=
  up xs md w1 r ⟨f.val, by have := f.isLt; omega⟩ * Ideal.logistic (up xs md w1 r ⟨f.val, by have := f.isLt; omega⟩)
    * up xs md w1 r ⟨5632 + f.val, by have := f.isLt; omega⟩

/-- An entry of the second projection. -/
def down (r : Fin 9216) (c : Fin 2048) : EReal := ∑ f : Fin 5632, act xs md w1 r f * w2 (ix2 f c)

/-- The result. -/
def out : XS := fun y =>
  normRow (fun k => alpha * xs (ix2 (y 0) k) + part md 5 (by norm_num) (y 0) k * down xs md w1 w2 (y 0) k)
    (fun k => lw (ix1 k)) (fun k => lb (ix1 k)) (y 1)

/-- One term of the second projection, zero past its end. -/
def term (r : Fin 9216) (c : Fin 2048) (f : ℕ) : EReal :=
  if hf : f < 5632 then act xs md w1 r ⟨f, hf⟩ * w2 (ix2 ⟨f, hf⟩ c) else 0

/-- The second projection summed over its first `n` hidden columns. -/
def partialDown (n : ℕ) (r : Fin 9216) (c : Fin 2048) : EReal := ∑ f ∈ Finset.range n, term xs md w1 w2 r c f

theorem partialDown_zero (r : Fin 9216) (c : Fin 2048) : partialDown xs md w1 w2 0 r c = 0 := rfl

/-- Another 512 hidden columns. -/
theorem partialDown_add (n : ℕ) (r : Fin 9216) (c : Fin 2048) :
    partialDown xs md w1 w2 (n + 512) r c = partialDown xs md w1 w2 n r c + ∑ k : Fin 512, term xs md w1 w2 r c (n + k.val) := by
  unfold partialDown
  rw [Finset.sum_range_add, Finset.sum_range (fun x => term xs md w1 w2 r c (n + x))]

/-- All of them. -/
theorem partialDown_all (r : Fin 9216) (c : Fin 2048) : partialDown xs md w1 w2 5632 r c = down xs md w1 w2 r c := by
  unfold partialDown down
  rw [Finset.sum_range]
  exact Finset.sum_congr rfl fun f _ => dif_pos f.isLt

end Cert.FfnSpec

end
-- ==== Proof.FfnTile.lean ====
/-
  What one grid point of the feed-forward kernel computes from the blocks it holds, as functions of those blocks, and the
  kernel's vector expressions read at one entry.
-/
module

public import proofs.«01_k».proof.Proof.Rows
public import proofs.«01_k».proof.Proof.IdxExt
public import proofs.«01_k».proof.Proof.Gen.FfnIdeal.Frame
public import Idealize.ShloMosaic.Lib.Pipeline.CanonAppend

@[expose] public section

set_option maxRecDepth 16384

noncomputable section

namespace Cert.FfnIdeal.Tile

open Idealize.ShloMosaic Idealize.ShloMosaic.TcCoe Idealize.ShloMosaic.Tactic Idealize.ShloMosaic.ValueIdx
open Idealize.SL Idealize.SL.Sem
open Cert.FfnIdeal Cert.FfnIdeal.Gen Cert.Rows Cert.IdxExt
open scoped BigOperators

/-- The modulation row a row of a tile uses: the first 256 rows of every third tile are context rows and use row 4, the
    others use the row of their sequence. -/
def pick (i : grid0.Coords) (r : Fin 768) : Fin 8 :=
  if (i 0).val % 3 = 0 ∧ r.val < 256 then 4 else ⟨(i 0).val / 3, by have := (i 0).isLt; change (i 0).val < 12 at this; omega⟩

/-- The modulated rows of a tile. -/
def hTile (i : grid0.Coords) (x0 : Vec Ideal S768x2048 .f32) (x1 x2 : Vec Ideal S8x2048 .f32) : Vec Ideal S768x2048 .bf16 :=
  fun y => x0 y * (one + x2 (ix2 (pick i (y 0)) (y 1))) + x1 (ix2 (pick i (y 0)) (y 1))

/-- The gated hidden values of a row for one of the 512 hidden columns at hand. -/
def hidden (h : Vec Ideal S768x2048 .bf16) (x6 x7 : Vec Ideal S2048x512 .bf16) (r : Fin 768) (k : Fin 512) : EReal :=
  (∑ e : Fin 2048, h (ix2 r e) * x6 (ix2 e k)) * Ideal.logistic (∑ e : Fin 2048, h (ix2 r e) * x6 (ix2 e k))
    * ∑ e : Fin 2048, h (ix2 r e) * x7 (ix2 e k)

/-- What 512 hidden columns add to the output. -/
def step (h : Vec Ideal S768x2048 .bf16) (x6 x7 : Vec Ideal S2048x512 .bf16) (x8 : Vec Ideal S512x2048 .bf16) : Vec Ideal S768x2048 .f32 :=
  fun y => ∑ k : Fin 512, hidden h x6 x7 (y 0) k * x8 (ix2 k (y 1))

/-- The normalized sum of the residual input and the gated output. -/
def post (i : grid0.Coords) (x0 : Vec Ideal S768x2048 .f32) (x3 : Vec Ideal S8x2048 .f32) (x4 x5 : Vec Ideal S1x2048 .f32)
    (A : Vec Ideal S768x2048 .f32) : Vec Ideal S768x2048 .f32 :=
  fun y => normRow (fun k => alpha * x0 (ix2 (y 0) k) + x3 (ix2 (pick i (y 0)) k) * A (ix2 (y 0) k))
    (fun k => x4 (ix2 0 k)) (fun k => x5 (ix2 0 k)) (y 1)

theorem off_eq : ∀ i : grid0.Coords, k0_off1 i 0 = (i 0).val / 3 ∧ k0_off1 i 1 = 0 := by decide +kernel

/-- The bit that says whether the tile starts with context rows. -/
def headBit (a : BitVec 32) : BitVec 1 :=
  let v43 : BitVec 1 := Scalar.cmpi .eq 3#32 0#32
  let v44 : BitVec 32 := Scalar.select v43 1#32 3#32
  let v45 : BitVec 32 := Scalar.remsi a v44
  let v46 : BitVec 1 := Scalar.cmpi .ne v45 0#32
  let v47 : BitVec 1 := Scalar.cmpi .slt v45 0#32
  let v48 : BitVec 1 := Scalar.cmpi .slt v44 0#32
  let v49 : BitVec 1 := Scalar.xori v47 v48
  let v50 : BitVec 1 := Scalar.andi v49 v46
  let v51 : BitVec 32 := Scalar.addi v45 v44
  let v52 : BitVec 32 := Scalar.select v50 v51 v45
  Scalar.cmpi .eq v52 0#32

theorem headBit_eq : ∀ i : grid0.Coords, headBit (BitVec.ofNat 32 (i 0).val) = if (i 0).val % 3 = 0 then 1#1 else 0#1 := by
  decide +kernel

/-- A window of rows of a block, read at one entry. -/
theorem ld_rows {A R C o : ℕ} {e : EltTy} (X : (⟨2, ![A, C]⟩ : Shape).Idx → Elt Ideal e)
    (inb : ∀ a : Fin 2, (![o, 0] : Fin 2 → ℕ) a + (![R, C] : Fin 2 → ℕ) a ≤ (⟨2, ![A, C]⟩ : Shape).size a) (r : Fin R) (k : Fin C)
    (p : Fin A) (hp : p.val = o + r.val) :
    View.ld (e' := e) (Val := Elt Ideal) X (Rect.unit (s := ⟨2, ![A, C]⟩) ![o, 0] ![R, C] inb) (ix2 r k) = X (ix2 p k) := by
  refine congrArg X (funext fun a => Fin.ext ?_)
  match a with
  | ⟨0, _⟩ => show o + 1 * r.val = p.val; omega
  | ⟨1, _⟩ => show 0 + 1 * k.val = k.val; omega

/-- The modulation row of the tile's sequence. -/
theorem ld_row (i : grid0.Coords) (X : Vec Ideal S8x2048 .f32)
    (inb : ∀ a : Fin 2, k0_off1 i a + S1x2048.size a ≤ S8x2048.size a) (k : Fin 2048) :
    View.ld (e' := .f32) (Val := Elt Ideal) X (Rect.unit (s := S8x2048) (k0_off1 i) S1x2048.size inb) (ix2 0 k)
      = X (ix2 ⟨(i 0).val / 3, by have := (i 0).isLt; change (i 0).val < 12 at this; omega⟩ k) := by
  refine congrArg X (funext fun a => Fin.ext ?_)
  match a with
  | ⟨0, _⟩ => show k0_off1 i 0 + 1 * 0 = (i 0).val / 3; rw [(off_eq i).1]; omega
  | ⟨1, _⟩ => show k0_off1 i 1 + 1 * k.val = k.val; rw [(off_eq i).2]; omega

/-- The modulation row of a tile's first 256 rows. -/
theorem head_row (i : grid0.Coords) (X : Vec Ideal S8x2048 .f32)
    (inb : ∀ a : Fin 2, k0_off1 i a + S1x2048.size a ≤ S8x2048.size a)
    (inb4 : ∀ a : Fin 2, (![4, 0] : Fin 2 → ℕ) a + S1x2048.size a ≤ S8x2048.size a) (k : Fin 2048) (r : Fin 768) (hr : r.val < 256) :
    (Scalar.select (headBit (BitVec.ofNat 32 (i 0).val))
      (View.ld (e' := .f32) (Val := Elt Ideal) X (Rect.unit (s := S8x2048) ![4, 0] S1x2048.size inb4))
      (View.ld (e' := .f32) (Val := Elt Ideal) X (Rect.unit (s := S8x2048) (k0_off1 i) S1x2048.size inb)) : Vec Ideal S1x2048 .f32) (ix2 0 k)
      = X (ix2 (pick i r) k) := by
  unfold pick
  rw [headBit_eq]
  by_cases h : (i 0).val % 3 = 0
  · rw [if_pos h, if_pos ⟨h, hr⟩]
    exact ld_rows (e := .f32) (A := 8) (R := 1) (C := 2048) (o := 4) X inb4 0 k 4 rfl
  · rw [if_neg h, if_neg (fun hh => h hh.1)]
    exact ld_row i X inb k

/-- The modulation row of a tile's other rows. -/
theorem tail_row (i : grid0.Coords) (X : Vec Ideal S8x2048 .f32)
    (inb : ∀ a : Fin 2, k0_off1 i a + S1x2048.size a ≤ S8x2048.size a) (k : Fin 2048) (r : Fin 768) (hr : 256 ≤ r.val) :
    View.ld (e' := .f32) (Val := Elt Ideal) X (Rect.unit (s := S8x2048) (k0_off1 i) S1x2048.size inb) (ix2 0 k) = X (ix2 (pick i r) k) := by
  unfold pick
  rw [if_neg (fun hh => absurd hh.2 (by omega))]
  exact ld_row i X inb k

section
variable (i : grid0.Coords) (x0 : Vec Ideal S768x2048 .f32) (x1 x2 x3 : Vec Ideal S8x2048 .f32) (x4 x5 : Vec Ideal S1x2048 .f32)
  (inb : ∀ a : Fin 2, k0_off1 i a + S1x2048.size a ≤ S8x2048.size a)

/-- The modulated first 256 rows. -/
theorem head_h (x : S256x2048.Idx) :
    k0_pay6 (F := Ideal) (BitVec.ofNat 32 (i 0).val)
        (k0_pay5 (BitVec.ofNat 32 (i 0).val)
          (View.ld (e' := .f32) (Val := Elt Ideal) x1 (Rect.unit (s := S8x2048) (k0_off1 i) S1x2048.size inb))
          (View.ld (e' := .f32) (Val := Elt Ideal) x1 (Rect.unit (s := S8x2048) ![4, 0] S1x2048.size inb_S8x2048_S1x2048_4_0)))
        (View.ld (e' := .f32) (Val := Elt Ideal) x2 (Rect.unit (s := S8x2048) (k0_off1 i) S1x2048.size inb))
        (View.ld (e' := .f32) (Val := Elt Ideal) x2 (Rect.unit (s := S8x2048) ![4, 0] S1x2048.size inb_S8x2048_S1x2048_4_0))
        (View.ld (e' := .f32) (Val := Elt Ideal) x0 (Rect.unit (s := S768x2048) ![0, 0] S256x2048.size inb_S768x2048_S256x2048_0_0)) x
      = hTile i x0 x1 x2 ((Rect.unit (s := S768x2048) ![0, 0] S256x2048.size inb_S768x2048_S256x2048_0_0).emb x) := by
  obtain ⟨r, k, rfl⟩ : ∃ (r : Fin 256) (k : Fin 2048), x = ix2 r k := ⟨x 0, x 1, eq_ix2 x⟩
  have hr := r.isLt
  rw [show (Rect.unit (s := S768x2048) ![0, 0] S256x2048.size inb_S768x2048_S256x2048_0_0).emb (ix2 r k) = ix2 (⟨r.val, by omega⟩ : Fin 768) k
    from ext2 ((by show 0 + 1 * r.val = r.val; omega)) ((by show 0 + 1 * k.val = k.val; omega))]
  unfold k0_pay6
  dsimp only
  rw [shapeCast_self, truncf_apply]
  refine (modulate_apply (R := 256) (C := 2048) _ _ _ _ r k).trans ?_
  show _ = x0 (ix2 (⟨r.val, by omega⟩ : Fin 768) k) * (one + x2 (ix2 (pick i ⟨r.val, by omega⟩) k)) + x1 (ix2 (pick i ⟨r.val, by omega⟩) k)
  rw [← head_row i x2 inb inb_S8x2048_S1x2048_4_0 k ⟨r.val, by omega⟩ hr, ← head_row i x1 inb inb_S8x2048_S1x2048_4_0 k ⟨r.val, by omega⟩ hr,
    ← ld_rows (e := .f32) (A := 768) (R := 256) (C := 2048) (o := 0) x0 inb_S768x2048_S256x2048_0_0 r k ⟨r.val, by omega⟩ (Nat.zero_add _).symm]
  rfl

/-- The modulated other rows. -/
theorem tail_h (x : S512x2048.Idx) :
    k0_pay1 (F := Ideal) (View.ld (e' := .f32) (Val := Elt Ideal) x1 (Rect.unit (s := S8x2048) (k0_off1 i) S1x2048.size inb))
        (View.ld (e' := .f32) (Val := Elt Ideal) x2 (Rect.unit (s := S8x2048) (k0_off1 i) S1x2048.size inb))
        (View.ld (e' := .f32) (Val := Elt Ideal) x0 (Rect.unit (s := S768x2048) ![256, 0] S512x2048.size inb_S768x2048_S512x2048_256_0))
        k0_pay7 x
      = hTile i x0 x1 x2 ((Rect.unit (s := S768x2048) ![256, 0] S512x2048.size inb_S768x2048_S512x2048_256_0).emb x) := by
  obtain ⟨r, k, rfl⟩ : ∃ (r : Fin 512) (k : Fin 2048), x = ix2 r k := ⟨x 0, x 1, eq_ix2 x⟩
  have hr := r.isLt
  rw [show (Rect.unit (s := S768x2048) ![256, 0] S512x2048.size inb_S768x2048_S512x2048_256_0).emb (ix2 r k) = ix2 (⟨256 + r.val, by omega⟩ : Fin 768) k
    from ext2 ((by show 256 + 1 * r.val = 256 + r.val; omega)) ((by show 0 + 1 * k.val = k.val; omega))]
  unfold k0_pay1 k0_pay7
  dsimp only
  rw [shapeCast_self, truncf_apply]
  refine (modulate_apply (R := 512) (C := 2048) _ _ _ _ r k).trans ?_
  show _ = x0 (ix2 (⟨256 + r.val, by omega⟩ : Fin 768) k) * (one + x2 (ix2 (pick i ⟨256 + r.val, by omega⟩) k)) + x1 (ix2 (pick i ⟨256 + r.val, by omega⟩) k)
  rw [← tail_row i x2 inb k ⟨256 + r.val, by omega⟩ (Nat.le_add_right _ _), ← tail_row i x1 inb k ⟨256 + r.val, by omega⟩ (Nat.le_add_right _ _),
    ← ld_rows (e := .f32) (A := 768) (R := 512) (C := 2048) (o := 256) x0 inb_S768x2048_S512x2048_256_0 r k ⟨256 + r.val, by omega⟩ rfl]

/-- The normalized first 256 rows. -/
theorem head_post (A : Vec Ideal S768x2048 .f32) (acc : Vec Ideal S256x2048 .f32)
    (hacc : ∀ x, acc x = A ((Rect.unit (s := S768x2048) ![0, 0] S256x2048.size inb_S768x2048_S256x2048_0_0).emb x)) (x : S256x2048.Idx) :
    k0_pay11 (F := Ideal)
        (k0_pay8 (View.ld (e' := .f32) (Val := Elt Ideal) x0 (Rect.unit (s := S768x2048) ![0, 0] S256x2048.size inb_S768x2048_S256x2048_0_0)))
        (k0_pay9 acc)
        (k0_pay10 (BitVec.ofNat 32 (i 0).val)
          (View.ld (e' := .f32) (Val := Elt Ideal) x3 (Rect.unit (s := S8x2048) (k0_off1 i) S1x2048.size inb))
          (View.ld (e' := .f32) (Val := Elt Ideal) x3 (Rect.unit (s := S8x2048) ![4, 0] S1x2048.size inb_S8x2048_S1x2048_4_0)))
        x4 x5 x
      = post i x0 x3 x4 x5 A ((Rect.unit (s := S768x2048) ![0, 0] S256x2048.size inb_S768x2048_S256x2048_0_0).emb x) := by
  obtain ⟨r, k, rfl⟩ : ∃ (r : Fin 256) (k : Fin 2048), x = ix2 r k := ⟨x 0, x 1, eq_ix2 x⟩
  have hr := r.isLt
  have he : ∀ j : Fin 2048, (Rect.unit (s := S768x2048) ![0, 0] S256x2048.size inb_S768x2048_S256x2048_0_0).emb (ix2 r j) = ix2 (⟨r.val, by omega⟩ : Fin 768) j :=
    fun j => ext2 ((by show 0 + 1 * r.val = r.val; omega)) ((by show 0 + 1 * j.val = j.val; omega))
  rw [he]
  refine (post_apply (R := 256) (C := 2048) _ _ _ _ _ _ _ _ _ _ shapeCasts_S256x2048_S256x2048 r k).trans ?_
  refine congrArg (fun f => normRow f _ _ k) (funext fun j => ?_)
  rw [hacc, he, ← head_row i x3 inb inb_S8x2048_S1x2048_4_0 j ⟨r.val, by omega⟩ hr,
    ← ld_rows (e := .f32) (A := 768) (R := 256) (C := 2048) (o := 0) x0 inb_S768x2048_S256x2048_0_0 r j ⟨r.val, by omega⟩ (Nat.zero_add _).symm]
  rfl

/-- The normalized other rows. -/
theorem tail_post (A : Vec Ideal S768x2048 .f32) (acc : Vec Ideal S512x2048 .f32)
    (hacc : ∀ x, acc x = A ((Rect.unit (s := S768x2048) ![256, 0] S512x2048.size inb_S768x2048_S512x2048_256_0).emb x)) (x : S512x2048.Idx) :
    k0_pay4 (F := Ideal)
        (k0_pay12 (View.ld (e' := .f32) (Val := Elt Ideal) x3 (Rect.unit (s := S8x2048) (k0_off1 i) S1x2048.size inb))
          (View.ld (e' := .f32) (Val := Elt Ideal) x0 (Rect.unit (s := S768x2048) ![256, 0] S512x2048.size inb_S768x2048_S512x2048_256_0))
          acc)
        x4 x5 x
      = post i x0 x3 x4 x5 A ((Rect.unit (s := S768x2048) ![256, 0] S512x2048.size inb_S768x2048_S512x2048_256_0).emb x) := by
  obtain ⟨r, k, rfl⟩ : ∃ (r : Fin 512) (k : Fin 2048), x = ix2 r k := ⟨x 0, x 1, eq_ix2 x⟩
  have hr := r.isLt
  have he : ∀ j : Fin 2048, (Rect.unit (s := S768x2048) ![256, 0] S512x2048.size inb_S768x2048_S512x2048_256_0).emb (ix2 r j) = ix2 (⟨256 + r.val, by omega⟩ : Fin 768) j :=
    fun j => ext2 ((by show 256 + 1 * r.val = 256 + r.val; omega)) ((by show 0 + 1 * j.val = j.val; omega))
  rw [he]
  refine (post_apply (R := 512) (C := 2048) _ _ _ _ _ _ _ _ _ _ shapeCasts_S512x2048_S512x2048 r k).trans ?_
  refine congrArg (fun f => normRow f _ _ k) (funext fun j => ?_)
  rw [hacc, he, tail_row i x3 inb j ⟨256 + r.val, by omega⟩ (Nat.le_add_right _ _),
    ld_rows (e := .f32) (A := 768) (R := 512) (C := 2048) (o := 256) x0 inb_S768x2048_S512x2048_256_0 r j ⟨256 + r.val, by omega⟩ rfl]

/-- The accumulator with what 512 hidden columns add. -/
theorem step_pay (h : Vec Ideal S768x2048 .bf16) (x6 x7 : Vec Ideal S2048x512 .bf16) (acc : Vec Ideal S768x2048 .f32) (x8 : Vec Ideal S512x2048 .bf16)
    (y : S768x2048.Idx) :
    k0_pay3 (F := Ideal) h x6 x7 acc x8 y = acc y + step h x6 x7 x8 y := by
  obtain ⟨r, k, rfl⟩ : ∃ (r : Fin 768) (k : Fin 2048), y = ix2 r k := ⟨y 0, y 1, eq_ix2 y⟩
  unfold k0_pay3
  rw [shapeCast_self, shapeCast_self, shapeCast_self, shapeCast_self, addf_apply]
  refine congrArg (fun u => acc (ix2 r k) + u) ?_
  refine (dot_apply (φ₁ := .bf16) (φ₂ := .bf16) (M := 768) (K := 512) (N := 2048) _ x8 r k).trans ?_
  refine Finset.sum_congr rfl fun f _ => congrArg (fun u => u * x8 (ix2 f k)) ?_
  have ha := dot_apply (φ₁ := .bf16) (φ₂ := .bf16) (M := 768) (K := 2048) (N := 512) h x6 r f
  have hb := dot_apply (φ₁ := .bf16) (φ₂ := .bf16) (M := 768) (K := 2048) (N := 512) h x7 r f
  unfold hidden
  exact congrArg₂ (· * ·) (congrArg (fun u => u * Ideal.logistic u) ha) hb
end

end Cert.FfnIdeal.Tile

end
-- ==== Proof.FfnBlock.lean ====
/-
  The blocks the feed-forward kernel leaves at each of its three kinds of grid point: the modulated rows it keeps, and the
  accumulator, which the last point of a tile normalizes.
-/
module

public import proofs.«01_k».proof.Proof.FfnTile

@[expose] public section

set_option maxRecDepth 16384

noncomputable section

namespace Cert.FfnIdeal.Block

open Idealize.ShloMosaic Idealize.ShloMosaic.TcCoe Idealize.ShloMosaic.Tactic Idealize.ShloMosaic.ValueIdx
open Idealize.SL Idealize.SL.Sem
open Cert.FfnIdeal Cert.FfnIdeal.Gen Cert.FfnIdeal.Tile

theorem zero_off : (![0, 0] : Fin 2 → ℕ) = fun _ => 0 := by
  funext a
  match a with
  | ⟨0, _⟩ => rfl
  | ⟨1, _⟩ => rfl

/-- Every entry of a tile is in its first 256 rows or in the others. -/
theorem split_rows (y : S768x2048.Idx) :
    y ∈ (Rect.unit (s := S768x2048) ![256, 0] S512x2048.size inb_S768x2048_S512x2048_256_0).set
      ∨ y ∈ (Rect.unit (s := S768x2048) ![0, 0] S256x2048.size inb_S768x2048_S256x2048_0_0).set := by
  obtain ⟨r, k, rfl⟩ : ∃ (r : Fin 768) (k : Fin 2048), y = ix2 r k := ⟨y 0, y 1, eq_ix2 y⟩
  have hr := r.isLt
  by_cases h : r.val < 256
  · right
    have he : (Rect.unit (s := S768x2048) ![0, 0] S256x2048.size inb_S768x2048_S256x2048_0_0).emb (ix2 (⟨r.val, h⟩ : Fin 256) k) = ix2 r k :=
      IdxExt.ext2 (by show 0 + 1 * r.val = r.val; omega) (by show 0 + 1 * k.val = k.val; omega)
    rw [← he]
    exact LoadRect.idx_mem _ _
  · left
    have he : (Rect.unit (s := S768x2048) ![256, 0] S512x2048.size inb_S768x2048_S512x2048_256_0).emb (ix2 (⟨r.val - 256, by omega⟩ : Fin 512) k) = ix2 r k :=
      IdxExt.ext2 (by show 256 + 1 * (r.val - 256) = r.val; omega) (by show 0 + 1 * k.val = k.val; omega)
    rw [← he]
    exact LoadRect.idx_mem _ _

/-- An entry in the later rows is not in the first 256. -/
theorem later_not_first (x : S512x2048.Idx) :
    (Rect.unit (s := S768x2048) ![256, 0] S512x2048.size inb_S768x2048_S512x2048_256_0).emb x
      ∉ (Rect.unit (s := S768x2048) ![0, 0] S256x2048.size inb_S768x2048_S256x2048_0_0).set := by
  intro h
  obtain ⟨x', hx⟩ := LoadRect.exists_idx_of_mem _ h
  have h0 := congrArg (fun y : S768x2048.Idx => (y 0).val) hx
  have h1 : 0 + 1 * (x' 0).val = 256 + 1 * (x 0).val := h0
  have h2 := (x' 0).isLt
  change (x' 0).val < 256 at h2
  omega

variable (c : Dev nD) (i : grid0.Coords) (arg2 : Memref sig .tc .vmem S768x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S768x2048 .f32) (harg11 : arg11.IsWhole) (arg12 : Memref sig .tc .vmem S768x2048 .bf16) (harg12 : arg12.IsWhole)
  (x0 : Vec Ideal S768x2048 .f32) (x1 x2 x3 : Vec Ideal S8x2048 .f32) (x4 x5 : Vec Ideal S1x2048 .f32)
  (x6 x7 : Vec Ideal S2048x512 .bf16) (x8 : Vec Ideal S512x2048 .bf16) (xo9 : Vec Ideal S768x2048 .f32) (xs0 : Vec Ideal S768x2048 .bf16)

/-- The rows kept at the first point of a tile are its modulated rows. -/
theorem sout_A (hc0 : cond0_0 i) (hc1 : ¬cond0_1 i) (y : S768x2048.Idx) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 y = hTile i x0 x1 x2 y := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  refine View.canon_apply_of_pieces (fun y => hTile i x0 x1 x2 y) _ ?_ y (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  intro p hp x
  simp only [List.mem_cons, List.not_mem_nil, or_false] at hp
  rcases hp with rfl | rfl
  · exact tail_h i x0 x1 x2 _ x
  · exact head_h i x0 x1 x2 _ x

/-- The accumulator after the first point of a tile. -/
theorem out_A (hc0 : cond0_0 i) (hc1 : ¬cond0_1 i) (y : S768x2048.Idx) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 y = step (hTile i x0 x1 x2) x6 x7 x8 y := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  have hs := sout_A c i arg2 harg2 arg3 harg3 arg4 harg4 arg5 harg5 arg6 harg6 arg7 harg7 arg8 harg8 arg9 harg9 arg10 harg10 arg11 harg11 arg12 harg12 x0 x1 x2 x3 x4 x5 x6 x7 x8 hc0 hc1
  unfold sout0_A_0 at hs
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)] at hs
  revert hs
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  intro hs
  refine (congrFun (View.canon_cons_unit_zero (S := S768x2048) zero_off _ _ _) y).trans ?_
  refine (step_pay _ _ _ _ _ y).trans ?_
  rw [View.ld_unit_zero (S := S2048x512) zero_off, View.ld_unit_zero (S := S2048x512) zero_off, View.ld_unit_zero (S := S512x2048) zero_off]
  rw [View.readCov_unit_zero (S := S768x2048) _ zero_off]
  have h0 : k0_pay2 (F := Ideal) y = 0 := Ideal.ofBits_zero_f32
  rw [h0, zero_add]
  rw [View.readCov_eq_canon']
  refine congrArg (fun h => step h x6 x7 x8 y) (funext fun j => ?_)
  exact (hs _).trans (congrArg (hTile i x0 x1 x2)
    (IdxExt.ext2 (by show 0 + 1 * (j 0).val = (j 0).val; omega) (by show 0 + 1 * (j 1).val = (j 1).val; omega)))

/-- The accumulator after a middle point of a tile. -/
theorem out_B (hc0 : ¬cond0_0 i) (hc1 : ¬cond0_1 i) (y : S768x2048.Idx) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 y = xo9 y + step xs0 x6 x7 x8 y := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  refine (congrFun (View.canon_unit_zero (S := S768x2048) zero_off _ _) y).trans ?_
  refine (step_pay _ _ _ _ _ y).trans ?_
  rw [View.ld_unit_zero (S := S2048x512) zero_off, View.ld_unit_zero (S := S2048x512) zero_off, View.ld_unit_zero (S := S512x2048) zero_off,
    View.ld_unit_zero (S := S768x2048) zero_off, View.ld_unit_zero (S := S768x2048) zero_off]

/-- The block after the last point of a tile: the normalized sum. -/
theorem out_C (hc0 : ¬cond0_0 i) (hc1 : cond0_1 i) (y : S768x2048.Idx) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 y = post i x0 x3 x4 x5 (fun y => xo9 y + step xs0 x6 x7 x8 y) y := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  have hw : ∀ z : S768x2048.Idx, k0_pay3 (F := Ideal) (View.ld (e' := .bf16) (Val := Elt Ideal) xs0 (Rect.unit (s := S768x2048) ![0, 0] ![768, 2048] inb_S768x2048_S768x2048_0_0))
      (View.ld (e' := .bf16) (Val := Elt Ideal) x6 (Rect.unit (s := S2048x512) ![0, 0] ![2048, 512] inb_S2048x512_S2048x512_0_0))
      (View.ld (e' := .bf16) (Val := Elt Ideal) x7 (Rect.unit (s := S2048x512) ![0, 0] ![2048, 512] inb_S2048x512_S2048x512_0_0))
      (View.ld (e' := .f32) (Val := Elt Ideal) xo9 (Rect.unit (s := S768x2048) ![0, 0] ![768, 2048] inb_S768x2048_S768x2048_0_0))
      (View.ld (e' := .bf16) (Val := Elt Ideal) x8 (Rect.unit (s := S512x2048) ![0, 0] ![512, 2048] inb_S512x2048_S512x2048_0_0)) z
        = xo9 z + step xs0 x6 x7 x8 z := by
    intro z
    refine (step_pay _ _ _ _ _ z).trans ?_
    rw [View.ld_unit_zero (S := S2048x512) zero_off, View.ld_unit_zero (S := S2048x512) zero_off, View.ld_unit_zero (S := S512x2048) zero_off,
      View.ld_unit_zero (S := S768x2048) zero_off, View.ld_unit_zero (S := S768x2048) zero_off]
  have h4 := View.ld_unit_zero (Val := Elt Ideal) (e := .f32) (S := S1x2048) zero_off inb_S1x2048_S1x2048_0_0 x4
  have h5 := View.ld_unit_zero (Val := Elt Ideal) (e := .f32) (S := S1x2048) zero_off inb_S1x2048_S1x2048_0_0 x5
  refine View.canon_append_of_pieces (post i x0 x3 x4 x5 (fun y => xo9 y + step xs0 x6 x7 x8 y)) [_] [_, _] ?_ y ?_
  · intro p hp x
    simp only [List.mem_cons, List.not_mem_nil, or_false] at hp
    rcases hp with rfl | rfl
    · refine (tail_post i x0 x3 _ _ _ (fun y => xo9 y + step xs0 x6 x7 x8 y) _ ?_ x).trans ?_
      · intro x
        rw [View.readCov_eq_canon']
        refine (View.canon_cons_of_not_mem _ _ ?_).trans ((congrFun (View.canon_unit_zero (S := S768x2048) zero_off _ _) _).trans (hw _))
        exact later_not_first x
      · exact congrArg₂ (fun u v => post i x0 x3 u v _ _) h4 h5
    · refine (head_post i x0 x3 _ _ _ (fun y => xo9 y + step xs0 x6 x7 x8 y) _ ?_ x).trans ?_
      · intro x
        rw [View.readCov_eq_canon']
        exact (congrFun (View.canon_unit_zero (S := S768x2048) zero_off _ _) _).trans (hw _)
      · exact congrArg₂ (fun u v => post i x0 x3 u v _ _) h4 h5
  · rcases split_rows y with h | h
    · exact ⟨_, List.mem_cons_self, h⟩
    · exact ⟨_, List.mem_cons_of_mem _ List.mem_cons_self, h⟩

end Cert.FfnIdeal.Block

end
-- ==== Proof.FfnArray.lean ====
/-
  The array the feed-forward kernel leaves: over the eleven points of a tile the accumulator sums the second projection, and
  the last point normalizes it. The result is `FfnSpec.out` of the arguments.
-/
module

public import proofs.«01_k».proof.Proof.FfnSpec
public import proofs.«01_k».proof.Proof.FfnBlock
public import proofs.«01_k».proof.Proof.Gen.FfnIdeal.Value

@[expose] public section

set_option maxRecDepth 16384

noncomputable section

namespace Cert.FfnIdeal.Array

open Idealize.ShloMosaic Idealize.ShloMosaic.TcCoe Idealize.ShloMosaic.Tactic Idealize.ShloMosaic.ValueIdx
open Idealize.SL Idealize.SL.Sem
open Cert.Rows Cert.FfnSpec Cert.FfnIdeal Cert.FfnIdeal.Gen Cert.FfnIdeal.Tile
open scoped BigOperators

variable (m : (l : Loc nD τ sig) → Buf (Elt Ideal) l)

/-- Where each window's block lies at a grid point: the row tile and the hidden columns at hand. -/
theorem index0 : ∀ t : Fin cfg0.N, win0_0.index t = ![t.val / 11, 0] :=
  (by decide +kernel : ∀ t : Fin grid0.N, win0_0.index t = ![t.val / 11, 0])
theorem index1 : ∀ t : Fin cfg0.N, win0_1.index t = ![0, 3] := (by decide +kernel : ∀ t : Fin grid0.N, win0_1.index t = ![0, 3])
theorem index2 : ∀ t : Fin cfg0.N, win0_2.index t = ![0, 4] := (by decide +kernel : ∀ t : Fin grid0.N, win0_2.index t = ![0, 4])
theorem index3 : ∀ t : Fin cfg0.N, win0_3.index t = ![0, 5] := (by decide +kernel : ∀ t : Fin grid0.N, win0_3.index t = ![0, 5])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, t.val % 11] :=
  (by decide +kernel : ∀ t : Fin grid0.N, win0_6.index t = ![0, t.val % 11])
theorem index7 : ∀ t : Fin cfg0.N, win0_7.index t = ![0, 11 + t.val % 11] :=
  (by decide +kernel : ∀ t : Fin grid0.N, win0_7.index t = ![0, 11 + t.val % 11])
theorem index8 : ∀ t : Fin cfg0.N, win0_8.index t = ![t.val % 11, 0] :=
  (by decide +kernel : ∀ t : Fin grid0.N, win0_8.index t = ![t.val % 11, 0])

theorem t_lt (t : Fin cfg0.N) : t.val < 132 := lt_of_lt_of_eq t.isLt (show cfg0.N = 132 from N_0)

/-- The arguments as arrays of extended reals. -/
abbrev xsArr (c : Dev nD) : XS := m ((c : Thread nD τ).loc main_arg0)
abbrev mdArr (c : Dev nD) : MD := m ((c : Thread nD τ).loc main_arg1)
abbrev w1Arr (c : Dev nD) : W1 := m ((c : Thread nD τ).loc main_arg2)
abbrev w2Arr (c : Dev nD) : W2 := m ((c : Thread nD τ).loc main_arg3)
abbrev lwArr (c : Dev nD) : LN := m ((c : Thread nD τ).loc main_arg4)
abbrev lbArr (c : Dev nD) : LN := m ((c : Thread nD τ).loc main_arg5)

/-- The first weight as the kernel finds it: rounded, which is the identity here. -/
theorem V_w1 (c : Dev nD) : (V m c main_v0 : W1) = w1Arr m c := by
  show StableHlo.after hostOps0 _ (Proc.devRef .tc main_v0) = _
  after_results
  rfl

theorem V_w2 (c : Dev nD) : (V m c main_v1 : W2) = w2Arr m c := by
  show StableHlo.after hostOps0 _ (Proc.devRef .tc main_v1) = _
  after_results
  rfl

/-- The vectors of the norm, as rows. -/
theorem V_lw (c : Dev nD) (k : Fin 2048) : (V m c main_v2 : (⟨2, ![1, 2048]⟩ : Shape).Idx → EReal) (ix2 0 k) = lwArr m c (ix1 k) := by
  have h : V m c main_v2 = shapeCast S1x2048 (m ((c : Thread nD τ).loc main_arg4)) shapeCasts_S2048_S1x2048 := by
    show StableHlo.after hostOps0 _ (Proc.devRef .tc main_v2) = _
    after_results
    rfl
  rw [h]
  exact shapeCast_a_1a_apply _ _ 0 k

theorem V_lb (c : Dev nD) (k : Fin 2048) : (V m c main_v3 : (⟨2, ![1, 2048]⟩ : Shape).Idx → EReal) (ix2 0 k) = lbArr m c (ix1 k) := by
  have h : V m c main_v3 = shapeCast S1x2048 (m ((c : Thread nD τ).loc main_arg5)) shapeCasts_S2048_S1x2048 := by
    show StableHlo.after hostOps0 _ (Proc.devRef .tc main_v3) = _
    after_results
    rfl
  rw [h]
  exact shapeCast_a_1a_apply _ _ 0 k

/-- The row of the array at a row of the tile at hand. -/
def rowOf (t : Fin cfg0.N) (r : Fin 768) : Fin 9216 := ⟨t.val / 11 * 768 + r.val, by have := t_lt t; have := r.isLt; omega⟩

theorem coord_eq (t : Fin cfg0.N) : (grid0.coords t 0).val = t.val / 11 := by
  have ht := t_lt t
  have e0 : (grid0.coords t 0).val = t.val / 11 % 12 := Pipeline.Grid.coords_val t 0 (by decide) rfl
  omega

/-- The kernel's choice of a modulation row is the array's. -/
theorem pick_eq (t : Fin cfg0.N) (r : Fin 768) : pick (grid0.coords t) r = modRow (rowOf t r) := by
  have ht := t_lt t
  have hr := r.isLt
  have hc := coord_eq t
  have hv : (rowOf t r).val = t.val / 11 * 768 + r.val := rfl
  unfold pick modRow
  by_cases h : (grid0.coords t 0).val % 3 = 0 ∧ r.val < 256
  · rw [if_pos h, if_pos (by omega)]
  · rw [if_neg h, if_neg (by omega)]
    refine Fin.ext ?_
    show (grid0.coords t 0).val / 3 = (rowOf t r).val / 2304
    omega

theorem iblk0_apply (c : Dev nD) (t : Fin cfg0.N) (r : Fin 768) (k : Fin 2048) :
    (iblk m c 0 t : S768x2048.Idx → EReal) (ix2 r k) = xsArr m c (ix2 (rowOf t r) k) := by
  show V m c main_arg0 ((win0_0.rect t).emb (ix2 r k)) = _
  rw [V_main_arg0]
  refine congrArg (xsArr m c) (funext fun a => Fin.ext ?_)
  rw [Pipeline.Window.rect_emb_val win0_0 t, index0]
  match a with
  | ⟨0, _⟩ => rfl
  | ⟨1, _⟩ => show 0 * 2048 + k.val = k.val; omega

/-- The three parts of the modulation table the kernel reads. -/
theorem iblk1_apply (c : Dev nD) (t : Fin cfg0.N) (r : Fin 8) (k : Fin 2048) :
    (iblk m c 1 t : S8x2048.Idx → EReal) (ix2 r k) = mdArr m c (ix2 r (⟨3 * 2048 + k.val, by have := k.isLt; omega⟩ : Fin 12288)) := by
  show V m c main_arg1 ((win0_1.rect t).emb (ix2 r k)) = _
  rw [V_main_arg1]
  refine congrArg (mdArr m c) (funext fun a => Fin.ext ?_)
  rw [Pipeline.Window.rect_emb_val win0_1 t, index1]
  match a with
  | ⟨0, _⟩ => show 0 * 8 + r.val = r.val; omega
  | ⟨1, _⟩ => rfl

theorem iblk2_apply (c : Dev nD) (t : Fin cfg0.N) (r : Fin 8) (k : Fin 2048) :
    (iblk m c 2 t : S8x2048.Idx → EReal) (ix2 r k) = mdArr m c (ix2 r (⟨4 * 2048 + k.val, by have := k.isLt; omega⟩ : Fin 12288)) := by
  show V m c main_arg1 ((win0_2.rect t).emb (ix2 r k)) = _
  rw [V_main_arg1]
  refine congrArg (mdArr m c) (funext fun a => Fin.ext ?_)
  rw [Pipeline.Window.rect_emb_val win0_2 t, index2]
  match a with
  | ⟨0, _⟩ => show 0 * 8 + r.val = r.val; omega
  | ⟨1, _⟩ => rfl

theorem iblk3_apply (c : Dev nD) (t : Fin cfg0.N) (r : Fin 8) (k : Fin 2048) :
    (iblk m c 3 t : S8x2048.Idx → EReal) (ix2 r k) = mdArr m c (ix2 r (⟨5 * 2048 + k.val, by have := k.isLt; omega⟩ : Fin 12288)) := by
  show V m c main_arg1 ((win0_3.rect t).emb (ix2 r k)) = _
  rw [V_main_arg1]
  refine congrArg (mdArr m c) (funext fun a => Fin.ext ?_)
  rw [Pipeline.Window.rect_emb_val win0_3 t, index3]
  match a with
  | ⟨0, _⟩ => show 0 * 8 + r.val = r.val; omega
  | ⟨1, _⟩ => rfl

theorem iblk4_apply (c : Dev nD) (t : Fin cfg0.N) (k : Fin 2048) :
    (iblk m c 4 t : S1x2048.Idx → EReal) (ix2 0 k) = lwArr m c (ix1 k) := by
  refine Eq.trans ?_ (V_lw m c k)
  show V m c main_v2 ((win0_4.rect t).emb (ix2 0 k)) = _
  refine congrArg (V m c main_v2) (funext fun a => Fin.ext ?_)
  rw [Pipeline.Window.rect_emb_val win0_4 t, index4]
  match a with
  | ⟨0, _⟩ => rfl
  | ⟨1, _⟩ => show 0 * 2048 + k.val = k.val; omega

theorem iblk5_apply (c : Dev nD) (t : Fin cfg0.N) (k : Fin 2048) :
    (iblk m c 5 t : S1x2048.Idx → EReal) (ix2 0 k) = lbArr m c (ix1 k) := by
  refine Eq.trans ?_ (V_lb m c k)
  show V m c main_v3 ((win0_5.rect t).emb (ix2 0 k)) = _
  refine congrArg (V m c main_v3) (funext fun a => Fin.ext ?_)
  rw [Pipeline.Window.rect_emb_val win0_5 t, index5]
  match a with
  | ⟨0, _⟩ => rfl
  | ⟨1, _⟩ => show 0 * 2048 + k.val = k.val; omega

/-- The hidden columns at hand of the two halves of the first weight, and the matching rows of the second. -/
theorem iblk6_apply (c : Dev nD) (t : Fin cfg0.N) (e : Fin 2048) (k : Fin 512) :
    (iblk m c 6 t : S2048x512.Idx → EReal) (ix2 e k)
      = w1Arr m c (ix2 e (⟨t.val % 11 * 512 + k.val, by have := k.isLt; omega⟩ : Fin 11264)) := by
  show V m c main_v0 ((win0_6.rect t).emb (ix2 e k)) = _
  refine (congrFun (V_w1 m c) _).trans ?_
  refine congrArg (w1Arr m c) (funext fun a => Fin.ext ?_)
  rw [Pipeline.Window.rect_emb_val win0_6 t, index6]
  match a with
  | ⟨0, _⟩ => show 0 * 2048 + e.val = e.val; omega
  | ⟨1, _⟩ => rfl

theorem iblk7_apply (c : Dev nD) (t : Fin cfg0.N) (e : Fin 2048) (k : Fin 512) :
    (iblk m c 7 t : S2048x512.Idx → EReal) (ix2 e k)
      = w1Arr m c (ix2 e (⟨5632 + (t.val % 11 * 512 + k.val), by have := k.isLt; omega⟩ : Fin 11264)) := by
  show V m c main_v0 ((win0_7.rect t).emb (ix2 e k)) = _
  refine (congrFun (V_w1 m c) _).trans ?_
  refine congrArg (w1Arr m c) (funext fun a => Fin.ext ?_)
  rw [Pipeline.Window.rect_emb_val win0_7 t, index7]
  match a with
  | ⟨0, _⟩ => show 0 * 2048 + e.val = e.val; omega
  | ⟨1, _⟩ => show (11 + t.val % 11) * 512 + k.val = 5632 + (t.val % 11 * 512 + k.val); omega

theorem iblk8_apply (c : Dev nD) (t : Fin cfg0.N) (k : Fin 512) (e : Fin 2048) :
    (iblk m c 8 t : S512x2048.Idx → EReal) (ix2 k e)
      = w2Arr m c (ix2 (⟨t.val % 11 * 512 + k.val, by have := k.isLt; omega⟩ : Fin 5632) e) := by
  show V m c main_v1 ((win0_8.rect t).emb (ix2 k e)) = _
  refine (congrFun (V_w2 m c) _).trans ?_
  refine congrArg (w2Arr m c) (funext fun a => Fin.ext ?_)
  rw [Pipeline.Window.rect_emb_val win0_8 t, index8]
  match a with
  | ⟨0, _⟩ => rfl
  | ⟨1, _⟩ => show 0 * 2048 + e.val = e.val; omega

/-- The modulated rows of the tile at hand. -/
def hRows (c : Dev nD) (t : Fin cfg0.N) : Vec Ideal S768x2048 .bf16 := fun y => h (xsArr m c) (mdArr m c) (rowOf t (y 0)) (y 1)

theorem hTile_eq (c : Dev nD) (t : Fin cfg0.N) (y : S768x2048.Idx) :
    hTile (grid0.coords t) (iblk m c 0 t) (iblk m c 1 t) (iblk m c 2 t) y = hRows m c t y := by
  obtain ⟨r, k, rfl⟩ : ∃ (r : Fin 768) (k : Fin 2048), y = ix2 r k := ⟨y 0, y 1, eq_ix2 y⟩
  refine congrArg₂ (· + ·) (congrArg₂ (· * ·) (iblk0_apply m c t r k) (congrArg (fun u => one + u) ?_)) ?_
  · refine (iblk2_apply m c t _ k).trans ?_
    show _ = mdArr m c (ix2 (modRow (rowOf t r)) _)
    rw [← pick_eq]
  · refine (iblk1_apply m c t _ k).trans ?_
    show _ = mdArr m c (ix2 (modRow (rowOf t r)) _)
    rw [← pick_eq]

/-- What a point adds is the next 512 terms of the second projection. -/
theorem step_eq (c : Dev nD) (t : Fin cfg0.N) (r : Fin 768) (e : Fin 2048) :
    step (hRows m c t) (iblk m c 6 t) (iblk m c 7 t) (iblk m c 8 t) (ix2 r e)
      = ∑ k : Fin 512, term (xsArr m c) (mdArr m c) (w1Arr m c) (w2Arr m c) (rowOf t r) e (512 * (t.val % 11) + k.val) := by
  have ht := t_lt t
  refine Finset.sum_congr rfl fun k _ => ?_
  have hk := k.isLt
  have hf : 512 * (t.val % 11) + k.val < 5632 := by omega
  unfold term
  rw [dif_pos hf]
  have e1 : (⟨t.val % 11 * 512 + k.val, by omega⟩ : Fin 5632) = ⟨512 * (t.val % 11) + k.val, hf⟩ := Fin.ext (by show _ = _; dsimp only; omega)
  refine congrArg₂ (· * ·) ?_ ((iblk8_apply m c t k e).trans (congrArg (fun f => w2Arr m c (ix2 f e)) e1))
  have ha : (∑ d : Fin 2048, hRows m c t (ix2 r d) * (iblk m c 6 t : S2048x512.Idx → EReal) (ix2 d k))
      = up (xsArr m c) (mdArr m c) (w1Arr m c) (rowOf t r) ⟨512 * (t.val % 11) + k.val, by omega⟩ := by
    refine Finset.sum_congr rfl fun d _ => congrArg₂ (· * ·) rfl ((iblk6_apply m c t d k).trans ?_)
    exact congrArg (fun f => w1Arr m c (ix2 d f)) (Fin.ext (by show t.val % 11 * 512 + k.val = 512 * (t.val % 11) + k.val; omega))
  have hb : (∑ d : Fin 2048, hRows m c t (ix2 r d) * (iblk m c 7 t : S2048x512.Idx → EReal) (ix2 d k))
      = up (xsArr m c) (mdArr m c) (w1Arr m c) (rowOf t r) ⟨5632 + (512 * (t.val % 11) + k.val), by omega⟩ := by
    refine Finset.sum_congr rfl fun d _ => congrArg₂ (· * ·) rfl ((iblk7_apply m c t d k).trans ?_)
    exact congrArg (fun f => w1Arr m c (ix2 d f)) (Fin.ext (by show 5632 + (t.val % 11 * 512 + k.val) = 5632 + (512 * (t.val % 11) + k.val); omega))
  unfold Tile.hidden act
  exact congrArg₂ (· * ·) (congrArg (fun u => u * Ideal.logistic u) ha) hb

/-- The accumulator of the tile at hand after `n` hidden columns. -/
def sumRows (c : Dev nD) (t : Fin cfg0.N) (n : ℕ) : Vec Ideal S768x2048 .f32 :=
  fun y => partialDown (xsArr m c) (mdArr m c) (w1Arr m c) (w2Arr m c) n (rowOf t (y 0)) (y 1)

theorem sumRows_step (c : Dev nD) (t : Fin cfg0.N) (y : S768x2048.Idx) :
    sumRows m c t (512 * (t.val % 11)) y + step (hRows m c t) (iblk m c 6 t) (iblk m c 7 t) (iblk m c 8 t) y
      = sumRows m c t (512 * (t.val % 11 + 1)) y := by
  obtain ⟨r, e, rfl⟩ : ∃ (r : Fin 768) (e : Fin 2048), y = ix2 r e := ⟨y 0, y 1, eq_ix2 y⟩
  rw [step_eq]
  exact (partialDown_add _ _ _ _ _ _ _).symm

/-- The rows at hand, and the gates, as arrays of extended reals. -/
abbrev blk0 (c : Dev nD) (t : Fin cfg0.N) : S768x2048.Idx → EReal := iblk m c 0 t
abbrev blk3 (c : Dev nD) (t : Fin cfg0.N) : S8x2048.Idx → EReal := iblk m c 3 t

/-- The result rows of the tile at hand. -/
theorem post_eq (c : Dev nD) (t : Fin cfg0.N) (y : S768x2048.Idx) :
    post (grid0.coords t) (iblk m c 0 t) (iblk m c 3 t) (iblk m c 4 t) (iblk m c 5 t) (sumRows m c t 5632) y
      = out (xsArr m c) (mdArr m c) (w1Arr m c) (w2Arr m c) (lwArr m c) (lbArr m c) (ix2 (rowOf t (y 0)) (y 1)) := by
  obtain ⟨r, e, rfl⟩ : ∃ (r : Fin 768) (e : Fin 2048), y = ix2 r e := ⟨y 0, y 1, eq_ix2 y⟩
  have hz : (fun k : Fin 2048 => alpha * blk0 m c t (ix2 r k) + blk3 m c t (ix2 (pick (grid0.coords t) r) k) * sumRows m c t 5632 (ix2 r k))
      = fun k => alpha * xsArr m c (ix2 (rowOf t r) k) + part (mdArr m c) 5 (by norm_num) (rowOf t r) k
          * down (xsArr m c) (mdArr m c) (w1Arr m c) (w2Arr m c) (rowOf t r) k := by
    funext k
    refine congrArg₂ (· + ·) (congrArg (fun u => alpha * u) (iblk0_apply m c t r k)) (congrArg₂ (· * ·) ?_ ?_)
    · refine (iblk3_apply m c t _ k).trans ?_
      unfold part
      rw [pick_eq]
    · exact partialDown_all _ _ _ _ _ _
  have h4 : (fun k : Fin 2048 => (iblk m c 4 t : S1x2048.Idx → EReal) (ix2 0 k)) = fun k => lwArr m c (ix1 k) :=
    funext fun k => iblk4_apply m c t k
  have h5 : (fun k : Fin 2048 => (iblk m c 5 t : S1x2048.Idx → EReal) (ix2 0 k)) = fun k => lbArr m c (ix1 k) :=
    funext fun k => iblk5_apply m c t k
  show normRow _ _ _ e = normRow _ _ _ e
  rw [hz, h4, h5]

/-- What the first point of a tile leaves. -/
theorem point_A (c : Dev nD) (t : Fin cfg0.N) (h0 : t.val % 11 = 0) (h1 : ¬t.val % 11 = 10) :
    outsAt0 m c t.val t.isLt
      = (step (hTile (grid0.coords t) (iblk m c 0 t) (iblk m c 1 t) (iblk m c 2 t)) (iblk m c 6 t) (iblk m c 7 t) (iblk m c 8 t),
          hTile (grid0.coords t) (iblk m c 0 t) (iblk m c 1 t) (iblk m c 2 t)) :=
  (outsAt0_A m c t h0 h1).trans (congrArg₂ Prod.mk
    (funext (Block.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => h1 ((hcond0_1 t).mp h))))
    (funext (Block.sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => h1 ((hcond0_1 t).mp h)))))

/-- What a middle point of a tile leaves. -/
theorem point_B (c : Dev nD) (t : Fin cfg0.N) (acc : Vec Ideal S768x2048 .f32 × Vec Ideal S768x2048 .bf16) (h0 : ¬t.val % 11 = 0) (h1 : ¬t.val % 11 = 10) :
    Value.stAt0 m c t.val t.isLt acc = (fun y => acc.1 y + step acc.2 (iblk m c 6 t) (iblk m c 7 t) (iblk m c 8 t) y, acc.2) :=
  (Value.stAt0_B m c t acc h0 h1).trans (congrArg₂ Prod.mk
    (funext (Block.out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) acc.1 acc.2 (fun h => h0 ((hcond0_0 t).mp h)) (fun h => h1 ((hcond0_1 t).mp h)))) rfl)

/-- What the last point of a tile leaves. -/
theorem point_C (c : Dev nD) (t : Fin cfg0.N) (acc : Vec Ideal S768x2048 .f32 × Vec Ideal S768x2048 .bf16) (h0 : ¬t.val % 11 = 0) (h1 : t.val % 11 = 10) :
    Value.stAt0 m c t.val t.isLt acc = (post (grid0.coords t) (iblk m c 0 t) (iblk m c 3 t) (iblk m c 4 t) (iblk m c 5 t)
      (fun y => acc.1 y + step acc.2 (iblk m c 6 t) (iblk m c 7 t) (iblk m c 8 t) y), acc.2) :=
  (Value.stAt0_C m c t acc h0 h1).trans (congrArg₂ Prod.mk
    (funext (Block.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) acc.1 acc.2 (fun h => h0 ((hcond0_0 t).mp h)) ((hcond0_1 t).mpr h1))) rfl)

/-- Points of one tile have the same rows. -/
theorem rowOf_succ (n : ℕ) (hn : n + 1 < cfg0.N) (h : (n + 1) % 11 ≠ 0) (r : Fin 768) :
    rowOf ⟨n, Nat.lt_of_succ_lt hn⟩ r = rowOf ⟨n + 1, hn⟩ r :=
  Fin.ext (by show n / 11 * 768 + r.val = (n + 1) / 11 * 768 + r.val; omega)

theorem sumRows_succ (c : Dev nD) (n : ℕ) (hn : n + 1 < cfg0.N) (h : (n + 1) % 11 ≠ 0) (y : S768x2048.Idx) :
    sumRows m c ⟨n, Nat.lt_of_succ_lt hn⟩ (512 * (n % 11 + 1)) y = sumRows m c ⟨n + 1, hn⟩ (512 * ((n + 1) % 11)) y :=
  congrArg₂ (fun N r => partialDown (xsArr m c) (mdArr m c) (w1Arr m c) (w2Arr m c) N r (y 1))
    (show 512 * (n % 11 + 1) = 512 * ((n + 1) % 11) by omega) (rowOf_succ n hn h (y 0))

/-- Before the last point of a tile the accumulator holds the terms so far, and the kept rows are the modulated ones. -/
theorem outs_eq (c : Dev nD) : ∀ (n : ℕ) (hn : n < cfg0.N), n % 11 ≠ 10 →
    outsAt0 m c n hn = (sumRows m c ⟨n, hn⟩ (512 * (n % 11 + 1)), hRows m c ⟨n, hn⟩) := by
  have hA : ∀ t : Fin cfg0.N, t.val % 11 = 0 → outsAt0 m c t.val t.isLt = (sumRows m c t (512 * (t.val % 11 + 1)), hRows m c t) := by
    intro t h0
    rw [point_A m c t h0 (by omega)]
    have hh : hTile (grid0.coords t) (iblk m c 0 t) (iblk m c 1 t) (iblk m c 2 t) = hRows m c t := funext (hTile_eq m c t)
    refine Prod.ext (funext fun y => ?_) (funext fun y => ?_)
    · rw [hh]
      refine Eq.trans ?_ (sumRows_step m c t y)
      have hz : sumRows m c t (512 * (t.val % 11)) y = 0 := by rw [h0]; rfl
      rw [hz, zero_add]
    · exact congrFun hh y
  intro n
  induction n with
  | zero => intro hn _; exact hA ⟨0, hn⟩ rfl
  | succ n ih =>
    intro hn h10
    by_cases h0 : (n + 1) % 11 = 0
    · exact hA ⟨n + 1, hn⟩ h0
    · have ih' := ih (Nat.lt_of_succ_lt hn) (by omega)
      rw [Value.outsAt0_succ, ih']
      refine (point_B m c ⟨n + 1, hn⟩ _ h0 h10).trans ?_
      have hr : hRows m c ⟨n, Nat.lt_of_succ_lt hn⟩ = hRows m c ⟨n + 1, hn⟩ :=
        funext fun y => congrArg (fun r => h (xsArr m c) (mdArr m c) r (y 1)) (rowOf_succ n hn h0 (y 0))
      refine Prod.ext (funext fun y => ?_) hr
      dsimp only
      rw [hr]
      refine Eq.trans (congrArg (fun u => u + _) ?_) (sumRows_step m c ⟨n + 1, hn⟩ y)
      exact sumRows_succ m c n hn h0 y

/-- The block the last point of a tile leaves. -/
theorem last_eq (c : Dev nD) (n : ℕ) (hn : n + 1 < cfg0.N) (h10 : (n + 1) % 11 = 10) (y : S768x2048.Idx) :
    (outsAt0 m c (n + 1) hn).1 y
      = out (xsArr m c) (mdArr m c) (w1Arr m c) (w2Arr m c) (lwArr m c) (lbArr m c) (ix2 (rowOf ⟨n + 1, hn⟩ (y 0)) (y 1)) := by
  have h0 : (n + 1) % 11 ≠ 0 := by omega
  rw [Value.outsAt0_succ, outs_eq m c n (Nat.lt_of_succ_lt hn) (by omega)]
  refine (congrFun (congrArg Prod.fst (point_C m c ⟨n + 1, hn⟩ _ h0 h10)) y).trans ?_
  dsimp only
  have hr : hRows m c ⟨n, Nat.lt_of_succ_lt hn⟩ = hRows m c ⟨n + 1, hn⟩ :=
    funext fun y => congrArg (fun r => h (xsArr m c) (mdArr m c) r (y 1)) (rowOf_succ n hn h0 (y 0))
  rw [hr]
  refine Eq.trans (congrArg (fun A => post _ _ _ _ _ A y) (funext fun z => ?_)) (post_eq m c ⟨n + 1, hn⟩ y)
  have hs := sumRows_step m c ⟨n + 1, hn⟩ z
  rw [show 512 * ((⟨n + 1, hn⟩ : Fin cfg0.N).val % 11 + 1) = 5632 from by show 512 * ((n + 1) % 11 + 1) = 5632; omega] at hs
  refine Eq.trans (congrArg (fun u => u + _) ?_) hs
  exact sumRows_succ m c n hn h0 z

/-- The whole result of the kernel. -/
def result (c : Dev nD) : Buf (Elt Ideal) ((c : Thread nD τ).loc main_v4) :=
  (out (xsArr m c) (mdArr m c) (w1Arr m c) (w2Arr m c) (lwArr m c) (lbArr m c) : S9216x2048.Idx → EReal)

theorem G_eq (c : Dev nD) : Value.G9 m c = result m c := by
  funext i
  obtain ⟨r, e, rfl⟩ : ∃ (r : Fin 9216) (e : Fin 2048), i = ix2 r e := ⟨i 0, i 1, eq_ix2 i⟩
  have hr := r.isLt
  have he := e.isLt
  have hp : Value.pt9Of (ix2 r e) = 11 * (r.val / 768) + 9 + 1 := by
    show 11 * (1 * (r.val / 768 - 0) + 1 * (e.val / 2048 - 0)) + 10 = _
    omega
  have hN : Value.pt9Of (ix2 r e) < cfg0.N := by
    rw [hp]; exact lt_of_lt_of_eq (by omega) (show cfg0.N = 132 from N_0).symm
  unfold Value.G9
  rw [dif_pos hN]
  refine (congrFun (congrArg Prod.fst (Value.outsAt0_sweep m c (Value.pt9Of (ix2 r e)) hN).symm) _).trans ?_
  have key : ∀ (n : ℕ) (h : n < cfg0.N), n = 11 * (r.val / 768) + 9 + 1 →
      (outsAt0 m c n h).1 (Value.loc9Of (ix2 r e)) = result m c (ix2 r e) := by
    intro n h hn
    subst hn
    refine (last_eq m c _ h (by omega) _).trans (congrArg (out _ _ _ _ _ _) ?_)
    refine IdxExt.ext2 ?_ ?_
    · show (11 * (r.val / 768) + 9 + 1) / 11 * 768 + r.val % 768 = r.val; omega
    · show e.val % 2048 = e.val; omega
  exact key _ hN hp

/-- The kernel ends with the result, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun _ h c => ⟨((h c).1).trans (G_eq m c), (h c).2⟩) (Value.run (F := Ideal) m ρ)

end Cert.FfnIdeal.Array

end
-- ==== Proof.RefRows.lean ====
/-
  What the two halves of the reference feed-forward share: the row numbers, the modulation row of each, and the gate.
-/
module

public import proofs.«01_k».proof.Proof.FfnSpec
public import proofs.«01_k».proof.Proof.IdxExt
public import proofs.«01_k».proof.Proof.Gen.FfnRefIdeal.Read

@[expose] public section

set_option maxRecDepth 16384

noncomputable section

namespace Cert.RefRows

open Idealize.ShloMosaic Idealize.ShloMosaic.ValueIdx
open Cert.Rows Cert.FfnSpec

/-- The row of the array that is the `q`-th after the context rows of sequence `b`. -/
def restRow (b : Fin 4) (q : Fin 2048) : Fin 9216 := ⟨b.val * 2304 + (256 + q.val), by omega⟩

/-- The row of the array that is the `q`-th context row of sequence `b`. -/
def ctxRow (b : Fin 4) (q : Fin 256) : Fin 9216 := ⟨b.val * 2304 + q.val, by omega⟩

theorem modRow_rest (b : Fin 4) (q : Fin 2048) : (modRow (restRow b q)).val = b.val := by
  unfold modRow restRow
  dsimp only
  rw [if_neg (by omega)]
  show (b.val * 2304 + (256 + q.val)) / 2304 = b.val
  omega

theorem modRow_ctx (b : Fin 4) (q : Fin 256) : (modRow (ctxRow b q)).val = 4 := by
  unfold modRow ctxRow
  dsimp only
  rw [if_pos (by omega)]
  rfl

/-- The literal one is the number one. -/
theorem one_eq : (one : EReal) = 1 := by
  unfold one
  simp [Ideal.ofBits_def, Ideal.ofBits, Ideal.ieee]
  rw [← EReal.coe_mul]
  norm_num

/-- The gate written out is the logistic function. -/
theorem gated_eq (a b : EReal) :
    a * Ideal.div one (one + Ideal.exp (-a)) * b = a * Ideal.logistic a * b := by
  rw [one_eq]; rfl

end Cert.RefRows

end
-- ==== Proof.FfnRefRest.lean ====
/-
  The reference feed-forward on the rows after the context rows, entry by entry.
-/
module

public import proofs.«01_k».proof.Proof.RefRows

@[expose] public section

set_option maxRecDepth 16384

noncomputable section

namespace Cert.FfnRefIdeal.Rest

open Idealize.ShloMosaic Idealize.ShloMosaic.TcCoe Idealize.ShloMosaic.ValueIdx
open Idealize.SL Idealize.SL.Sem
open Cert.Rows Cert.FfnSpec Cert.IdxExt Cert.FfnRefIdeal Cert.FfnRefIdeal.Gen Cert.FfnRefIdeal.Read Cert.RefRows
open scoped BigOperators

variable (x0 : (⟨S9216x2048, .f32⟩ : BufTy).Contents (Elt Ideal)) (x1 : (⟨S8x12288, .f32⟩ : BufTy).Contents (Elt Ideal))
  (x2 : (⟨S2048x11264, .f32⟩ : BufTy).Contents (Elt Ideal)) (x3 : (⟨S5632x2048, .f32⟩ : BufTy).Contents (Elt Ideal))
  (x4 x5 : (⟨S2048, .f32⟩ : BufTy).Contents (Elt Ideal))

theorem x_at (b : Fin 4) (q : Fin 2048) (k : Fin 2048) : val_main_v2 (F := Ideal) x0 (ix3 b q k) = x0 (ix2 (restRow b q) k) := by
  rw [val_main_v2_apply, val_main_v0_apply]
  refine congrArg x0 (ext2 ?_ ?_)
  · show ((b.val * 2304 + (256 + q.val)) * 2048 + k.val) / 2048 = b.val * 2304 + (256 + q.val)
    omega
  · show ((b.val * 2304 + (256 + q.val)) * 2048 + k.val) % 2048 = k.val
    omega

theorem shift_at (b : Fin 4) (q : Fin 2048) (k : Fin 2048) : val_main_v8 (F := Ideal) x1 (ix3 b 0 k) = part x1 3 (by norm_num) (restRow b q) k := by
  rw [val_main_v8_apply, val_main_v4_apply, val_main_v3_apply]
  exact congrArg x1 (ext2 (modRow_rest b q).symm (by show 6144 + k.val = 3 * 2048 + k.val; omega))

theorem scale_at (b : Fin 4) (q : Fin 2048) (k : Fin 2048) : val_main_v9 (F := Ideal) x1 (ix3 b 0 k) = part x1 4 (by norm_num) (restRow b q) k := by
  rw [val_main_v9_apply, val_main_v4_apply, val_main_v3_apply]
  exact congrArg x1 (ext2 (modRow_rest b q).symm (by show 8192 + k.val = 4 * 2048 + k.val; omega))

theorem gate_at (b : Fin 4) (q : Fin 2048) (k : Fin 2048) : val_main_v10 (F := Ideal) x1 (ix3 b 0 k) = part x1 5 (by norm_num) (restRow b q) k := by
  rw [val_main_v10_apply, val_main_v4_apply, val_main_v3_apply]
  exact congrArg x1 (ext2 (modRow_rest b q).symm (by show 10240 + k.val = 5 * 2048 + k.val; omega))

/-- The modulated rows. -/
theorem h_at (b : Fin 4) (q : Fin 2048) (k : Fin 2048) : val_main_v24 (F := Ideal) x0 x1 (ix3 b q k) = h x0 x1 (restRow b q) k := by
  rw [val_main_v24_apply, val_main_v22_apply, x_at, val_main_v21_apply, val_main_v20_apply, val_main_v19_apply, val_main_cst_apply, show idx_main_v21 (ix3 b q k) = ix3 b 0 k from ext3 rfl rfl rfl, scale_at x1 b q k,
    val_main_v23_apply, show idx_main_v23 (ix3 b q k) = ix3 b 0 k from ext3 rfl rfl rfl, shift_at x1 b q k]
  rfl

/-- The first projection. -/
theorem up_at (b : Fin 4) (q : Fin 2048) (f : Fin 11264) : val_main_v25 (F := Ideal) x0 x1 x2 (ix3 b q f) = up x0 x1 x2 (restRow b q) f := by
  rw [val_main_v25_apply]
  refine Finset.sum_congr rfl fun e _ => ?_
  rw [show lidx_main_v25 (ix3 b q f) e = ix3 b q e from ext3 rfl rfl rfl, h_at,
    show ridx_main_v25 (ix3 b q f) e = ix2 e f from ext2 rfl rfl]

/-- The part of the first projection that is put through the sigmoid. -/
theorem left_at (b : Fin 4) (q : Fin 2048) (f : Fin 5632) :
    val_main_v26 (F := Ideal) x0 x1 x2 (ix3 b q f) = up x0 x1 x2 (restRow b q) ⟨f.val, by have := f.isLt; omega⟩ := by
  rw [val_main_v26_apply, show idx_main_v26 (ix3 b q f) = ix3 b q (⟨f.val, by have := f.isLt; omega⟩ : Fin 11264) from ext3 rfl rfl rfl, up_at]

/-- The part of the first projection it is multiplied with. -/
theorem right_at (b : Fin 4) (q : Fin 2048) (f : Fin 5632) :
    val_main_v27 (F := Ideal) x0 x1 x2 (ix3 b q f) = up x0 x1 x2 (restRow b q) ⟨5632 + f.val, by have := f.isLt; omega⟩ := by
  rw [val_main_v27_apply, show idx_main_v27 (ix3 b q f) = ix3 b q (⟨5632 + f.val, by have := f.isLt; omega⟩ : Fin 11264) from ext3 rfl rfl rfl, up_at]

/-- The hidden values. -/
theorem act_at (b : Fin 4) (q : Fin 2048) (f : Fin 5632) :
    val_main_v29 (F := Ideal) x0 x1 x2 (ix3 b q f) = act x0 x1 x2 (restRow b q) f := by
  rw [val_main_v29_apply, val_main_v28_apply, right_at, val_main_call0_v5_apply, val_main_call0_v4_apply, val_main_call0_v3_apply, val_main_call0_v2_apply,
    val_main_call0_v1_apply, val_main_call0_v0_apply, left_at, val_main_call0_cst_apply, val_main_call0_cst_0_apply]
  exact gated_eq _ _

/-- The second projection. -/
theorem down_at (b : Fin 4) (q : Fin 2048) (k : Fin 2048) :
    val_main_v30 (F := Ideal) x0 x1 x2 x3 (ix3 b q k) = down x0 x1 x2 x3 (restRow b q) k := by
  rw [val_main_v30_apply]
  refine Finset.sum_congr rfl fun e _ => ?_
  rw [show lidx_main_v30 (ix3 b q k) e = ix3 b q e from ext3 rfl rfl rfl, act_at,
    show ridx_main_v30 (ix3 b q k) e = ix2 e k from ext2 rfl rfl]

/-- The weighted input plus the gated sublayer. -/
def z (b : Fin 4) (q : Fin 2048) (k : Fin 2048) : EReal :=
  alpha * x0 (ix2 (restRow b q) k) + part x1 5 (by norm_num) (restRow b q) k * down x0 x1 x2 x3 (restRow b q) k

theorem z_at (b : Fin 4) (q : Fin 2048) (k : Fin 2048) : val_main_v35 (F := Ideal) x0 x1 x2 x3 (ix3 b q k) = z x0 x1 x2 x3 b q k := by
  rw [val_main_v35_apply, val_main_v34_apply, val_main_v33_apply, val_main_cst_0_apply, x_at, val_main_v32_apply, down_at,
    val_main_v31_apply, show idx_main_v31 (ix3 b q k) = ix3 b 0 k from ext3 rfl rfl rfl, gate_at x1 b q k]
  rfl

/-- The row means. -/
theorem mean_at (b : Fin 4) (q : Fin 2048) :
    val_main_v39 (F := Ideal) x0 x1 x2 x3 (ix3 b q 0) = Ideal.div (∑ k, z x0 x1 x2 x3 b q k) len := by
  rw [val_main_v39_apply, val_main_v38_apply, val_main_cst_2_apply, val_main_v37_apply, val_main_v36_apply, val_main_cst_1_apply]
  refine congrArg (fun s => Ideal.div s len) ((congrArg₂ (· + ·) Ideal.ofBits_zero_f32 (Finset.sum_congr rfl fun k _ => ?_)).trans (zero_add _))
  rw [show idx_main_v36 (idx_main_v37 (ix3 b q 0)) k = ix3 b q k from ext3 rfl rfl rfl, z_at]

/-- The rows with their means taken off. -/
theorem centred_at (b : Fin 4) (q : Fin 2048) (k : Fin 2048) :
    val_main_v41 (F := Ideal) x0 x1 x2 x3 (ix3 b q k) = centred (z x0 x1 x2 x3 b q) k := by
  rw [val_main_v41_apply, z_at, val_main_v40_apply, show idx_main_v40 (ix3 b q k) = ix3 b q 0 from ext3 rfl rfl rfl, mean_at]
  rfl

theorem centred_again (b : Fin 4) (q : Fin 2048) (k : Fin 2048) :
    val_main_v48 (F := Ideal) x0 x1 x2 x3 (ix3 b q k) = centred (z x0 x1 x2 x3 b q) k := by
  rw [val_main_v48_apply, z_at, val_main_v47_apply, show idx_main_v47 (ix3 b q k) = ix3 b q 0 from ext3 rfl rfl rfl, mean_at]
  rfl

/-- The row variances. -/
theorem var_at (b : Fin 4) (q : Fin 2048) :
    val_main_v46 (F := Ideal) x0 x1 x2 x3 (ix3 b q 0)
      = Ideal.div (∑ k, centred (z x0 x1 x2 x3 b q) k * centred (z x0 x1 x2 x3 b q) k) len := by
  rw [val_main_v46_apply, val_main_v45_apply, val_main_cst_4_apply, val_main_v44_apply, val_main_v43_apply, val_main_cst_3_apply]
  refine congrArg (fun s => Ideal.div s len) ((congrArg₂ (· + ·) Ideal.ofBits_zero_f32 (Finset.sum_congr rfl fun k _ => ?_)).trans (zero_add _))
  rw [show idx_main_v43 (idx_main_v44 (ix3 b q 0)) k = ix3 b q k from ext3 rfl rfl rfl, val_main_v42_apply, centred_at]
  rfl

theorem vector_at (y : (⟨S2048, .f32⟩ : BufTy).Contents (Elt Ideal)) (b : Fin 4) (q : Fin 2048) (k : Fin 2048) :
    val_main_v55 (F := Ideal) y (ix3 b q k) = y (ix1 k) := by
  rw [val_main_v55_apply, val_main_v54_apply]
  exact congrArg y (funext fun a => by match a with | ⟨0, _⟩ => rfl)

theorem vector_at' (y : (⟨S2048, .f32⟩ : BufTy).Contents (Elt Ideal)) (b : Fin 4) (q : Fin 2048) (k : Fin 2048) :
    val_main_v58 (F := Ideal) y (ix3 b q k) = y (ix1 k) := by
  rw [val_main_v58_apply, val_main_v57_apply]
  exact congrArg y (funext fun a => by match a with | ⟨0, _⟩ => rfl)

/-- The normalized rows. -/
theorem out_at (b : Fin 4) (q : Fin 2048) (k : Fin 2048) :
    val_main_v59 (F := Ideal) x0 x1 x2 x3 x4 x5 (ix3 b q k) = out x0 x1 x2 x3 x4 x5 (ix2 (restRow b q) k) := by
  rw [val_main_v59_apply, val_main_v56_apply, vector_at, vector_at', val_main_v53_apply, centred_again, val_main_v52_apply, show idx_main_v52 (ix3 b q k) = ix3 b q 0 from ext3 rfl rfl rfl,
    val_main_v51_apply, val_main_v50_apply, val_main_v49_apply, val_main_cst_5_apply, var_at]
  rfl

end Cert.FfnRefIdeal.Rest

end
-- ==== Proof.FfnRefCtx.lean ====
/-
  The reference feed-forward on the context rows, entry by entry.
-/
module

public import proofs.«01_k».proof.Proof.RefRows

@[expose] public section

set_option maxRecDepth 16384

noncomputable section

namespace Cert.FfnRefIdeal.Ctx

open Idealize.ShloMosaic Idealize.ShloMosaic.TcCoe Idealize.ShloMosaic.ValueIdx
open Idealize.SL Idealize.SL.Sem
open Cert.Rows Cert.FfnSpec Cert.IdxExt Cert.FfnRefIdeal Cert.FfnRefIdeal.Gen Cert.FfnRefIdeal.Read Cert.RefRows
open scoped BigOperators

variable (x0 : (⟨S9216x2048, .f32⟩ : BufTy).Contents (Elt Ideal)) (x1 : (⟨S8x12288, .f32⟩ : BufTy).Contents (Elt Ideal))
  (x2 : (⟨S2048x11264, .f32⟩ : BufTy).Contents (Elt Ideal)) (x3 : (⟨S5632x2048, .f32⟩ : BufTy).Contents (Elt Ideal))
  (x4 x5 : (⟨S2048, .f32⟩ : BufTy).Contents (Elt Ideal))

theorem x_at (b : Fin 4) (q : Fin 256) (k : Fin 2048) : val_main_v1 (F := Ideal) x0 (ix3 b q k) = x0 (ix2 (ctxRow b q) k) := by
  rw [val_main_v1_apply, val_main_v0_apply]
  refine congrArg x0 (ext2 ?_ ?_)
  · show ((b.val * 2304 + q.val) * 2048 + k.val) / 2048 = b.val * 2304 + q.val
    omega
  · show ((b.val * 2304 + q.val) * 2048 + k.val) % 2048 = k.val
    omega

theorem shift_at (b : Fin 4) (q : Fin 256) (k : Fin 2048) : val_main_v16 (F := Ideal) x1 (ix1 k) = part x1 3 (by norm_num) (ctxRow b q) k := by
  rw [val_main_v16_apply, val_main_v12_apply, val_main_v11_apply]
  exact congrArg x1 (ext2 (modRow_ctx b q).symm (by show (6144 + k.val) % 12288 = 3 * 2048 + k.val; omega))

theorem scale_at (b : Fin 4) (q : Fin 256) (k : Fin 2048) : val_main_v17 (F := Ideal) x1 (ix1 k) = part x1 4 (by norm_num) (ctxRow b q) k := by
  rw [val_main_v17_apply, val_main_v12_apply, val_main_v11_apply]
  exact congrArg x1 (ext2 (modRow_ctx b q).symm (by show (8192 + k.val) % 12288 = 4 * 2048 + k.val; omega))

theorem gate_at (b : Fin 4) (q : Fin 256) (k : Fin 2048) : val_main_v18 (F := Ideal) x1 (ix1 k) = part x1 5 (by norm_num) (ctxRow b q) k := by
  rw [val_main_v18_apply, val_main_v12_apply, val_main_v11_apply]
  exact congrArg x1 (ext2 (modRow_ctx b q).symm (by show (10240 + k.val) % 12288 = 5 * 2048 + k.val; omega))

/-- The modulated rows. -/
theorem h_at (b : Fin 4) (q : Fin 256) (k : Fin 2048) : val_main_v67 (F := Ideal) x0 x1 (ix3 b q k) = h x0 x1 (ctxRow b q) k := by
  rw [val_main_v67_apply, val_main_v64_apply, x_at, val_main_v63_apply, val_main_v62_apply, val_main_v61_apply, val_main_v60_apply, val_main_cst_6_apply, show idx_main_v62 (idx_main_v63 (ix3 b q k)) = ix1 k from funext fun a => by match a with | ⟨0, _⟩ => rfl, scale_at x1 b q k,
    val_main_v66_apply, val_main_v65_apply, show idx_main_v65 (idx_main_v66 (ix3 b q k)) = ix1 k from funext fun a => by match a with | ⟨0, _⟩ => rfl, shift_at x1 b q k]
  rfl

/-- The first projection. -/
theorem up_at (b : Fin 4) (q : Fin 256) (f : Fin 11264) : val_main_v68 (F := Ideal) x0 x1 x2 (ix3 b q f) = up x0 x1 x2 (ctxRow b q) f := by
  rw [val_main_v68_apply]
  refine Finset.sum_congr rfl fun e _ => ?_
  rw [show lidx_main_v68 (ix3 b q f) e = ix3 b q e from ext3 rfl rfl rfl, h_at,
    show ridx_main_v68 (ix3 b q f) e = ix2 e f from ext2 rfl rfl]

/-- The part of the first projection that is put through the sigmoid. -/
theorem left_at (b : Fin 4) (q : Fin 256) (f : Fin 5632) :
    val_main_v69 (F := Ideal) x0 x1 x2 (ix3 b q f) = up x0 x1 x2 (ctxRow b q) ⟨f.val, by have := f.isLt; omega⟩ := by
  rw [val_main_v69_apply, show idx_main_v69 (ix3 b q f) = ix3 b q (⟨f.val, by have := f.isLt; omega⟩ : Fin 11264) from ext3 rfl rfl rfl, up_at]

/-- The part of the first projection it is multiplied with. -/
theorem right_at (b : Fin 4) (q : Fin 256) (f : Fin 5632) :
    val_main_v70 (F := Ideal) x0 x1 x2 (ix3 b q f) = up x0 x1 x2 (ctxRow b q) ⟨5632 + f.val, by have := f.isLt; omega⟩ := by
  rw [val_main_v70_apply, show idx_main_v70 (ix3 b q f) = ix3 b q (⟨5632 + f.val, by have := f.isLt; omega⟩ : Fin 11264) from ext3 rfl rfl rfl, up_at]

/-- The hidden values. -/
theorem act_at (b : Fin 4) (q : Fin 256) (f : Fin 5632) :
    val_main_v72 (F := Ideal) x0 x1 x2 (ix3 b q f) = act x0 x1 x2 (ctxRow b q) f := by
  rw [val_main_v72_apply, val_main_v71_apply, right_at, val_main_call1_v5_apply, val_main_call1_v4_apply, val_main_call1_v3_apply, val_main_call1_v2_apply,
    val_main_call1_v1_apply, val_main_call1_v0_apply, left_at, val_main_call1_cst_apply, val_main_call1_cst_0_apply]
  exact gated_eq _ _

/-- The second projection. -/
theorem down_at (b : Fin 4) (q : Fin 256) (k : Fin 2048) :
    val_main_v73 (F := Ideal) x0 x1 x2 x3 (ix3 b q k) = down x0 x1 x2 x3 (ctxRow b q) k := by
  rw [val_main_v73_apply]
  refine Finset.sum_congr rfl fun e _ => ?_
  rw [show lidx_main_v73 (ix3 b q k) e = ix3 b q e from ext3 rfl rfl rfl, act_at,
    show ridx_main_v73 (ix3 b q k) e = ix2 e k from ext2 rfl rfl]

/-- The weighted input plus the gated sublayer. -/
def z (b : Fin 4) (q : Fin 256) (k : Fin 2048) : EReal :=
  alpha * x0 (ix2 (ctxRow b q) k) + part x1 5 (by norm_num) (ctxRow b q) k * down x0 x1 x2 x3 (ctxRow b q) k

theorem z_at (b : Fin 4) (q : Fin 256) (k : Fin 2048) : val_main_v79 (F := Ideal) x0 x1 x2 x3 (ix3 b q k) = z x0 x1 x2 x3 b q k := by
  rw [val_main_v79_apply, val_main_v78_apply, val_main_v77_apply, val_main_cst_7_apply, x_at, val_main_v76_apply, down_at,
    val_main_v75_apply, val_main_v74_apply, show idx_main_v74 (idx_main_v75 (ix3 b q k)) = ix1 k from funext fun a => by match a with | ⟨0, _⟩ => rfl, gate_at x1 b q k]
  rfl

/-- The row means. -/
theorem mean_at (b : Fin 4) (q : Fin 256) :
    val_main_v83 (F := Ideal) x0 x1 x2 x3 (ix3 b q 0) = Ideal.div (∑ k, z x0 x1 x2 x3 b q k) len := by
  rw [val_main_v83_apply, val_main_v82_apply, val_main_cst_9_apply, val_main_v81_apply, val_main_v80_apply, val_main_cst_8_apply]
  refine congrArg (fun s => Ideal.div s len) ((congrArg₂ (· + ·) Ideal.ofBits_zero_f32 (Finset.sum_congr rfl fun k _ => ?_)).trans (zero_add _))
  rw [show idx_main_v80 (idx_main_v81 (ix3 b q 0)) k = ix3 b q k from ext3 rfl rfl rfl, z_at]

/-- The rows with their means taken off. -/
theorem centred_at (b : Fin 4) (q : Fin 256) (k : Fin 2048) :
    val_main_v85 (F := Ideal) x0 x1 x2 x3 (ix3 b q k) = centred (z x0 x1 x2 x3 b q) k := by
  rw [val_main_v85_apply, z_at, val_main_v84_apply, show idx_main_v84 (ix3 b q k) = ix3 b q 0 from ext3 rfl rfl rfl, mean_at]
  rfl

theorem centred_again (b : Fin 4) (q : Fin 256) (k : Fin 2048) :
    val_main_v92 (F := Ideal) x0 x1 x2 x3 (ix3 b q k) = centred (z x0 x1 x2 x3 b q) k := by
  rw [val_main_v92_apply, z_at, val_main_v91_apply, show idx_main_v91 (ix3 b q k) = ix3 b q 0 from ext3 rfl rfl rfl, mean_at]
  rfl

/-- The row variances. -/
theorem var_at (b : Fin 4) (q : Fin 256) :
    val_main_v90 (F := Ideal) x0 x1 x2 x3 (ix3 b q 0)
      = Ideal.div (∑ k, centred (z x0 x1 x2 x3 b q) k * centred (z x0 x1 x2 x3 b q) k) len := by
  rw [val_main_v90_apply, val_main_v89_apply, val_main_cst_11_apply, val_main_v88_apply, val_main_v87_apply, val_main_cst_10_apply]
  refine congrArg (fun s => Ideal.div s len) ((congrArg₂ (· + ·) Ideal.ofBits_zero_f32 (Finset.sum_congr rfl fun k _ => ?_)).trans (zero_add _))
  rw [show idx_main_v87 (idx_main_v88 (ix3 b q 0)) k = ix3 b q k from ext3 rfl rfl rfl, val_main_v86_apply, centred_at]
  rfl

theorem vector_at (y : (⟨S2048, .f32⟩ : BufTy).Contents (Elt Ideal)) (b : Fin 4) (q : Fin 256) (k : Fin 2048) :
    val_main_v99 (F := Ideal) y (ix3 b q k) = y (ix1 k) := by
  rw [val_main_v99_apply, val_main_v98_apply]
  exact congrArg y (funext fun a => by match a with | ⟨0, _⟩ => rfl)

theorem vector_at' (y : (⟨S2048, .f32⟩ : BufTy).Contents (Elt Ideal)) (b : Fin 4) (q : Fin 256) (k : Fin 2048) :
    val_main_v102 (F := Ideal) y (ix3 b q k) = y (ix1 k) := by
  rw [val_main_v102_apply, val_main_v101_apply]
  exact congrArg y (funext fun a => by match a with | ⟨0, _⟩ => rfl)

/-- The normalized rows. -/
theorem out_at (b : Fin 4) (q : Fin 256) (k : Fin 2048) :
    val_main_v103 (F := Ideal) x0 x1 x2 x3 x4 x5 (ix3 b q k) = out x0 x1 x2 x3 x4 x5 (ix2 (ctxRow b q) k) := by
  rw [val_main_v103_apply, val_main_v100_apply, vector_at, vector_at', val_main_v97_apply, centred_again, val_main_v96_apply, show idx_main_v96 (ix3 b q k) = ix3 b q 0 from ext3 rfl rfl rfl,
    val_main_v95_apply, val_main_v94_apply, val_main_v93_apply, val_main_cst_12_apply, var_at]
  rfl

end Cert.FfnRefIdeal.Ctx

end
-- ==== Proof.FfnEq.lean ====
/-
  The reference feed-forward ends with the kernel's result: its two halves put together, row by row.
-/
module

public import proofs.«01_k».proof.Proof.FfnArray
public import proofs.«01_k».proof.Proof.FfnRefRest
public import proofs.«01_k».proof.Proof.FfnRefCtx
public import proofs.«01_k».proof.Proof.Gen.FfnRefIdeal.Run

@[expose] public section

set_option maxRecDepth 16384

noncomputable section

namespace Cert.FfnEq

open Idealize.ShloMosaic Idealize.ShloMosaic.TcCoe Idealize.ShloMosaic.ValueIdx
open Idealize.SL Idealize.SL.Sem
open Cert.FfnSpec Cert.IdxExt Cert.RefRows Cert.FfnRefIdeal Cert.FfnRefIdeal.Gen Cert.FfnRefIdeal.Read
open scoped BigOperators

variable (x0 : (⟨S9216x2048, .f32⟩ : BufTy).Contents (Elt Ideal)) (x1 : (⟨S8x12288, .f32⟩ : BufTy).Contents (Elt Ideal))
  (x2 : (⟨S2048x11264, .f32⟩ : BufTy).Contents (Elt Ideal)) (x3 : (⟨S5632x2048, .f32⟩ : BufTy).Contents (Elt Ideal))
  (x4 x5 : (⟨S2048, .f32⟩ : BufTy).Contents (Elt Ideal))

/-- A row of the two halves put together, in a sequence of its own. -/
theorem joined (b : Fin 4) (q : Fin 2304) (k : Fin 2048) :
    val_main_v104 (F := Ideal) x0 x1 x2 x3 x4 x5 (ix3 b q k)
      = out x0 x1 x2 x3 x4 x5 (ix2 (⟨b.val * 2304 + q.val, by omega⟩ : Fin 9216) k) := by
  unfold val_main_v104
  by_cases h : q.val < 256
  · refine (concatenate_pair_apply_left (t := S4x2304x2048) (s₁ := S4x256x2048) (s₂ := S4x2048x2048) 1 _ _ _ (ix3 b q k) rfl
      (ix3 b (⟨q.val, h⟩ : Fin 256) k) (fun a => by match a with | ⟨0, _⟩ => rfl | ⟨1, _⟩ => rfl | ⟨2, _⟩ => rfl)).trans ?_
    exact Ctx.out_at x0 x1 x2 x3 x4 x5 b ⟨q.val, h⟩ k
  · refine (concatenate_pair_apply_right (t := S4x2304x2048) (s₁ := S4x256x2048) (s₂ := S4x2048x2048) 1 _ _ _ (ix3 b q k) rfl rfl
      (ix3 b (⟨q.val - 256, by omega⟩ : Fin 2048) k)
      (fun a ha => by match a with | ⟨0, _⟩ => rfl | ⟨1, _⟩ => exact absurd rfl ha | ⟨2, _⟩ => rfl)
      (by show q.val - 256 + 256 = q.val; omega)).trans ?_
    rw [Rest.out_at x0 x1 x2 x3 x4 x5 b (⟨q.val - 256, by omega⟩ : Fin 2048) k,
      show restRow b (⟨q.val - 256, by omega⟩ : Fin 2048) = (⟨b.val * 2304 + q.val, by omega⟩ : Fin 9216) from
        Fin.ext (by show b.val * 2304 + (256 + (q.val - 256)) = b.val * 2304 + q.val; omega)]

/-- The reference's array is the feed-forward sublayer of its operands. -/
theorem reference_eq : val_main_v105 (F := Ideal) x0 x1 x2 x3 x4 x5 = out x0 x1 x2 x3 x4 x5 := by
  funext i
  obtain ⟨r, k, rfl⟩ : ∃ (r : Fin 9216) (k : Fin 2048), i = ix2 r k := ⟨i 0, i 1, eq_ix2 i⟩
  rw [val_main_v105_apply, show idx_main_v105 (ix2 r k)
      = ix3 (⟨r.val / 2304, by omega⟩ : Fin 4) (⟨r.val % 2304, by omega⟩ : Fin 2304) k from
    ext3 (by show (r.val * 2048 + k.val) / 4718592 = r.val / 2304; omega)
      (by show (r.val * 2048 + k.val) / 2048 % 2304 = r.val % 2304; omega)
      (by show (r.val * 2048 + k.val) % 2048 = k.val; omega), joined]
  exact congrArg _ (ext2 (by show r.val / 2304 * 2304 + r.val % 2304 = r.val; omega) rfl)

/-- The reference ends with the feed-forward sublayer of its arguments and leaves them unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v105)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((Read.val_main_v105_eq m c).trans (reference_eq _ _ _ _ _ _)), (h c).2⟩)
    (Value.run (F := Ideal) m ρ)

end Cert.FfnEq

end
-- ==== Proof.InProjSpec.lean ====
/-
  The input projection as one function of its arrays: modulate the rows and multiply with the weight.
-/
module

public import proofs.«01_k».proof.Proof.FfnSpec

@[expose] public section

set_option maxRecDepth 16384

noncomputable section

namespace Cert.InProjSpec

open Idealize.ShloMosaic Idealize.ShloMosaic.ValueIdx Cert.Rows Cert.FfnSpec
open scoped BigOperators

/-- The weight, and the result. -/
abbrev W : Type := (⟨2, ![2048, 11776]⟩ : Shape).Idx → EReal
abbrev Y : Type := (⟨2, ![9216, 11776]⟩ : Shape).Idx → EReal

/-- A modulated entry. -/
def h (xs : XS) (md : MD) (r : Fin 9216) (k : Fin 2048) : EReal :=
  xs (ix2 r k) * (one + part md 1 (by norm_num) r k) + part md 0 (by norm_num) r k

/-- The result. -/
def out (xs : XS) (md : MD) (w : W) : Y := fun y => ∑ e : Fin 2048, h xs md (y 0) e * w (ix2 e (y 1))

end Cert.InProjSpec

end
-- ==== Proof.InProjTile.lean ====
/-
  One tile of the input projection: the modulated rows, its first 256 rows and the others, and their product with the
  columns of the weight at hand.
-/
module

public import proofs.«01_k».proof.Proof.FfnTile
public import proofs.«01_k».proof.Proof.Gen.InProjIdeal.Frame

@[expose] public section

set_option maxRecDepth 16384

noncomputable section

namespace Cert.InProjIdeal.Tile

open Idealize.ShloMosaic Idealize.ShloMosaic.TcCoe Idealize.ShloMosaic.Tactic Idealize.ShloMosaic.ValueIdx
open Idealize.SL Idealize.SL.Sem
open Cert.InProjIdeal Cert.InProjIdeal.Gen Cert.Rows Cert.IdxExt
open Cert.FfnIdeal.Tile (ld_rows)
open scoped BigOperators

/-- The modulation row a row of a tile uses: the first 256 rows of every second tile are context rows and use row 4, the
    others use the row of their sequence. -/
def pick (i : grid0.Coords) (r : Fin 1152) : Fin 8 :=
  if (i 0).val % 2 = 0 ∧ r.val < 256 then 4 else ⟨(i 0).val / 2, by have := (i 0).isLt; change (i 0).val < 8 at this; omega⟩

/-- The modulated rows of a tile. -/
def hTile (i : grid0.Coords) (x0 : Vec Ideal S1152x2048 .f32) (x1 x2 : Vec Ideal S8x2048 .f32) : Vec Ideal S1152x2048 .bf16 :=
  fun y => x0 y * (one + x2 (ix2 (pick i (y 0)) (y 1))) + x1 (ix2 (pick i (y 0)) (y 1))

/-- The product of rows with 512 columns of the weight. -/
def product (h : Vec Ideal S1152x2048 .bf16) (w : Vec Ideal S2048x512 .bf16) : Vec Ideal S1152x512 .bf16 :=
  fun y => (∑ e : Fin 2048, h (ix2 (y 0) e) * w (ix2 e (y 1)) : EReal)

theorem product_pay (h : Vec Ideal S1152x2048 .bf16) (w : Vec Ideal S2048x512 .bf16) (y : S1152x512.Idx) :
    k0_pay2 (F := Ideal) h w y = product h w y := by
  obtain ⟨r, k, rfl⟩ : ∃ (r : Fin 1152) (k : Fin 512), y = ix2 r k := ⟨y 0, y 1, eq_ix2 y⟩
  exact dot_apply (φ₁ := .bf16) (φ₂ := .bf16) (M := 1152) (K := 2048) (N := 512) h w r k

theorem off_eq : ∀ i : grid0.Coords, k0_off1 i 0 = (i 0).val / 2 ∧ k0_off1 i 1 = 0 := by decide +kernel

/-- The bit that says whether the tile starts with context rows. -/
def headBit (a : BitVec 32) : BitVec 1 :=
  let v27 : BitVec 1 := Scalar.cmpi .eq 2#32 0#32
  let v28 : BitVec 32 := Scalar.select v27 1#32 2#32
  let v29 : BitVec 32 := Scalar.remsi a v28
  let v30 : BitVec 1 := Scalar.cmpi .ne v29 0#32
  let v31 : BitVec 1 := Scalar.cmpi .slt v29 0#32
  let v32 : BitVec 1 := Scalar.cmpi .slt v28 0#32
  let v33 : BitVec 1 := Scalar.xori v31 v32
  let v34 : BitVec 1 := Scalar.andi v33 v30
  let v35 : BitVec 32 := Scalar.addi v29 v28
  let v36 : BitVec 32 := Scalar.select v34 v35 v29
  Scalar.cmpi .eq v36 0#32

theorem headBit_eq : ∀ i : grid0.Coords, headBit (BitVec.ofNat 32 (i 0).val) = if (i 0).val % 2 = 0 then 1#1 else 0#1 := by
  decide +kernel

/-- The modulation row of the tile's sequence. -/
theorem ld_row (i : grid0.Coords) (X : Vec Ideal S8x2048 .f32)
    (inb : ∀ a : Fin 2, k0_off1 i a + S1x2048.size a ≤ S8x2048.size a) (k : Fin 2048) :
    View.ld (e' := .f32) (Val := Elt Ideal) X (Rect.unit (s := S8x2048) (k0_off1 i) S1x2048.size inb) (ix2 0 k)
      = X (ix2 ⟨(i 0).val / 2, by have := (i 0).isLt; change (i 0).val < 8 at this; omega⟩ k) := by
  refine congrArg X (funext fun a => Fin.ext ?_)
  match a with
  | ⟨0, _⟩ => show k0_off1 i 0 + 1 * 0 = (i 0).val / 2; rw [(off_eq i).1]; omega
  | ⟨1, _⟩ => show k0_off1 i 1 + 1 * k.val = k.val; rw [(off_eq i).2]; omega

/-- The modulation row of a tile's first 256 rows. -/
theorem head_row (i : grid0.Coords) (X : Vec Ideal S8x2048 .f32)
    (inb : ∀ a : Fin 2, k0_off1 i a + S1x2048.size a ≤ S8x2048.size a)
    (inb4 : ∀ a : Fin 2, (![4, 0] : Fin 2 → ℕ) a + S1x2048.size a ≤ S8x2048.size a) (k : Fin 2048) (r : Fin 1152) (hr : r.val < 256) :
    (Scalar.select (headBit (BitVec.ofNat 32 (i 0).val))
      (View.ld (e' := .f32) (Val := Elt Ideal) X (Rect.unit (s := S8x2048) ![4, 0] S1x2048.size inb4))
      (View.ld (e' := .f32) (Val := Elt Ideal) X (Rect.unit (s := S8x2048) (k0_off1 i) S1x2048.size inb)) : Vec Ideal S1x2048 .f32) (ix2 0 k)
      = X (ix2 (pick i r) k) := by
  unfold pick
  rw [headBit_eq]
  by_cases h : (i 0).val % 2 = 0
  · rw [if_pos h, if_pos ⟨h, hr⟩]
    exact ld_rows (e := .f32) (A := 8) (R := 1) (C := 2048) (o := 4) X inb4 0 k 4 rfl
  · rw [if_neg h, if_neg (fun hh => h hh.1)]
    exact ld_row i X inb k

/-- The modulation row of a tile's other rows. -/
theorem tail_row (i : grid0.Coords) (X : Vec Ideal S8x2048 .f32)
    (inb : ∀ a : Fin 2, k0_off1 i a + S1x2048.size a ≤ S8x2048.size a) (k : Fin 2048) (r : Fin 1152) (hr : 256 ≤ r.val) :
    View.ld (e' := .f32) (Val := Elt Ideal) X (Rect.unit (s := S8x2048) (k0_off1 i) S1x2048.size inb) (ix2 0 k) = X (ix2 (pick i r) k) := by
  unfold pick
  rw [if_neg (fun hh => absurd hh.2 (by omega))]
  exact ld_row i X inb k

section
variable (i : grid0.Coords) (x0 : Vec Ideal S1152x2048 .f32) (x1 x2 : Vec Ideal S8x2048 .f32)
  (inb : ∀ a : Fin 2, k0_off1 i a + S1x2048.size a ≤ S8x2048.size a)

/-- The modulated first 256 rows. -/
theorem head_h (x : S256x2048.Idx) :
    k0_pay4 (F := Ideal) (BitVec.ofNat 32 (i 0).val)
        (k0_pay3 (BitVec.ofNat 32 (i 0).val)
          (View.ld (e' := .f32) (Val := Elt Ideal) x1 (Rect.unit (s := S8x2048) (k0_off1 i) S1x2048.size inb))
          (View.ld (e' := .f32) (Val := Elt Ideal) x1 (Rect.unit (s := S8x2048) ![4, 0] S1x2048.size inb_S8x2048_S1x2048_4_0)))
        (View.ld (e' := .f32) (Val := Elt Ideal) x2 (Rect.unit (s := S8x2048) (k0_off1 i) S1x2048.size inb))
        (View.ld (e' := .f32) (Val := Elt Ideal) x2 (Rect.unit (s := S8x2048) ![4, 0] S1x2048.size inb_S8x2048_S1x2048_4_0))
        (View.ld (e' := .f32) (Val := Elt Ideal) x0 (Rect.unit (s := S1152x2048) ![0, 0] S256x2048.size inb_S1152x2048_S256x2048_0_0)) x
      = hTile i x0 x1 x2 ((Rect.unit (s := S1152x2048) ![0, 0] S256x2048.size inb_S1152x2048_S256x2048_0_0).emb x) := by
  obtain ⟨r, k, rfl⟩ : ∃ (r : Fin 256) (k : Fin 2048), x = ix2 r k := ⟨x 0, x 1, eq_ix2 x⟩
  have hr := r.isLt
  rw [show (Rect.unit (s := S1152x2048) ![0, 0] S256x2048.size inb_S1152x2048_S256x2048_0_0).emb (ix2 r k) = ix2 (⟨r.val, by omega⟩ : Fin 1152) k
    from ext2 ((by show 0 + 1 * r.val = r.val; omega)) ((by show 0 + 1 * k.val = k.val; omega))]
  unfold k0_pay4
  dsimp only
  rw [shapeCast_self, truncf_apply]
  refine (modulate_apply (R := 256) (C := 2048) _ _ _ _ r k).trans ?_
  show _ = x0 (ix2 (⟨r.val, by omega⟩ : Fin 1152) k) * (one + x2 (ix2 (pick i ⟨r.val, by omega⟩) k)) + x1 (ix2 (pick i ⟨r.val, by omega⟩) k)
  rw [← head_row i x2 inb inb_S8x2048_S1x2048_4_0 k ⟨r.val, by omega⟩ hr, ← head_row i x1 inb inb_S8x2048_S1x2048_4_0 k ⟨r.val, by omega⟩ hr,
    ← ld_rows (e := .f32) (A := 1152) (R := 256) (C := 2048) (o := 0) x0 inb_S1152x2048_S256x2048_0_0 r k ⟨r.val, by omega⟩ (Nat.zero_add _).symm]
  rfl

/-- The modulated other rows. -/
theorem tail_h (x : S896x2048.Idx) :
    k0_pay1 (F := Ideal) (View.ld (e' := .f32) (Val := Elt Ideal) x1 (Rect.unit (s := S8x2048) (k0_off1 i) S1x2048.size inb))
        (View.ld (e' := .f32) (Val := Elt Ideal) x2 (Rect.unit (s := S8x2048) (k0_off1 i) S1x2048.size inb))
        (View.ld (e' := .f32) (Val := Elt Ideal) x0 (Rect.unit (s := S1152x2048) ![256, 0] S896x2048.size inb_S1152x2048_S896x2048_256_0))
        k0_pay5 x
      = hTile i x0 x1 x2 ((Rect.unit (s := S1152x2048) ![256, 0] S896x2048.size inb_S1152x2048_S896x2048_256_0).emb x) := by
  obtain ⟨r, k, rfl⟩ : ∃ (r : Fin 896) (k : Fin 2048), x = ix2 r k := ⟨x 0, x 1, eq_ix2 x⟩
  have hr := r.isLt
  rw [show (Rect.unit (s := S1152x2048) ![256, 0] S896x2048.size inb_S1152x2048_S896x2048_256_0).emb (ix2 r k) = ix2 (⟨256 + r.val, by omega⟩ : Fin 1152) k
    from ext2 ((by show 256 + 1 * r.val = 256 + r.val; omega)) ((by show 0 + 1 * k.val = k.val; omega))]
  unfold k0_pay1 k0_pay5
  dsimp only
  rw [shapeCast_self, truncf_apply]
  refine (modulate_apply (R := 896) (C := 2048) _ _ _ _ r k).trans ?_
  show _ = x0 (ix2 (⟨256 + r.val, by omega⟩ : Fin 1152) k) * (one + x2 (ix2 (pick i ⟨256 + r.val, by omega⟩) k)) + x1 (ix2 (pick i ⟨256 + r.val, by omega⟩) k)
  rw [← tail_row i x2 inb k ⟨256 + r.val, by omega⟩ (Nat.le_add_right _ _), ← tail_row i x1 inb k ⟨256 + r.val, by omega⟩ (Nat.le_add_right _ _),
    ← ld_rows (e := .f32) (A := 1152) (R := 896) (C := 2048) (o := 256) x0 inb_S1152x2048_S896x2048_256_0 r k ⟨256 + r.val, by omega⟩ rfl]

end

end Cert.InProjIdeal.Tile

end
-- ==== Proof.InProjBlock.lean ====
/-
  The blocks the input projection leaves at each of its two kinds of grid point: the modulated rows it keeps, and the
  product of the kept rows with the columns at hand.
-/
module

public import proofs.«01_k».proof.Proof.InProjTile

@[expose] public section

set_option maxRecDepth 16384

noncomputable section

namespace Cert.InProjIdeal.Block

open Idealize.ShloMosaic Idealize.ShloMosaic.TcCoe Idealize.ShloMosaic.Tactic Idealize.ShloMosaic.ValueIdx
open Idealize.SL Idealize.SL.Sem
open Cert.InProjIdeal Cert.InProjIdeal.Gen Cert.InProjIdeal.Tile

theorem zero_off : (![0, 0] : Fin 2 → ℕ) = fun _ => 0 := by
  funext a
  match a with
  | ⟨0, _⟩ => rfl
  | ⟨1, _⟩ => rfl

variable (c : Dev nD) (i : grid0.Coords) (arg2 : Memref sig .tc .vmem S1152x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2048x512 .bf16) (harg5 : arg5.IsWhole) (arg6 : Memref sig .tc .vmem S1152x512 .bf16) (harg6 : arg6.IsWhole) (arg7 : Memref sig .tc .vmem S1152x2048 .bf16) (harg7 : arg7.IsWhole)
  (x0 : Vec Ideal S1152x2048 .f32) (x1 x2 : Vec Ideal S8x2048 .f32) (x3 : Vec Ideal S2048x512 .bf16) (xs0 : Vec Ideal S1152x2048 .bf16)

/-- The rows kept at the first point of a tile are its modulated rows. -/
theorem sout_A (hc0 : cond0_0 i) (y : S1152x2048.Idx) :
    sout0_A_0 c i arg2 harg2 arg3 harg3 arg4 harg4 arg5 harg5 arg6 harg6 arg7 harg7 hc0 x0 x1 x2 x3 y = hTile i x0 x1 x2 y := by
  unfold sout0_A_0
  rw [View.read_writes_eq_canon _ _ _ (scover0_A_0 c i arg2 harg2 arg3 harg3 arg4 harg4 arg5 harg5 arg6 harg6 arg7 harg7 hc0 x0 x1 x2 x3)]
  refine View.canon_apply_of_pieces (fun y => hTile i x0 x1 x2 y) _ ?_ y (scover0_A_0 c i arg2 harg2 arg3 harg3 arg4 harg4 arg5 harg5 arg6 harg6 arg7 harg7 hc0 x0 x1 x2 x3 y)
  unfold kernelRun0_A
  dsimp only
  sl_unfold_words
  simp only [View.readAt_eq_ld, harg2.read_unread, harg3.read_unread, harg4.read_unread, harg5.read_unread, harg6.read_unread, harg7.read_unread]
  intro p hp x
  simp only [List.mem_cons, List.not_mem_nil, or_false] at hp
  rcases hp with rfl | rfl
  · exact tail_h i x0 x1 x2 _ x
  · exact head_h i x0 x1 x2 _ x

/-- The product left at the first point of a tile. -/
theorem out_A (hc0 : cond0_0 i) (y : S1152x512.Idx) :
    out0_A_4 c i arg2 harg2 arg3 harg3 arg4 harg4 arg5 harg5 arg6 harg6 arg7 harg7 hc0 x0 x1 x2 x3 y = product (hTile i x0 x1 x2) x3 y := by
  unfold out0_A_4
  rw [View.read_writes_eq_canon _ _ _ (cover0_A_4 c i arg2 harg2 arg3 harg3 arg4 harg4 arg5 harg5 arg6 harg6 arg7 harg7 hc0 x0 x1 x2 x3)]
  have hs := sout_A c i arg2 harg2 arg3 harg3 arg4 harg4 arg5 harg5 arg6 harg6 arg7 harg7 x0 x1 x2 x3 hc0
  unfold sout0_A_0 at hs
  rw [View.read_writes_eq_canon _ _ _ (scover0_A_0 c i arg2 harg2 arg3 harg3 arg4 harg4 arg5 harg5 arg6 harg6 arg7 harg7 hc0 x0 x1 x2 x3)] at hs
  revert hs
  unfold kernelRun0_A
  dsimp only
  sl_unfold_words
  simp only [View.readAt_eq_ld, harg2.read_unread, harg3.read_unread, harg4.read_unread, harg5.read_unread, harg6.read_unread, harg7.read_unread]
  intro hs
  refine (congrFun (View.canon_unit_zero (S := S1152x512) zero_off _ _) y).trans ?_
  refine (product_pay _ _ y).trans ?_
  rw [View.ld_unit_zero (S := S2048x512) zero_off]
  rw [View.readCov_eq_canon']
  refine congrArg (fun h => product h x3 y) (funext fun j => ?_)
  exact (hs _).trans (congrArg (hTile i x0 x1 x2)
    (IdxExt.ext2 (by show 0 + 1 * (j 0).val = (j 0).val; omega) (by show 0 + 1 * (j 1).val = (j 1).val; omega)))

/-- The product left at a later point of a tile. -/
theorem out_B (hc0 : ¬cond0_0 i) (y : S1152x512.Idx) :
    out0_B_4 c i arg2 harg2 arg3 harg3 arg4 harg4 arg5 harg5 arg6 harg6 arg7 harg7 hc0 x0 x1 x2 x3 xs0 y = product xs0 x3 y := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  simp only [View.readAt_eq_ld, harg2.read_unread, harg3.read_unread, harg4.read_unread, harg5.read_unread, harg6.read_unread, harg7.read_unread]
  refine (congrFun (View.canon_unit_zero (S := S1152x512) zero_off _ _) y).trans ?_
  refine (product_pay _ _ y).trans ?_
  rw [View.ld_unit_zero (S := S2048x512) zero_off, View.ld_unit_zero (S := S1152x2048) zero_off]

end Cert.InProjIdeal.Block

end
-- ==== Proof.InProjArray.lean ====
/-
  The array the input projection leaves: every point of a tile multiplies the rows its first point modulated. The result is
  `InProjSpec.out` of the arguments.
-/
module

public import proofs.«01_k».proof.Proof.InProjSpec
public import proofs.«01_k».proof.Proof.InProjBlock
public import proofs.«01_k».proof.Proof.Gen.InProjIdeal.Value

@[expose] public section

set_option maxRecDepth 16384

noncomputable section

namespace Cert.InProjIdeal.Array

open Idealize.ShloMosaic Idealize.ShloMosaic.TcCoe Idealize.ShloMosaic.Tactic Idealize.ShloMosaic.ValueIdx
open Idealize.SL Idealize.SL.Sem
open Cert.Rows Cert.FfnSpec Cert.InProjSpec Cert.InProjIdeal Cert.InProjIdeal.Gen Cert.InProjIdeal.Tile
open scoped BigOperators

variable (m : (l : Loc nD τ sig) → Buf (Elt Ideal) l)

/-- Where each window's block lies at a grid point: the row tile and the columns at hand. -/
theorem index0 : ∀ t : Fin cfg0.N, win0_0.index t = ![t.val / 23, 0] :=
  (by decide +kernel : ∀ t : Fin grid0.N, win0_0.index t = ![t.val / 23, 0])
theorem index1 : ∀ t : Fin cfg0.N, win0_1.index t = ![0, 0] := (by decide +kernel : ∀ t : Fin grid0.N, win0_1.index t = ![0, 0])
theorem index2 : ∀ t : Fin cfg0.N, win0_2.index t = ![0, 1] := (by decide +kernel : ∀ t : Fin grid0.N, win0_2.index t = ![0, 1])
theorem index3 : ∀ t : Fin cfg0.N, win0_3.index t = ![0, t.val % 23] :=
  (by decide +kernel : ∀ t : Fin grid0.N, win0_3.index t = ![0, t.val % 23])

theorem t_lt (t : Fin cfg0.N) : t.val < 184 := lt_of_lt_of_eq t.isLt (show cfg0.N = 184 from N_0)

/-- The arguments as arrays of extended reals. -/
abbrev xsArr (c : Dev nD) : XS := m ((c : Thread nD τ).loc main_arg0)
abbrev mdArr (c : Dev nD) : MD := m ((c : Thread nD τ).loc main_arg1)
abbrev wArr (c : Dev nD) : W := m ((c : Thread nD τ).loc main_arg2)

/-- The row of the array at a row of the tile at hand. -/
def rowOf (t : Fin cfg0.N) (r : Fin 1152) : Fin 9216 := ⟨t.val / 23 * 1152 + r.val, by have := t_lt t; have := r.isLt; omega⟩

theorem coord_eq (t : Fin cfg0.N) : (grid0.coords t 0).val = t.val / 23 := by
  have ht := t_lt t
  have e0 : (grid0.coords t 0).val = t.val / 23 % 8 := Pipeline.Grid.coords_val t 0 (by decide) rfl
  omega

/-- The kernel's choice of a modulation row is the array's. -/
theorem pick_eq (t : Fin cfg0.N) (r : Fin 1152) : pick (grid0.coords t) r = modRow (rowOf t r) := by
  have ht := t_lt t
  have hr := r.isLt
  have hc := coord_eq t
  have hv : (rowOf t r).val = t.val / 23 * 1152 + r.val := rfl
  unfold pick modRow
  by_cases h : (grid0.coords t 0).val % 2 = 0 ∧ r.val < 256
  · rw [if_pos h, if_pos (by omega)]
  · rw [if_neg h, if_neg (by omega)]
    refine Fin.ext ?_
    show (grid0.coords t 0).val / 2 = (rowOf t r).val / 2304
    omega

theorem iblk0_apply (c : Dev nD) (t : Fin cfg0.N) (r : Fin 1152) (k : Fin 2048) :
    (iblk m c 0 t : S1152x2048.Idx → EReal) (ix2 r k) = xsArr m c (ix2 (rowOf t r) k) := by
  show V m c main_arg0 ((win0_0.rect t).emb (ix2 r k)) = _
  rw [V_main_arg0]
  refine congrArg (xsArr m c) (funext fun a => Fin.ext ?_)
  rw [Pipeline.Window.rect_emb_val win0_0 t, index0]
  match a with
  | ⟨0, _⟩ => rfl
  | ⟨1, _⟩ => show 0 * 2048 + k.val = k.val; omega

/-- The two parts of the modulation table the kernel reads. -/
theorem iblk1_apply (c : Dev nD) (t : Fin cfg0.N) (r : Fin 8) (k : Fin 2048) :
    (iblk m c 1 t : S8x2048.Idx → EReal) (ix2 r k) = mdArr m c (ix2 r (⟨0 * 2048 + k.val, by have := k.isLt; omega⟩ : Fin 12288)) := by
  show V m c main_arg1 ((win0_1.rect t).emb (ix2 r k)) = _
  rw [V_main_arg1]
  refine congrArg (mdArr m c) (funext fun a => Fin.ext ?_)
  rw [Pipeline.Window.rect_emb_val win0_1 t, index1]
  match a with
  | ⟨0, _⟩ => show 0 * 8 + r.val = r.val; omega
  | ⟨1, _⟩ => rfl

theorem iblk2_apply (c : Dev nD) (t : Fin cfg0.N) (r : Fin 8) (k : Fin 2048) :
    (iblk m c 2 t : S8x2048.Idx → EReal) (ix2 r k) = mdArr m c (ix2 r (⟨1 * 2048 + k.val, by have := k.isLt; omega⟩ : Fin 12288)) := by
  show V m c main_arg1 ((win0_2.rect t).emb (ix2 r k)) = _
  rw [V_main_arg1]
  refine congrArg (mdArr m c) (funext fun a => Fin.ext ?_)
  rw [Pipeline.Window.rect_emb_val win0_2 t, index2]
  match a with
  | ⟨0, _⟩ => show 0 * 8 + r.val = r.val; omega
  | ⟨1, _⟩ => rfl

/-- The columns at hand of the weight. -/
theorem iblk3_apply (c : Dev nD) (t : Fin cfg0.N) (e : Fin 2048) (k : Fin 512) :
    (iblk m c 3 t : S2048x512.Idx → EReal) (ix2 e k)
      = wArr m c (ix2 e (⟨t.val % 23 * 512 + k.val, by have := k.isLt; omega⟩ : Fin 11776)) := by
  show V m c main_arg2 ((win0_3.rect t).emb (ix2 e k)) = _
  rw [V_main_arg2]
  refine congrArg (wArr m c) (funext fun a => Fin.ext ?_)
  rw [Pipeline.Window.rect_emb_val win0_3 t, index3]
  match a with
  | ⟨0, _⟩ => show 0 * 2048 + e.val = e.val; omega
  | ⟨1, _⟩ => rfl

/-- The modulated rows of the tile at hand. -/
def hRows (c : Dev nD) (t : Fin cfg0.N) : Vec Ideal S1152x2048 .bf16 := fun y => InProjSpec.h (xsArr m c) (mdArr m c) (rowOf t (y 0)) (y 1)

theorem hTile_eq (c : Dev nD) (t : Fin cfg0.N) (y : S1152x2048.Idx) :
    hTile (grid0.coords t) (iblk m c 0 t) (iblk m c 1 t) (iblk m c 2 t) y = hRows m c t y := by
  obtain ⟨r, k, rfl⟩ : ∃ (r : Fin 1152) (k : Fin 2048), y = ix2 r k := ⟨y 0, y 1, eq_ix2 y⟩
  refine congrArg₂ (· + ·) (congrArg₂ (· * ·) (iblk0_apply m c t r k) (congrArg (fun u => one + u) ?_)) ?_
  · refine (iblk2_apply m c t _ k).trans ?_
    show _ = mdArr m c (ix2 (modRow (rowOf t r)) _)
    rw [← pick_eq]
  · refine (iblk1_apply m c t _ k).trans ?_
    show _ = mdArr m c (ix2 (modRow (rowOf t r)) _)
    rw [← pick_eq]

/-- The product of the rows at hand with the columns at hand. -/
theorem product_eq (c : Dev nD) (t : Fin cfg0.N) (r : Fin 1152) (k : Fin 512) :
    product (hRows m c t) (iblk m c 3 t) (ix2 r k)
      = InProjSpec.out (xsArr m c) (mdArr m c) (wArr m c) (ix2 (rowOf t r) (⟨t.val % 23 * 512 + k.val, by have := k.isLt; omega⟩ : Fin 11776)) :=
  Finset.sum_congr rfl fun e _ => congrArg₂ (· * ·) rfl (iblk3_apply m c t e k)

/-- What the first point of a tile leaves. -/
theorem point_A (c : Dev nD) (t : Fin cfg0.N) (h0 : t.val % 23 = 0) :
    outsAt0 m c t.val t.isLt
      = (product (hTile (grid0.coords t) (iblk m c 0 t) (iblk m c 1 t) (iblk m c 2 t)) (iblk m c 3 t),
          hTile (grid0.coords t) (iblk m c 0 t) (iblk m c 1 t) (iblk m c 2 t)) :=
  (outsAt0_A m c t h0).trans (congrArg₂ Prod.mk
    (funext (Block.out_A c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h0)))
    (funext (Block.sout_A c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h0))))

/-- What a later point of a tile leaves. -/
theorem point_B (c : Dev nD) (t : Fin cfg0.N) (acc : Vec Ideal S1152x512 .bf16 × Vec Ideal S1152x2048 .bf16) (h0 : ¬t.val % 23 = 0) :
    Value.stAt0 m c t.val t.isLt acc = (product acc.2 (iblk m c 3 t), acc.2) :=
  (Value.stAt0_B m c t acc h0).trans (congrArg₂ Prod.mk
    (funext (Block.out_B c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) acc.2 (fun h => h0 ((hcond0_0 t).mp h)))) rfl)

/-- Points of one tile have the same rows. -/
theorem rowOf_succ (n : ℕ) (hn : n + 1 < cfg0.N) (h : (n + 1) % 23 ≠ 0) (r : Fin 1152) :
    rowOf ⟨n, Nat.lt_of_succ_lt hn⟩ r = rowOf ⟨n + 1, hn⟩ r :=
  Fin.ext (by show n / 23 * 1152 + r.val = (n + 1) / 23 * 1152 + r.val; omega)

/-- Every point leaves the product of its rows with its columns, and keeps its rows. -/
theorem outs_eq (c : Dev nD) : ∀ (n : ℕ) (hn : n < cfg0.N),
    outsAt0 m c n hn = (product (hRows m c ⟨n, hn⟩) (iblk m c 3 ⟨n, hn⟩), hRows m c ⟨n, hn⟩) := by
  have hA : ∀ t : Fin cfg0.N, t.val % 23 = 0 → outsAt0 m c t.val t.isLt = (product (hRows m c t) (iblk m c 3 t), hRows m c t) := by
    intro t h0
    rw [point_A m c t h0]
    have hh : hTile (grid0.coords t) (iblk m c 0 t) (iblk m c 1 t) (iblk m c 2 t) = hRows m c t := funext (hTile_eq m c t)
    rw [hh]
  intro n
  induction n with
  | zero => intro hn; exact hA ⟨0, hn⟩ rfl
  | succ n ih =>
    intro hn
    by_cases h0 : (n + 1) % 23 = 0
    · exact hA ⟨n + 1, hn⟩ h0
    · have ih' := ih (Nat.lt_of_succ_lt hn)
      rw [Value.outsAt0_succ, ih']
      refine (point_B m c ⟨n + 1, hn⟩ _ h0).trans ?_
      have hr : hRows m c ⟨n, Nat.lt_of_succ_lt hn⟩ = hRows m c ⟨n + 1, hn⟩ :=
        funext fun y => congrArg (fun r => InProjSpec.h (xsArr m c) (mdArr m c) r (y 1)) (rowOf_succ n hn h0 (y 0))
      dsimp only
      rw [hr]

/-- The whole result of the kernel. -/
def result (c : Dev nD) : Buf (Elt Ideal) ((c : Thread nD τ).loc main_v0) :=
  (InProjSpec.out (xsArr m c) (mdArr m c) (wArr m c) : S9216x11776.Idx → EReal)

theorem G_eq (c : Dev nD) : Value.G4 m c = result m c := by
  funext i
  obtain ⟨r, e, rfl⟩ : ∃ (r : Fin 9216) (e : Fin 11776), i = ix2 r e := ⟨i 0, i 1, eq_ix2 i⟩
  have hr := r.isLt
  have he := e.isLt
  have hp : Value.pt4Of (ix2 r e) = 23 * (r.val / 1152) + e.val / 512 := by
    show 23 * (r.val / 1152 - 0) + 1 * (e.val / 512 - 0) = _
    omega
  have hN : Value.pt4Of (ix2 r e) < cfg0.N := by
    rw [hp]; exact lt_of_lt_of_eq (by omega) (show cfg0.N = 184 from N_0).symm
  unfold Value.G4
  rw [dif_pos hN]
  refine (congrFun (congrArg Prod.fst (Value.outsAt0_sweep m c (Value.pt4Of (ix2 r e)) hN).symm) _).trans ?_
  have key : ∀ (n : ℕ) (h : n < cfg0.N), n = 23 * (r.val / 1152) + e.val / 512 →
      (outsAt0 m c n h).1 (Value.loc4Of (ix2 r e)) = result m c (ix2 r e) := by
    intro n h hn
    rw [outs_eq m c n h]
    have hl : Value.loc4Of (ix2 r e) = ix2 (⟨r.val % 1152, by omega⟩ : Fin 1152) (⟨e.val % 512, by omega⟩ : Fin 512) :=
      IdxExt.ext2 rfl rfl
    rw [hl]
    refine (product_eq m c ⟨n, h⟩ _ _).trans (congrArg (InProjSpec.out _ _ _) ?_)
    refine IdxExt.ext2 ?_ ?_
    · show n / 23 * 1152 + r.val % 1152 = r.val; omega
    · show n % 23 * 512 + e.val % 512 = e.val; omega
  exact key _ hN hp

/-- The kernel ends with the result, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨((h c).1).trans (G_eq m c), (h c).2⟩) (Value.run (F := Ideal) m ρ)

end Cert.InProjIdeal.Array

end
-- ==== Proof.InProjEq.lean ====
/-
  The reference input projection, entry by entry, and its equation with the kernel: the modulated context rows and the
  modulated other rows are put together and multiplied with the weight.
-/
module

public import proofs.«01_k».proof.Proof.InProjArray
public import proofs.«01_k».proof.Proof.RefRows
public import proofs.«01_k».proof.Proof.Gen.InProjRefIdeal.Read
public import proofs.«01_k».proof.Proof.Gen.InProjRefIdeal.Run

@[expose] public section

set_option maxRecDepth 16384

noncomputable section

namespace Cert.InProjEq

open Idealize.ShloMosaic Idealize.ShloMosaic.TcCoe Idealize.ShloMosaic.ValueIdx
open Idealize.SL Idealize.SL.Sem
open Cert.Rows Cert.FfnSpec Cert.IdxExt Cert.RefRows Cert.InProjRefIdeal Cert.InProjRefIdeal.Gen Cert.InProjRefIdeal.Read
open scoped BigOperators

variable (x0 : (⟨S9216x2048, .f32⟩ : BufTy).Contents (Elt Ideal)) (x1 : (⟨S8x12288, .f32⟩ : BufTy).Contents (Elt Ideal))
  (x2 : (⟨S2048x11776, .bf16⟩ : BufTy).Contents (Elt Ideal))

/-! ## The context rows -/

theorem ctx_x_at (b : Fin 4) (q : Fin 256) (k : Fin 2048) : val_main_v1 (F := Ideal) x0 (ix3 b q k) = x0 (ix2 (ctxRow b q) k) := by
  rw [val_main_v1_apply, val_main_v0_apply]
  refine congrArg x0 (ext2 ?_ ?_)
  · show ((b.val * 2304 + q.val) * 2048 + k.val) / 2048 = b.val * 2304 + q.val
    omega
  · show ((b.val * 2304 + q.val) * 2048 + k.val) % 2048 = k.val
    omega

theorem ctx_shift_at (b : Fin 4) (q : Fin 256) (k : Fin 2048) :
    val_main_v13 (F := Ideal) x1 (ix1 k) = part x1 0 (by norm_num) (ctxRow b q) k := by
  rw [val_main_v13_apply, val_main_v12_apply, val_main_v11_apply]
  exact congrArg x1 (ext2 (modRow_ctx b q).symm (by show k.val % 12288 = 0 * 2048 + k.val; omega))

theorem ctx_scale_at (b : Fin 4) (q : Fin 256) (k : Fin 2048) :
    val_main_v14 (F := Ideal) x1 (ix1 k) = part x1 1 (by norm_num) (ctxRow b q) k := by
  rw [val_main_v14_apply, val_main_v12_apply, val_main_v11_apply]
  exact congrArg x1 (ext2 (modRow_ctx b q).symm (by show (2048 + k.val) % 12288 = 1 * 2048 + k.val; omega))

/-- The modulated context rows. -/
theorem ctx_h_at (b : Fin 4) (q : Fin 256) (k : Fin 2048) :
    val_main_v26 (F := Ideal) x0 x1 (ix3 b q k) = InProjSpec.h x0 x1 (ctxRow b q) k := by
  rw [val_main_v26_apply, val_main_v23_apply, ctx_x_at, val_main_v22_apply, val_main_v21_apply, val_main_v20_apply, val_main_v19_apply,
    val_main_cst_apply, show idx_main_v21 (idx_main_v22 (ix3 b q k)) = ix1 k from funext fun a => by match a with | ⟨0, _⟩ => rfl,
    ctx_scale_at x1 b q k, val_main_v25_apply, val_main_v24_apply,
    show idx_main_v24 (idx_main_v25 (ix3 b q k)) = ix1 k from funext fun a => by match a with | ⟨0, _⟩ => rfl, ctx_shift_at x1 b q k]
  rfl

/-! ## The rows after them -/

theorem rest_x_at (b : Fin 4) (q : Fin 2048) (k : Fin 2048) : val_main_v2 (F := Ideal) x0 (ix3 b q k) = x0 (ix2 (restRow b q) k) := by
  rw [val_main_v2_apply, val_main_v0_apply]
  refine congrArg x0 (ext2 ?_ ?_)
  · show ((b.val * 2304 + (256 + q.val)) * 2048 + k.val) / 2048 = b.val * 2304 + (256 + q.val)
    omega
  · show ((b.val * 2304 + (256 + q.val)) * 2048 + k.val) % 2048 = k.val
    omega

theorem rest_shift_at (b : Fin 4) (q : Fin 2048) (k : Fin 2048) :
    val_main_v5 (F := Ideal) x1 (ix3 b 0 k) = part x1 0 (by norm_num) (restRow b q) k := by
  rw [val_main_v5_apply, val_main_v4_apply, val_main_v3_apply]
  exact congrArg x1 (ext2 (modRow_rest b q).symm (by show k.val = 0 * 2048 + k.val; omega))

theorem rest_scale_at (b : Fin 4) (q : Fin 2048) (k : Fin 2048) :
    val_main_v6 (F := Ideal) x1 (ix3 b 0 k) = part x1 1 (by norm_num) (restRow b q) k := by
  rw [val_main_v6_apply, val_main_v4_apply, val_main_v3_apply]
  exact congrArg x1 (ext2 (modRow_rest b q).symm (by show 2048 + k.val = 1 * 2048 + k.val; omega))

/-- The modulated rows after the context. -/
theorem rest_h_at (b : Fin 4) (q : Fin 2048) (k : Fin 2048) :
    val_main_v32 (F := Ideal) x0 x1 (ix3 b q k) = InProjSpec.h x0 x1 (restRow b q) k := by
  rw [val_main_v32_apply, val_main_v30_apply, rest_x_at, val_main_v29_apply, val_main_v28_apply, val_main_v27_apply, val_main_cst_0_apply,
    show idx_main_v29 (ix3 b q k) = ix3 b 0 k from ext3 rfl rfl rfl, rest_scale_at x1 b q k, val_main_v31_apply,
    show idx_main_v31 (ix3 b q k) = ix3 b 0 k from ext3 rfl rfl rfl, rest_shift_at x1 b q k]
  rfl

/-! ## Together -/

/-- All modulated rows. -/
theorem h_at (b : Fin 4) (q : Fin 2304) (k : Fin 2048) :
    val_main_v33 (F := Ideal) x0 x1 (ix3 b q k) = InProjSpec.h x0 x1 (⟨b.val * 2304 + q.val, by omega⟩ : Fin 9216) k := by
  unfold val_main_v33
  by_cases h : q.val < 256
  · refine (concatenate_pair_apply_left (t := S4x2304x2048) (s₁ := S4x256x2048) (s₂ := S4x2048x2048) 1 _ _ _ (ix3 b q k) rfl
      (ix3 b (⟨q.val, h⟩ : Fin 256) k) (fun a => by match a with | ⟨0, _⟩ => rfl | ⟨1, _⟩ => rfl | ⟨2, _⟩ => rfl)).trans ?_
    exact ctx_h_at x0 x1 b ⟨q.val, h⟩ k
  · refine (concatenate_pair_apply_right (t := S4x2304x2048) (s₁ := S4x256x2048) (s₂ := S4x2048x2048) 1 _ _ _ (ix3 b q k) rfl rfl
      (ix3 b (⟨q.val - 256, by omega⟩ : Fin 2048) k)
      (fun a ha => by match a with | ⟨0, _⟩ => rfl | ⟨1, _⟩ => exact absurd rfl ha | ⟨2, _⟩ => rfl)
      (by show q.val - 256 + 256 = q.val; omega)).trans ?_
    rw [rest_h_at x0 x1 b (⟨q.val - 256, by omega⟩ : Fin 2048) k,
      show restRow b (⟨q.val - 256, by omega⟩ : Fin 2048) = (⟨b.val * 2304 + q.val, by omega⟩ : Fin 9216) from
        Fin.ext (by show b.val * 2304 + (256 + (q.val - 256)) = b.val * 2304 + q.val; omega)]

/-- The reference's array is the input projection of its operands. -/
theorem reference_eq : val_main_v37 (F := Ideal) x0 x1 x2 = InProjSpec.out x0 x1 x2 := by
  funext i
  obtain ⟨r, k, rfl⟩ : ∃ (r : Fin 9216) (k : Fin 11776), i = ix2 r k := ⟨i 0, i 1, eq_ix2 i⟩
  rw [val_main_v37_apply, val_main_v36_apply, show idx_main_v36 (ix2 r k)
      = ix3 (⟨r.val / 2304, by omega⟩ : Fin 4) (⟨r.val % 2304, by omega⟩ : Fin 2304) k from
    ext3 (by show (r.val * 11776 + k.val) / 27131904 = r.val / 2304; omega)
      (by show (r.val * 11776 + k.val) / 11776 % 2304 = r.val % 2304; omega)
      (by show (r.val * 11776 + k.val) % 11776 = k.val; omega), val_main_v35_apply]
  refine Finset.sum_congr rfl fun e _ => ?_
  rw [show lidx_main_v35 (ix3 (⟨r.val / 2304, by omega⟩ : Fin 4) (⟨r.val % 2304, by omega⟩ : Fin 2304) k) e
      = ix3 (⟨r.val / 2304, by omega⟩ : Fin 4) (⟨r.val % 2304, by omega⟩ : Fin 2304) e from ext3 rfl rfl rfl, h_at,
    show ridx_main_v35 (ix3 (⟨r.val / 2304, by omega⟩ : Fin 4) (⟨r.val % 2304, by omega⟩ : Fin 2304) k) e = ix2 e k from ext2 rfl rfl,
    val_main_v34_apply]
  exact congrArg₂ (· * ·) (congrArg (fun s => InProjSpec.h x0 x1 s e)
    (Fin.ext (by show r.val / 2304 * 2304 + r.val % 2304 = r.val; omega))) rfl

/-- The reference ends with the input projection of its arguments and leaves them unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
        = InProjSpec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((Read.val_main_v37_eq _ _ _).trans (reference_eq _ _ _)), (h c).2⟩)
    (Value.run (F := Ideal) m ρ)

end Cert.InProjEq

end
-- ==== Proof.MixOutSpec.lean ====
/-
  The merge of the three branches and the output projection as one function of its arrays: project each branch, weight it by
  the logistic of its gate, add, project, and normalize the sum with the weighted input.
-/
module

public import proofs.«01_k».proof.Proof.FfnSpec

@[expose] public section

set_option maxRecDepth 16384

noncomputable section

namespace Cert.MixOutSpec

open Idealize.ShloMosaic Idealize.ShloMosaic.ValueIdx Cert.Rows
open Cert.FfnSpec (XS MD LN modRow part)
open scoped BigOperators

/-- The wide branches, the narrow one, their weights, the output weight, and the projections holding the gates. -/
abbrev OW : Type := (⟨2, ![9216, 1024]⟩ : Shape).Idx → EReal
abbrev ON : Type := (⟨2, ![9216, 768]⟩ : Shape).Idx → EReal
abbrev WW : Type := (⟨2, ![1024, 2048]⟩ : Shape).Idx → EReal
abbrev WN : Type := (⟨2, ![768, 2048]⟩ : Shape).Idx → EReal
abbrev WO : Type := (⟨2, ![2048, 2048]⟩ : Shape).Idx → EReal
abbrev PJ : Type := (⟨2, ![9216, 11776]⟩ : Shape).Idx → EReal

variable (og : OW) (os : ON) (oa : OW) (wg : WW) (ws : WN) (wa : WW) (wo : WO) (pj : PJ) (xs : XS) (md : MD) (lw lb : LN)

/-- A gate of branch `j`: the logistic of an entry of the first three parts of the projections. -/
def gate (j : ℕ) (hj : j < 3) (r : Fin 9216) (k : Fin 2048) : EReal :=
  Ideal.logistic (pj (ix2 r (⟨j * 2048 + k.val, by have := k.isLt; omega⟩ : Fin 11776)))

/-- A merged entry. -/
def merged (r : Fin 9216) (k : Fin 2048) : EReal :=
  gate pj 0 (by norm_num) r k * (∑ e : Fin 1024, og (ix2 r e) * wg (ix2 e k))
    + gate pj 1 (by norm_num) r k * (∑ e : Fin 768, os (ix2 r e) * ws (ix2 e k))
    + gate pj 2 (by norm_num) r k * (∑ e : Fin 1024, oa (ix2 r e) * wa (ix2 e k))

/-- An entry of the output projection. -/
def mix (r : Fin 9216) (c : Fin 2048) : EReal := ∑ k : Fin 2048, merged og os oa wg ws wa pj r k * wo (ix2 k c)

/-- The result. -/
def out : XS := fun y =>
  normRow (fun k => alpha * xs (ix2 (y 0) k) + part md 2 (by norm_num) (y 0) k * mix og os oa wg ws wa wo pj (y 0) k)
    (fun k => lw (ix1 k)) (fun k => lb (ix1 k)) (y 1)

/-- One term of the output projection, zero past its end. -/
def term (r : Fin 9216) (c : Fin 2048) (f : ℕ) : EReal :=
  if hf : f < 2048 then merged og os oa wg ws wa pj r ⟨f, hf⟩ * wo (ix2 ⟨f, hf⟩ c) else 0

/-- The output projection summed over its first `n` merged columns. -/
def partialMix (n : ℕ) (r : Fin 9216) (c : Fin 2048) : EReal := ∑ f ∈ Finset.range n, term og os oa wg ws wa wo pj r c f

/-- Another 256 merged columns. -/
theorem partialMix_add (n : ℕ) (r : Fin 9216) (c : Fin 2048) :
    partialMix og os oa wg ws wa wo pj (n + 256) r c
      = partialMix og os oa wg ws wa wo pj n r c + ∑ k : Fin 256, term og os oa wg ws wa wo pj r c (n + k.val) := by
  unfold partialMix
  rw [Finset.sum_range_add, Finset.sum_range (fun x => term og os oa wg ws wa wo pj r c (n + x))]

/-- All of them. -/
theorem partialMix_all (r : Fin 9216) (c : Fin 2048) :
    partialMix og os oa wg ws wa wo pj 2048 r c = mix og os oa wg ws wa wo pj r c := by
  unfold partialMix mix
  rw [Finset.sum_range]
  exact Finset.sum_congr rfl fun f _ => dif_pos f.isLt

end Cert.MixOutSpec

end
-- ==== Proof.MixOutTile.lean ====
/-
  What one grid point of the merge kernel computes from the blocks it holds, as functions of those blocks, and the
  kernel's vector expressions read at one entry.
-/
module

public import proofs.«01_k».proof.Proof.FfnTile
public import proofs.«01_k».proof.Proof.IdxExt
public import proofs.«01_k».proof.Proof.Gen.MixOutIdeal.Frame
public import Idealize.ShloMosaic.Lib.Pipeline.CanonAppend

@[expose] public section

set_option maxRecDepth 16384

noncomputable section

namespace Cert.MixOutIdeal.Tile

open Idealize.ShloMosaic Idealize.ShloMosaic.TcCoe Idealize.ShloMosaic.Tactic Idealize.ShloMosaic.ValueIdx
open Idealize.SL Idealize.SL.Sem
open Cert.MixOutIdeal Cert.MixOutIdeal.Gen Cert.Rows Cert.IdxExt
open Cert.FfnIdeal.Tile (ld_rows)
open scoped BigOperators

/-- The modulation row a row of a tile uses: the first 256 rows of every third tile are context rows and use row 4, the
    others use the row of their sequence. -/
def pick (i : grid0.Coords) (r : Fin 768) : Fin 8 :=
  if (i 0).val % 3 = 0 ∧ r.val < 256 then 4 else ⟨(i 0).val / 3, by have := (i 0).isLt; change (i 0).val < 12 at this; omega⟩

/-- A merged value: the three branch outputs projected to the column at hand, each weighted by the logistic of its gate. -/
def merged (x0 : Vec Ideal S768x1024 .bf16) (x1 : Vec Ideal S768x768 .bf16) (x2 : Vec Ideal S768x1024 .bf16)
    (x3 : Vec Ideal S1024x256 .bf16) (x4 : Vec Ideal S768x256 .bf16) (x5 : Vec Ideal S1024x256 .bf16)
    (x6 x7 x8 : Vec Ideal S768x256 .bf16) (r : Fin 768) (k : Fin 256) : EReal :=
  Ideal.logistic (x6 (ix2 r k)) * (∑ e : Fin 1024, x0 (ix2 r e) * x3 (ix2 e k))
    + Ideal.logistic (x7 (ix2 r k)) * (∑ e : Fin 768, x1 (ix2 r e) * x4 (ix2 e k))
    + Ideal.logistic (x8 (ix2 r k)) * (∑ e : Fin 1024, x2 (ix2 r e) * x5 (ix2 e k))

/-- What 256 merged columns add to the output. -/
def step (x0 : Vec Ideal S768x1024 .bf16) (x1 : Vec Ideal S768x768 .bf16) (x2 : Vec Ideal S768x1024 .bf16)
    (x3 : Vec Ideal S1024x256 .bf16) (x4 : Vec Ideal S768x256 .bf16) (x5 : Vec Ideal S1024x256 .bf16)
    (x6 x7 x8 : Vec Ideal S768x256 .bf16) (x9 : Vec Ideal S256x2048 .bf16) : Vec Ideal S768x2048 .f32 :=
  fun y => ∑ k : Fin 256, merged x0 x1 x2 x3 x4 x5 x6 x7 x8 (y 0) k * x9 (ix2 k (y 1))

/-- The normalized sum of the residual input and the gated output. -/
def post (i : grid0.Coords) (x0 : Vec Ideal S768x2048 .f32) (x3 : Vec Ideal S8x2048 .f32) (x4 x5 : Vec Ideal S1x2048 .f32)
    (A : Vec Ideal S768x2048 .f32) : Vec Ideal S768x2048 .f32 :=
  fun y => normRow (fun k => alpha * x0 (ix2 (y 0) k) + x3 (ix2 (pick i (y 0)) k) * A (ix2 (y 0) k))
    (fun k => x4 (ix2 0 k)) (fun k => x5 (ix2 0 k)) (y 1)

theorem off_eq : ∀ i : grid0.Coords, k0_off1 i 0 = (i 0).val / 3 ∧ k0_off1 i 1 = 0 := by decide +kernel

/-- The bit that says whether the tile starts with context rows. -/
def headBit (a : BitVec 32) : BitVec 1 :=
  let v43 : BitVec 1 := Scalar.cmpi .eq 3#32 0#32
  let v44 : BitVec 32 := Scalar.select v43 1#32 3#32
  let v45 : BitVec 32 := Scalar.remsi a v44
  let v46 : BitVec 1 := Scalar.cmpi .ne v45 0#32
  let v47 : BitVec 1 := Scalar.cmpi .slt v45 0#32
  let v48 : BitVec 1 := Scalar.cmpi .slt v44 0#32
  let v49 : BitVec 1 := Scalar.xori v47 v48
  let v50 : BitVec 1 := Scalar.andi v49 v46
  let v51 : BitVec 32 := Scalar.addi v45 v44
  let v52 : BitVec 32 := Scalar.select v50 v51 v45
  Scalar.cmpi .eq v52 0#32

theorem headBit_eq : ∀ i : grid0.Coords, headBit (BitVec.ofNat 32 (i 0).val) = if (i 0).val % 3 = 0 then 1#1 else 0#1 := by
  decide +kernel

/-- The modulation row of the tile's sequence. -/
theorem ld_row (i : grid0.Coords) (X : Vec Ideal S8x2048 .f32)
    (inb : ∀ a : Fin 2, k0_off1 i a + S1x2048.size a ≤ S8x2048.size a) (k : Fin 2048) :
    View.ld (e' := .f32) (Val := Elt Ideal) X (Rect.unit (s := S8x2048) (k0_off1 i) S1x2048.size inb) (ix2 0 k)
      = X (ix2 ⟨(i 0).val / 3, by have := (i 0).isLt; change (i 0).val < 12 at this; omega⟩ k) := by
  refine congrArg X (funext fun a => Fin.ext ?_)
  match a with
  | ⟨0, _⟩ => show k0_off1 i 0 + 1 * 0 = (i 0).val / 3; rw [(off_eq i).1]; omega
  | ⟨1, _⟩ => show k0_off1 i 1 + 1 * k.val = k.val; rw [(off_eq i).2]; omega

/-- The modulation row of a tile's first 256 rows. -/
theorem head_row (i : grid0.Coords) (X : Vec Ideal S8x2048 .f32)
    (inb : ∀ a : Fin 2, k0_off1 i a + S1x2048.size a ≤ S8x2048.size a)
    (inb4 : ∀ a : Fin 2, (![4, 0] : Fin 2 → ℕ) a + S1x2048.size a ≤ S8x2048.size a) (k : Fin 2048) (r : Fin 768) (hr : r.val < 256) :
    (Scalar.select (headBit (BitVec.ofNat 32 (i 0).val))
      (View.ld (e' := .f32) (Val := Elt Ideal) X (Rect.unit (s := S8x2048) ![4, 0] S1x2048.size inb4))
      (View.ld (e' := .f32) (Val := Elt Ideal) X (Rect.unit (s := S8x2048) (k0_off1 i) S1x2048.size inb)) : Vec Ideal S1x2048 .f32) (ix2 0 k)
      = X (ix2 (pick i r) k) := by
  unfold pick
  rw [headBit_eq]
  by_cases h : (i 0).val % 3 = 0
  · rw [if_pos h, if_pos ⟨h, hr⟩]
    exact ld_rows (e := .f32) (A := 8) (R := 1) (C := 2048) (o := 4) X inb4 0 k 4 rfl
  · rw [if_neg h, if_neg (fun hh => h hh.1)]
    exact ld_row i X inb k

/-- The modulation row of a tile's other rows. -/
theorem tail_row (i : grid0.Coords) (X : Vec Ideal S8x2048 .f32)
    (inb : ∀ a : Fin 2, k0_off1 i a + S1x2048.size a ≤ S8x2048.size a) (k : Fin 2048) (r : Fin 768) (hr : 256 ≤ r.val) :
    View.ld (e' := .f32) (Val := Elt Ideal) X (Rect.unit (s := S8x2048) (k0_off1 i) S1x2048.size inb) (ix2 0 k) = X (ix2 (pick i r) k) := by
  unfold pick
  rw [if_neg (fun hh => absurd hh.2 (by omega))]
  exact ld_row i X inb k

section
variable (i : grid0.Coords) (x0 : Vec Ideal S768x2048 .f32) (x3 : Vec Ideal S8x2048 .f32) (x4 x5 : Vec Ideal S1x2048 .f32)
  (inb : ∀ a : Fin 2, k0_off1 i a + S1x2048.size a ≤ S8x2048.size a)

/-- The normalized first 256 rows. -/
theorem head_post (A : Vec Ideal S768x2048 .f32) (acc : Vec Ideal S256x2048 .f32)
    (hacc : ∀ x, acc x = A ((Rect.unit (s := S768x2048) ![0, 0] S256x2048.size inb_S768x2048_S256x2048_0_0).emb x)) (x : S256x2048.Idx) :
    k0_pay6 (F := Ideal)
        (k0_pay3 (View.ld (e' := .f32) (Val := Elt Ideal) x0 (Rect.unit (s := S768x2048) ![0, 0] S256x2048.size inb_S768x2048_S256x2048_0_0)))
        (k0_pay4 acc)
        (k0_pay5 (BitVec.ofNat 32 (i 0).val)
          (View.ld (e' := .f32) (Val := Elt Ideal) x3 (Rect.unit (s := S8x2048) (k0_off1 i) S1x2048.size inb))
          (View.ld (e' := .f32) (Val := Elt Ideal) x3 (Rect.unit (s := S8x2048) ![4, 0] S1x2048.size inb_S8x2048_S1x2048_4_0)))
        x4 x5 x
      = post i x0 x3 x4 x5 A ((Rect.unit (s := S768x2048) ![0, 0] S256x2048.size inb_S768x2048_S256x2048_0_0).emb x) := by
  obtain ⟨r, k, rfl⟩ : ∃ (r : Fin 256) (k : Fin 2048), x = ix2 r k := ⟨x 0, x 1, eq_ix2 x⟩
  have hr := r.isLt
  have he : ∀ j : Fin 2048, (Rect.unit (s := S768x2048) ![0, 0] S256x2048.size inb_S768x2048_S256x2048_0_0).emb (ix2 r j) = ix2 (⟨r.val, by omega⟩ : Fin 768) j :=
    fun j => ext2 ((by show 0 + 1 * r.val = r.val; omega)) ((by show 0 + 1 * j.val = j.val; omega))
  rw [he]
  refine (post_apply (R := 256) (C := 2048) _ _ _ _ _ _ _ _ _ _ shapeCasts_S256x2048_S256x2048 r k).trans ?_
  refine congrArg (fun f => normRow f _ _ k) (funext fun j => ?_)
  rw [hacc, he, ← head_row i x3 inb inb_S8x2048_S1x2048_4_0 j ⟨r.val, by omega⟩ hr,
    ← ld_rows (e := .f32) (A := 768) (R := 256) (C := 2048) (o := 0) x0 inb_S768x2048_S256x2048_0_0 r j ⟨r.val, by omega⟩ (Nat.zero_add _).symm]
  rfl

/-- The normalized other rows. -/
theorem tail_post (A : Vec Ideal S768x2048 .f32) (acc : Vec Ideal S512x2048 .f32)
    (hacc : ∀ x, acc x = A ((Rect.unit (s := S768x2048) ![256, 0] S512x2048.size inb_S768x2048_S512x2048_256_0).emb x)) (x : S512x2048.Idx) :
    k0_pay2 (F := Ideal)
        (k0_pay7 (View.ld (e' := .f32) (Val := Elt Ideal) x3 (Rect.unit (s := S8x2048) (k0_off1 i) S1x2048.size inb))
          (View.ld (e' := .f32) (Val := Elt Ideal) x0 (Rect.unit (s := S768x2048) ![256, 0] S512x2048.size inb_S768x2048_S512x2048_256_0))
          acc)
        x4 x5 x
      = post i x0 x3 x4 x5 A ((Rect.unit (s := S768x2048) ![256, 0] S512x2048.size inb_S768x2048_S512x2048_256_0).emb x) := by
  obtain ⟨r, k, rfl⟩ : ∃ (r : Fin 512) (k : Fin 2048), x = ix2 r k := ⟨x 0, x 1, eq_ix2 x⟩
  have hr := r.isLt
  have he : ∀ j : Fin 2048, (Rect.unit (s := S768x2048) ![256, 0] S512x2048.size inb_S768x2048_S512x2048_256_0).emb (ix2 r j) = ix2 (⟨256 + r.val, by omega⟩ : Fin 768) j :=
    fun j => ext2 ((by show 256 + 1 * r.val = 256 + r.val; omega)) ((by show 0 + 1 * j.val = j.val; omega))
  rw [he]
  refine (post_apply (R := 512) (C := 2048) _ _ _ _ _ _ _ _ _ _ shapeCasts_S512x2048_S512x2048 r k).trans ?_
  refine congrArg (fun f => normRow f _ _ k) (funext fun j => ?_)
  rw [hacc, he, tail_row i x3 inb j ⟨256 + r.val, by omega⟩ (Nat.le_add_right _ _),
    ld_rows (e := .f32) (A := 768) (R := 512) (C := 2048) (o := 256) x0 inb_S768x2048_S512x2048_256_0 r j ⟨256 + r.val, by omega⟩ rfl]

/-- The accumulator with what 256 merged columns add. -/
theorem step_pay (x0 : Vec Ideal S768x1024 .bf16) (x1 : Vec Ideal S768x768 .bf16) (x2 : Vec Ideal S768x1024 .bf16)
    (x3 : Vec Ideal S1024x256 .bf16) (x4 : Vec Ideal S768x256 .bf16) (x5 : Vec Ideal S1024x256 .bf16)
    (x6 x7 x8 : Vec Ideal S768x256 .bf16) (x9 : Vec Ideal S256x2048 .bf16) (acc : Vec Ideal S768x2048 .f32) (y : S768x2048.Idx) :
    k0_pay1 (F := Ideal) (k0_pay9 acc) (k0_pay10 x6 x0 x3 x7 x1 x4 x8 x2 x5) x9 y = acc y + step x0 x1 x2 x3 x4 x5 x6 x7 x8 x9 y := by
  obtain ⟨r, k, rfl⟩ : ∃ (r : Fin 768) (k : Fin 2048), y = ix2 r k := ⟨y 0, y 1, eq_ix2 y⟩
  unfold k0_pay1 k0_pay9 k0_pay10
  dsimp only
  rw [shapeCast_self, shapeCast_self, shapeCast_self, shapeCast_self, shapeCast_self, addf_apply]
  refine congrArg (fun u => acc (ix2 r k) + u) ?_
  refine (dot_apply (φ₁ := .bf16) (φ₂ := .bf16) (M := 768) (K := 256) (N := 2048) _ x9 r k).trans ?_
  refine Finset.sum_congr rfl fun f _ => congrArg (fun u => u * x9 (ix2 f k)) ?_
  have ha := dot_apply (φ₁ := .bf16) (φ₂ := .bf16) (M := 768) (K := 1024) (N := 256) x0 x3 r f
  have hb := dot_apply (φ₁ := .bf16) (φ₂ := .bf16) (M := 768) (K := 768) (N := 256) x1 x4 r f
  have hc := dot_apply (φ₁ := .bf16) (φ₂ := .bf16) (M := 768) (K := 1024) (N := 256) x2 x5 r f
  unfold merged
  exact congrArg₂ (· + ·) (congrArg₂ (· + ·) (congrArg (fun u => Ideal.logistic (x6 (ix2 r f)) * u) ha)
    (congrArg (fun u => Ideal.logistic (x7 (ix2 r f)) * u) hb)) (congrArg (fun u => Ideal.logistic (x8 (ix2 r f)) * u) hc)
end

end Cert.MixOutIdeal.Tile

end
-- ==== Proof.MixOutBlock.lean ====
/-
  The blocks the merge kernel leaves at each of its three kinds of grid point: the accumulator, which the last point of a tile
  normalizes.
-/
module

public import proofs.«01_k».proof.Proof.MixOutTile

@[expose] public section

set_option maxRecDepth 16384

noncomputable section

namespace Cert.MixOutIdeal.Block

open Idealize.ShloMosaic Idealize.ShloMosaic.TcCoe Idealize.ShloMosaic.Tactic Idealize.ShloMosaic.ValueIdx
open Idealize.SL Idealize.SL.Sem
open Cert.MixOutIdeal Cert.MixOutIdeal.Gen Cert.MixOutIdeal.Tile

theorem zero_off : (![0, 0] : Fin 2 → ℕ) = fun _ => 0 := by
  funext a
  match a with
  | ⟨0, _⟩ => rfl
  | ⟨1, _⟩ => rfl

/-- Every entry of a tile is in its first 256 rows or in the others. -/
theorem split_rows (y : S768x2048.Idx) :
    y ∈ (Rect.unit (s := S768x2048) ![256, 0] S512x2048.size inb_S768x2048_S512x2048_256_0).set
      ∨ y ∈ (Rect.unit (s := S768x2048) ![0, 0] S256x2048.size inb_S768x2048_S256x2048_0_0).set := by
  obtain ⟨r, k, rfl⟩ : ∃ (r : Fin 768) (k : Fin 2048), y = ix2 r k := ⟨y 0, y 1, eq_ix2 y⟩
  have hr := r.isLt
  by_cases h : r.val < 256
  · right
    have he : (Rect.unit (s := S768x2048) ![0, 0] S256x2048.size inb_S768x2048_S256x2048_0_0).emb (ix2 (⟨r.val, h⟩ : Fin 256) k) = ix2 r k :=
      IdxExt.ext2 (by show 0 + 1 * r.val = r.val; omega) (by show 0 + 1 * k.val = k.val; omega)
    rw [← he]
    exact LoadRect.idx_mem _ _
  · left
    have he : (Rect.unit (s := S768x2048) ![256, 0] S512x2048.size inb_S768x2048_S512x2048_256_0).emb (ix2 (⟨r.val - 256, by omega⟩ : Fin 512) k) = ix2 r k :=
      IdxExt.ext2 (by show 256 + 1 * (r.val - 256) = r.val; omega) (by show 0 + 1 * k.val = k.val; omega)
    rw [← he]
    exact LoadRect.idx_mem _ _

/-- An entry in the later rows is not in the first 256. -/
theorem later_not_first (x : S512x2048.Idx) :
    (Rect.unit (s := S768x2048) ![256, 0] S512x2048.size inb_S768x2048_S512x2048_256_0).emb x
      ∉ (Rect.unit (s := S768x2048) ![0, 0] S256x2048.size inb_S768x2048_S256x2048_0_0).set := by
  intro h
  obtain ⟨x', hx⟩ := LoadRect.exists_idx_of_mem _ h
  have h0 := congrArg (fun y : S768x2048.Idx => (y 0).val) hx
  have h1 : 0 + 1 * (x' 0).val = 256 + 1 * (x 0).val := h0
  have h2 := (x' 0).isLt
  change (x' 0).val < 256 at h2
  omega

variable (c : Dev nD) (i : grid0.Coords) (arg2 : Memref sig .tc .vmem S768x1024 .bf16) (harg2 : arg2.IsWhole) (arg3 : Memref sig .tc .vmem S768x768 .bf16) (harg3 : arg3.IsWhole) (arg4 : Memref sig .tc .vmem S768x1024 .bf16) (harg4 : arg4.IsWhole) (arg5 : Memref sig .tc .vmem S1024x256 .bf16) (harg5 : arg5.IsWhole) (arg6 : Memref sig .tc .vmem S768x256 .bf16) (harg6 : arg6.IsWhole) (arg7 : Memref sig .tc .vmem S1024x256 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x256 .bf16) (harg10 : arg10.IsWhole) (arg11 : Memref sig .tc .vmem S256x2048 .bf16) (harg11 : arg11.IsWhole) (arg12 : Memref sig .tc .vmem S768x2048 .f32) (harg12 : arg12.IsWhole) (arg13 : Memref sig .tc .vmem S8x2048 .f32) (harg13 : arg13.IsWhole) (arg14 : Memref sig .tc .vmem S1x2048 .f32) (harg14 : arg14.IsWhole) (arg15 : Memref sig .tc .vmem S1x2048 .f32) (harg15 : arg15.IsWhole) (arg16 : Memref sig .tc .vmem S768x2048 .f32) (harg16 : arg16.IsWhole)
  (x0 : Vec Ideal S768x1024 .bf16) (x1 : Vec Ideal S768x768 .bf16) (x2 : Vec Ideal S768x1024 .bf16)
  (x3 : Vec Ideal S1024x256 .bf16) (x4 : Vec Ideal S768x256 .bf16) (x5 : Vec Ideal S1024x256 .bf16) (x6 x7 x8 : Vec Ideal S768x256 .bf16)
  (x9 : Vec Ideal S256x2048 .bf16) (x10 : Vec Ideal S768x2048 .f32) (x11 : Vec Ideal S8x2048 .f32) (x12 x13 : Vec Ideal S1x2048 .f32)
  (xo14 : Vec Ideal S768x2048 .f32)

/-- The accumulator with what a point adds, from the loads of the whole blocks. -/
theorem step_ld (z : S768x2048.Idx) :
    k0_pay1 (F := Ideal)
      (k0_pay9 (View.ld (e' := .f32) (Val := Elt Ideal) xo14 (Rect.unit (s := S768x2048) ![0, 0] ![768, 2048] inb_S768x2048_S768x2048_0_0)))
      (k0_pay10
        (View.ld (e' := .bf16) (Val := Elt Ideal) x6 (Rect.unit (s := S768x256) ![0, 0] ![768, 256] inb_S768x256_S768x256_0_0))
        (View.ld (e' := .bf16) (Val := Elt Ideal) x0 (Rect.unit (s := S768x1024) ![0, 0] ![768, 1024] inb_S768x1024_S768x1024_0_0))
        (View.ld (e' := .bf16) (Val := Elt Ideal) x3 (Rect.unit (s := S1024x256) ![0, 0] ![1024, 256] inb_S1024x256_S1024x256_0_0))
        (View.ld (e' := .bf16) (Val := Elt Ideal) x7 (Rect.unit (s := S768x256) ![0, 0] ![768, 256] inb_S768x256_S768x256_0_0))
        (View.ld (e' := .bf16) (Val := Elt Ideal) x1 (Rect.unit (s := S768x768) ![0, 0] ![768, 768] inb_S768x768_S768x768_0_0))
        (View.ld (e' := .bf16) (Val := Elt Ideal) x4 (Rect.unit (s := S768x256) ![0, 0] ![768, 256] inb_S768x256_S768x256_0_0))
        (View.ld (e' := .bf16) (Val := Elt Ideal) x8 (Rect.unit (s := S768x256) ![0, 0] ![768, 256] inb_S768x256_S768x256_0_0))
        (View.ld (e' := .bf16) (Val := Elt Ideal) x2 (Rect.unit (s := S768x1024) ![0, 0] ![768, 1024] inb_S768x1024_S768x1024_0_0))
        (View.ld (e' := .bf16) (Val := Elt Ideal) x5 (Rect.unit (s := S1024x256) ![0, 0] ![1024, 256] inb_S1024x256_S1024x256_0_0)))
      (View.ld (e' := .bf16) (Val := Elt Ideal) x9 (Rect.unit (s := S256x2048) ![0, 0] ![256, 2048] inb_S256x2048_S256x2048_0_0)) z
      = xo14 z + step x0 x1 x2 x3 x4 x5 x6 x7 x8 x9 z := by
  rw [View.ld_unit_zero (S := S768x256) zero_off, View.ld_unit_zero (S := S768x1024) zero_off, View.ld_unit_zero (S := S1024x256) zero_off, View.ld_unit_zero (S := S768x256) zero_off, View.ld_unit_zero (S := S768x768) zero_off, View.ld_unit_zero (S := S768x256) zero_off, View.ld_unit_zero (S := S768x256) zero_off, View.ld_unit_zero (S := S768x1024) zero_off, View.ld_unit_zero (S := S1024x256) zero_off, View.ld_unit_zero (S := S768x2048) zero_off, View.ld_unit_zero (S := S256x2048) zero_off]
  exact step_pay _ _ _ _ _ _ _ _ _ _ _ z

/-- The accumulator after the first point of a tile. -/
theorem out_A (hc0 : cond0_0 i) (hc1 : ¬cond0_1 i) (y : S768x2048.Idx) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 y = step x0 x1 x2 x3 x4 x5 x6 x7 x8 x9 y := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  refine (congrFun (View.canon_cons_unit_zero (S := S768x2048) zero_off _ _ _) y).trans ?_
  rw [View.readCov_unit_zero (S := S768x2048) _ zero_off]
  rw [View.ld_unit_zero (S := S768x256) zero_off, View.ld_unit_zero (S := S768x1024) zero_off, View.ld_unit_zero (S := S1024x256) zero_off, View.ld_unit_zero (S := S768x256) zero_off, View.ld_unit_zero (S := S768x768) zero_off, View.ld_unit_zero (S := S768x256) zero_off, View.ld_unit_zero (S := S768x256) zero_off, View.ld_unit_zero (S := S768x1024) zero_off, View.ld_unit_zero (S := S1024x256) zero_off, View.ld_unit_zero (S := S256x2048) zero_off]
  refine (step_pay _ _ _ _ _ _ _ _ _ _ _ y).trans ?_
  have h0 : k0_pay8 (F := Ideal) y = 0 := Ideal.ofBits_zero_f32
  rw [h0, zero_add]

/-- The accumulator after a middle point of a tile. -/
theorem out_B (hc0 : ¬cond0_0 i) (hc1 : ¬cond0_1 i) (y : S768x2048.Idx) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xo14 y = xo14 y + step x0 x1 x2 x3 x4 x5 x6 x7 x8 x9 y := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xo14)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  refine (congrFun (View.canon_unit_zero (S := S768x2048) zero_off _ _) y).trans ?_
  exact step_ld x0 x1 x2 x3 x4 x5 x6 x7 x8 x9 xo14 y

/-- The block after the last point of a tile: the normalized sum. -/
theorem out_C (hc0 : ¬cond0_0 i) (hc1 : cond0_1 i) (y : S768x2048.Idx) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xo14 y
      = post i x10 x11 x12 x13 (fun y => xo14 y + step x0 x1 x2 x3 x4 x5 x6 x7 x8 x9 y) y := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xo14)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  have hw := step_ld x0 x1 x2 x3 x4 x5 x6 x7 x8 x9 xo14
  have h4 := View.ld_unit_zero (Val := Elt Ideal) (e := .f32) (S := S1x2048) zero_off inb_S1x2048_S1x2048_0_0 x12
  have h5 := View.ld_unit_zero (Val := Elt Ideal) (e := .f32) (S := S1x2048) zero_off inb_S1x2048_S1x2048_0_0 x13
  refine View.canon_append_of_pieces (post i x10 x11 x12 x13 (fun y => xo14 y + step x0 x1 x2 x3 x4 x5 x6 x7 x8 x9 y)) [_] [_, _] ?_ y ?_
  · intro p hp x
    simp only [List.mem_cons, List.not_mem_nil, or_false] at hp
    rcases hp with rfl | rfl
    · refine (tail_post i x10 x11 _ _ _ (fun y => xo14 y + step x0 x1 x2 x3 x4 x5 x6 x7 x8 x9 y) _ ?_ x).trans ?_
      · intro x
        rw [View.readCov_eq_canon']
        refine (View.canon_cons_of_not_mem _ _ ?_).trans ((congrFun (View.canon_unit_zero (S := S768x2048) zero_off _ _) _).trans (hw _))
        exact later_not_first x
      · exact congrArg₂ (fun u v => post i x10 x11 u v _ _) h4 h5
    · refine (head_post i x10 x11 _ _ _ (fun y => xo14 y + step x0 x1 x2 x3 x4 x5 x6 x7 x8 x9 y) _ ?_ x).trans ?_
      · intro x
        rw [View.readCov_eq_canon']
        exact (congrFun (View.canon_unit_zero (S := S768x2048) zero_off _ _) _).trans (hw _)
      · exact congrArg₂ (fun u v => post i x10 x11 u v _ _) h4 h5
  · rcases split_rows y with h | h
    · exact ⟨_, List.mem_cons_self, h⟩
    · exact ⟨_, List.mem_cons_of_mem _ List.mem_cons_self, h⟩

end Cert.MixOutIdeal.Block

end
-- ==== Proof.MixOutArray.lean ====
/-
  The array the merge kernel leaves: over the eight points of a tile the accumulator sums the output projection, and the last
  point normalizes it. The result is `MixOutSpec.out` of the arguments.
-/
module

public import proofs.«01_k».proof.Proof.MixOutSpec
public import proofs.«01_k».proof.Proof.MixOutBlock
public import proofs.«01_k».proof.Proof.Gen.MixOutIdeal.Value

@[expose] public section

set_option maxRecDepth 16384

noncomputable section

namespace Cert.MixOutIdeal.Array

open Idealize.ShloMosaic Idealize.ShloMosaic.TcCoe Idealize.ShloMosaic.Tactic Idealize.ShloMosaic.ValueIdx
open Idealize.SL Idealize.SL.Sem
open Cert.Rows Cert.MixOutSpec Cert.MixOutIdeal Cert.MixOutIdeal.Gen Cert.MixOutIdeal.Tile
open Cert.FfnSpec (XS MD LN modRow part)
open scoped BigOperators

variable (m : (l : Loc nD τ sig) → Buf (Elt Ideal) l)

/-- Where each window's block lies at a grid point: the row tile and the merged columns at hand. -/
theorem index0 : ∀ t : Fin cfg0.N, win0_0.index t = ![t.val / 8, 0] :=
  (by decide +kernel : ∀ t : Fin grid0.N, win0_0.index t = ![t.val / 8, 0])
theorem index1 : ∀ t : Fin cfg0.N, win0_1.index t = ![t.val / 8, 0] :=
  (by decide +kernel : ∀ t : Fin grid0.N, win0_1.index t = ![t.val / 8, 0])
theorem index2 : ∀ t : Fin cfg0.N, win0_2.index t = ![t.val / 8, 0] :=
  (by decide +kernel : ∀ t : Fin grid0.N, win0_2.index t = ![t.val / 8, 0])
theorem index3 : ∀ t : Fin cfg0.N, win0_3.index t = ![0, t.val % 8] :=
  (by decide +kernel : ∀ t : Fin grid0.N, win0_3.index t = ![0, t.val % 8])
theorem index4 : ∀ t : Fin cfg0.N, win0_4.index t = ![0, t.val % 8] :=
  (by decide +kernel : ∀ t : Fin grid0.N, win0_4.index t = ![0, t.val % 8])
theorem index5 : ∀ t : Fin cfg0.N, win0_5.index t = ![0, t.val % 8] :=
  (by decide +kernel : ∀ t : Fin grid0.N, win0_5.index t = ![0, t.val % 8])
theorem index6 : ∀ t : Fin cfg0.N, win0_6.index t = ![t.val / 8, t.val % 8] :=
  (by decide +kernel : ∀ t : Fin grid0.N, win0_6.index t = ![t.val / 8, t.val % 8])
theorem index7 : ∀ t : Fin cfg0.N, win0_7.index t = ![t.val / 8, 8 + t.val % 8] :=
  (by decide +kernel : ∀ t : Fin grid0.N, win0_7.index t = ![t.val / 8, 8 + t.val % 8])
theorem index8 : ∀ t : Fin cfg0.N, win0_8.index t = ![t.val / 8, 16 + t.val % 8] :=
  (by decide +kernel : ∀ t : Fin grid0.N, win0_8.index t = ![t.val / 8, 16 + t.val % 8])
theorem index9 : ∀ t : Fin cfg0.N, win0_9.index t = ![t.val % 8, 0] :=
  (by decide +kernel : ∀ t : Fin grid0.N, win0_9.index t = ![t.val % 8, 0])
theorem index10 : ∀ t : Fin cfg0.N, win0_10.index t = ![t.val / 8, 0] :=
  (by decide +kernel : ∀ t : Fin grid0.N, win0_10.index t = ![t.val / 8, 0])
theorem index11 : ∀ t : Fin cfg0.N, win0_11.index t = ![0, 2] :=
  (by decide +kernel : ∀ t : Fin grid0.N, win0_11.index t = ![0, 2])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![t.val / 8, 0] :=
  (by decide +kernel : ∀ t : Fin grid0.N, win0_14.index t = ![t.val / 8, 0])

/-- A block of the result is written back at the last point of its tile. -/
theorem flush14 : ∀ t : Fin cfg0.N, win0_14.flush t = decide (t.val % 8 = 7) :=
  (by decide +kernel : ∀ t : Fin grid0.N, win0_14.flush t = decide (t.val % 8 = 7))

theorem t_lt (t : Fin cfg0.N) : t.val < 96 := lt_of_lt_of_eq t.isLt (show cfg0.N = 96 from N_0)

/-- The arguments as arrays of extended reals. -/
abbrev ogArr (c : Dev nD) : OW := m ((c : Thread nD τ).loc main_arg0)
abbrev osArr (c : Dev nD) : ON := m ((c : Thread nD τ).loc main_arg1)
abbrev oaArr (c : Dev nD) : OW := m ((c : Thread nD τ).loc main_arg2)
abbrev wgArr (c : Dev nD) : WW := m ((c : Thread nD τ).loc main_arg3)
abbrev wsArr (c : Dev nD) : WN := m ((c : Thread nD τ).loc main_arg4)
abbrev waArr (c : Dev nD) : WW := m ((c : Thread nD τ).loc main_arg5)
abbrev woArr (c : Dev nD) : WO := m ((c : Thread nD τ).loc main_arg6)
abbrev pjArr (c : Dev nD) : PJ := m ((c : Thread nD τ).loc main_arg7)
abbrev xsArr (c : Dev nD) : XS := m ((c : Thread nD τ).loc main_arg8)
abbrev mdArr (c : Dev nD) : MD := m ((c : Thread nD τ).loc main_arg9)
abbrev lwArr (c : Dev nD) : LN := m ((c : Thread nD τ).loc main_arg10)
abbrev lbArr (c : Dev nD) : LN := m ((c : Thread nD τ).loc main_arg11)

/-- The weights as the kernel finds them: rounded, which is the identity here. -/
theorem V_wg (c : Dev nD) : (V m c main_v0 : WW) = wgArr m c := by
  show StableHlo.after hostOps0 _ (Proc.devRef .tc main_v0) = _
  after_results
  rfl

theorem V_ws (c : Dev nD) : (V m c main_v1 : WN) = wsArr m c := by
  show StableHlo.after hostOps0 _ (Proc.devRef .tc main_v1) = _
  after_results
  rfl

theorem V_wa (c : Dev nD) : (V m c main_v2 : WW) = waArr m c := by
  show StableHlo.after hostOps0 _ (Proc.devRef .tc main_v2) = _
  after_results
  rfl

theorem V_wo (c : Dev nD) : (V m c main_v3 : WO) = woArr m c := by
  show StableHlo.after hostOps0 _ (Proc.devRef .tc main_v3) = _
  after_results
  rfl

/-- The vectors of the norm, as rows. -/
theorem V_lw (c : Dev nD) (k : Fin 2048) : (V m c main_v4 : (⟨2, ![1, 2048]⟩ : Shape).Idx → EReal) (ix2 0 k) = lwArr m c (ix1 k) := by
  have h : V m c main_v4 = shapeCast S1x2048 (m ((c : Thread nD τ).loc main_arg10)) shapeCasts_S2048_S1x2048 := by
    show StableHlo.after hostOps0 _ (Proc.devRef .tc main_v4) = _
    after_results
    rfl
  rw [h]
  exact shapeCast_a_1a_apply _ _ 0 k

theorem V_lb (c : Dev nD) (k : Fin 2048) : (V m c main_v5 : (⟨2, ![1, 2048]⟩ : Shape).Idx → EReal) (ix2 0 k) = lbArr m c (ix1 k) := by
  have h : V m c main_v5 = shapeCast S1x2048 (m ((c : Thread nD τ).loc main_arg11)) shapeCasts_S2048_S1x2048 := by
    show StableHlo.after hostOps0 _ (Proc.devRef .tc main_v5) = _
    after_results
    rfl
  rw [h]
  exact shapeCast_a_1a_apply _ _ 0 k

/-- The row of the array at a row of the tile at hand. -/
def rowOf (t : Fin cfg0.N) (r : Fin 768) : Fin 9216 := ⟨t.val / 8 * 768 + r.val, by have := t_lt t; have := r.isLt; omega⟩

theorem coord_eq (t : Fin cfg0.N) : (grid0.coords t 0).val = t.val / 8 := by
  have ht := t_lt t
  have e0 : (grid0.coords t 0).val = t.val / 8 % 12 := Pipeline.Grid.coords_val t 0 (by decide) rfl
  omega

/-- The kernel's choice of a modulation row is the array's. -/
theorem pick_eq (t : Fin cfg0.N) (r : Fin 768) : pick (grid0.coords t) r = modRow (rowOf t r) := by
  have ht := t_lt t
  have hr := r.isLt
  have hc := coord_eq t
  have hv : (rowOf t r).val = t.val / 8 * 768 + r.val := rfl
  unfold pick modRow
  by_cases h : (grid0.coords t 0).val % 3 = 0 ∧ r.val < 256
  · rw [if_pos h, if_pos (by omega)]
  · rw [if_neg h, if_neg (by omega)]
    refine Fin.ext ?_
    show (grid0.coords t 0).val / 3 = (rowOf t r).val / 2304
    omega

/-- The rows of the branches. -/
theorem iblk0_apply (c : Dev nD) (t : Fin cfg0.N) (r : Fin 768) (k : Fin 1024) :
    (iblk m c 0 t : S768x1024.Idx → EReal) (ix2 r k) = ogArr m c (ix2 (rowOf t r) k) := by
  show V m c main_arg0 ((win0_0.rect t).emb (ix2 r k)) = _
  rw [V_main_arg0]
  refine congrArg (ogArr m c) (funext fun a => Fin.ext ?_)
  rw [Pipeline.Window.rect_emb_val win0_0 t, index0]
  match a with
  | ⟨0, _⟩ => rfl
  | ⟨1, _⟩ => show 0 * 1024 + k.val = k.val; omega

theorem iblk1_apply (c : Dev nD) (t : Fin cfg0.N) (r : Fin 768) (k : Fin 768) :
    (iblk m c 1 t : S768x768.Idx → EReal) (ix2 r k) = osArr m c (ix2 (rowOf t r) k) := by
  show V m c main_arg1 ((win0_1.rect t).emb (ix2 r k)) = _
  rw [V_main_arg1]
  refine congrArg (osArr m c) (funext fun a => Fin.ext ?_)
  rw [Pipeline.Window.rect_emb_val win0_1 t, index1]
  match a with
  | ⟨0, _⟩ => rfl
  | ⟨1, _⟩ => show 0 * 768 + k.val = k.val; omega

theorem iblk2_apply (c : Dev nD) (t : Fin cfg0.N) (r : Fin 768) (k : Fin 1024) :
    (iblk m c 2 t : S768x1024.Idx → EReal) (ix2 r k) = oaArr m c (ix2 (rowOf t r) k) := by
  show V m c main_arg2 ((win0_2.rect t).emb (ix2 r k)) = _
  rw [V_main_arg2]
  refine congrArg (oaArr m c) (funext fun a => Fin.ext ?_)
  rw [Pipeline.Window.rect_emb_val win0_2 t, index2]
  match a with
  | ⟨0, _⟩ => rfl
  | ⟨1, _⟩ => show 0 * 1024 + k.val = k.val; omega

/-- The columns at hand of the branch weights. -/
theorem iblk3_apply (c : Dev nD) (t : Fin cfg0.N) (r : Fin 1024) (k : Fin 256) :
    (iblk m c 3 t : S1024x256.Idx → EReal) (ix2 r k) = wgArr m c (ix2 r (⟨t.val % 8 * 256 + k.val, by have := k.isLt; omega⟩ : Fin 2048)) := by
  show V m c main_v0 ((win0_3.rect t).emb (ix2 r k)) = _
  refine (congrFun (V_wg m c) _).trans ?_
  refine congrArg (wgArr m c) (funext fun a => Fin.ext ?_)
  rw [Pipeline.Window.rect_emb_val win0_3 t, index3]
  match a with
  | ⟨0, _⟩ => show 0 * 1024 + r.val = r.val; omega
  | ⟨1, _⟩ => rfl

theorem iblk4_apply (c : Dev nD) (t : Fin cfg0.N) (r : Fin 768) (k : Fin 256) :
    (iblk m c 4 t : S768x256.Idx → EReal) (ix2 r k) = wsArr m c (ix2 r (⟨t.val % 8 * 256 + k.val, by have := k.isLt; omega⟩ : Fin 2048)) := by
  show V m c main_v1 ((win0_4.rect t).emb (ix2 r k)) = _
  refine (congrFun (V_ws m c) _).trans ?_
  refine congrArg (wsArr m c) (funext fun a => Fin.ext ?_)
  rw [Pipeline.Window.rect_emb_val win0_4 t, index4]
  match a with
  | ⟨0, _⟩ => show 0 * 768 + r.val = r.val; omega
  | ⟨1, _⟩ => rfl

theorem iblk5_apply (c : Dev nD) (t : Fin cfg0.N) (r : Fin 1024) (k : Fin 256) :
    (iblk m c 5 t : S1024x256.Idx → EReal) (ix2 r k) = waArr m c (ix2 r (⟨t.val % 8 * 256 + k.val, by have := k.isLt; omega⟩ : Fin 2048)) := by
  show V m c main_v2 ((win0_5.rect t).emb (ix2 r k)) = _
  refine (congrFun (V_wa m c) _).trans ?_
  refine congrArg (waArr m c) (funext fun a => Fin.ext ?_)
  rw [Pipeline.Window.rect_emb_val win0_5 t, index5]
  match a with
  | ⟨0, _⟩ => show 0 * 1024 + r.val = r.val; omega
  | ⟨1, _⟩ => rfl

/-- The columns at hand of the gates. -/
theorem iblk6_apply (c : Dev nD) (t : Fin cfg0.N) (r : Fin 768) (k : Fin 256) :
    (iblk m c 6 t : S768x256.Idx → EReal) (ix2 r k) = pjArr m c (ix2 (rowOf t r) (⟨0 * 2048 + (t.val % 8 * 256 + k.val), by have := k.isLt; omega⟩ : Fin 11776)) := by
  show V m c main_arg7 ((win0_6.rect t).emb (ix2 r k)) = _
  rw [V_main_arg7]
  refine congrArg (pjArr m c) (funext fun a => Fin.ext ?_)
  rw [Pipeline.Window.rect_emb_val win0_6 t, index6]
  match a with
  | ⟨0, _⟩ => rfl
  | ⟨1, _⟩ => show t.val % 8 * 256 + k.val = 0 * 2048 + (t.val % 8 * 256 + k.val); omega

theorem iblk7_apply (c : Dev nD) (t : Fin cfg0.N) (r : Fin 768) (k : Fin 256) :
    (iblk m c 7 t : S768x256.Idx → EReal) (ix2 r k) = pjArr m c (ix2 (rowOf t r) (⟨1 * 2048 + (t.val % 8 * 256 + k.val), by have := k.isLt; omega⟩ : Fin 11776)) := by
  show V m c main_arg7 ((win0_7.rect t).emb (ix2 r k)) = _
  rw [V_main_arg7]
  refine congrArg (pjArr m c) (funext fun a => Fin.ext ?_)
  rw [Pipeline.Window.rect_emb_val win0_7 t, index7]
  match a with
  | ⟨0, _⟩ => rfl
  | ⟨1, _⟩ => show (8 + t.val % 8) * 256 + k.val = 1 * 2048 + (t.val % 8 * 256 + k.val); omega

theorem iblk8_apply (c : Dev nD) (t : Fin cfg0.N) (r : Fin 768) (k : Fin 256) :
    (iblk m c 8 t : S768x256.Idx → EReal) (ix2 r k) = pjArr m c (ix2 (rowOf t r) (⟨2 * 2048 + (t.val % 8 * 256 + k.val), by have := k.isLt; omega⟩ : Fin 11776)) := by
  show V m c main_arg7 ((win0_8.rect t).emb (ix2 r k)) = _
  rw [V_main_arg7]
  refine congrArg (pjArr m c) (funext fun a => Fin.ext ?_)
  rw [Pipeline.Window.rect_emb_val win0_8 t, index8]
  match a with
  | ⟨0, _⟩ => rfl
  | ⟨1, _⟩ => show (16 + t.val % 8) * 256 + k.val = 2 * 2048 + (t.val % 8 * 256 + k.val); omega

/-- The rows at hand of the output weight. -/
theorem iblk9_apply (c : Dev nD) (t : Fin cfg0.N) (r : Fin 256) (k : Fin 2048) :
    (iblk m c 9 t : S256x2048.Idx → EReal) (ix2 r k) = woArr m c (ix2 (⟨t.val % 8 * 256 + r.val, by have := r.isLt; omega⟩ : Fin 2048) k) := by
  show V m c main_v3 ((win0_9.rect t).emb (ix2 r k)) = _
  refine (congrFun (V_wo m c) _).trans ?_
  refine congrArg (woArr m c) (funext fun a => Fin.ext ?_)
  rw [Pipeline.Window.rect_emb_val win0_9 t, index9]
  match a with
  | ⟨0, _⟩ => rfl
  | ⟨1, _⟩ => show 0 * 2048 + k.val = k.val; omega

/-- The rows of the residual input. -/
theorem iblk10_apply (c : Dev nD) (t : Fin cfg0.N) (r : Fin 768) (k : Fin 2048) :
    (iblk m c 10 t : S768x2048.Idx → EReal) (ix2 r k) = xsArr m c (ix2 (rowOf t r) k) := by
  show V m c main_arg8 ((win0_10.rect t).emb (ix2 r k)) = _
  rw [V_main_arg8]
  refine congrArg (xsArr m c) (funext fun a => Fin.ext ?_)
  rw [Pipeline.Window.rect_emb_val win0_10 t, index10]
  match a with
  | ⟨0, _⟩ => rfl
  | ⟨1, _⟩ => show 0 * 2048 + k.val = k.val; omega

/-- The part of the modulation table the kernel reads. -/
theorem iblk11_apply (c : Dev nD) (t : Fin cfg0.N) (r : Fin 8) (k : Fin 2048) :
    (iblk m c 11 t : S8x2048.Idx → EReal) (ix2 r k) = mdArr m c (ix2 r (⟨2 * 2048 + k.val, by have := k.isLt; omega⟩ : Fin 12288)) := by
  show V m c main_arg9 ((win0_11.rect t).emb (ix2 r k)) = _
  rw [V_main_arg9]
  refine congrArg (mdArr m c) (funext fun a => Fin.ext ?_)
  rw [Pipeline.Window.rect_emb_val win0_11 t, index11]
  match a with
  | ⟨0, _⟩ => show 0 * 8 + r.val = r.val; omega
  | ⟨1, _⟩ => rfl

theorem iblk12_apply (c : Dev nD) (t : Fin cfg0.N) (k : Fin 2048) :
    (iblk m c 12 t : S1x2048.Idx → EReal) (ix2 0 k) = lwArr m c (ix1 k) := by
  refine Eq.trans ?_ (V_lw m c k)
  show V m c main_v4 ((win0_12.rect t).emb (ix2 0 k)) = _
  refine congrArg (V m c main_v4) (funext fun a => Fin.ext ?_)
  rw [Pipeline.Window.rect_emb_val win0_12 t, index12]
  match a with
  | ⟨0, _⟩ => rfl
  | ⟨1, _⟩ => show 0 * 2048 + k.val = k.val; omega

theorem iblk13_apply (c : Dev nD) (t : Fin cfg0.N) (k : Fin 2048) :
    (iblk m c 13 t : S1x2048.Idx → EReal) (ix2 0 k) = lbArr m c (ix1 k) := by
  refine Eq.trans ?_ (V_lb m c k)
  show V m c main_v5 ((win0_13.rect t).emb (ix2 0 k)) = _
  refine congrArg (V m c main_v5) (funext fun a => Fin.ext ?_)
  rw [Pipeline.Window.rect_emb_val win0_13 t, index13]
  match a with
  | ⟨0, _⟩ => rfl
  | ⟨1, _⟩ => show 0 * 2048 + k.val = k.val; omega

/-- The merged values at hand. -/
theorem merged_eq (c : Dev nD) (t : Fin cfg0.N) (r : Fin 768) (k : Fin 256) :
    Tile.merged (iblk m c 0 t) (iblk m c 1 t) (iblk m c 2 t) (iblk m c 3 t) (iblk m c 4 t) (iblk m c 5 t) (iblk m c 6 t) (iblk m c 7 t) (iblk m c 8 t) r k
      = MixOutSpec.merged (ogArr m c) (osArr m c) (oaArr m c) (wgArr m c) (wsArr m c) (waArr m c) (pjArr m c) (rowOf t r) (⟨t.val % 8 * 256 + k.val, by have := k.isLt; omega⟩ : Fin 2048) := by
  unfold Tile.merged MixOutSpec.merged gate
  refine congrArg₂ (· + ·) (congrArg₂ (· + ·) ?_ ?_) ?_
  · exact congrArg₂ (· * ·) (congrArg Ideal.logistic (iblk6_apply m c t r k))
      (Finset.sum_congr rfl fun e _ => congrArg₂ (· * ·) (iblk0_apply m c t r e) (iblk3_apply m c t e k))
  · exact congrArg₂ (· * ·) (congrArg Ideal.logistic (iblk7_apply m c t r k))
      (Finset.sum_congr rfl fun e _ => congrArg₂ (· * ·) (iblk1_apply m c t r e) (iblk4_apply m c t e k))
  · exact congrArg₂ (· * ·) (congrArg Ideal.logistic (iblk8_apply m c t r k))
      (Finset.sum_congr rfl fun e _ => congrArg₂ (· * ·) (iblk2_apply m c t r e) (iblk5_apply m c t e k))

/-- What a point adds is the next 256 terms of the output projection. -/
theorem step_eq (c : Dev nD) (t : Fin cfg0.N) (r : Fin 768) (e : Fin 2048) :
    step (iblk m c 0 t) (iblk m c 1 t) (iblk m c 2 t) (iblk m c 3 t) (iblk m c 4 t) (iblk m c 5 t) (iblk m c 6 t) (iblk m c 7 t) (iblk m c 8 t) (iblk m c 9 t) (ix2 r e)
      = ∑ k : Fin 256, term (ogArr m c) (osArr m c) (oaArr m c) (wgArr m c) (wsArr m c) (waArr m c) (woArr m c) (pjArr m c) (rowOf t r) e (256 * (t.val % 8) + k.val) := by
  have ht := t_lt t
  refine Finset.sum_congr rfl fun k _ => ?_
  have hk := k.isLt
  have hf : 256 * (t.val % 8) + k.val < 2048 := by omega
  unfold term
  rw [dif_pos hf]
  have e1 : (⟨t.val % 8 * 256 + k.val, by omega⟩ : Fin 2048) = ⟨256 * (t.val % 8) + k.val, hf⟩ := Fin.ext (by show _ = _; dsimp only; omega)
  exact congrArg₂ (· * ·) ((merged_eq m c t r k).trans (congrArg (fun f => MixOutSpec.merged (ogArr m c) (osArr m c) (oaArr m c) (wgArr m c) (wsArr m c) (waArr m c) (pjArr m c) (rowOf t r) f) e1))
    ((iblk9_apply m c t k e).trans (congrArg (fun f => woArr m c (ix2 f e)) e1))

/-- The accumulator of the tile at hand after `n` merged columns. -/
def sumRows (c : Dev nD) (t : Fin cfg0.N) (n : ℕ) : Vec Ideal S768x2048 .f32 :=
  fun y => partialMix (ogArr m c) (osArr m c) (oaArr m c) (wgArr m c) (wsArr m c) (waArr m c) (woArr m c) (pjArr m c) n (rowOf t (y 0)) (y 1)

theorem sumRows_step (c : Dev nD) (t : Fin cfg0.N) (y : S768x2048.Idx) :
    sumRows m c t (256 * (t.val % 8)) y + step (iblk m c 0 t) (iblk m c 1 t) (iblk m c 2 t) (iblk m c 3 t) (iblk m c 4 t) (iblk m c 5 t) (iblk m c 6 t) (iblk m c 7 t) (iblk m c 8 t) (iblk m c 9 t) y
      = sumRows m c t (256 * (t.val % 8 + 1)) y := by
  obtain ⟨r, e, rfl⟩ : ∃ (r : Fin 768) (e : Fin 2048), y = ix2 r e := ⟨y 0, y 1, eq_ix2 y⟩
  rw [step_eq]
  exact (partialMix_add _ _ _ _ _ _ _ _ _ _ _).symm

/-- The rows at hand, and the gates, as arrays of extended reals. -/
abbrev blk10 (c : Dev nD) (t : Fin cfg0.N) : S768x2048.Idx → EReal := iblk m c 10 t
abbrev blk11 (c : Dev nD) (t : Fin cfg0.N) : S8x2048.Idx → EReal := iblk m c 11 t

/-- The result rows of the tile at hand. -/
theorem post_eq (c : Dev nD) (t : Fin cfg0.N) (y : S768x2048.Idx) :
    post (grid0.coords t) (iblk m c 10 t) (iblk m c 11 t) (iblk m c 12 t) (iblk m c 13 t) (sumRows m c t 2048) y
      = out (ogArr m c) (osArr m c) (oaArr m c) (wgArr m c) (wsArr m c) (waArr m c) (woArr m c) (pjArr m c) (xsArr m c) (mdArr m c) (lwArr m c) (lbArr m c) (ix2 (rowOf t (y 0)) (y 1)) := by
  obtain ⟨r, e, rfl⟩ : ∃ (r : Fin 768) (e : Fin 2048), y = ix2 r e := ⟨y 0, y 1, eq_ix2 y⟩
  have hz : (fun k : Fin 2048 => alpha * blk10 m c t (ix2 r k) + blk11 m c t (ix2 (pick (grid0.coords t) r) k) * sumRows m c t 2048 (ix2 r k))
      = fun k => alpha * xsArr m c (ix2 (rowOf t r) k) + part (mdArr m c) 2 (by norm_num) (rowOf t r) k
          * mix (ogArr m c) (osArr m c) (oaArr m c) (wgArr m c) (wsArr m c) (waArr m c) (woArr m c) (pjArr m c) (rowOf t r) k := by
    funext k
    refine congrArg₂ (· + ·) (congrArg (fun u => alpha * u) (iblk10_apply m c t r k)) (congrArg₂ (· * ·) ?_ ?_)
    · refine (iblk11_apply m c t _ k).trans ?_
      unfold part
      rw [pick_eq]
    · exact partialMix_all _ _ _ _ _ _ _ _ _ _
  have h4 : (fun k : Fin 2048 => (iblk m c 12 t : S1x2048.Idx → EReal) (ix2 0 k)) = fun k => lwArr m c (ix1 k) :=
    funext fun k => iblk12_apply m c t k
  have h5 : (fun k : Fin 2048 => (iblk m c 13 t : S1x2048.Idx → EReal) (ix2 0 k)) = fun k => lbArr m c (ix1 k) :=
    funext fun k => iblk13_apply m c t k
  show normRow _ _ _ e = normRow _ _ _ e
  rw [hz, h4, h5]

/-- What the first point of a tile leaves. -/
theorem point_A (c : Dev nD) (t : Fin cfg0.N) (h0 : t.val % 8 = 0) (h1 : ¬t.val % 8 = 7) :
    outsAt0 m c t.val t.isLt = step (iblk m c 0 t) (iblk m c 1 t) (iblk m c 2 t) (iblk m c 3 t) (iblk m c 4 t) (iblk m c 5 t) (iblk m c 6 t) (iblk m c 7 t) (iblk m c 8 t) (iblk m c 9 t) :=
  (outsAt0_A m c t h0 h1).trans
    (funext (Block.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0) (fun h => h1 ((hcond0_1 t).mp h))))

/-- What a middle point of a tile leaves. -/
theorem point_B (c : Dev nD) (t : Fin cfg0.N) (h0 : ¬t.val % 8 = 0) (h1 : ¬t.val % 8 = 7) :
    outsAt0 m c t.val t.isLt = fun y => (outsAt0 m c (t.val - 1) (Nat.lt_of_le_of_lt (Nat.sub_le _ _) t.isLt)) y
      + step (iblk m c 0 t) (iblk m c 1 t) (iblk m c 2 t) (iblk m c 3 t) (iblk m c 4 t) (iblk m c 5 t) (iblk m c 6 t) (iblk m c 7 t) (iblk m c 8 t) (iblk m c 9 t) y :=
  (outsAt0_B m c t h0 h1).trans
    (funext (Block.out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)) (fun h => h0 ((hcond0_0 t).mp h)) (fun h => h1 ((hcond0_1 t).mp h))))

/-- What the last point of a tile leaves. -/
theorem point_C (c : Dev nD) (t : Fin cfg0.N) (h0 : ¬t.val % 8 = 0) (h1 : t.val % 8 = 7) :
    outsAt0 m c t.val t.isLt = post (grid0.coords t) (iblk m c 10 t) (iblk m c 11 t) (iblk m c 12 t) (iblk m c 13 t)
      (fun y => (outsAt0 m c (t.val - 1) (Nat.lt_of_le_of_lt (Nat.sub_le _ _) t.isLt)) y
        + step (iblk m c 0 t) (iblk m c 1 t) (iblk m c 2 t) (iblk m c 3 t) (iblk m c 4 t) (iblk m c 5 t) (iblk m c 6 t) (iblk m c 7 t) (iblk m c 8 t) (iblk m c 9 t) y) :=
  (outsAt0_C m c t h0 h1).trans
    (funext (Block.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)) (fun h => h0 ((hcond0_0 t).mp h)) ((hcond0_1 t).mpr h1)))

/-- Points of one tile have the same rows. -/
theorem rowOf_succ (n : ℕ) (hn : n + 1 < cfg0.N) (h : (n + 1) % 8 ≠ 0) (r : Fin 768) :
    rowOf ⟨n, Nat.lt_of_succ_lt hn⟩ r = rowOf ⟨n + 1, hn⟩ r :=
  Fin.ext (by show n / 8 * 768 + r.val = (n + 1) / 8 * 768 + r.val; omega)

theorem sumRows_succ (c : Dev nD) (n : ℕ) (hn : n + 1 < cfg0.N) (h : (n + 1) % 8 ≠ 0) (y : S768x2048.Idx) :
    sumRows m c ⟨n, Nat.lt_of_succ_lt hn⟩ (256 * (n % 8 + 1)) y = sumRows m c ⟨n + 1, hn⟩ (256 * ((n + 1) % 8)) y :=
  congrArg₂ (fun N r => partialMix (ogArr m c) (osArr m c) (oaArr m c) (wgArr m c) (wsArr m c) (waArr m c) (woArr m c) (pjArr m c) N r (y 1))
    (show 256 * (n % 8 + 1) = 256 * ((n + 1) % 8) by omega) (rowOf_succ n hn h (y 0))

/-- Before the last point of a tile the accumulator holds the terms so far. -/
theorem outs_eq (c : Dev nD) : ∀ (n : ℕ) (hn : n < cfg0.N), n % 8 ≠ 7 →
    outsAt0 m c n hn = sumRows m c ⟨n, hn⟩ (256 * (n % 8 + 1)) := by
  have hA : ∀ t : Fin cfg0.N, t.val % 8 = 0 → outsAt0 m c t.val t.isLt = sumRows m c t (256 * (t.val % 8 + 1)) := by
    intro t h0
    rw [point_A m c t h0 (by omega)]
    refine funext fun y => Eq.trans ?_ (sumRows_step m c t y)
    have hz : sumRows m c t (256 * (t.val % 8)) y = 0 := by rw [h0]; rfl
    rw [hz, zero_add]
  intro n
  induction n with
  | zero => intro hn _; exact hA ⟨0, hn⟩ rfl
  | succ n ih =>
    intro hn h7
    by_cases h0 : (n + 1) % 8 = 0
    · exact hA ⟨n + 1, hn⟩ h0
    · have ih' := ih (Nat.lt_of_succ_lt hn) (by omega)
      refine (point_B m c ⟨n + 1, hn⟩ h0 h7).trans (funext fun y => ?_)
      refine Eq.trans (congrArg (fun u => u + _) ?_) (sumRows_step m c ⟨n + 1, hn⟩ y)
      exact (congrFun ih' y).trans (sumRows_succ m c n hn h0 y)

/-- The block the last point of a tile leaves. -/
theorem last_eq (c : Dev nD) (n : ℕ) (hn : n + 1 < cfg0.N) (h7 : (n + 1) % 8 = 7) (y : S768x2048.Idx) :
    outsAt0 m c (n + 1) hn y = out (ogArr m c) (osArr m c) (oaArr m c) (wgArr m c) (wsArr m c) (waArr m c) (woArr m c) (pjArr m c) (xsArr m c) (mdArr m c) (lwArr m c) (lbArr m c) (ix2 (rowOf ⟨n + 1, hn⟩ (y 0)) (y 1)) := by
  have h0 : (n + 1) % 8 ≠ 0 := by omega
  refine (congrFun (point_C m c ⟨n + 1, hn⟩ h0 h7) y).trans ?_
  refine Eq.trans (congrArg (fun A => post _ _ _ _ _ A y) (funext fun z => ?_)) (post_eq m c ⟨n + 1, hn⟩ y)
  have hs := sumRows_step m c ⟨n + 1, hn⟩ z
  rw [show 256 * ((⟨n + 1, hn⟩ : Fin cfg0.N).val % 8 + 1) = 2048 from by show 256 * ((n + 1) % 8 + 1) = 2048; omega] at hs
  refine Eq.trans (congrArg (fun u => u + _) ?_) hs
  exact (congrFun (outs_eq m c n (Nat.lt_of_succ_lt hn) (by omega)) z).trans (sumRows_succ m c n hn h0 z)

/-- The place in the array of an entry of the block written at point `t`. -/
theorem emb14 (t : Fin cfg0.N) (r : Fin 768) (e : Fin 2048) :
    ((win0_14.rect t).emb (ix2 r e) : S9216x2048.Idx) = ix2 (rowOf t r) e := by
  refine funext fun a => Fin.ext ?_
  rw [Pipeline.Window.rect_emb_val win0_14 t, index14]
  match a with
  | ⟨0, _⟩ => rfl
  | ⟨1, _⟩ => show 0 * 2048 + e.val = e.val; omega

/-- The whole result of the kernel. -/
def result (c : Dev nD) : S9216x2048.Idx → EReal := out (ogArr m c) (osArr m c) (oaArr m c) (wgArr m c) (wsArr m c) (waArr m c) (woArr m c) (pjArr m c) (xsArr m c) (mdArr m c) (lwArr m c) (lbArr m c)

theorem flushed_eq (c : Dev nD) (t : Fin cfg0.N) (hf : (cfg0.win 14).flush t = true) :
    (dats m 0 c).flushed 14 t = ((cfg0.win 14).blk t).view.read (Elt Ideal) (result m c) := by
  have h7 : t.val % 8 = 7 := of_decide_eq_true ((flush14 t).symm.trans hf)
  obtain ⟨n, hn⟩ := t
  obtain ⟨n, rfl⟩ : ∃ k, n = k + 1 := ⟨n - 1, by dsimp only at h7; omega⟩
  funext y
  obtain ⟨r, e, rfl⟩ : ∃ (r : Fin 768) (e : Fin 2048), y = ix2 r e := ⟨y 0, y 1, eq_ix2 y⟩
  have hR : ((cfg0.win 14).blk ⟨n + 1, hn⟩).view.read (Elt Ideal) (result m c) (ix2 r e)
      = out (ogArr m c) (osArr m c) (oaArr m c) (wgArr m c) (wsArr m c) (waArr m c) (woArr m c) (pjArr m c) (xsArr m c) (mdArr m c) (lwArr m c) (lbArr m c) ((win0_14.rect ⟨n + 1, hn⟩).emb (ix2 r e)) := rfl
  rw [hR, emb14, Value.flushed14]
  exact last_eq m c n hn h7 (ix2 r e)

/-- The blocks fill the array, so the array ends holding the result. -/
theorem final (c : Dev nD) : (dats m 0 c).arrAt 14 cfg0.N = result m c := by
  refine (dats m 0 c).arrAt_eq_of_cover 14 (result m c) (fun t hf => flushed_eq m c t hf) fun i => ?_
  obtain ⟨r, e, rfl⟩ : ∃ (r : Fin 9216) (e : Fin 2048), i = ix2 r e := ⟨i 0, i 1, eq_ix2 i⟩
  have hr := r.isLt
  have hlt : r.val / 768 * 8 + 7 < cfg0.N := by rw [show cfg0.N = 96 from N_0]; omega
  refine ⟨⟨r.val / 768 * 8 + 7, hlt⟩, (flush14 _).trans (decide_eq_true (by show (r.val / 768 * 8 + 7) % 8 = 7; omega)), ?_⟩
  have hi : (ix2 r e : S9216x2048.Idx) = (win0_14.rect ⟨r.val / 768 * 8 + 7, hlt⟩).emb
      (ix2 (⟨r.val % 768, Nat.mod_lt _ (by norm_num)⟩ : Fin 768) e) := by
    rw [emb14]
    refine IdxExt.ext2 ?_ rfl
    show r.val = (r.val / 768 * 8 + 7) / 8 * 768 + r.val % 768
    omega
  rw [hi]
  exact ((cfg0.win 14).blk ⟨r.val / 768 * 8 + 7, hlt⟩).view.emb_mem_set _

/-- The kernel ends with the result, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.MixOutIdeal.Array

end
-- ==== Proof.MixOutRefMerge.lean ====
/-
  The reference merge and output projection, entry by entry.
-/
module

public import proofs.«01_k».proof.Proof.MixOutSpec
public import proofs.«01_k».proof.Proof.RefRows
public import proofs.«01_k».proof.Proof.Gen.MixOutRefIdeal.Read

@[expose] public section

set_option maxRecDepth 16384

noncomputable section

namespace Cert.MixOutRefIdeal.Merge

open Idealize.ShloMosaic Idealize.ShloMosaic.TcCoe Idealize.ShloMosaic.ValueIdx
open Idealize.SL Idealize.SL.Sem
open Cert.Rows Cert.MixOutSpec Cert.IdxExt Cert.MixOutRefIdeal Cert.MixOutRefIdeal.Gen Cert.MixOutRefIdeal.Read Cert.RefRows
open Cert.FfnSpec (modRow part)
open scoped BigOperators

variable (x0 : (⟨S9216x1024, .bf16⟩ : BufTy).Contents (Elt Ideal)) (x1 : (⟨S9216x768, .bf16⟩ : BufTy).Contents (Elt Ideal))
  (x2 : (⟨S9216x1024, .bf16⟩ : BufTy).Contents (Elt Ideal)) (x3 : (⟨S1024x2048, .f32⟩ : BufTy).Contents (Elt Ideal))
  (x4 : (⟨S768x2048, .f32⟩ : BufTy).Contents (Elt Ideal)) (x5 : (⟨S1024x2048, .f32⟩ : BufTy).Contents (Elt Ideal))
  (x6 : (⟨S2048x2048, .f32⟩ : BufTy).Contents (Elt Ideal)) (x7 : (⟨S9216x11776, .bf16⟩ : BufTy).Contents (Elt Ideal))
  (x8 : (⟨S9216x2048, .f32⟩ : BufTy).Contents (Elt Ideal)) (x9 : (⟨S8x12288, .f32⟩ : BufTy).Contents (Elt Ideal))
  (x10 x11 : (⟨S2048, .f32⟩ : BufTy).Contents (Elt Ideal))

/-- The gate written out is the logistic function. -/
theorem sigmoid_eq (a : EReal) : Ideal.div one (one + Ideal.exp (-a)) = Ideal.logistic a := by
  rw [one_eq]; rfl

theorem sigmoid_at (r : Fin 9216) (k : Fin 6144) :
    val_main_v7 (F := Ideal) x7 (ix2 r k) = Ideal.logistic (x7 (ix2 r (⟨k.val, by have := k.isLt; omega⟩ : Fin 11776))) := by
  rw [val_main_v7_apply, val_main_v6_apply, val_main_cst_0_apply, val_main_v5_apply, val_main_v4_apply, val_main_cst_apply, val_main_v3_apply,
    val_main_v2_apply, val_main_v1_apply, val_main_v0_apply, show idx_main_v0 (ix2 r k) = ix2 r (⟨k.val, by have := k.isLt; omega⟩ : Fin 11776) from ext2 rfl rfl]
  exact sigmoid_eq _

theorem gate0_at (r : Fin 9216) (k : Fin 2048) : val_main_v8 (F := Ideal) x7 (ix2 r k) = gate x7 0 (by norm_num) r k := by
  rw [val_main_v8_apply, show idx_main_v8 (ix2 r k) = ix2 r (⟨k.val, by have := k.isLt; omega⟩ : Fin 6144) from ext2 rfl rfl, sigmoid_at]
  exact congrArg (fun c => Ideal.logistic (x7 (ix2 r c))) (Fin.ext (by show k.val = 0 * 2048 + k.val; omega))

theorem gate1_at (r : Fin 9216) (k : Fin 2048) : val_main_v9 (F := Ideal) x7 (ix2 r k) = gate x7 1 (by norm_num) r k := by
  rw [val_main_v9_apply, show idx_main_v9 (ix2 r k) = ix2 r (⟨2048 + k.val, by have := k.isLt; omega⟩ : Fin 6144) from ext2 rfl rfl, sigmoid_at]
  exact congrArg (fun c => Ideal.logistic (x7 (ix2 r c))) (Fin.ext (by show 2048 + k.val = 1 * 2048 + k.val; omega))

theorem gate2_at (r : Fin 9216) (k : Fin 2048) : val_main_v10 (F := Ideal) x7 (ix2 r k) = gate x7 2 (by norm_num) r k := by
  rw [val_main_v10_apply, show idx_main_v10 (ix2 r k) = ix2 r (⟨4096 + k.val, by have := k.isLt; omega⟩ : Fin 6144) from ext2 rfl rfl, sigmoid_at]
  exact congrArg (fun c => Ideal.logistic (x7 (ix2 r c))) (Fin.ext (by show 4096 + k.val = 2 * 2048 + k.val; omega))

theorem branch0_at (r : Fin 9216) (k : Fin 2048) :
    val_main_v12 (F := Ideal) x0 x3 (ix2 r k) = ∑ e : Fin 1024, x0 (ix2 r e) * x3 (ix2 e k) := by
  rw [val_main_v12_apply]
  refine Finset.sum_congr rfl fun e _ => ?_
  rw [show lidx_main_v12 (ix2 r k) e = ix2 r e from ext2 rfl rfl, val_main_v11_apply,
    show ridx_main_v12 (ix2 r k) e = ix2 e k from ext2 rfl rfl]
  rfl

theorem branch1_at (r : Fin 9216) (k : Fin 2048) :
    val_main_v15 (F := Ideal) x1 x4 (ix2 r k) = ∑ e : Fin 768, x1 (ix2 r e) * x4 (ix2 e k) := by
  rw [val_main_v15_apply]
  refine Finset.sum_congr rfl fun e _ => ?_
  rw [show lidx_main_v15 (ix2 r k) e = ix2 r e from ext2 rfl rfl, val_main_v14_apply,
    show ridx_main_v15 (ix2 r k) e = ix2 e k from ext2 rfl rfl]
  rfl

theorem branch2_at (r : Fin 9216) (k : Fin 2048) :
    val_main_v19 (F := Ideal) x2 x5 (ix2 r k) = ∑ e : Fin 1024, x2 (ix2 r e) * x5 (ix2 e k) := by
  rw [val_main_v19_apply]
  refine Finset.sum_congr rfl fun e _ => ?_
  rw [show lidx_main_v19 (ix2 r k) e = ix2 r e from ext2 rfl rfl, val_main_v18_apply,
    show ridx_main_v19 (ix2 r k) e = ix2 e k from ext2 rfl rfl]
  rfl

/-- The merged entries. -/
theorem merged_at (r : Fin 9216) (k : Fin 2048) :
    val_main_v21 (F := Ideal) x0 x1 x2 x3 x4 x5 x7 (ix2 r k) = merged x0 x1 x2 x3 x4 x5 x7 r k := by
  rw [val_main_v21_apply, val_main_v17_apply, val_main_v13_apply, val_main_v16_apply, val_main_v20_apply, gate0_at, gate1_at, gate2_at,
    branch0_at, branch1_at, branch2_at]
  rfl

/-- The output projection. -/
theorem mix_at (r : Fin 9216) (k : Fin 2048) :
    val_main_v22 (F := Ideal) x0 x1 x2 x3 x4 x5 x6 x7 (ix2 r k) = mix x0 x1 x2 x3 x4 x5 x6 x7 r k := by
  rw [val_main_v22_apply]
  refine Finset.sum_congr rfl fun e _ => ?_
  rw [show lidx_main_v22 (ix2 r k) e = ix2 r e from ext2 rfl rfl, merged_at,
    show ridx_main_v22 (ix2 r k) e = ix2 e k from ext2 rfl rfl]

end Cert.MixOutRefIdeal.Merge

end
-- ==== Proof.MixOutRefRest.lean ====
/-
  The reference merge on the later rows, entry by entry.
-/
module

public import proofs.«01_k».proof.Proof.MixOutRefMerge

@[expose] public section

set_option maxRecDepth 16384

noncomputable section

namespace Cert.MixOutRefIdeal.Rest

open Idealize.ShloMosaic Idealize.ShloMosaic.TcCoe Idealize.ShloMosaic.ValueIdx
open Idealize.SL Idealize.SL.Sem
open Cert.Rows Cert.MixOutSpec Cert.IdxExt Cert.MixOutRefIdeal Cert.MixOutRefIdeal.Gen Cert.MixOutRefIdeal.Read Cert.RefRows
open Cert.FfnSpec (modRow part)
open scoped BigOperators

variable (x0 : (⟨S9216x1024, .bf16⟩ : BufTy).Contents (Elt Ideal)) (x1 : (⟨S9216x768, .bf16⟩ : BufTy).Contents (Elt Ideal))
  (x2 : (⟨S9216x1024, .bf16⟩ : BufTy).Contents (Elt Ideal)) (x3 : (⟨S1024x2048, .f32⟩ : BufTy).Contents (Elt Ideal))
  (x4 : (⟨S768x2048, .f32⟩ : BufTy).Contents (Elt Ideal)) (x5 : (⟨S1024x2048, .f32⟩ : BufTy).Contents (Elt Ideal))
  (x6 : (⟨S2048x2048, .f32⟩ : BufTy).Contents (Elt Ideal)) (x7 : (⟨S9216x11776, .bf16⟩ : BufTy).Contents (Elt Ideal))
  (x8 : (⟨S9216x2048, .f32⟩ : BufTy).Contents (Elt Ideal)) (x9 : (⟨S8x12288, .f32⟩ : BufTy).Contents (Elt Ideal))
  (x10 x11 : (⟨S2048, .f32⟩ : BufTy).Contents (Elt Ideal))

theorem x_at (b : Fin 4) (q : Fin 2048) (k : Fin 2048) : val_main_v41 (F := Ideal) x8 (ix3 b q k) = x8 (ix2 (restRow b q) k) := by
  rw [val_main_v41_apply, val_main_v24_apply, show idx_main_v24 (idx_main_v41 (ix3 b q k)) = ix2 (restRow b q) k from
    ext2 (by show ((b.val * 2304 + (256 + q.val)) * 2048 + k.val) / 2048 = b.val * 2304 + (256 + q.val); omega)
      (by show ((b.val * 2304 + (256 + q.val)) * 2048 + k.val) % 2048 = k.val; omega)]

theorem mix_at (b : Fin 4) (q : Fin 2048) (k : Fin 2048) : val_main_v42 (F := Ideal) x0 x1 x2 x3 x4 x5 x6 x7 (ix3 b q k) = mix x0 x1 x2 x3 x4 x5 x6 x7 (restRow b q) k := by
  rw [val_main_v42_apply, val_main_v23_apply, show idx_main_v23 (idx_main_v42 (ix3 b q k)) = ix2 (restRow b q) k from
    ext2 (by show ((b.val * 2304 + (256 + q.val)) * 2048 + k.val) / 2048 = b.val * 2304 + (256 + q.val); omega)
      (by show ((b.val * 2304 + (256 + q.val)) * 2048 + k.val) % 2048 = k.val; omega), Merge.mix_at]

theorem gate_at (b : Fin 4) (q : Fin 2048) (k : Fin 2048) : val_main_v29 (F := Ideal) x9 (ix3 b 0 k) = part x9 2 (by norm_num) (restRow b q) k := by
  rw [val_main_v29_apply, val_main_v26_apply, val_main_v25_apply]
  exact congrArg x9 (ext2 (modRow_rest b q).symm (by show 4096 + k.val = 2 * 2048 + k.val; omega))

/-- The weighted input plus the gated sublayer. -/
def z (b : Fin 4) (q : Fin 2048) (k : Fin 2048) : EReal :=
  alpha * x8 (ix2 (restRow b q) k) + part x9 2 (by norm_num) (restRow b q) k * mix x0 x1 x2 x3 x4 x5 x6 x7 (restRow b q) k

theorem z_at (b : Fin 4) (q : Fin 2048) (k : Fin 2048) : val_main_v47 (F := Ideal) x0 x1 x2 x3 x4 x5 x6 x7 x8 x9 (ix3 b q k) = z x0 x1 x2 x3 x4 x5 x6 x7 x8 x9 b q k := by
  rw [val_main_v47_apply, val_main_v46_apply, val_main_v45_apply, val_main_cst_1_apply, x_at, val_main_v44_apply, mix_at,
    val_main_v43_apply, show idx_main_v43 (ix3 b q k) = ix3 b 0 k from ext3 rfl rfl rfl, gate_at x9 b q k]
  rfl

/-- The row means. -/
theorem mean_at (b : Fin 4) (q : Fin 2048) :
    val_main_v51 (F := Ideal) x0 x1 x2 x3 x4 x5 x6 x7 x8 x9 (ix3 b q 0) = Ideal.div (∑ k, z x0 x1 x2 x3 x4 x5 x6 x7 x8 x9 b q k) len := by
  rw [val_main_v51_apply, val_main_v50_apply, val_main_cst_3_apply, val_main_v49_apply, val_main_v48_apply, val_main_cst_2_apply]
  refine congrArg (fun s => Ideal.div s len) ((congrArg₂ (· + ·) Ideal.ofBits_zero_f32 (Finset.sum_congr rfl fun k _ => ?_)).trans (zero_add _))
  rw [show idx_main_v48 (idx_main_v49 (ix3 b q 0)) k = ix3 b q k from ext3 rfl rfl rfl, z_at]

/-- The rows with their means taken off. -/
theorem centred_at (b : Fin 4) (q : Fin 2048) (k : Fin 2048) :
    val_main_v53 (F := Ideal) x0 x1 x2 x3 x4 x5 x6 x7 x8 x9 (ix3 b q k) = centred (z x0 x1 x2 x3 x4 x5 x6 x7 x8 x9 b q) k := by
  rw [val_main_v53_apply, z_at, val_main_v52_apply, show idx_main_v52 (ix3 b q k) = ix3 b q 0 from ext3 rfl rfl rfl, mean_at]
  rfl

theorem centred_again (b : Fin 4) (q : Fin 2048) (k : Fin 2048) :
    val_main_v60 (F := Ideal) x0 x1 x2 x3 x4 x5 x6 x7 x8 x9 (ix3 b q k) = centred (z x0 x1 x2 x3 x4 x5 x6 x7 x8 x9 b q) k := by
  rw [val_main_v60_apply, z_at, val_main_v59_apply, show idx_main_v59 (ix3 b q k) = ix3 b q 0 from ext3 rfl rfl rfl, mean_at]
  rfl

/-- The row variances. -/
theorem var_at (b : Fin 4) (q : Fin 2048) :
    val_main_v58 (F := Ideal) x0 x1 x2 x3 x4 x5 x6 x7 x8 x9 (ix3 b q 0)
      = Ideal.div (∑ k, centred (z x0 x1 x2 x3 x4 x5 x6 x7 x8 x9 b q) k * centred (z x0 x1 x2 x3 x4 x5 x6 x7 x8 x9 b q) k) len := by
  rw [val_main_v58_apply, val_main_v57_apply, val_main_cst_5_apply, val_main_v56_apply, val_main_v55_apply, val_main_cst_4_apply]
  refine congrArg (fun s => Ideal.div s len) ((congrArg₂ (· + ·) Ideal.ofBits_zero_f32 (Finset.sum_congr rfl fun k _ => ?_)).trans (zero_add _))
  rw [show idx_main_v55 (idx_main_v56 (ix3 b q 0)) k = ix3 b q k from ext3 rfl rfl rfl, val_main_v54_apply, centred_at]
  rfl

theorem vector_at (y : (⟨S2048, .f32⟩ : BufTy).Contents (Elt Ideal)) (b : Fin 4) (q : Fin 2048) (k : Fin 2048) :
    val_main_v67 (F := Ideal) y (ix3 b q k) = y (ix1 k) := by
  rw [val_main_v67_apply, val_main_v66_apply]
  exact congrArg y (funext fun a => by match a with | ⟨0, _⟩ => rfl)

theorem vector_at' (y : (⟨S2048, .f32⟩ : BufTy).Contents (Elt Ideal)) (b : Fin 4) (q : Fin 2048) (k : Fin 2048) :
    val_main_v70 (F := Ideal) y (ix3 b q k) = y (ix1 k) := by
  rw [val_main_v70_apply, val_main_v69_apply]
  exact congrArg y (funext fun a => by match a with | ⟨0, _⟩ => rfl)

/-- The normalized rows. -/
theorem out_at (b : Fin 4) (q : Fin 2048) (k : Fin 2048) :
    val_main_v71 (F := Ideal) x0 x1 x2 x3 x4 x5 x6 x7 x8 x9 x10 x11 (ix3 b q k) = out x0 x1 x2 x3 x4 x5 x6 x7 x8 x9 x10 x11 (ix2 (restRow b q) k) := by
  rw [val_main_v71_apply, val_main_v68_apply, vector_at, vector_at', val_main_v65_apply, centred_again, val_main_v64_apply, show idx_main_v64 (ix3 b q k) = ix3 b q 0 from ext3 rfl rfl rfl,
    val_main_v63_apply, val_main_v62_apply, val_main_v61_apply, val_main_cst_6_apply, var_at]
  rfl

end Cert.MixOutRefIdeal.Rest

end
-- ==== Proof.MixOutRefCtx.lean ====
/-
  The reference merge on the context rows, entry by entry.
-/
module

public import proofs.«01_k».proof.Proof.MixOutRefMerge

@[expose] public section

set_option maxRecDepth 16384

noncomputable section

namespace Cert.MixOutRefIdeal.Ctx

open Idealize.ShloMosaic Idealize.ShloMosaic.TcCoe Idealize.ShloMosaic.ValueIdx
open Idealize.SL Idealize.SL.Sem
open Cert.Rows Cert.MixOutSpec Cert.IdxExt Cert.MixOutRefIdeal Cert.MixOutRefIdeal.Gen Cert.MixOutRefIdeal.Read Cert.RefRows
open Cert.FfnSpec (modRow part)
open scoped BigOperators

variable (x0 : (⟨S9216x1024, .bf16⟩ : BufTy).Contents (Elt Ideal)) (x1 : (⟨S9216x768, .bf16⟩ : BufTy).Contents (Elt Ideal))
  (x2 : (⟨S9216x1024, .bf16⟩ : BufTy).Contents (Elt Ideal)) (x3 : (⟨S1024x2048, .f32⟩ : BufTy).Contents (Elt Ideal))
  (x4 : (⟨S768x2048, .f32⟩ : BufTy).Contents (Elt Ideal)) (x5 : (⟨S1024x2048, .f32⟩ : BufTy).Contents (Elt Ideal))
  (x6 : (⟨S2048x2048, .f32⟩ : BufTy).Contents (Elt Ideal)) (x7 : (⟨S9216x11776, .bf16⟩ : BufTy).Contents (Elt Ideal))
  (x8 : (⟨S9216x2048, .f32⟩ : BufTy).Contents (Elt Ideal)) (x9 : (⟨S8x12288, .f32⟩ : BufTy).Contents (Elt Ideal))
  (x10 x11 : (⟨S2048, .f32⟩ : BufTy).Contents (Elt Ideal))

theorem x_at (b : Fin 4) (q : Fin 256) (k : Fin 2048) : val_main_v72 (F := Ideal) x8 (ix3 b q k) = x8 (ix2 (ctxRow b q) k) := by
  rw [val_main_v72_apply, val_main_v24_apply, show idx_main_v24 (idx_main_v72 (ix3 b q k)) = ix2 (ctxRow b q) k from
    ext2 (by show ((b.val * 2304 + q.val) * 2048 + k.val) / 2048 = b.val * 2304 + q.val; omega)
      (by show ((b.val * 2304 + q.val) * 2048 + k.val) % 2048 = k.val; omega)]

theorem mix_at (b : Fin 4) (q : Fin 256) (k : Fin 2048) : val_main_v73 (F := Ideal) x0 x1 x2 x3 x4 x5 x6 x7 (ix3 b q k) = mix x0 x1 x2 x3 x4 x5 x6 x7 (ctxRow b q) k := by
  rw [val_main_v73_apply, val_main_v23_apply, show idx_main_v23 (idx_main_v73 (ix3 b q k)) = ix2 (ctxRow b q) k from
    ext2 (by show ((b.val * 2304 + q.val) * 2048 + k.val) / 2048 = b.val * 2304 + q.val; omega)
      (by show ((b.val * 2304 + q.val) * 2048 + k.val) % 2048 = k.val; omega), Merge.mix_at]

theorem gate_at (b : Fin 4) (q : Fin 256) (k : Fin 2048) : val_main_v37 (F := Ideal) x9 (ix1 k) = part x9 2 (by norm_num) (ctxRow b q) k := by
  rw [val_main_v37_apply, val_main_v34_apply, val_main_v33_apply]
  exact congrArg x9 (ext2 (modRow_ctx b q).symm (by show (4096 + k.val) % 12288 = 2 * 2048 + k.val; omega))

/-- The weighted input plus the gated sublayer. -/
def z (b : Fin 4) (q : Fin 256) (k : Fin 2048) : EReal :=
  alpha * x8 (ix2 (ctxRow b q) k) + part x9 2 (by norm_num) (ctxRow b q) k * mix x0 x1 x2 x3 x4 x5 x6 x7 (ctxRow b q) k

theorem z_at (b : Fin 4) (q : Fin 256) (k : Fin 2048) : val_main_v79 (F := Ideal) x0 x1 x2 x3 x4 x5 x6 x7 x8 x9 (ix3 b q k) = z x0 x1 x2 x3 x4 x5 x6 x7 x8 x9 b q k := by
  rw [val_main_v79_apply, val_main_v78_apply, val_main_v77_apply, val_main_cst_7_apply, x_at, val_main_v76_apply, mix_at,
    val_main_v75_apply, val_main_v74_apply, show idx_main_v74 (idx_main_v75 (ix3 b q k)) = ix1 k from funext fun a => by match a with | ⟨0, _⟩ => rfl, gate_at x9 b q k]
  rfl

/-- The row means. -/
theorem mean_at (b : Fin 4) (q : Fin 256) :
    val_main_v83 (F := Ideal) x0 x1 x2 x3 x4 x5 x6 x7 x8 x9 (ix3 b q 0) = Ideal.div (∑ k, z x0 x1 x2 x3 x4 x5 x6 x7 x8 x9 b q k) len := by
  rw [val_main_v83_apply, val_main_v82_apply, val_main_cst_9_apply, val_main_v81_apply, val_main_v80_apply, val_main_cst_8_apply]
  refine congrArg (fun s => Ideal.div s len) ((congrArg₂ (· + ·) Ideal.ofBits_zero_f32 (Finset.sum_congr rfl fun k _ => ?_)).trans (zero_add _))
  rw [show idx_main_v80 (idx_main_v81 (ix3 b q 0)) k = ix3 b q k from ext3 rfl rfl rfl, z_at]

/-- The rows with their means taken off. -/
theorem centred_at (b : Fin 4) (q : Fin 256) (k : Fin 2048) :
    val_main_v85 (F := Ideal) x0 x1 x2 x3 x4 x5 x6 x7 x8 x9 (ix3 b q k) = centred (z x0 x1 x2 x3 x4 x5 x6 x7 x8 x9 b q) k := by
  rw [val_main_v85_apply, z_at, val_main_v84_apply, show idx_main_v84 (ix3 b q k) = ix3 b q 0 from ext3 rfl rfl rfl, mean_at]
  rfl

theorem centred_again (b : Fin 4) (q : Fin 256) (k : Fin 2048) :
    val_main_v92 (F := Ideal) x0 x1 x2 x3 x4 x5 x6 x7 x8 x9 (ix3 b q k) = centred (z x0 x1 x2 x3 x4 x5 x6 x7 x8 x9 b q) k := by
  rw [val_main_v92_apply, z_at, val_main_v91_apply, show idx_main_v91 (ix3 b q k) = ix3 b q 0 from ext3 rfl rfl rfl, mean_at]
  rfl

/-- The row variances. -/
theorem var_at (b : Fin 4) (q : Fin 256) :
    val_main_v90 (F := Ideal) x0 x1 x2 x3 x4 x5 x6 x7 x8 x9 (ix3 b q 0)
      = Ideal.div (∑ k, centred (z x0 x1 x2 x3 x4 x5 x6 x7 x8 x9 b q) k * centred (z x0 x1 x2 x3 x4 x5 x6 x7 x8 x9 b q) k) len := by
  rw [val_main_v90_apply, val_main_v89_apply, val_main_cst_11_apply, val_main_v88_apply, val_main_v87_apply, val_main_cst_10_apply]
  refine congrArg (fun s => Ideal.div s len) ((congrArg₂ (· + ·) Ideal.ofBits_zero_f32 (Finset.sum_congr rfl fun k _ => ?_)).trans (zero_add _))
  rw [show idx_main_v87 (idx_main_v88 (ix3 b q 0)) k = ix3 b q k from ext3 rfl rfl rfl, val_main_v86_apply, centred_at]
  rfl

theorem vector_at (y : (⟨S2048, .f32⟩ : BufTy).Contents (Elt Ideal)) (b : Fin 4) (q : Fin 256) (k : Fin 2048) :
    val_main_v99 (F := Ideal) y (ix3 b q k) = y (ix1 k) := by
  rw [val_main_v99_apply, val_main_v98_apply]
  exact congrArg y (funext fun a => by match a with | ⟨0, _⟩ => rfl)

theorem vector_at' (y : (⟨S2048, .f32⟩ : BufTy).Contents (Elt Ideal)) (b : Fin 4) (q : Fin 256) (k : Fin 2048) :
    val_main_v102 (F := Ideal) y (ix3 b q k) = y (ix1 k) := by
  rw [val_main_v102_apply, val_main_v101_apply]
  exact congrArg y (funext fun a => by match a with | ⟨0, _⟩ => rfl)

/-- The normalized rows. -/
theorem out_at (b : Fin 4) (q : Fin 256) (k : Fin 2048) :
    val_main_v103 (F := Ideal) x0 x1 x2 x3 x4 x5 x6 x7 x8 x9 x10 x11 (ix3 b q k) = out x0 x1 x2 x3 x4 x5 x6 x7 x8 x9 x10 x11 (ix2 (ctxRow b q) k) := by
  rw [val_main_v103_apply, val_main_v100_apply, vector_at, vector_at', val_main_v97_apply, centred_again, val_main_v96_apply, show idx_main_v96 (ix3 b q k) = ix3 b q 0 from ext3 rfl rfl rfl,
    val_main_v95_apply, val_main_v94_apply, val_main_v93_apply, val_main_cst_12_apply, var_at]
  rfl

end Cert.MixOutRefIdeal.Ctx

end
-- ==== Proof.MixOutEq.lean ====
/-
  The reference merge ends with the kernel's result: its two halves put together, row by row.
-/
module

public import proofs.«01_k».proof.Proof.MixOutArray
public import proofs.«01_k».proof.Proof.MixOutRefRest
public import proofs.«01_k».proof.Proof.MixOutRefCtx
public import proofs.«01_k».proof.Proof.Gen.MixOutRefIdeal.Run

@[expose] public section

set_option maxRecDepth 16384

noncomputable section

namespace Cert.MixOutEq

open Idealize.ShloMosaic Idealize.ShloMosaic.TcCoe Idealize.ShloMosaic.ValueIdx
open Idealize.SL Idealize.SL.Sem
open Cert.MixOutSpec Cert.IdxExt Cert.RefRows Cert.MixOutRefIdeal Cert.MixOutRefIdeal.Gen Cert.MixOutRefIdeal.Read
open scoped BigOperators

variable (x0 : (⟨S9216x1024, .bf16⟩ : BufTy).Contents (Elt Ideal)) (x1 : (⟨S9216x768, .bf16⟩ : BufTy).Contents (Elt Ideal))
  (x2 : (⟨S9216x1024, .bf16⟩ : BufTy).Contents (Elt Ideal)) (x3 : (⟨S1024x2048, .f32⟩ : BufTy).Contents (Elt Ideal))
  (x4 : (⟨S768x2048, .f32⟩ : BufTy).Contents (Elt Ideal)) (x5 : (⟨S1024x2048, .f32⟩ : BufTy).Contents (Elt Ideal))
  (x6 : (⟨S2048x2048, .f32⟩ : BufTy).Contents (Elt Ideal)) (x7 : (⟨S9216x11776, .bf16⟩ : BufTy).Contents (Elt Ideal))
  (x8 : (⟨S9216x2048, .f32⟩ : BufTy).Contents (Elt Ideal)) (x9 : (⟨S8x12288, .f32⟩ : BufTy).Contents (Elt Ideal))
  (x10 x11 : (⟨S2048, .f32⟩ : BufTy).Contents (Elt Ideal))

/-- A row of the two halves put together, in a sequence of its own. -/
theorem joined (b : Fin 4) (q : Fin 2304) (k : Fin 2048) :
    val_main_v104 (F := Ideal) x0 x1 x2 x3 x4 x5 x6 x7 x8 x9 x10 x11 (ix3 b q k)
      = out x0 x1 x2 x3 x4 x5 x6 x7 x8 x9 x10 x11 (ix2 (⟨b.val * 2304 + q.val, by omega⟩ : Fin 9216) k) := by
  unfold val_main_v104
  by_cases h : q.val < 256
  · refine (concatenate_pair_apply_left (t := S4x2304x2048) (s₁ := S4x256x2048) (s₂ := S4x2048x2048) 1 _ _ _ (ix3 b q k) rfl
      (ix3 b (⟨q.val, h⟩ : Fin 256) k) (fun a => by match a with | ⟨0, _⟩ => rfl | ⟨1, _⟩ => rfl | ⟨2, _⟩ => rfl)).trans ?_
    exact Ctx.out_at x0 x1 x2 x3 x4 x5 x6 x7 x8 x9 x10 x11 b ⟨q.val, h⟩ k
  · refine (concatenate_pair_apply_right (t := S4x2304x2048) (s₁ := S4x256x2048) (s₂ := S4x2048x2048) 1 _ _ _ (ix3 b q k) rfl rfl
      (ix3 b (⟨q.val - 256, by omega⟩ : Fin 2048) k)
      (fun a ha => by match a with | ⟨0, _⟩ => rfl | ⟨1, _⟩ => exact absurd rfl ha | ⟨2, _⟩ => rfl)
      (by show q.val - 256 + 256 = q.val; omega)).trans ?_
    rw [Rest.out_at x0 x1 x2 x3 x4 x5 x6 x7 x8 x9 x10 x11 b (⟨q.val - 256, by omega⟩ : Fin 2048) k,
      show restRow b (⟨q.val - 256, by omega⟩ : Fin 2048) = (⟨b.val * 2304 + q.val, by omega⟩ : Fin 9216) from
        Fin.ext (by show b.val * 2304 + (256 + (q.val - 256)) = b.val * 2304 + q.val; omega)]

/-- The reference's array is the merged output of its operands. -/
theorem reference_eq : val_main_v105 (F := Ideal) x0 x1 x2 x3 x4 x5 x6 x7 x8 x9 x10 x11 = out x0 x1 x2 x3 x4 x5 x6 x7 x8 x9 x10 x11 := by
  funext i
  obtain ⟨r, k, rfl⟩ : ∃ (r : Fin 9216) (k : Fin 2048), i = ix2 r k := ⟨i 0, i 1, eq_ix2 i⟩
  rw [val_main_v105_apply, show idx_main_v105 (ix2 r k)
      = ix3 (⟨r.val / 2304, by omega⟩ : Fin 4) (⟨r.val % 2304, by omega⟩ : Fin 2304) k from
    ext3 (by show (r.val * 2048 + k.val) / 4718592 = r.val / 2304; omega)
      (by show (r.val * 2048 + k.val) / 2048 % 2304 = r.val % 2304; omega)
      (by show (r.val * 2048 + k.val) % 2048 = k.val; omega), joined]
  exact congrArg _ (ext2 (by show r.val / 2304 * 2304 + r.val % 2304 = r.val; omega) rfl)

/-- The reference ends with the merged output of its arguments and leaves them unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v105)
        = out (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c).1.trans ((Read.val_main_v105_eq m c).trans (reference_eq _ _ _ _ _ _ _ _ _ _ _ _)), (h c).2⟩)
    (Value.run (F := Ideal) m ρ)

end Cert.MixOutEq

end
-- ==== Proof.S5OutSpec.lean ====
/-
  What the last S5 call computes: the scan's output plus the skip of its input, through the GELU, weighted by the logistic
  of its projection.
-/
module

public import proofs.«01_k».proof.Proof.Rows

@[expose] public section

set_option maxRecDepth 16384

noncomputable section

namespace Cert.S5OutSpec

open Idealize.ShloMosaic Idealize.ShloMosaic.ValueIdx Cert.Rows
open scoped BigOperators

/-- The scan's output, the projections, the skip, the weight, and the result. -/
abbrev YA : Type := (⟨2, ![9216, 768]⟩ : Shape).Idx → EReal
abbrev PJ : Type := (⟨2, ![9216, 11776]⟩ : Shape).Idx → EReal
abbrev SK : Type := (⟨1, ![768]⟩ : Shape).Idx → EReal
abbrev WG : Type := (⟨2, ![768, 768]⟩ : Shape).Idx → EReal

/-- The GELU in its hyperbolic-tangent form. -/
def gelu (a : EReal) : EReal :=
  a * (FloatOps.ofBits (F := Ideal) .f32 0x3F000000#32 * (one + Ideal.tanh (FloatOps.ofBits (F := Ideal) .f32 0x3F4C422A#32
    * (a + FloatOps.ofBits (F := Ideal) .f32 0x3D372713#32 * (a * (a * a))))))

/-- The cube may be taken either way. -/
theorem gelu_eq (a : EReal) : gelu a =
    a * (FloatOps.ofBits (F := Ideal) .f32 0x3F000000#32 * (one + Ideal.tanh (FloatOps.ofBits (F := Ideal) .f32 0x3F4C422A#32
      * (a + FloatOps.ofBits (F := Ideal) .f32 0x3D372713#32 * (a * a * a))))) := by
  rw [mul_comm (a * a) a]
  rfl

/-- An entry of the skip added to the scan's output, through the GELU. The S5 inputs start at column 9216. -/
def act (ya : YA) (pj : PJ) (sk : SK) (r : Fin 9216) (k : Fin 768) : EReal :=
  gelu (ya (ix2 r k) + pj (ix2 r (⟨9216 + k.val, by have := k.isLt; omega⟩ : Fin 11776)) * sk (ix1 k))

/-- The result. -/
def out (ya : YA) (pj : PJ) (sk : SK) (wg : WG) : YA := fun y =>
  act ya pj sk (y 0) (y 1) * Ideal.logistic (∑ e : Fin 768, act ya pj sk (y 0) e * wg (ix2 e (y 1)))

end Cert.S5OutSpec

end
-- ==== Proof.S5OutArray.lean ====
/-
  The array the last S5 call leaves. Each grid point holds 768 rows and leaves their result; the blocks fill the array.
-/
module

public import proofs.«01_k».proof.Proof.S5OutSpec
public import proofs.«01_k».proof.Proof.IdxExt
public import proofs.«01_k».proof.Proof.Gen.S5OutIdeal.Value

@[expose] public section

set_option maxRecDepth 16384

noncomputable section

namespace Cert.S5OutIdeal.Array

open Idealize.ShloMosaic Idealize.ShloMosaic.TcCoe Idealize.ShloMosaic.Tactic Idealize.ShloMosaic.ValueIdx
open Idealize.SL Idealize.SL.Sem
open Cert.Rows Cert.S5OutSpec Cert.S5OutIdeal Cert.S5OutIdeal.Gen
open scoped BigOperators

/-! ## One block -/

/-- An entry of a block after the skip and the GELU. -/
def tileAct (x0 : Vec Ideal S768x768 .f32) (x1 : Vec Ideal S768x768 .bf16) (x2 : Vec Ideal S1x768 .f32) (r k : Fin 768) : EReal :=
  gelu (x0 (ix2 r k) + x1 (ix2 r k) * x2 (ix2 0 k))

/-- A block of the result. -/
def tile (x0 : Vec Ideal S768x768 .f32) (x1 : Vec Ideal S768x768 .bf16) (x2 : Vec Ideal S1x768 .f32) (x3 : Vec Ideal S768x768 .bf16) :
    Vec Ideal S768x768 .bf16 := fun y =>
  (tileAct x0 x1 x2 (y 0) (y 1) * Ideal.logistic (∑ e : Fin 768, tileAct x0 x1 x2 (y 0) e * x3 (ix2 e (y 1))) : EReal)

/-- The sum a block is put through the GELU from. -/
def skipped (x0 : Vec Ideal S768x768 .f32) (x1 : Vec Ideal S768x768 .bf16) (x2 : Vec Ideal S1x768 .f32) : FVec Ideal S768x768 .f32 :=
  addf x0 (mulf (extf .f32 x1 bitsLt_bf16_f32) (broadcastTo S768x768 (shapeCast S1x768 x2 shapeCasts_S1x768_S1x768) broadcasts_S1x768_S768x768))

/-- The block after the GELU, as the kernel writes it. -/
def acted (v : FVec Ideal S768x768 .f32) : FVec Ideal S768x768 .f32 :=
  mulf v (mulf (broadcast S768x768 (Scalar.ofBits .f32 0x3F000000#32)) (addf (broadcast S768x768 (Scalar.ofBits .f32 0x3F800000#32))
    (tanh (mulf (broadcast S768x768 (Scalar.ofBits .f32 0x3F4C422A#32))
      (addf v (mulf (broadcast S768x768 (Scalar.ofBits .f32 0x3D372713#32)) (mulf v (mulf v v))))))))

theorem acted_apply (x0 : Vec Ideal S768x768 .f32) (x1 : Vec Ideal S768x768 .bf16) (x2 : Vec Ideal S1x768 .f32) (r k : Fin 768) :
    acted (skipped x0 x1 x2) (ix2 r k) = tileAct x0 x1 x2 r k := by
  have h : skipped x0 x1 x2 (ix2 r k) = x0 (ix2 r k) + x1 (ix2 r k) * x2 (ix2 0 k) := by
    unfold skipped
    rw [shapeCast_self, addf_apply, mulf_apply, broadcastTo_1b_ab_apply]
    rfl
  show gelu (skipped x0 x1 x2 (ix2 r k)) = _
  rw [h]
  rfl

theorem tile_pay (x0 : Vec Ideal S768x768 .f32) (x1 : Vec Ideal S768x768 .bf16) (x2 : Vec Ideal S1x768 .f32) (x3 : Vec Ideal S768x768 .bf16)
    (y : S768x768.Idx) : k0_pay1 (F := Ideal) x0 x1 x2 x3 y = tile x0 x1 x2 x3 y := by
  obtain ⟨r, k, rfl⟩ : ∃ (r k : Fin 768), y = ix2 r k := ⟨y 0, y 1, eq_ix2 y⟩
  show acted (skipped x0 x1 x2) (ix2 r k) * Ideal.logistic (matmul (DotDims.plain 768 768 768) none (acted (skipped x0 x1 x2) : FVec Ideal S768x768 .bf16)
    (shapeCast S768x768 x3 shapeCasts_S768x768_S768x768 : FVec Ideal S768x768 .bf16) (constant S768x768 .f32 0x00000000#32) (ix2 r k)) = _
  rw [shapeCast_self]
  have hd := dot_apply (φ₁ := .bf16) (φ₂ := .bf16) (M := 768) (K := 768) (N := 768) (acted (skipped x0 x1 x2)) x3 r k
  refine congrArg₂ (· * ·) (acted_apply x0 x1 x2 r k) (congrArg Ideal.logistic (hd.trans ?_))
  exact Finset.sum_congr rfl fun e _ => congrArg (fun u => u * x3 (ix2 e k)) (acted_apply x0 x1 x2 r e)

theorem zero_off : (![0, 0] : Fin 2 → ℕ) = fun _ => 0 := by
  funext a
  match a with
  | ⟨0, _⟩ => rfl
  | ⟨1, _⟩ => rfl

/-- The block left at a grid point. -/
theorem out_A (c : Dev nD) (i : grid0.Coords) (arg1 : Memref sig .tc .vmem S768x768 .f32) (harg1 : arg1.IsWhole)
    (arg2 : Memref sig .tc .vmem S768x768 .bf16) (harg2 : arg2.IsWhole) (arg3 : Memref sig .tc .vmem S1x768 .f32) (harg3 : arg3.IsWhole)
    (arg4 : Memref sig .tc .vmem S768x768 .bf16) (harg4 : arg4.IsWhole) (arg5 : Memref sig .tc .vmem S768x768 .bf16) (harg5 : arg5.IsWhole)
    (x0 : Vec Ideal S768x768 .f32) (x1 : Vec Ideal S768x768 .bf16) (x2 : Vec Ideal S1x768 .f32) (x3 : Vec Ideal S768x768 .bf16) (y : S768x768.Idx) :
    out0_A_4 c i arg1 harg1 arg2 harg2 arg3 harg3 arg4 harg4 arg5 harg5 x0 x1 x2 x3 y = tile x0 x1 x2 x3 y := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  simp only [View.readAt_eq_ld, harg1.read_unread, harg2.read_unread, harg3.read_unread, harg4.read_unread, harg5.read_unread]
  refine (congrFun (View.canon_unit_zero (S := S768x768) zero_off _ _) y).trans ?_
  refine (tile_pay _ _ _ _ y).trans ?_
  simp only [View.ld_unit_zero (S := S768x768) zero_off, View.ld_unit_zero (S := S1x768) zero_off]

/-! ## The array -/

variable (m : (l : Loc nD τ sig) → Buf (Elt Ideal) l)

/-- Where each window's block lies at a grid point. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 12] := (by decide +kernel : ∀ t : Fin grid0.N, win0_1.index t = ![t.val, 12])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![t.val, 0] := (by decide +kernel : ∀ t : Fin grid0.N, win0_4.index t = ![t.val, 0])

theorem t_lt (t : Fin cfg0.N) : t.val < 12 := lt_of_lt_of_eq t.isLt (show cfg0.N = 12 from N_0)

/-- The arguments as arrays of extended reals. -/
abbrev yaArr (c : Dev nD) : YA := m ((c : Thread nD τ).loc main_arg0)
abbrev pjArr (c : Dev nD) : PJ := m ((c : Thread nD τ).loc main_arg1)
abbrev skArr (c : Dev nD) : SK := m ((c : Thread nD τ).loc main_arg2)
abbrev wgArr (c : Dev nD) : WG := m ((c : Thread nD τ).loc main_arg3)

/-- The weight as the kernel finds it: rounded, which is the identity here. -/
theorem V_wg (c : Dev nD) : (V m c main_v0 : WG) = wgArr m c := by
  show StableHlo.after hostOps0 _ (Proc.devRef .tc main_v0) = _
  after_results
  rfl

/-- The skip, as a row. -/
theorem V_sk (c : Dev nD) (k : Fin 768) : (V m c main_v1 : (⟨2, ![1, 768]⟩ : Shape).Idx → EReal) (ix2 0 k) = skArr m c (ix1 k) := by
  have h : V m c main_v1 = shapeCast S1x768 (m ((c : Thread nD τ).loc main_arg2)) shapeCasts_S768_S1x768 := by
    show StableHlo.after hostOps0 _ (Proc.devRef .tc main_v1) = _
    after_results
    rfl
  rw [h]
  exact shapeCast_a_1a_apply _ _ 0 k

/-- The row of the array at a row of the block at hand. -/
def rowOf (t : Fin cfg0.N) (r : Fin 768) : Fin 9216 := ⟨t.val * 768 + r.val, by have := t_lt t; have := r.isLt; omega⟩

theorem iblk0_apply (c : Dev nD) (t : Fin cfg0.N) (r k : Fin 768) :
    (iblk m c 0 t : S768x768.Idx → EReal) (ix2 r k) = yaArr m c (ix2 (rowOf t r) k) := by
  show V m c main_arg0 ((win0_0.rect t).emb (ix2 r k)) = _
  rw [V_main_arg0]
  refine congrArg (yaArr m c) (funext fun a => Fin.ext ?_)
  rw [Pipeline.Window.rect_emb_val win0_0 t, index0]
  match a with
  | ⟨0, _⟩ => rfl
  | ⟨1, _⟩ => show 0 * 768 + k.val = k.val; omega

/-- The S5 inputs of the rows at hand. -/
theorem iblk1_apply (c : Dev nD) (t : Fin cfg0.N) (r k : Fin 768) :
    (X0_1 m c t : S768x768.Idx → EReal) (ix2 r k) = pjArr m c (ix2 (rowOf t r) (⟨9216 + k.val, by have := k.isLt; omega⟩ : Fin 11776)) := by
  unfold X0_1 Pipeline.Window.fill
  rw [dif_pos (moved0_1 t (ix2 r k))]
  show V m c main_arg1 ((win0_1.rect t).emb _) = _
  rw [V_main_arg1]
  refine congrArg (pjArr m c) (funext fun a => Fin.ext ?_)
  rw [Pipeline.Window.rect_emb_val win0_1 t, index1]
  match a with
  | ⟨0, _⟩ => rfl
  | ⟨1, _⟩ => rfl

theorem iblk2_apply (c : Dev nD) (t : Fin cfg0.N) (k : Fin 768) :
    (iblk m c 2 t : S1x768.Idx → EReal) (ix2 0 k) = skArr m c (ix1 k) := by
  refine Eq.trans ?_ (V_sk m c k)
  show V m c main_v1 ((win0_2.rect t).emb (ix2 0 k)) = _
  refine congrArg (V m c main_v1) (funext fun a => Fin.ext ?_)
  rw [Pipeline.Window.rect_emb_val win0_2 t, index2]
  match a with
  | ⟨0, _⟩ => rfl
  | ⟨1, _⟩ => show 0 * 768 + k.val = k.val; omega

theorem iblk3_apply (c : Dev nD) (t : Fin cfg0.N) (r k : Fin 768) :
    (iblk m c 3 t : S768x768.Idx → EReal) (ix2 r k) = wgArr m c (ix2 r k) := by
  refine Eq.trans ?_ (congrFun (V_wg m c) (ix2 r k))
  show V m c main_v0 ((win0_3.rect t).emb (ix2 r k)) = _
  refine congrArg (V m c main_v0) (funext fun a => Fin.ext ?_)
  rw [Pipeline.Window.rect_emb_val win0_3 t, index3]
  match a with
  | ⟨0, _⟩ => show 0 * 768 + r.val = r.val; omega
  | ⟨1, _⟩ => show 0 * 768 + k.val = k.val; omega

theorem tileAct_eq (c : Dev nD) (t : Fin cfg0.N) (r k : Fin 768) :
    tileAct (iblk m c 0 t) (X0_1 m c t) (iblk m c 2 t) r k = act (yaArr m c) (pjArr m c) (skArr m c) (rowOf t r) k :=
  congrArg gelu (congrArg₂ (· + ·) (iblk0_apply m c t r k) (congrArg₂ (· * ·) (iblk1_apply m c t r k) (iblk2_apply m c t k)))

/-- The block of the result at a grid point. -/
theorem tile_eq (c : Dev nD) (t : Fin cfg0.N) (r k : Fin 768) :
    tile (iblk m c 0 t) (X0_1 m c t) (iblk m c 2 t) (iblk m c 3 t) (ix2 r k) = out (yaArr m c) (pjArr m c) (skArr m c) (wgArr m c) (ix2 (rowOf t r) k) :=
  congrArg₂ (· * ·) (tileAct_eq m c t r k) (congrArg Ideal.logistic
    (Finset.sum_congr rfl fun e _ => congrArg₂ (· * ·) (tileAct_eq m c t r e) (iblk3_apply m c t e k)))

/-- The place in the array of an entry of the block written at point `t`. -/
theorem emb4 (t : Fin cfg0.N) (r k : Fin 768) : ((win0_4.rect t).emb (ix2 r k) : S9216x768.Idx) = ix2 (rowOf t r) k := by
  refine funext fun a => Fin.ext ?_
  rw [Pipeline.Window.rect_emb_val win0_4 t, index4]
  match a with
  | ⟨0, _⟩ => rfl
  | ⟨1, _⟩ => show 0 * 768 + k.val = k.val; omega

/-- The whole result of the kernel. -/
def result (c : Dev nD) : S9216x768.Idx → EReal := out (yaArr m c) (pjArr m c) (skArr m c) (wgArr m c)

theorem flushed_eq (c : Dev nD) (t : Fin cfg0.N) :
    (dats m 0 c).flushed 4 t = ((cfg0.win 4).blk t).view.read (Elt Ideal) (result m c) := by
  funext y
  obtain ⟨r, k, rfl⟩ : ∃ (r k : Fin 768), y = ix2 r k := ⟨y 0, y 1, eq_ix2 y⟩
  have hR : ((cfg0.win 4).blk t).view.read (Elt Ideal) (result m c) (ix2 r k) = result m c ((win0_4.rect t).emb (ix2 r k)) := rfl
  rw [hR, emb4, Value.flushed4_A]
  exact (out_A c (grid0.coords t) (ms0_0 t) (hs0_0 t) (ms0_1 t) (hs0_1 t) (ms0_2 t) (hs0_2 t) (ms0_3 t) (hs0_3 t) (ms0_4 t) (hs0_4 t) (iblk m c 0 t) (X0_1 m c t) (iblk m c 2 t) (iblk m c 3 t) (ix2 r k)).trans (tile_eq m c t r k)

/-- The blocks fill the array, so the array ends holding the result. -/
theorem final (c : Dev nD) : (dats m 0 c).arrAt 4 cfg0.N = result m c := by
  refine (dats m 0 c).arrAt_eq_of_cover 4 (result m c) (fun t _ => flushed_eq m c t) fun i => ?_
  obtain ⟨r, k, rfl⟩ : ∃ (r : Fin 9216) (k : Fin 768), i = ix2 r k := ⟨i 0, i 1, eq_ix2 i⟩
  have hr := r.isLt
  have hlt : r.val / 768 < cfg0.N := by rw [show cfg0.N = 12 from N_0]; omega
  refine ⟨⟨r.val / 768, hlt⟩, flush0_4 _, ?_⟩
  have hi : (ix2 r k : S9216x768.Idx) = (win0_4.rect ⟨r.val / 768, hlt⟩).emb
      (ix2 (⟨r.val % 768, Nat.mod_lt _ (by norm_num)⟩ : Fin 768) k) := by
    rw [emb4]
    refine IdxExt.ext2 ?_ rfl
    show r.val = r.val / 768 * 768 + r.val % 768
    omega
  rw [hi]
  exact ((cfg0.win 4).blk ⟨r.val / 768, hlt⟩).view.emb_mem_set _

/-- The kernel ends with the result, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.S5OutIdeal.Array

end
-- ==== Proof.S5OutEq.lean ====
/-
  The reference's last S5 stage, read off its operations, is the array the kernel leaves.
-/
module

public import proofs.«01_k».proof.Proof.S5OutSpec
public import proofs.«01_k».proof.Proof.IdxExt
public import proofs.«01_k».proof.Proof.RefRows
public import proofs.«01_k».proof.Proof.Gen.S5OutRefIdeal.Run
public import proofs.«01_k».proof.Proof.Gen.S5OutRefIdeal.Read

@[expose] public section

set_option maxRecDepth 16384

noncomputable section

namespace Cert.S5OutEq

open Idealize.ShloMosaic Idealize.ShloMosaic.TcCoe Idealize.ShloMosaic.ValueIdx
open Idealize.SL Idealize.SL.Sem
open Cert.Rows Cert.S5OutSpec Cert.IdxExt Cert.RefRows Cert.S5OutRefIdeal Cert.S5OutRefIdeal.Gen Cert.S5OutRefIdeal.Read
open scoped BigOperators

variable (x0 : (⟨S9216x768, .f32⟩ : BufTy).Contents (Elt Ideal)) (x1 : (⟨S9216x11776, .bf16⟩ : BufTy).Contents (Elt Ideal))
  (x2 : (⟨S768, .f32⟩ : BufTy).Contents (Elt Ideal)) (x3 : (⟨S768x768, .f32⟩ : BufTy).Contents (Elt Ideal))

/-- The scan's output with its skip. -/
theorem skip_at (r : Fin 9216) (k : Fin 768) : val_main_v5 (F := Ideal) x0 x1 x2 (ix2 r k)
    = x0 (ix2 r k) + x1 (ix2 r (⟨9216 + k.val, by have := k.isLt; omega⟩ : Fin 11776)) * x2 (ix1 k) := by
  rw [val_main_v5_apply, val_main_v4_apply, val_main_v1_apply, val_main_v0_apply, val_main_v3_apply, val_main_v2_apply,
    show idx_main_v0 (ix2 r k) = ix2 r (⟨9216 + k.val, by have := k.isLt; omega⟩ : Fin 11776) from ext2 rfl rfl,
    show idx_main_v2 (idx_main_v3 (ix2 r k)) = ix1 k from funext fun a => by match a with | ⟨0, _⟩ => rfl]
  rfl

/-- … through the GELU. -/
theorem act_at (r : Fin 9216) (k : Fin 768) : val_main_v18 (F := Ideal) x0 x1 x2 (ix2 r k) = act x0 x1 x2 r k := by
  rw [val_main_v18_apply, val_main_v17_apply, val_main_v16_apply, val_main_cst_2_apply, val_main_v15_apply, val_main_v14_apply,
    val_main_cst_1_apply, val_main_v13_apply, val_main_v12_apply, val_main_v11_apply, val_main_cst_0_apply, val_main_v10_apply,
    val_main_v9_apply, val_main_v8_apply, val_main_cst_apply, val_main_v7_apply, val_main_v6_apply, skip_at]
  exact (gelu_eq _).symm

/-- The reference's array. -/
theorem reference_eq : val_main_v27 (F := Ideal) x0 x1 x2 x3 = S5OutSpec.out x0 x1 x2 x3 := by
  funext i
  obtain ⟨r, k, rfl⟩ : ∃ (r : Fin 9216) (k : Fin 768), i = ix2 r k := ⟨i 0, i 1, eq_ix2 i⟩
  have hs : val_main_v19 (F := Ideal) x0 x1 x2 x3 (ix2 r k) = ∑ e : Fin 768, act x0 x1 x2 r e * x3 (ix2 e k) := by
    rw [val_main_v19_apply]
    refine Finset.sum_congr rfl fun e _ => ?_
    rw [show lidx_main_v19 (ix2 r k) e = ix2 r e from ext2 rfl rfl, act_at, show ridx_main_v19 (ix2 r k) e = ix2 e k from ext2 rfl rfl]
  rw [val_main_v27_apply, val_main_v26_apply, act_at, val_main_v25_apply, val_main_v24_apply, val_main_cst_4_apply, val_main_v23_apply,
    val_main_v22_apply, val_main_cst_3_apply, val_main_v21_apply, val_main_v20_apply, hs]
  refine congrArg (fun u => act x0 x1 x2 r k * u) ?_
  show Ideal.div one (one + Ideal.exp (-_)) = _
  rw [one_eq]
  rfl

/-- The reference ends with that array and leaves its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
        = S5OutSpec.out (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((Read.val_main_v27_eq m c).trans (reference_eq _ _ _ _)), (h c).2⟩)
    (Value.run (F := Ideal) m ρ)

end Cert.S5OutEq

end
-- ==== Proof.AdaSpec.lean ====
/-
  What the modulation call computes: the SiLU of the embeddings, times each layer's weight, plus its bias.
-/
module

public import proofs.«01_k».proof.Proof.Rows

@[expose] public section

set_option maxRecDepth 16384

noncomputable section

namespace Cert.AdaSpec

open Idealize.ShloMosaic Idealize.ShloMosaic.ValueIdx Cert.Rows
open scoped BigOperators

/-- The embeddings, the weights, the biases, and the result. -/
abbrev CC : Type := (⟨2, ![8, 2048]⟩ : Shape).Idx → EReal
abbrev WA : Type := (⟨3, ![4, 2048, 12288]⟩ : Shape).Idx → EReal
abbrev BA : Type := (⟨2, ![4, 12288]⟩ : Shape).Idx → EReal
abbrev TA : Type := (⟨3, ![4, 8, 12288]⟩ : Shape).Idx → EReal

/-- The SiLU. -/
def silu (a : EReal) : EReal := a * Ideal.logistic a

/-- The result. -/
def out (cc : CC) (wa : WA) (ba : BA) : TA := fun y =>
  (∑ k : Fin 2048, silu (cc (ix2 (y 1) k)) * wa (ix3 (y 0) k (y 2))) + ba (ix2 (y 0) (y 2))

end Cert.AdaSpec

end
-- ==== Proof.AdaArray.lean ====
/-
  The array the modulation call leaves. Each grid point holds one layer's 1024 columns; the blocks fill the array.
-/
module

public import proofs.«01_k».proof.Proof.AdaSpec
public import proofs.«01_k».proof.Proof.IdxExt
public import proofs.«01_k».proof.Proof.Gen.AdaIdeal.Value

@[expose] public section

set_option maxRecDepth 16384

noncomputable section

namespace Cert.AdaIdeal.Array

open Idealize.ShloMosaic Idealize.ShloMosaic.TcCoe Idealize.ShloMosaic.Tactic Idealize.ShloMosaic.ValueIdx
open Idealize.SL Idealize.SL.Sem
open Cert.Rows Cert.AdaSpec Cert.AdaIdeal Cert.AdaIdeal.Gen
open scoped BigOperators

/-! ## One block -/

/-- A block of the result. -/
def tile (x0 : Vec Ideal S8x2048 .f32) (x1 : Vec Ideal S1x2048x1024 .f32) (x2 : Vec Ideal S1x1x1024 .f32) (b : Fin 8) (e : Fin 1024) : EReal :=
  (∑ k : Fin 2048, silu (x0 (ix2 b k)) * x1 (ix3 0 k e)) + x2 (ix3 0 0 e)

theorem tile_pay (x0 : Vec Ideal S8x2048 .f32) (x1 : Vec Ideal S1x2048x1024 .f32) (x2 : Vec Ideal S1x1x1024 .f32) (u : Fin 1) (b : Fin 8) (e : Fin 1024) :
    k0_pay1 (F := Ideal) x0 x1 x2 (ix3 u b e) = tile x0 x1 x2 b e := by
  unfold k0_pay1
  refine (shapeCast_ab_1ab_apply _ _ u b e).trans ?_
  rw [addf_apply]
  refine congrArg₂ (· + ·) ?_ ?_
  · have hd := dot_apply (φ₁ := .bf16) (φ₂ := .bf16) (M := 8) (K := 2048) (N := 1024) (mulf x0 (logistic x0) : FVec Ideal S8x2048 .f32)
      (shapeCast S2048x1024 x1 shapeCasts_S1x2048x1024_S2048x1024) b e
    refine hd.trans (Finset.sum_congr rfl fun k _ => congrArg (fun u => silu (x0 (ix2 b k)) * u) ?_)
    exact shapeCast_1ab_ab_apply _ _ k e
  · refine (broadcastTo_1b_ab_apply _ _ b e).trans ?_
    exact shapeCast_1ab_ab_apply _ _ 0 e

theorem zero_off2 : (![0, 0] : Fin 2 → ℕ) = fun _ => 0 := by
  funext a
  match a with
  | ⟨0, _⟩ => rfl
  | ⟨1, _⟩ => rfl

theorem zero_off3 : (![0, 0, 0] : Fin 3 → ℕ) = fun _ => 0 := by
  funext a
  match a with
  | ⟨0, _⟩ => rfl
  | ⟨1, _⟩ => rfl
  | ⟨2, _⟩ => rfl

/-- The block left at a grid point. -/
theorem out_eq (x0 : Vec Ideal S8x2048 .f32) (x1 : Vec Ideal S1x2048x1024 .f32) (x2 : Vec Ideal S1x1x1024 .f32) (u : Fin 1) (b : Fin 8) (e : Fin 1024) :
    out0_3 x0 x1 x2 (ix3 u b e) = tile x0 x1 x2 b e := by
  unfold out0_3
  refine (congrFun (View.canon_unit_zero (S := S1x8x1024) zero_off3 _ _) (ix3 u b e)).trans ?_
  refine (tile_pay _ _ _ u b e).trans ?_
  simp only [View.ld_unit_zero (S := S8x2048) zero_off2, View.ld_unit_zero (S := S1x2048x1024) zero_off3, View.ld_unit_zero (S := S1x1x1024) zero_off3]

/-! ## The array -/

variable (m : (l : Loc nD τ sig) → Buf (Elt Ideal) l)

/-- Where each window's block lies at a grid point. -/
theorem index0 : ∀ t : Fin cfg0.N, win0_0.index t = ![0, 0] := (by decide +kernel : ∀ t : Fin grid0.N, win0_0.index t = ![0, 0])
theorem index1 : ∀ t : Fin cfg0.N, win0_1.index t = ![t.val / 12, 0, t.val % 12] :=
  (by decide +kernel : ∀ t : Fin grid0.N, win0_1.index t = ![t.val / 12, 0, t.val % 12])
theorem index2 : ∀ t : Fin cfg0.N, win0_2.index t = ![t.val / 12, 0, t.val % 12] :=
  (by decide +kernel : ∀ t : Fin grid0.N, win0_2.index t = ![t.val / 12, 0, t.val % 12])
theorem index3 : ∀ t : Fin cfg0.N, win0_3.index t = ![t.val / 12, 0, t.val % 12] :=
  (by decide +kernel : ∀ t : Fin grid0.N, win0_3.index t = ![t.val / 12, 0, t.val % 12])

theorem t_lt (t : Fin cfg0.N) : t.val < 48 := lt_of_lt_of_eq t.isLt (show cfg0.N = 48 from N_0)

/-- The arguments as arrays of extended reals. -/
abbrev ccArr (c : Dev nD) : CC := m ((c : Thread nD τ).loc main_arg0)
abbrev waArr (c : Dev nD) : WA := m ((c : Thread nD τ).loc main_arg1)
abbrev baArr (c : Dev nD) : BA := m ((c : Thread nD τ).loc main_arg2)

/-- The biases, as one row for each layer. -/
theorem V_ba (c : Dev nD) (l : Fin 4) (e : Fin 12288) :
    (V m c main_v0 : (⟨3, ![4, 1, 12288]⟩ : Shape).Idx → EReal) (ix3 l 0 e) = baArr m c (ix2 l e) := by
  have h : V m c main_v0 = shapeCast S4x1x12288 (m ((c : Thread nD τ).loc main_arg2)) shapeCasts_S4x12288_S4x1x12288 := by
    show StableHlo.after hostOps0 _ (Proc.devRef .tc main_v0) = _
    after_results
    rfl
  rw [h]
  refine shapeCast_apply _ _ _ (ix2 l e) ?_
  rw [Shape.rowMajor_val_three, Shape.rowMajor_val_two]
  show l.val * 12288 + e.val = (l.val * 1 + 0) * 12288 + e.val
  omega

/-- The layer and the column of the array at an entry of the block at hand. -/
def layOf (t : Fin cfg0.N) : Fin 4 := ⟨t.val / 12, by have := t_lt t; omega⟩
def colOf (t : Fin cfg0.N) (e : Fin 1024) : Fin 12288 := ⟨t.val % 12 * 1024 + e.val, by have := t_lt t; have := e.isLt; omega⟩

theorem iblk0_apply (c : Dev nD) (t : Fin cfg0.N) (b : Fin 8) (k : Fin 2048) :
    (iblk m c 0 t : S8x2048.Idx → EReal) (ix2 b k) = ccArr m c (ix2 b k) := by
  show V m c main_arg0 ((win0_0.rect t).emb (ix2 b k)) = _
  rw [V_main_arg0]
  refine congrArg (ccArr m c) (funext fun a => Fin.ext ?_)
  rw [Pipeline.Window.rect_emb_val win0_0 t, index0]
  match a with
  | ⟨0, _⟩ => show 0 * 8 + b.val = b.val; omega
  | ⟨1, _⟩ => show 0 * 2048 + k.val = k.val; omega

theorem iblk1_apply (c : Dev nD) (t : Fin cfg0.N) (k : Fin 2048) (e : Fin 1024) :
    (iblk m c 1 t : S1x2048x1024.Idx → EReal) (ix3 0 k e) = waArr m c (ix3 (layOf t) k (colOf t e)) := by
  show V m c main_arg1 ((win0_1.rect t).emb (ix3 0 k e)) = _
  rw [V_main_arg1]
  refine congrArg (waArr m c) (funext fun a => Fin.ext ?_)
  rw [Pipeline.Window.rect_emb_val win0_1 t, index1]
  match a with
  | ⟨0, _⟩ => show t.val / 12 * 1 + 0 = t.val / 12; omega
  | ⟨1, _⟩ => show 0 * 2048 + k.val = k.val; omega
  | ⟨2, _⟩ => rfl

theorem iblk2_apply (c : Dev nD) (t : Fin cfg0.N) (e : Fin 1024) :
    (iblk m c 2 t : S1x1x1024.Idx → EReal) (ix3 0 0 e) = baArr m c (ix2 (layOf t) (colOf t e)) := by
  refine Eq.trans ?_ (V_ba m c (layOf t) (colOf t e))
  show V m c main_v0 ((win0_2.rect t).emb (ix3 0 0 e)) = _
  refine congrArg (V m c main_v0) (funext fun a => Fin.ext ?_)
  rw [Pipeline.Window.rect_emb_val win0_2 t, index2]
  match a with
  | ⟨0, _⟩ => show t.val / 12 * 1 + 0 = t.val / 12; omega
  | ⟨1, _⟩ => rfl
  | ⟨2, _⟩ => rfl

/-- The block of the result at a grid point. -/
theorem tile_eq (c : Dev nD) (t : Fin cfg0.N) (b : Fin 8) (e : Fin 1024) :
    tile (iblk m c 0 t) (iblk m c 1 t) (iblk m c 2 t) b e = out (ccArr m c) (waArr m c) (baArr m c) (ix3 (layOf t) b (colOf t e)) :=
  congrArg₂ (· + ·) (Finset.sum_congr rfl fun k _ => congrArg₂ (· * ·) (congrArg silu (iblk0_apply m c t b k)) (iblk1_apply m c t k e)) (iblk2_apply m c t e)

/-- The place in the array of an entry of the block written at point `t`. -/
theorem emb3 (t : Fin cfg0.N) (u : Fin 1) (b : Fin 8) (e : Fin 1024) :
    ((win0_3.rect t).emb (ix3 u b e) : S4x8x12288.Idx) = ix3 (layOf t) b (colOf t e) := by
  refine funext fun a => Fin.ext ?_
  rw [Pipeline.Window.rect_emb_val win0_3 t, index3]
  match a with
  | ⟨0, _⟩ => show t.val / 12 * 1 + u.val = t.val / 12; have := u.isLt; omega
  | ⟨1, _⟩ => show 0 * 8 + b.val = b.val; omega
  | ⟨2, _⟩ => rfl

/-- The whole result of the kernel. -/
def result (c : Dev nD) : S4x8x12288.Idx → EReal := out (ccArr m c) (waArr m c) (baArr m c)

theorem flushed_eq (c : Dev nD) (t : Fin cfg0.N) :
    (dats m 0 c).flushed 3 t = ((cfg0.win 3).blk t).view.read (Elt Ideal) (result m c) := by
  funext y
  obtain ⟨u, b, e, rfl⟩ : ∃ (u : Fin 1) (b : Fin 8) (e : Fin 1024), y = ix3 u b e := ⟨y 0, y 1, y 2, eq_ix3 y⟩
  have hR : ((cfg0.win 3).blk t).view.read (Elt Ideal) (result m c) (ix3 u b e) = result m c ((win0_3.rect t).emb (ix3 u b e)) := rfl
  rw [hR, emb3, Value.flushed3]
  exact (out_eq (iblk m c 0 t) (iblk m c 1 t) (iblk m c 2 t) u b e).trans (tile_eq m c t b e)

/-- The blocks fill the array, so the array ends holding the result. -/
theorem final (c : Dev nD) : (dats m 0 c).arrAt 3 cfg0.N = result m c := by
  refine (dats m 0 c).arrAt_eq_of_cover 3 (result m c) (fun t _ => flushed_eq m c t) fun i => ?_
  obtain ⟨l, b, e, rfl⟩ : ∃ (l : Fin 4) (b : Fin 8) (e : Fin 12288), i = ix3 l b e := ⟨i 0, i 1, i 2, eq_ix3 i⟩
  have hl := l.isLt
  have he := e.isLt
  have hlt : l.val * 12 + e.val / 1024 < cfg0.N := by rw [show cfg0.N = 48 from N_0]; omega
  refine ⟨⟨l.val * 12 + e.val / 1024, hlt⟩, flush0_3 _, ?_⟩
  have hi : (ix3 l b e : S4x8x12288.Idx) = (win0_3.rect ⟨l.val * 12 + e.val / 1024, hlt⟩).emb
      (ix3 0 b (⟨e.val % 1024, Nat.mod_lt _ (by norm_num)⟩ : Fin 1024)) := by
    rw [emb3]
    refine IdxExt.ext3 ?_ rfl ?_
    · show l.val = (l.val * 12 + e.val / 1024) / 12
      omega
    · show e.val = (l.val * 12 + e.val / 1024) % 12 * 1024 + e.val % 1024
      omega
  rw [hi]
  exact ((cfg0.win 3).blk ⟨l.val * 12 + e.val / 1024, hlt⟩).view.emb_mem_set _

/-- The kernel ends with the result, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.AdaIdeal.Array

end
-- ==== Proof.AdaEq.lean ====
/-
  The reference's modulation stage, read off its operations, is the array the kernel leaves.
-/
module

public import proofs.«01_k».proof.Proof.AdaSpec
public import proofs.«01_k».proof.Proof.IdxExt
public import proofs.«01_k».proof.Proof.RefRows
public import proofs.«01_k».proof.Proof.Gen.AdaRefIdeal.Run
public import proofs.«01_k».proof.Proof.Gen.AdaRefIdeal.Read

@[expose] public section

set_option maxRecDepth 16384

noncomputable section

namespace Cert.AdaEq

open Idealize.ShloMosaic Idealize.ShloMosaic.TcCoe Idealize.ShloMosaic.ValueIdx
open Idealize.SL Idealize.SL.Sem
open Cert.Rows Cert.AdaSpec Cert.IdxExt Cert.RefRows Cert.AdaRefIdeal Cert.AdaRefIdeal.Gen Cert.AdaRefIdeal.Read
open scoped BigOperators

variable (x0 : (⟨S8x2048, .f32⟩ : BufTy).Contents (Elt Ideal)) (x1 : (⟨S4x2048x12288, .f32⟩ : BufTy).Contents (Elt Ideal))
  (x2 : (⟨S4x12288, .f32⟩ : BufTy).Contents (Elt Ideal))

/-- The SiLU of the embeddings. -/
theorem silu_at (i : S8x2048.Idx) : val_main_v0 (F := Ideal) x0 i = silu (x0 i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  refine congrArg (fun u => x0 i * u) ?_
  show Ideal.div one (one + Ideal.exp (-_)) = _
  rw [one_eq]
  rfl

/-- The reference's array. The reference has each weight before the entry it multiplies. -/
theorem reference_eq : val_main_v5 (F := Ideal) x0 x1 x2 = AdaSpec.out x0 x1 x2 := by
  funext i
  obtain ⟨l, b, e, rfl⟩ : ∃ (l : Fin 4) (b : Fin 8) (e : Fin 12288), i = ix3 l b e := ⟨i 0, i 1, i 2, eq_ix3 i⟩
  have hs : val_main_v1 (F := Ideal) x0 x1 (ix3 l e b) = ∑ k : Fin 2048, silu (x0 (ix2 b k)) * x1 (ix3 l k e) := by
    rw [val_main_v1_apply]
    refine Finset.sum_congr rfl fun k _ => ?_
    rw [show lidx_main_v1 (ix3 l e b) k = ix3 l k e from ext3 rfl rfl rfl, show ridx_main_v1 (ix3 l e b) k = ix2 b k from ext2 rfl rfl, silu_at,
      mul_comm]
  rw [val_main_v5_apply, val_main_v2_apply, show idx_main_v2 (ix3 l b e) = ix3 l e b from ext3 rfl rfl rfl, hs, val_main_v4_apply, val_main_v3_apply,
    show idx_main_v3 (idx_main_v4 (ix3 l b e)) = ix2 l e from ext2 rfl rfl]
  rfl

/-- The reference ends with the result, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = AdaSpec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((Read.val_main_v5_eq _ _ _).trans (reference_eq _ _ _)), (h c).2⟩)
    (Value.run (F := Ideal) m ρ)

end Cert.AdaEq

end
-- ==== Proof.QkPrepSpec.lean ====
/-
  What the query and key preparation computes: each head of each token divided by the root of its mean square and scaled,
  and for the tokens past the first 256 of their sequence the adjacent pairs turned by the token's angles.
-/
module

public import proofs.«01_k».proof.Proof.Rows

@[expose] public section

set_option maxRecDepth 16384

noncomputable section

namespace Cert.QkPrepSpec

open Idealize.ShloMosaic Idealize.ShloMosaic.ValueIdx Cert.Rows
open scoped BigOperators

/-- The projections, the cosines or sines, a norm's weight, and the queries and keys. -/
abbrev PJ : Type := (⟨2, ![9216, 11776]⟩ : Shape).Idx → EReal
abbrev AN : Type := (⟨2, ![2048, 64]⟩ : Shape).Idx → EReal
abbrev NW : Type := (⟨1, ![128]⟩ : Shape).Idx → EReal
abbrev QA : Type := (⟨2, ![9216, 1024]⟩ : Shape).Idx → EReal
abbrev KA : Type := (⟨2, ![9216, 256]⟩ : Shape).Idx → EReal

/-- The width of a head, 128, as it is written, and the scale of the queries. -/
def width : EReal := FloatOps.ofBits (F := Ideal) .f32 0x43000000#32
def scale : EReal := FloatOps.ofBits (F := Ideal) .f32 0x3DB504F3#32

/-- An entry of a head over the root of the head's mean square, scaled. -/
def norm (z w : Fin 128 → EReal) (d : Fin 128) : EReal :=
  z d * Ideal.rsqrt (Ideal.div (∑ e, z e * z e) width + eps) * w d

/-- The pair an entry belongs to, and the pair's two entries. -/
def pair (d : Fin 128) : Fin 64 := ⟨d.val / 2, by have := d.isLt; omega⟩
def fst (p : Fin 64) : Fin 128 := ⟨2 * p.val, by have := p.isLt; omega⟩
def snd (p : Fin 64) : Fin 128 := ⟨2 * p.val + 1, by have := p.isLt; omega⟩

/-- Each pair turned by its angle. -/
def rotate (x : Fin 128 → EReal) (cs sn : Fin 64 → EReal) (d : Fin 128) : EReal :=
  if d.val % 2 = 0 then x (fst (pair d)) * cs (pair d) - x (snd (pair d)) * sn (pair d)
  else x (fst (pair d)) * sn (pair d) + x (snd (pair d)) * cs (pair d)

/-- The angles' row of a token past the first 256. -/
def angleRow (p : Fin 2304) (h : ¬ p.val < 256) : Fin 2048 := ⟨p.val - 256, by have := p.isLt; omega⟩

/-- A prepared head of the token at place `p` of its sequence. -/
def prep (z w : Fin 128 → EReal) (cs sn : AN) (p : Fin 2304) (d : Fin 128) : EReal :=
  if h : p.val < 256 then norm z w d
  else rotate (norm z w) (fun j => cs (ix2 (angleRow p h) j)) (fun j => sn (ix2 (angleRow p h) j)) d

/-- The place of a row in its sequence. -/
def place (r : Fin 9216) : Fin 2304 := ⟨r.val % 2304, Nat.mod_lt _ (by norm_num)⟩

/-- A head of the queries, and of the keys, among the projections. -/
def qHead (pj : PJ) (r : Fin 9216) (h : Fin 8) (e : Fin 128) : EReal :=
  pj (ix2 r (⟨8192 + (h.val * 128 + e.val), by have := h.isLt; have := e.isLt; omega⟩ : Fin 11776))
def kHead (pj : PJ) (r : Fin 9216) (h : Fin 2) (e : Fin 128) : EReal :=
  pj (ix2 r (⟨11008 + (h.val * 128 + e.val), by have := h.isLt; have := e.isLt; omega⟩ : Fin 11776))

/-- The head a column lies in, and the place in it. -/
def qOf (k : Fin 1024) : Fin 8 := ⟨k.val / 128, by have := k.isLt; omega⟩
def kOf (k : Fin 256) : Fin 2 := ⟨k.val / 128, by have := k.isLt; omega⟩
def inHead (k : ℕ) : Fin 128 := ⟨k % 128, Nat.mod_lt _ (by norm_num)⟩

/-- The queries. -/
def queries (pj : PJ) (cs sn : AN) (qw : NW) : QA := fun y =>
  prep (qHead pj (y 0) (qOf (y 1))) (fun d => qw (ix1 d)) cs sn (place (y 0)) (inHead (y 1).val) * scale

/-- The keys. -/
def keys (pj : PJ) (cs sn : AN) (kw : NW) : KA := fun y =>
  prep (kHead pj (y 0) (kOf (y 1))) (fun d => kw (ix1 d)) cs sn (place (y 0)) (inHead (y 1).val)

end Cert.QkPrepSpec

end
-- ==== Proof.QkPrepHead.lean ====
/-
  One head of a block, as the kernel prepares it: the norm, and the rotation written with two rotated copies of the head
  and tables of one entry for each column.
-/
module

public import proofs.«01_k».proof.Proof.QkPrepSpec
public import proofs.«01_k».proof.Proof.IdxExt
public import proofs.«01_k».proof.Proof.Gen.QkPrepIdeal.Value
public import Idealize.ShloMosaic.Lib.KernelVsHost

@[expose] public section

set_option maxRecDepth 16384

noncomputable section

namespace Cert.QkPrepIdeal.Head

open Idealize.ShloMosaic Idealize.ShloMosaic.ValueIdx
open Cert.Rows Cert.QkPrepSpec Cert.QkPrepIdeal Cert.QkPrepIdeal.Gen
open scoped BigOperators

/-! ## Which columns are even -/

theorem even_row (r : Fin 768) (d : Fin 128) : k0_pay4 (ix2 r d) = k0_pay4 (ix2 0 d) := rfl

theorem even_col : ∀ d : Fin 128, k0_pay4 (ix2 0 d) = if d.val % 2 = 0 then 1#1 else 0#1 := by decide +kernel

/-! ## The norm -/

/-- A head normed, as the kernel writes it. -/
def normed (x : FVec Ideal S768x128 .f32) (w : FVec Ideal S1x128 .f32) : FVec Ideal S768x128 .f32 :=
  mulf (mulf x (broadcastTo S768x128 (rsqrt (addf (divf (shapeCast S768x1 (multiReduction .add [1] S768 (mulf x x) 0x00000000#32 reduces_S768x128_S768 (.inl rfl) rfl)
    shapeCasts_S768_S768x1) (broadcast S768x1 (Scalar.ofBits .f32 0x43000000#32))) (broadcast S768x1 (Scalar.ofBits .f32 0x358637BD#32)))) broadcasts_S768x1_S768x128))
    (broadcastTo S768x128 (shapeCast S1x128 w shapeCasts_S1x128_S1x128) broadcasts_S1x128_S768x128)

theorem normed_apply (x : FVec Ideal S768x128 .f32) (w : FVec Ideal S1x128 .f32) (r : Fin 768) (d : Fin 128) :
    normed x w (ix2 r d) = norm (fun e => x (ix2 r e)) (fun e => w (ix2 0 e)) d := by
  unfold normed
  rw [shapeCast_self w, mulf_apply, mulf_apply, broadcastTo_1b_ab_apply]
  refine congrArg (fun u => x (ix2 r d) * u * w (ix2 0 d)) ?_
  refine (column_apply _ _ r d).trans ?_
  show Ideal.rsqrt (Ideal.div (shapeCast S768x1 _ shapeCasts_S768_S768x1 (ix2 r 0)) width + eps) = _
  rw [shapeCast_a_a1_apply, rowSum_apply]
  rfl

/-! ## The rotation -/

/-- A head turned, as the kernel writes it: the partner of an even column is the next one, of an odd column the one before. -/
def turned (c s : FVec Ideal S768x128 .f32) (z : FVec Ideal S768x128 .f32) : FVec Ideal S768x128 .f32 :=
  addf (mulf z c) (mulf (select k0_pay4 (dynamicRotate 1 127#32 none z rotates_S768x128_d1) (dynamicRotate 1 1#32 none z rotates_S768x128_d1)) s)

theorem next_apply (z : FVec Ideal S768x128 .f32) (r : Fin 768) (d e : Fin 128) (h : e.val = (d.val + 1) % 128) :
    dynamicRotate 1 127#32 none z rotates_S768x128_d1 (ix2 r d) = z (ix2 r e) := by
  refine dynamicRotate_apply 1 127#32 z _ (ix2 r d) (ix2 r e) fun b => ?_
  have hd := d.isLt
  match b with
  | ⟨0, _⟩ => rfl
  | ⟨1, _⟩ => show e.val = (d.val + 128 - 127) % 128; omega

theorem last_apply (z : FVec Ideal S768x128 .f32) (r : Fin 768) (d e : Fin 128) (h : e.val = (d.val + 127) % 128) :
    dynamicRotate 1 1#32 none z rotates_S768x128_d1 (ix2 r d) = z (ix2 r e) := by
  refine dynamicRotate_apply 1 1#32 z _ (ix2 r d) (ix2 r e) fun b => ?_
  have hd := d.isLt
  match b with
  | ⟨0, _⟩ => rfl
  | ⟨1, _⟩ => show e.val = (d.val + 128 - 1) % 128; omega

/-- The other column of a column's pair. -/
def partner (d : Fin 128) : Fin 128 := if d.val % 2 = 0 then snd (pair d) else fst (pair d)

theorem turned_apply (c s z : FVec Ideal S768x128 .f32) (r : Fin 768) (d : Fin 128) :
    turned c s z (ix2 r d) = z (ix2 r d) * c (ix2 r d) + z (ix2 r (partner d)) * s (ix2 r d) := by
  have hd := d.isLt
  unfold turned partner
  rw [addf_apply, mulf_apply, mulf_apply, select_apply, even_row, even_col]
  refine congrArg (fun u => z (ix2 r d) * c (ix2 r d) + u * s (ix2 r d)) ?_
  by_cases h : d.val % 2 = 0
  · rw [if_pos h, if_pos h]
    refine next_apply z r d (snd (pair d)) ?_
    show 2 * (d.val / 2) + 1 = (d.val + 1) % 128
    omega
  · rw [if_neg h, if_neg h]
    refine last_apply z r d (fst (pair d)) ?_
    show 2 * (d.val / 2) = (d.val + 127) % 128
    omega

/-- An entry of a head normed and turned with tables of one entry for each column. -/
def entry (z w c s : Fin 128 → EReal) (d : Fin 128) : EReal := norm z w d * c d + norm z w (partner d) * s d

theorem head_apply (c s x : FVec Ideal S768x128 .f32) (w : FVec Ideal S1x128 .f32) (r : Fin 768) (d : Fin 128) :
    turned c s (normed x w) (ix2 r d)
      = entry (fun e => x (ix2 r e)) (fun e => w (ix2 0 e)) (fun e => c (ix2 r e)) (fun e => s (ix2 r e)) d := by
  rw [turned_apply, normed_apply, normed_apply]
  rfl

/-! ## The tables -/

/-- Tables of ones and zeros leave the normed head. -/
theorem entry_plain (z w c s : Fin 128 → EReal) (d : Fin 128) (hc : c d = 1) (hs : s d = 0) : entry z w c s d = norm z w d := by
  unfold entry
  rw [hc, hs, mul_one, mul_zero, add_zero]

/-- Tables that hold each pair's cosine twice, and its sine negated and then plain, turn the pairs. -/
theorem entry_rotate (z w c s : Fin 128 → EReal) (cs sn : Fin 64 → EReal) (d : Fin 128) (hc : c d = cs (pair d))
    (hs : s d = if d.val % 2 = 0 then -sn (pair d) else sn (pair d)) : entry z w c s d = rotate (norm z w) cs sn d := by
  have hd := d.isLt
  unfold entry rotate partner
  rw [hc, hs]
  by_cases h : d.val % 2 = 0
  · have e : d = fst (pair d) := Fin.ext (by show d.val = 2 * (d.val / 2); omega)
    rw [if_pos h, if_pos h, if_pos h, ← e, mul_neg]
    rfl
  · have e : d = snd (pair d) := Fin.ext (by show d.val = 2 * (d.val / 2) + 1; omega)
    rw [if_neg h, if_neg h, if_neg h, ← e, add_comm]

end Cert.QkPrepIdeal.Head

end
-- ==== Proof.QkPrepBlock.lean ====
/-
  The blocks one grid point leaves: eight heads of queries and two of keys, each written over its own 128 columns.
-/
module

public import proofs.«01_k».proof.Proof.QkPrepHead

@[expose] public section

set_option maxRecDepth 16384

noncomputable section

namespace Cert.QkPrepIdeal.Block

open Idealize.ShloMosaic Idealize.ShloMosaic.TcCoe Idealize.ShloMosaic.Tactic Idealize.ShloMosaic.ValueIdx
open Idealize.SL Idealize.SL.Sem
open Cert.Rows Cert.QkPrepSpec Cert.QkPrepIdeal Cert.QkPrepIdeal.Gen Cert.QkPrepIdeal.Head
open scoped BigOperators

/-- The column of a block at a head and a place in it. -/
def qCol (h : Fin 8) (e : Fin 128) : Fin 1024 := ⟨h.val * 128 + e.val, by have := h.isLt; have := e.isLt; omega⟩
def kCol (h : Fin 2) (e : Fin 128) : Fin 256 := ⟨h.val * 128 + e.val, by have := h.isLt; have := e.isLt; omega⟩

/-- The block of queries. -/
def tileQ (x0 : Vec Ideal S768x1024 .bf16) (x2 x3 : Vec Ideal S768x128 .f32) (x4 : Vec Ideal S1x128 .f32) : Vec Ideal S768x1024 .bf16 := fun y =>
  (entry (fun e => x0 (ix2 (y 0) (qCol (qOf (y 1)) e))) (fun e => x4 (ix2 0 e)) (fun e => x2 (ix2 (y 0) e)) (fun e => x3 (ix2 (y 0) e))
    (inHead (y 1).val) * scale : EReal)

/-- The block of keys. -/
def tileK (x1 : Vec Ideal S768x256 .bf16) (x2 x3 : Vec Ideal S768x128 .f32) (x5 : Vec Ideal S1x128 .f32) : Vec Ideal S768x256 .bf16 := fun y =>
  (entry (fun e => x1 (ix2 (y 0) (kCol (kOf (y 1)) e))) (fun e => x5 (ix2 0 e)) (fun e => x2 (ix2 (y 0) e)) (fun e => x3 (ix2 (y 0) e))
    (inHead (y 1).val) : EReal)

theorem in_qCol (h : Fin 8) (d : Fin 128) : qOf (qCol h d) = h ∧ inHead (qCol h d).val = d := by
  have := d.isLt
  exact ⟨Fin.ext (by show (h.val * 128 + d.val) / 128 = h.val; omega), Fin.ext (by show (h.val * 128 + d.val) % 128 = d.val; omega)⟩

theorem in_kCol (h : Fin 2) (d : Fin 128) : kOf (kCol h d) = h ∧ inHead (kCol h d).val = d := by
  have := d.isLt
  exact ⟨Fin.ext (by show (h.val * 128 + d.val) / 128 = h.val; omega), Fin.ext (by show (h.val * 128 + d.val) % 128 = d.val; omega)⟩

/-- One head of queries, from the columns `X` it is read from. -/
theorem q_piece (x0 : Vec Ideal S768x1024 .bf16) (x2 x3 : FVec Ideal S768x128 .f32) (x4 : FVec Ideal S1x128 .f32) (h : Fin 8)
    (X : FVec Ideal S768x128 .f32) (hX : ∀ r e, X (ix2 r e) = x0 (ix2 r (qCol h e))) (r : Fin 768) (d : Fin 128) :
    mulf (turned x2 x3 (normed X x4)) (broadcast S768x128 (Scalar.ofBits .f32 0x3DB504F3#32)) (ix2 r d) = tileQ x0 x2 x3 x4 (ix2 r (qCol h d)) := by
  show turned x2 x3 (normed X x4) (ix2 r d) * scale = entry (fun e => x0 (ix2 r (qCol (qOf (qCol h d)) e))) _ _ _ (inHead (qCol h d).val) * scale
  rw [head_apply, (in_qCol h d).1, (in_qCol h d).2, show (fun e => X (ix2 r e)) = fun e => x0 (ix2 r (qCol h e)) from funext (hX r)]

/-- One head of keys, from the columns `X` it is read from. -/
theorem k_piece (x1 : Vec Ideal S768x256 .bf16) (x2 x3 : FVec Ideal S768x128 .f32) (x5 : FVec Ideal S1x128 .f32) (h : Fin 2)
    (X : FVec Ideal S768x128 .f32) (hX : ∀ r e, X (ix2 r e) = x1 (ix2 r (kCol h e))) (r : Fin 768) (d : Fin 128) :
    turned x2 x3 (normed X x5) (ix2 r d) = tileK x1 x2 x3 x5 (ix2 r (kCol h d)) := by
  show _ = entry (fun e => x1 (ix2 r (kCol (kOf (kCol h d)) e))) _ _ _ (inHead (kCol h d).val)
  rw [head_apply, (in_kCol h d).1, (in_kCol h d).2, show (fun e => X (ix2 r e)) = fun e => x1 (ix2 r (kCol h e)) from funext (hX r)]

theorem zero_off : (![0, 0] : Fin 2 → ℕ) = fun _ => 0 := by
  funext a
  match a with
  | ⟨0, _⟩ => rfl
  | ⟨1, _⟩ => rfl

/-- Where a head's piece lies in its block. -/
theorem at_qCol (h : Fin 8) (o : ℕ) (ho : o = h.val * 128) (hi) (r : Fin 768) (d : Fin 128) :
    (Rect.unit (s := S768x1024) ![0, o] ![768, 128] hi).emb (ix2 r d) = ix2 r (qCol h d) := by
  subst ho
  exact IdxExt.ext2 (by show 0 + 1 * r.val = r.val; omega) (by show h.val * 128 + 1 * d.val = h.val * 128 + d.val; omega)

theorem at_kCol (h : Fin 2) (o : ℕ) (ho : o = h.val * 128) (hi) (r : Fin 768) (d : Fin 128) :
    (Rect.unit (s := S768x256) ![0, o] ![768, 128] hi).emb (ix2 r d) = ix2 r (kCol h d) := by
  subst ho
  exact IdxExt.ext2 (by show 0 + 1 * r.val = r.val; omega) (by show h.val * 128 + 1 * d.val = h.val * 128 + d.val; omega)

/-- The tables are used as they are. -/
theorem cosines (v : Vec Ideal S768x128 .f32) : k0_pay2 (F := Ideal) v = v := shapeCast_self _ _
theorem sines (v : Vec Ideal S768x128 .f32) : k0_pay3 (F := Ideal) v = v := shapeCast_self _ _

variable (c : Dev nD) (i : grid0.Coords) (arg1 : Memref sig .tc .vmem S768x1024 .bf16) (harg1 : arg1.IsWhole) (arg2 : Memref sig .tc .vmem S768x256 .bf16) (harg2 : arg2.IsWhole)
  (arg3 : Memref sig .tc .vmem S768x128 .f32) (harg3 : arg3.IsWhole) (arg4 : Memref sig .tc .vmem S768x128 .f32) (harg4 : arg4.IsWhole) (arg5 : Memref sig .tc .vmem S1x128 .f32) (harg5 : arg5.IsWhole)
  (arg6 : Memref sig .tc .vmem S1x128 .f32) (harg6 : arg6.IsWhole) (arg7 : Memref sig .tc .vmem S768x1024 .bf16) (harg7 : arg7.IsWhole) (arg8 : Memref sig .tc .vmem S768x256 .bf16) (harg8 : arg8.IsWhole)
  (x0 : Vec Ideal S768x1024 .bf16) (x1 : Vec Ideal S768x256 .bf16) (x2 : Vec Ideal S768x128 .f32) (x3 : Vec Ideal S768x128 .f32) (x4 : Vec Ideal S1x128 .f32) (x5 : Vec Ideal S1x128 .f32)

/-- The block of queries left at a grid point. -/
theorem out_q (y : S768x1024.Idx) :
    out0_A_6 c i arg1 harg1 arg2 harg2 arg3 harg3 arg4 harg4 arg5 harg5 arg6 harg6 arg7 harg7 arg8 harg8 x0 x1 x2 x3 x4 x5 y = tileQ x0 x2 x3 x4 y := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  refine View.canon_apply_of_pieces (fun y => tileQ x0 x2 x3 x4 y) _ ?_ y (cover0_A_6 c i arg1 harg1 arg2 harg2 arg3 harg3 arg4 harg4 arg5 harg5 arg6 harg6 arg7 harg7 arg8 harg8 x0 x1 x2 x3 x4 x5 y)
  unfold kernelRun0_A
  dsimp only
  sl_unfold_words
  simp only [View.readAt_eq_ld, harg1.read_unread, harg2.read_unread, harg3.read_unread, harg4.read_unread, harg5.read_unread, harg6.read_unread,
    View.ld_unit_zero (S := S768x128) zero_off, View.ld_unit_zero (S := S1x128) zero_off, cosines, sines]
  intro p hp x
  simp only [List.mem_cons, List.not_mem_nil, or_false] at hp
  rcases hp with rfl | rfl | rfl | rfl | rfl | rfl | rfl | rfl
  · obtain ⟨r, d, rfl⟩ : ∃ (r : Fin 768) (d : Fin 128), x = ix2 r d := ⟨x 0, x 1, eq_ix2 x⟩
    exact (q_piece x0 x2 x3 x4 7 (View.ld x0 (Rect.unit (s := S768x1024) ![0, 896] ![768, 128] inb_S768x1024_S768x128_0_896))
      (fun r e => congrArg x0 (at_qCol 7 896 rfl inb_S768x1024_S768x128_0_896 r e)) r d).trans (congrArg (tileQ x0 x2 x3 x4) (at_qCol 7 896 rfl inb_S768x1024_S768x128_0_896 r d).symm)
  · obtain ⟨r, d, rfl⟩ : ∃ (r : Fin 768) (d : Fin 128), x = ix2 r d := ⟨x 0, x 1, eq_ix2 x⟩
    exact (q_piece x0 x2 x3 x4 6 (View.ld x0 (Rect.unit (s := S768x1024) ![0, 768] ![768, 128] inb_S768x1024_S768x128_0_768))
      (fun r e => congrArg x0 (at_qCol 6 768 rfl inb_S768x1024_S768x128_0_768 r e)) r d).trans (congrArg (tileQ x0 x2 x3 x4) (at_qCol 6 768 rfl inb_S768x1024_S768x128_0_768 r d).symm)
  · obtain ⟨r, d, rfl⟩ : ∃ (r : Fin 768) (d : Fin 128), x = ix2 r d := ⟨x 0, x 1, eq_ix2 x⟩
    exact (q_piece x0 x2 x3 x4 5 (View.ld x0 (Rect.unit (s := S768x1024) ![0, 640] ![768, 128] inb_S768x1024_S768x128_0_640))
      (fun r e => congrArg x0 (at_qCol 5 640 rfl inb_S768x1024_S768x128_0_640 r e)) r d).trans (congrArg (tileQ x0 x2 x3 x4) (at_qCol 5 640 rfl inb_S768x1024_S768x128_0_640 r d).symm)
  · obtain ⟨r, d, rfl⟩ : ∃ (r : Fin 768) (d : Fin 128), x = ix2 r d := ⟨x 0, x 1, eq_ix2 x⟩
    exact (q_piece x0 x2 x3 x4 4 (View.ld x0 (Rect.unit (s := S768x1024) ![0, 512] ![768, 128] inb_S768x1024_S768x128_0_512))
      (fun r e => congrArg x0 (at_qCol 4 512 rfl inb_S768x1024_S768x128_0_512 r e)) r d).trans (congrArg (tileQ x0 x2 x3 x4) (at_qCol 4 512 rfl inb_S768x1024_S768x128_0_512 r d).symm)
  · obtain ⟨r, d, rfl⟩ : ∃ (r : Fin 768) (d : Fin 128), x = ix2 r d := ⟨x 0, x 1, eq_ix2 x⟩
    exact (q_piece x0 x2 x3 x4 3 (View.ld x0 (Rect.unit (s := S768x1024) ![0, 384] ![768, 128] inb_S768x1024_S768x128_0_384))
      (fun r e => congrArg x0 (at_qCol 3 384 rfl inb_S768x1024_S768x128_0_384 r e)) r d).trans (congrArg (tileQ x0 x2 x3 x4) (at_qCol 3 384 rfl inb_S768x1024_S768x128_0_384 r d).symm)
  · obtain ⟨r, d, rfl⟩ : ∃ (r : Fin 768) (d : Fin 128), x = ix2 r d := ⟨x 0, x 1, eq_ix2 x⟩
    exact (q_piece x0 x2 x3 x4 2 (View.ld x0 (Rect.unit (s := S768x1024) ![0, 256] ![768, 128] inb_S768x1024_S768x128_0_256))
      (fun r e => congrArg x0 (at_qCol 2 256 rfl inb_S768x1024_S768x128_0_256 r e)) r d).trans (congrArg (tileQ x0 x2 x3 x4) (at_qCol 2 256 rfl inb_S768x1024_S768x128_0_256 r d).symm)
  · obtain ⟨r, d, rfl⟩ : ∃ (r : Fin 768) (d : Fin 128), x = ix2 r d := ⟨x 0, x 1, eq_ix2 x⟩
    exact (q_piece x0 x2 x3 x4 1 (View.ld x0 (Rect.unit (s := S768x1024) ![0, 128] ![768, 128] inb_S768x1024_S768x128_0_128))
      (fun r e => congrArg x0 (at_qCol 1 128 rfl inb_S768x1024_S768x128_0_128 r e)) r d).trans (congrArg (tileQ x0 x2 x3 x4) (at_qCol 1 128 rfl inb_S768x1024_S768x128_0_128 r d).symm)
  · obtain ⟨r, d, rfl⟩ : ∃ (r : Fin 768) (d : Fin 128), x = ix2 r d := ⟨x 0, x 1, eq_ix2 x⟩
    exact (q_piece x0 x2 x3 x4 0 (View.ld x0 (Rect.unit (s := S768x1024) ![0, 0] ![768, 128] inb_S768x1024_S768x128_0_0))
      (fun r e => congrArg x0 (at_qCol 0 0 rfl inb_S768x1024_S768x128_0_0 r e)) r d).trans (congrArg (tileQ x0 x2 x3 x4) (at_qCol 0 0 rfl inb_S768x1024_S768x128_0_0 r d).symm)

/-- The block of keys left at a grid point. -/
theorem out_k (y : S768x256.Idx) :
    out0_A_7 c i arg1 harg1 arg2 harg2 arg3 harg3 arg4 harg4 arg5 harg5 arg6 harg6 arg7 harg7 arg8 harg8 x0 x1 x2 x3 x4 x5 y = tileK x1 x2 x3 x5 y := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  refine View.canon_apply_of_pieces (fun y => tileK x1 x2 x3 x5 y) _ ?_ y (cover0_A_7 c i arg1 harg1 arg2 harg2 arg3 harg3 arg4 harg4 arg5 harg5 arg6 harg6 arg7 harg7 arg8 harg8 x0 x1 x2 x3 x4 x5 y)
  unfold kernelRun0_A
  dsimp only
  sl_unfold_words
  simp only [View.readAt_eq_ld, harg1.read_unread, harg2.read_unread, harg3.read_unread, harg4.read_unread, harg5.read_unread, harg6.read_unread,
    View.ld_unit_zero (S := S768x128) zero_off, View.ld_unit_zero (S := S1x128) zero_off, cosines, sines]
  intro p hp x
  simp only [List.mem_cons, List.not_mem_nil, or_false] at hp
  rcases hp with rfl | rfl
  · obtain ⟨r, d, rfl⟩ : ∃ (r : Fin 768) (d : Fin 128), x = ix2 r d := ⟨x 0, x 1, eq_ix2 x⟩
    exact (k_piece x1 x2 x3 x5 1 (View.ld x1 (Rect.unit (s := S768x256) ![0, 128] ![768, 128] inb_S768x256_S768x128_0_128))
      (fun r e => congrArg x1 (at_kCol 1 128 rfl inb_S768x256_S768x128_0_128 r e)) r d).trans (congrArg (tileK x1 x2 x3 x5) (at_kCol 1 128 rfl inb_S768x256_S768x128_0_128 r d).symm)
  · obtain ⟨r, d, rfl⟩ : ∃ (r : Fin 768) (d : Fin 128), x = ix2 r d := ⟨x 0, x 1, eq_ix2 x⟩
    exact (k_piece x1 x2 x3 x5 0 (View.ld x1 (Rect.unit (s := S768x256) ![0, 0] ![768, 128] inb_S768x256_S768x128_0_0))
      (fun r e => congrArg x1 (at_kCol 0 0 rfl inb_S768x256_S768x128_0_0 r e)) r d).trans (congrArg (tileK x1 x2 x3 x5) (at_kCol 0 0 rfl inb_S768x256_S768x128_0_0 r d).symm)

end Cert.QkPrepIdeal.Block

end
-- ==== Proof.QkPrepTables.lean ====
/-
  The tables the rotation is given: one entry for each column, ones and zeros for the first 256 tokens of a sequence.
-/
module

public import proofs.«01_k».proof.Proof.QkPrepHead
public import proofs.«01_k».proof.Proof.RefRows

@[expose] public section

set_option maxRecDepth 16384

noncomputable section

namespace Cert.QkPrepIdeal.Tables

open Idealize.ShloMosaic Idealize.ShloMosaic.ValueIdx
open Cert.Rows Cert.QkPrepSpec Cert.QkPrepIdeal Cert.QkPrepIdeal.Gen Cert.QkPrepIdeal.Head
open scoped BigOperators

/-- The table of the cosines, each given to both columns of its pair. -/
def cosTable (cs : FVec Ideal S2048x64 .f32) : FVec Ideal S2304x128 .f32 :=
  concatenate S2304x128 0 [⟨S256x128, broadcastInDim S256x128 ![] bcast_S_S256x128 (constant S_ .f32 0x3F800000#32)⟩,
    ⟨S2048x128, shapeCast S2048x128 (broadcastInDim S2048x64x2 ![0, 1] bcast_S2048x64_S2048x64x2_0_1 cs) shapeCasts_S2048x64x2_S2048x128⟩]
    concatenates_S256x128_S2048x128_S2304x128_d0

/-- The sines of each pair, negated and plain. -/
def sinPairs (sn : FVec Ideal S2048x64 .f32) : FVec Ideal S2048x64x2 .f32 :=
  concatenate S2048x64x2 2 [⟨S2048x64x1, broadcastInDim S2048x64x1 ![0, 1] bcast_S2048x64_S2048x64x1_0_1 (Host.negf sn)⟩,
    ⟨S2048x64x1, broadcastInDim S2048x64x1 ![0, 1] bcast_S2048x64_S2048x64x1_0_1 sn⟩] concatenates_S2048x64x1_S2048x64x1_S2048x64x2_d2

/-- The table of the sines. -/
def sinTable (sn : FVec Ideal S2048x64 .f32) : FVec Ideal S2304x128 .f32 :=
  concatenate S2304x128 0 [⟨S256x128, broadcastInDim S256x128 ![] bcast_S_S256x128 (constant S_ .f32 0x00000000#32)⟩,
    ⟨S2048x128, shapeCast S2048x128 (sinPairs sn) shapeCasts_S2048x64x2_S2048x128⟩] concatenates_S256x128_S2048x128_S2304x128_d0

/-- A table read below row 256. -/
theorem top (a : FVec Ideal S256x128 .f32) (b : FVec Ideal S2048x128 .f32) (p : Fin 2304) (d : Fin 128) (h : p.val < 256) :
    concatenate S2304x128 0 [⟨S256x128, a⟩, ⟨S2048x128, b⟩] concatenates_S256x128_S2048x128_S2304x128_d0 (ix2 p d) = a (ix2 (⟨p.val, h⟩ : Fin 256) d) :=
  concatenate_pair_apply_left (t := S2304x128) (s₁ := S256x128) (s₂ := S2048x128) 0 a b _ (ix2 p d) rfl (ix2 (⟨p.val, h⟩ : Fin 256) d)
    (fun a => by match a with | ⟨0, _⟩ => rfl | ⟨1, _⟩ => rfl)

/-- A table read from row 256 on. -/
theorem rest (a : FVec Ideal S256x128 .f32) (b : FVec Ideal S2048x128 .f32) (p : Fin 2304) (d : Fin 128) (h : ¬ p.val < 256) :
    concatenate S2304x128 0 [⟨S256x128, a⟩, ⟨S2048x128, b⟩] concatenates_S256x128_S2048x128_S2304x128_d0 (ix2 p d) = b (ix2 (angleRow p h) d) :=
  concatenate_pair_apply_right (t := S2304x128) (s₁ := S256x128) (s₂ := S2048x128) 0 a b _ (ix2 p d) rfl rfl (ix2 (angleRow p h) d)
    (fun a ha => by match a with | ⟨0, _⟩ => exact absurd rfl ha | ⟨1, _⟩ => rfl) (by show p.val - 256 + 256 = p.val; omega)

/-- Two entries for each pair, laid side by side. -/
theorem flat (v : FVec Ideal S2048x64x2 .f32) (q : Fin 2048) (d : Fin 128) :
    shapeCast S2048x128 v shapeCasts_S2048x64x2_S2048x128 (ix2 q d) = v (ix3 q (pair d) (⟨d.val % 2, Nat.mod_lt _ (by norm_num)⟩ : Fin 2)) := by
  refine shapeCast_apply _ _ _ _ ?_
  rw [Shape.rowMajor_val_three, Shape.rowMajor_val_two]
  show (q.val * 64 + d.val / 2) * 2 + d.val % 2 = q.val * 128 + d.val
  omega

theorem cos_top (cs : FVec Ideal S2048x64 .f32) (p : Fin 2304) (d : Fin 128) (h : p.val < 256) : cosTable cs (ix2 p d) = (1 : EReal) :=
  (top _ _ p d h).trans RefRows.one_eq

theorem sin_top (sn : FVec Ideal S2048x64 .f32) (p : Fin 2304) (d : Fin 128) (h : p.val < 256) : sinTable sn (ix2 p d) = (0 : EReal) :=
  (top _ _ p d h).trans Ideal.ofBits_zero_f32

theorem cos_rest (cs : FVec Ideal S2048x64 .f32) (p : Fin 2304) (d : Fin 128) (h : ¬ p.val < 256) :
    cosTable cs (ix2 p d) = cs (ix2 (angleRow p h) (pair d)) := by
  refine (rest _ _ p d h).trans ((flat _ _ d).trans ?_)
  exact broadcastInDim_apply _ bcast_S2048x64_S2048x64x2_0_1 cs _ (ix2 (angleRow p h) (pair d)) (fun a => by match a with | ⟨0, _⟩ => rfl | ⟨1, _⟩ => rfl)

/-- One sine of each pair, as a column of its own. -/
theorem column (v : FVec Ideal S2048x64 .f32) (q : Fin 2048) (j : Fin 64) :
    broadcastInDim S2048x64x1 ![0, 1] bcast_S2048x64_S2048x64x1_0_1 v (ix3 q j 0) = v (ix2 q j) :=
  broadcastInDim_apply _ bcast_S2048x64_S2048x64x1_0_1 v _ (ix2 q j) (fun a => by match a with | ⟨0, _⟩ => rfl | ⟨1, _⟩ => rfl)

theorem sin_rest (sn : FVec Ideal S2048x64 .f32) (p : Fin 2304) (d : Fin 128) (h : ¬ p.val < 256) :
    sinTable sn (ix2 p d) = if d.val % 2 = 0 then (-sn (ix2 (angleRow p h) (pair d)) : EReal) else sn (ix2 (angleRow p h) (pair d)) := by
  refine (rest _ _ p d h).trans ((flat _ _ d).trans ?_)
  unfold sinPairs
  by_cases hd : d.val % 2 = 0
  · rw [if_pos hd]
    refine (concatenate_pair_apply_left (t := S2048x64x2) (s₁ := S2048x64x1) (s₂ := S2048x64x1) 2 _ _ _ _ rfl (ix3 (angleRow p h) (pair d) 0)
      (fun a => by match a with | ⟨0, _⟩ => rfl | ⟨1, _⟩ => rfl | ⟨2, _⟩ => exact hd.symm)).trans ?_
    exact column _ _ _
  · rw [if_neg hd]
    refine (concatenate_pair_apply_right (t := S2048x64x2) (s₁ := S2048x64x1) (s₂ := S2048x64x1) 2 _ _ _ _ rfl rfl (ix3 (angleRow p h) (pair d) 0)
      (fun a ha => by match a with | ⟨0, _⟩ => rfl | ⟨1, _⟩ => rfl | ⟨2, _⟩ => exact absurd rfl ha) (by show 0 + 1 = d.val % 2; omega)).trans ?_
    exact column _ _ _

/-- With its tables the kernel prepares a head as it should be. -/
theorem entry_tables (z w : Fin 128 → EReal) (cs sn : AN) (p : Fin 2304) (d : Fin 128) :
    entry z w (fun e => cosTable cs (ix2 p e)) (fun e => sinTable sn (ix2 p e)) d = prep z w cs sn p d := by
  unfold prep
  by_cases h : p.val < 256
  · rw [dif_pos h]
    exact entry_plain z w _ _ d (cos_top cs p d h) (sin_top sn p d h)
  · rw [dif_neg h]
    exact entry_rotate z w _ _ _ _ d (cos_rest cs p d h) (sin_rest sn p d h)

end Cert.QkPrepIdeal.Tables

end
-- ==== Proof.QkPrepArray.lean ====
/-
  The arrays the query and key preparation leaves. Each grid point holds 768 rows and prepares their heads; the blocks fill
  the arrays.
-/
module

public import proofs.«01_k».proof.Proof.QkPrepBlock
public import proofs.«01_k».proof.Proof.QkPrepTables

@[expose] public section

set_option maxRecDepth 16384

noncomputable section

namespace Cert.QkPrepIdeal.Array

open Idealize.ShloMosaic Idealize.ShloMosaic.TcCoe Idealize.ShloMosaic.Tactic Idealize.ShloMosaic.ValueIdx
open Idealize.SL Idealize.SL.Sem
open Cert.Rows Cert.QkPrepSpec Cert.QkPrepIdeal Cert.QkPrepIdeal.Gen Cert.QkPrepIdeal.Head Cert.QkPrepIdeal.Tables Cert.QkPrepIdeal.Block
open scoped BigOperators

variable (m : (l : Loc nD τ sig) → Buf (Elt Ideal) l)

/-- Where each window's block lies at a grid point. -/
theorem index0 : ∀ t : Fin cfg0.N, win0_0.index t = ![t.val, 8] := (by decide +kernel : ∀ t : Fin grid0.N, win0_0.index t = ![t.val, 8])
theorem index1 : ∀ t : Fin cfg0.N, win0_1.index t = ![t.val, 43] := (by decide +kernel : ∀ t : Fin grid0.N, win0_1.index t = ![t.val, 43])
theorem index2 : ∀ t : Fin cfg0.N, win0_2.index t = ![t.val % 3, 0] := (by decide +kernel : ∀ t : Fin grid0.N, win0_2.index t = ![t.val % 3, 0])
theorem index3 : ∀ t : Fin cfg0.N, win0_3.index t = ![t.val % 3, 0] := (by decide +kernel : ∀ t : Fin grid0.N, win0_3.index t = ![t.val % 3, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

theorem t_lt (t : Fin cfg0.N) : t.val < 12 := lt_of_lt_of_eq t.isLt (show cfg0.N = 12 from N_0)

/-- The arguments as arrays of extended reals. -/
abbrev pjArr (c : Dev nD) : PJ := m ((c : Thread nD τ).loc main_arg0)
abbrev csArr (c : Dev nD) : AN := m ((c : Thread nD τ).loc main_arg1)
abbrev snArr (c : Dev nD) : AN := m ((c : Thread nD τ).loc main_arg2)
abbrev qwArr (c : Dev nD) : NW := m ((c : Thread nD τ).loc main_arg3)
abbrev kwArr (c : Dev nD) : NW := m ((c : Thread nD τ).loc main_arg4)

/-- The row of the array at a row of the block at hand. -/
def rowOf (t : Fin cfg0.N) (r : Fin 768) : Fin 9216 := ⟨t.val * 768 + r.val, by have := t_lt t; have := r.isLt; omega⟩

/-! ## The blocks read -/

/-- The heads of queries of the rows at hand. -/
theorem qblk_apply (c : Dev nD) (t : Fin cfg0.N) (r : Fin 768) (h : Fin 8) (e : Fin 128) :
    (X0_0 m c t : S768x1024.Idx → EReal) (ix2 r (qCol h e)) = qHead (pjArr m c) (rowOf t r) h e := by
  unfold X0_0 Pipeline.Window.fill
  rw [dif_pos (moved0_0 t (ix2 r (qCol h e)))]
  show V m c main_arg0 ((win0_0.rect t).emb _) = _
  rw [V_main_arg0]
  refine congrArg (pjArr m c) (funext fun a => Fin.ext ?_)
  rw [Pipeline.Window.rect_emb_val win0_0 t, index0]
  match a with
  | ⟨0, _⟩ => rfl
  | ⟨1, _⟩ => rfl

/-- The heads of keys of the rows at hand. -/
theorem kblk_apply (c : Dev nD) (t : Fin cfg0.N) (r : Fin 768) (h : Fin 2) (e : Fin 128) :
    (iblk m c 1 t : S768x256.Idx → EReal) (ix2 r (kCol h e)) = kHead (pjArr m c) (rowOf t r) h e := by
  show V m c main_arg0 ((win0_1.rect t).emb _) = _
  rw [V_main_arg0]
  refine congrArg (pjArr m c) (funext fun a => Fin.ext ?_)
  rw [Pipeline.Window.rect_emb_val win0_1 t, index1]
  match a with
  | ⟨0, _⟩ => rfl
  | ⟨1, _⟩ => rfl

theorem V_cos (c : Dev nD) : (V m c main_v3 : FVec Ideal S2304x128 .f32) = cosTable (csArr m c) := by
  show StableHlo.after hostOps0 _ (Proc.devRef .tc main_v3) = _
  after_results
  rfl

theorem cos_apply (c : Dev nD) (t : Fin cfg0.N) (r : Fin 768) (e : Fin 128) :
    (iblk m c 2 t : S768x128.Idx → EReal) (ix2 r e) = cosTable (csArr m c) (ix2 (place (rowOf t r)) e) := by
  refine Eq.trans ?_ (congrFun (V_cos m c) (ix2 (place (rowOf t r)) e))
  show V m c main_v3 ((win0_2.rect t).emb (ix2 r e)) = _
  refine congrArg (V m c main_v3) (funext fun a => Fin.ext ?_)
  rw [Pipeline.Window.rect_emb_val win0_2 t, index2]
  have hr := r.isLt
  match a with
  | ⟨0, _⟩ => show t.val % 3 * 768 + r.val = (t.val * 768 + r.val) % 2304; omega
  | ⟨1, _⟩ => show 0 * 128 + e.val = e.val; omega

theorem V_sin (c : Dev nD) : (V m c main_v10 : FVec Ideal S2304x128 .f32) = sinTable (snArr m c) := by
  show StableHlo.after hostOps0 _ (Proc.devRef .tc main_v10) = _
  after_results
  rfl

theorem sin_apply (c : Dev nD) (t : Fin cfg0.N) (r : Fin 768) (e : Fin 128) :
    (iblk m c 3 t : S768x128.Idx → EReal) (ix2 r e) = sinTable (snArr m c) (ix2 (place (rowOf t r)) e) := by
  refine Eq.trans ?_ (congrFun (V_sin m c) (ix2 (place (rowOf t r)) e))
  show V m c main_v10 ((win0_3.rect t).emb (ix2 r e)) = _
  refine congrArg (V m c main_v10) (funext fun a => Fin.ext ?_)
  rw [Pipeline.Window.rect_emb_val win0_3 t, index3]
  have hr := r.isLt
  match a with
  | ⟨0, _⟩ => show t.val % 3 * 768 + r.val = (t.val * 768 + r.val) % 2304; omega
  | ⟨1, _⟩ => show 0 * 128 + e.val = e.val; omega

theorem qw_apply (c : Dev nD) (t : Fin cfg0.N) (e : Fin 128) :
    (iblk m c 4 t : S1x128.Idx → EReal) (ix2 0 e) = qwArr m c (ix1 e) := by
  have h : V m c main_v11 = shapeCast S1x128 (m ((c : Thread nD τ).loc main_arg3)) shapeCasts_S128_S1x128 := by
    show StableHlo.after hostOps0 _ (Proc.devRef .tc main_v11) = _
    after_results
    rfl
  refine Eq.trans ?_ ((congrFun h (ix2 0 e)).trans (shapeCast_a_1a_apply _ _ 0 e))
  show V m c main_v11 ((win0_4.rect t).emb (ix2 0 e)) = _
  refine congrArg (V m c main_v11) (funext fun a => Fin.ext ?_)
  rw [Pipeline.Window.rect_emb_val win0_4 t, index4]
  match a with
  | ⟨0, _⟩ => rfl
  | ⟨1, _⟩ => show 0 * 128 + e.val = e.val; omega

theorem kw_apply (c : Dev nD) (t : Fin cfg0.N) (e : Fin 128) :
    (iblk m c 5 t : S1x128.Idx → EReal) (ix2 0 e) = kwArr m c (ix1 e) := by
  have h : V m c main_v12 = shapeCast S1x128 (m ((c : Thread nD τ).loc main_arg4)) shapeCasts_S128_S1x128 := by
    show StableHlo.after hostOps0 _ (Proc.devRef .tc main_v12) = _
    after_results
    rfl
  refine Eq.trans ?_ ((congrFun h (ix2 0 e)).trans (shapeCast_a_1a_apply _ _ 0 e))
  show V m c main_v12 ((win0_5.rect t).emb (ix2 0 e)) = _
  refine congrArg (V m c main_v12) (funext fun a => Fin.ext ?_)
  rw [Pipeline.Window.rect_emb_val win0_5 t, index5]
  match a with
  | ⟨0, _⟩ => rfl
  | ⟨1, _⟩ => show 0 * 128 + e.val = e.val; omega

theorem congr_entry {z z' w w' c c' s s' : Fin 128 → EReal} (hz : z = z') (hw : w = w') (hc : c = c') (hs : s = s') (d : Fin 128) :
    entry z w c s d = entry z' w' c' s' d := by
  rw [hz, hw, hc, hs]

/-! ## The arrays -/

/-- The block of queries at a grid point. -/
theorem tile_q (c : Dev nD) (t : Fin cfg0.N) (r : Fin 768) (k : Fin 1024) :
    tileQ (X0_0 m c t) (iblk m c 2 t) (iblk m c 3 t) (iblk m c 4 t) (ix2 r k) = queries (pjArr m c) (csArr m c) (snArr m c) (qwArr m c) (ix2 (rowOf t r) k) := by
  refine congrArg (fun u => u * scale) ((congr_entry (funext fun e => qblk_apply m c t r (qOf k) e) (funext fun e => qw_apply m c t e) (funext fun e => cos_apply m c t r e)
    (funext fun e => sin_apply m c t r e) _).trans (entry_tables _ _ _ _ _ _))

/-- The place in the array of an entry of the block written at point `t`. -/
theorem emb6 (t : Fin cfg0.N) (r : Fin 768) (k : Fin 1024) : ((win0_6.rect t).emb (ix2 r k) : S9216x1024.Idx) = ix2 (rowOf t r) k := by
  refine funext fun a => Fin.ext ?_
  rw [Pipeline.Window.rect_emb_val win0_6 t, index6]
  match a with
  | ⟨0, _⟩ => rfl
  | ⟨1, _⟩ => show 0 * 1024 + k.val = k.val; omega

/-- The whole array of queries. -/
def result_q (c : Dev nD) : S9216x1024.Idx → EReal := queries (pjArr m c) (csArr m c) (snArr m c) (qwArr m c)

theorem flushed_q (c : Dev nD) (t : Fin cfg0.N) :
    (dats m 0 c).flushed 6 t = ((cfg0.win 6).blk t).view.read (Elt Ideal) (result_q m c) := by
  funext y
  obtain ⟨r, k, rfl⟩ : ∃ (r : Fin 768) (k : Fin 1024), y = ix2 r k := ⟨y 0, y 1, eq_ix2 y⟩
  have hR : ((cfg0.win 6).blk t).view.read (Elt Ideal) (result_q m c) (ix2 r k) = result_q m c ((win0_6.rect t).emb (ix2 r k)) := rfl
  rw [hR, emb6, Value.flushed6_A]
  exact (Block.out_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (X0_0 m c t) (iblk m c 1 t) (iblk m c 2 t) (iblk m c 3 t) (iblk m c 4 t) (iblk m c 5 t)
    (ix2 r k)).trans (tile_q m c t r k)

/-- The blocks fill the array of queries. -/
theorem final_q (c : Dev nD) : (dats m 0 c).arrAt 6 cfg0.N = result_q m c := by
  refine (dats m 0 c).arrAt_eq_of_cover 6 (result_q m c) (fun t _ => flushed_q m c t) fun i => ?_
  obtain ⟨r, k, rfl⟩ : ∃ (r : Fin 9216) (k : Fin 1024), i = ix2 r k := ⟨i 0, i 1, eq_ix2 i⟩
  have hr := r.isLt
  have hlt : r.val / 768 < cfg0.N := by rw [show cfg0.N = 12 from N_0]; omega
  refine ⟨⟨r.val / 768, hlt⟩, flush0_6 _, ?_⟩
  have hi : (ix2 r k : S9216x1024.Idx) = (win0_6.rect ⟨r.val / 768, hlt⟩).emb
      (ix2 (⟨r.val % 768, Nat.mod_lt _ (by norm_num)⟩ : Fin 768) k) := by
    rw [emb6]
    refine IdxExt.ext2 ?_ rfl
    show r.val = r.val / 768 * 768 + r.val % 768
    omega
  rw [hi]
  exact ((cfg0.win 6).blk ⟨r.val / 768, hlt⟩).view.emb_mem_set _

/-- The block of keys at a grid point. -/
theorem tile_k (c : Dev nD) (t : Fin cfg0.N) (r : Fin 768) (k : Fin 256) :
    tileK (iblk m c 1 t) (iblk m c 2 t) (iblk m c 3 t) (iblk m c 5 t) (ix2 r k) = keys (pjArr m c) (csArr m c) (snArr m c) (kwArr m c) (ix2 (rowOf t r) k) := by
  refine ((congr_entry (funext fun e => kblk_apply m c t r (kOf k) e) (funext fun e => kw_apply m c t e) (funext fun e => cos_apply m c t r e)
    (funext fun e => sin_apply m c t r e) _).trans (entry_tables _ _ _ _ _ _))

/-- The place in the array of an entry of the block written at point `t`. -/
theorem emb7 (t : Fin cfg0.N) (r : Fin 768) (k : Fin 256) : ((win0_7.rect t).emb (ix2 r k) : S9216x256.Idx) = ix2 (rowOf t r) k := by
  refine funext fun a => Fin.ext ?_
  rw [Pipeline.Window.rect_emb_val win0_7 t, index7]
  match a with
  | ⟨0, _⟩ => rfl
  | ⟨1, _⟩ => show 0 * 256 + k.val = k.val; omega

/-- The whole array of keys. -/
def result_k (c : Dev nD) : S9216x256.Idx → EReal := keys (pjArr m c) (csArr m c) (snArr m c) (kwArr m c)

theorem flushed_k (c : Dev nD) (t : Fin cfg0.N) :
    (dats m 0 c).flushed 7 t = ((cfg0.win 7).blk t).view.read (Elt Ideal) (result_k m c) := by
  funext y
  obtain ⟨r, k, rfl⟩ : ∃ (r : Fin 768) (k : Fin 256), y = ix2 r k := ⟨y 0, y 1, eq_ix2 y⟩
  have hR : ((cfg0.win 7).blk t).view.read (Elt Ideal) (result_k m c) (ix2 r k) = result_k m c ((win0_7.rect t).emb (ix2 r k)) := rfl
  rw [hR, emb7, Value.flushed7_A]
  exact (Block.out_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (X0_0 m c t) (iblk m c 1 t) (iblk m c 2 t) (iblk m c 3 t) (iblk m c 4 t) (iblk m c 5 t)
    (ix2 r k)).trans (tile_k m c t r k)

/-- The blocks fill the array of keys. -/
theorem final_k (c : Dev nD) : (dats m 0 c).arrAt 7 cfg0.N = result_k m c := by
  refine (dats m 0 c).arrAt_eq_of_cover 7 (result_k m c) (fun t _ => flushed_k m c t) fun i => ?_
  obtain ⟨r, k, rfl⟩ : ∃ (r : Fin 9216) (k : Fin 256), i = ix2 r k := ⟨i 0, i 1, eq_ix2 i⟩
  have hr := r.isLt
  have hlt : r.val / 768 < cfg0.N := by rw [show cfg0.N = 12 from N_0]; omega
  refine ⟨⟨r.val / 768, hlt⟩, flush0_7 _, ?_⟩
  have hi : (ix2 r k : S9216x256.Idx) = (win0_7.rect ⟨r.val / 768, hlt⟩).emb
      (ix2 (⟨r.val % 768, Nat.mod_lt _ (by norm_num)⟩ : Fin 768) k) := by
    rw [emb7]
    refine IdxExt.ext2 ?_ rfl
    show r.val = r.val / 768 * 768 + r.val % 768
    omega
  rw [hi]
  exact ((cfg0.win 7).blk ⟨r.val / 768, hlt⟩).view.emb_mem_set _

/-- The kernel ends with the queries and the keys, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v13_0) = result_q m c
      ∧ r.2.mem ((c : Thread nD τ).loc main_v13_1) = result_k m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_q m c), (h c).2.1.trans (final_k m c), (h c).2.2⟩) (Value.run_blocks m ρ)

end Cert.QkPrepIdeal.Array

end
-- ==== Proof.QkPrepRefQ.lean ====
/-
  The reference's queries, read off its operations.
-/
module

public import proofs.«01_k».proof.Proof.QkPrepSpec
public import proofs.«01_k».proof.Proof.IdxExt
public import proofs.«01_k».proof.Proof.Gen.QkPrepRefIdeal.Read

@[expose] public section

set_option maxRecDepth 16384

noncomputable section

namespace Cert.QkPrepRefQ

open Idealize.ShloMosaic Idealize.ShloMosaic.TcCoe Idealize.ShloMosaic.ValueIdx
open Cert.Rows Cert.QkPrepSpec Cert.IdxExt Cert.QkPrepRefIdeal Cert.QkPrepRefIdeal.Gen Cert.QkPrepRefIdeal.Read
open scoped BigOperators

variable (x0 : (⟨S9216x11776, .bf16⟩ : BufTy).Contents (Elt Ideal)) (x1 x2 : (⟨S2048x64, .f32⟩ : BufTy).Contents (Elt Ideal))
  (x3 : (⟨S128, .f32⟩ : BufTy).Contents (Elt Ideal))

/-- The row of a token of a sequence. -/
def row (b : Fin 4) (t : Fin 2304) : Fin 9216 := ⟨b.val * 2304 + t.val, by have := b.isLt; have := t.isLt; omega⟩

/-- The queries, head by head. -/
theorem head_at (b : Fin 4) (t : Fin 2304) (h : Fin 8) (d : Fin 128) :
    val_main_v2 (F := Ideal) x0 (ix4 b t h d) = qHead x0 (row b t) h d := by
  rw [val_main_v2_apply, val_main_v1_apply, val_main_v0_apply]
  have hb := b.isLt
  have ht := t.isLt
  have hh := h.isLt
  have hd := d.isLt
  refine congrArg x0 (ext2 ?_ ?_)
  · show (((b.val * 2304 + t.val) * 8 + h.val) * 128 + d.val) / 1024 = b.val * 2304 + t.val
    omega
  · show 8192 + (((b.val * 2304 + t.val) * 8 + h.val) * 128 + d.val) % 1024 = 8192 + (h.val * 128 + d.val)
    omega

/-- A head's sum of squares. -/
theorem squares_at (b : Fin 4) (t : Fin 2304) (h : Fin 8) :
    val_main_v4 (F := Ideal) x0 (ix3 b t h) = ∑ e, qHead x0 (row b t) h e * qHead x0 (row b t) h e := by
  rw [val_main_v4_apply, val_main_cst_apply]
  refine (congrArg (fun u => u + _) Ideal.ofBits_zero_f32).trans ((zero_add _).trans ?_)
  refine Finset.sum_congr rfl fun e _ => ?_
  rw [show idx_main_v4 (ix3 b t h) e = ix4 b t h e from ext4 rfl rfl rfl rfl, val_main_v3_apply, head_at]
  rfl

/-- The heads normed. -/
theorem norm_at (b : Fin 4) (t : Fin 2304) (h : Fin 8) (d : Fin 128) :
    val_main_v15 (F := Ideal) x0 x3 (ix4 b t h d) = norm (qHead x0 (row b t) h) (fun e => x3 (ix1 e)) d := by
  rw [val_main_v15_apply, val_main_v12_apply, val_main_v11_apply, val_main_v10_apply, val_main_v9_apply, val_main_v7_apply, val_main_v5_apply, val_main_v6_apply, val_main_cst_0_apply, val_main_v8_apply, val_main_cst_1_apply, val_main_v14_apply, val_main_v13_apply, head_at,
    show idx_main_v5 (idx_main_v11 (ix4 b t h d)) = ix3 b t h from ext3 rfl rfl rfl, squares_at,
    show idx_main_v13 (idx_main_v14 (ix4 b t h d)) = ix1 d from funext fun a => by match a with | ⟨0, _⟩ => rfl]
  rfl

/-- A token past the first 256. -/
def later (q : Fin 2048) : Fin 2304 := ⟨256 + q.val, by have := q.isLt; omega⟩

/-- The first entry of each pair of a later token. -/
theorem fst_at (b : Fin 4) (q : Fin 2048) (h : Fin 8) (p : Fin 64) :
    val_main_v20 (F := Ideal) x0 x3 (ix4 b q h p) = norm (qHead x0 (row b (later q)) h) (fun e => x3 (ix1 e)) (fst p) := by
  have hb := b.isLt
  have hq := q.isLt
  have hh := h.isLt
  have hp := p.isLt
  have e20 : idx_main_v20 (ix4 b q h p) = ix5 b q h p 0 := by
    refine ext5 ?_ ?_ ?_ ?_ rfl
    · show (((b.val * 2048 + q.val) * 8 + h.val) * 64 + p.val) / 1048576 = b.val
      omega
    · show (((b.val * 2048 + q.val) * 8 + h.val) * 64 + p.val) / 512 % 2048 = q.val
      omega
    · show (((b.val * 2048 + q.val) * 8 + h.val) * 64 + p.val) / 64 % 8 = h.val
      omega
    · show (((b.val * 2048 + q.val) * 8 + h.val) * 64 + p.val) / 1 % 64 = p.val
      omega
  have e18 : idx_main_v18 (ix5 b q h p 0) = ix4 b q h (fst p) := by
    refine ext4 ?_ ?_ ?_ ?_
    · show ((((b.val * 2048 + q.val) * 8 + h.val) * 64 + p.val) * 2 + 0) / 2097152 = b.val
      omega
    · show ((((b.val * 2048 + q.val) * 8 + h.val) * 64 + p.val) * 2 + 0) / 1024 % 2048 = q.val
      omega
    · show ((((b.val * 2048 + q.val) * 8 + h.val) * 64 + p.val) * 2 + 0) / 128 % 8 = h.val
      omega
    · show ((((b.val * 2048 + q.val) * 8 + h.val) * 64 + p.val) * 2 + 0) % 128 = 2 * p.val
      omega
  rw [val_main_v20_apply, e20, val_main_v19_apply, show idx_main_v19 (ix5 b q h p 0) = ix5 b q h p 0 from ext5 rfl rfl rfl rfl rfl, val_main_v18_apply, e18, val_main_v17_apply,
    show idx_main_v17 (ix4 b q h (fst p)) = ix4 b (later q) h (fst p) from ext4 rfl rfl rfl rfl, norm_at]

/-- The second entry of each pair of a later token. -/
theorem snd_at (b : Fin 4) (q : Fin 2048) (h : Fin 8) (p : Fin 64) :
    val_main_v22 (F := Ideal) x0 x3 (ix4 b q h p) = norm (qHead x0 (row b (later q)) h) (fun e => x3 (ix1 e)) (snd p) := by
  have hb := b.isLt
  have hq := q.isLt
  have hh := h.isLt
  have hp := p.isLt
  have e22 : idx_main_v22 (ix4 b q h p) = ix5 b q h p 0 := by
    refine ext5 ?_ ?_ ?_ ?_ rfl
    · show (((b.val * 2048 + q.val) * 8 + h.val) * 64 + p.val) / 1048576 = b.val
      omega
    · show (((b.val * 2048 + q.val) * 8 + h.val) * 64 + p.val) / 512 % 2048 = q.val
      omega
    · show (((b.val * 2048 + q.val) * 8 + h.val) * 64 + p.val) / 64 % 8 = h.val
      omega
    · show (((b.val * 2048 + q.val) * 8 + h.val) * 64 + p.val) / 1 % 64 = p.val
      omega
  have e18 : idx_main_v18 (ix5 b q h p 1) = ix4 b q h (snd p) := by
    refine ext4 ?_ ?_ ?_ ?_
    · show ((((b.val * 2048 + q.val) * 8 + h.val) * 64 + p.val) * 2 + 1) / 2097152 = b.val
      omega
    · show ((((b.val * 2048 + q.val) * 8 + h.val) * 64 + p.val) * 2 + 1) / 1024 % 2048 = q.val
      omega
    · show ((((b.val * 2048 + q.val) * 8 + h.val) * 64 + p.val) * 2 + 1) / 128 % 8 = h.val
      omega
    · show ((((b.val * 2048 + q.val) * 8 + h.val) * 64 + p.val) * 2 + 1) % 128 = 2 * p.val + 1
      omega
  rw [val_main_v22_apply, e22, val_main_v21_apply, show idx_main_v21 (ix5 b q h p 0) = ix5 b q h p 1 from ext5 rfl rfl rfl rfl rfl, val_main_v18_apply, e18, val_main_v17_apply,
    show idx_main_v17 (ix4 b q h (snd p)) = ix4 b (later q) h (snd p) from ext4 rfl rfl rfl rfl, norm_at]

/-- The first entry of a turned pair. -/
theorem turn_fst (b : Fin 4) (q : Fin 2048) (h : Fin 8) (p : Fin 64) :
    val_main_v31 (F := Ideal) x0 x1 x2 x3 (ix4 b q h p)
      = norm (qHead x0 (row b (later q)) h) (fun e => x3 (ix1 e)) (fst p) * x1 (ix2 q p)
        - norm (qHead x0 (row b (later q)) h) (fun e => x3 (ix1 e)) (snd p) * x2 (ix2 q p) := by
  rw [val_main_v31_apply, val_main_v27_apply, val_main_v30_apply, fst_at, snd_at, val_main_v26_apply, val_main_v25_apply, val_main_v23_apply, val_main_v29_apply, val_main_v28_apply, val_main_v24_apply,
    show idx_main_v23 (idx_main_v25 (idx_main_v26 (ix4 b q h p))) = ix2 q p from ext2 rfl rfl,
    show idx_main_v24 (idx_main_v28 (idx_main_v29 (ix4 b q h p))) = ix2 q p from ext2 rfl rfl]
  rfl

/-- The second entry of a turned pair. -/
theorem turn_snd (b : Fin 4) (q : Fin 2048) (h : Fin 8) (p : Fin 64) :
    val_main_v38 (F := Ideal) x0 x1 x2 x3 (ix4 b q h p)
      = norm (qHead x0 (row b (later q)) h) (fun e => x3 (ix1 e)) (fst p) * x2 (ix2 q p)
        + norm (qHead x0 (row b (later q)) h) (fun e => x3 (ix1 e)) (snd p) * x1 (ix2 q p) := by
  rw [val_main_v38_apply, val_main_v34_apply, val_main_v37_apply, fst_at, snd_at, val_main_v33_apply, val_main_v32_apply, val_main_v24_apply, val_main_v36_apply, val_main_v35_apply, val_main_v23_apply,
    show idx_main_v24 (idx_main_v32 (idx_main_v33 (ix4 b q h p))) = ix2 q p from ext2 rfl rfl,
    show idx_main_v23 (idx_main_v35 (idx_main_v36 (ix4 b q h p))) = ix2 q p from ext2 rfl rfl]
  rfl

/-- A head of a later token, turned. -/
theorem turned_at (b : Fin 4) (q : Fin 2048) (h : Fin 8) (d : Fin 128) :
    val_main_v42 (F := Ideal) x0 x1 x2 x3 (ix4 b q h d)
      = rotate (norm (qHead x0 (row b (later q)) h) (fun e => x3 (ix1 e))) (fun j => x1 (ix2 q j)) (fun j => x2 (ix2 q j)) d := by
  have hb := b.isLt
  have hq := q.isLt
  have hh := h.isLt
  have hd := d.isLt
  have e42 : idx_main_v42 (ix4 b q h d) = ix5 b q h (pair d) (⟨d.val % 2, Nat.mod_lt _ (by norm_num)⟩ : Fin 2) := by
    refine ext5 ?_ ?_ ?_ ?_ ?_
    · show (((b.val * 2048 + q.val) * 8 + h.val) * 128 + d.val) / 2097152 = b.val
      omega
    · show (((b.val * 2048 + q.val) * 8 + h.val) * 128 + d.val) / 1024 % 2048 = q.val
      omega
    · show (((b.val * 2048 + q.val) * 8 + h.val) * 128 + d.val) / 128 % 8 = h.val
      omega
    · show (((b.val * 2048 + q.val) * 8 + h.val) * 128 + d.val) / 2 % 64 = d.val / 2
      omega
    · show (((b.val * 2048 + q.val) * 8 + h.val) * 128 + d.val) % 2 = d.val % 2
      omega
  rw [val_main_v42_apply, e42]
  unfold rotate val_main_v41
  by_cases he : d.val % 2 = 0
  · rw [if_pos he]
    refine (concatenate_pair_apply_left (t := S4x2048x8x64x2) (s₁ := S4x2048x8x64x1) (s₂ := S4x2048x8x64x1) 4 _ _ _ _ rfl (ix5 b q h (pair d) 0)
      (fun a => by match a with | ⟨0, _⟩ => rfl | ⟨1, _⟩ => rfl | ⟨2, _⟩ => rfl | ⟨3, _⟩ => rfl | ⟨4, _⟩ => exact he.symm)).trans ?_
    rw [val_main_v39_apply, show idx_main_v39 (ix5 b q h (pair d) 0) = ix4 b q h (pair d) from ext4 rfl rfl rfl rfl, turn_fst]
  · rw [if_neg he]
    refine (concatenate_pair_apply_right (t := S4x2048x8x64x2) (s₁ := S4x2048x8x64x1) (s₂ := S4x2048x8x64x1) 4 _ _ _ _ rfl rfl (ix5 b q h (pair d) 0)
      (fun a ha => by match a with | ⟨0, _⟩ => rfl | ⟨1, _⟩ => rfl | ⟨2, _⟩ => rfl | ⟨3, _⟩ => rfl | ⟨4, _⟩ => exact absurd rfl ha)
      (by show 0 + 1 = d.val % 2; omega)).trans ?_
    rw [val_main_v40_apply, show idx_main_v40 (ix5 b q h (pair d) 0) = ix4 b q h (pair d) from ext4 rfl rfl rfl rfl, turn_snd]

/-- A prepared head. -/
theorem prep_at (b : Fin 4) (t : Fin 2304) (h : Fin 8) (d : Fin 128) :
    val_main_v43 (F := Ideal) x0 x1 x2 x3 (ix4 b t h d) = prep (qHead x0 (row b t) h) (fun e => x3 (ix1 e)) x1 x2 t d := by
  unfold prep val_main_v43
  by_cases ht : t.val < 256
  · rw [dif_pos ht]
    refine (concatenate_pair_apply_left (t := S4x2304x8x128) (s₁ := S4x256x8x128) (s₂ := S4x2048x8x128) 1 _ _ _ _ rfl (ix4 b (⟨t.val, ht⟩ : Fin 256) h d)
      (fun a => by match a with | ⟨0, _⟩ => rfl | ⟨1, _⟩ => rfl | ⟨2, _⟩ => rfl | ⟨3, _⟩ => rfl)).trans ?_
    rw [val_main_v16_apply, show idx_main_v16 (ix4 b (⟨t.val, ht⟩ : Fin 256) h d) = ix4 b t h d from ext4 rfl rfl rfl rfl, norm_at]
  · rw [dif_neg ht]
    refine (concatenate_pair_apply_right (t := S4x2304x8x128) (s₁ := S4x256x8x128) (s₂ := S4x2048x8x128) 1 _ _ _ _ rfl rfl (ix4 b (angleRow t ht) h d)
      (fun a ha => by match a with | ⟨0, _⟩ => rfl | ⟨1, _⟩ => exact absurd rfl ha | ⟨2, _⟩ => rfl | ⟨3, _⟩ => rfl)
      (by show t.val - 256 + 256 = t.val; omega)).trans ?_
    rw [turned_at, show later (angleRow t ht) = t from Fin.ext (by show 256 + (t.val - 256) = t.val; omega)]

/-- The reference's queries. -/
theorem queries_eq : val_main_v91 (F := Ideal) x0 x1 x2 x3 = queries x0 x1 x2 x3 := by
  funext i
  obtain ⟨r, k, rfl⟩ : ∃ (r : Fin 9216) (k : Fin 1024), i = ix2 r k := ⟨i 0, i 1, eq_ix2 i⟩
  have hr := r.isLt
  have hk := k.isLt
  have hi : idx_main_v90 (ix2 r k) = ix4 (⟨r.val / 2304, by omega⟩ : Fin 4) (place r) (qOf k) (inHead k.val) := by
    refine ext4 ?_ ?_ ?_ ?_
    · show (r.val * 1024 + k.val) / 2359296 = r.val / 2304
      omega
    · show (r.val * 1024 + k.val) / 1024 % 2304 = r.val % 2304
      omega
    · show (r.val * 1024 + k.val) / 128 % 8 = k.val / 128
      omega
    · show (r.val * 1024 + k.val) % 128 = k.val % 128
      omega
  have hrow : row (⟨r.val / 2304, by omega⟩ : Fin 4) (place r) = r :=
    Fin.ext (by show r.val / 2304 * 2304 + r.val % 2304 = r.val; omega)
  rw [val_main_v91_apply, val_main_v90_apply, hi, val_main_v45_apply, prep_at, hrow, val_main_v44_apply, val_main_cst_2_apply]
  rfl

end Cert.QkPrepRefQ

end
-- ==== Proof.QkPrepRefK.lean ====
/-
  The reference's keys, read off its operations.
-/
module

public import proofs.«01_k».proof.Proof.QkPrepSpec
public import proofs.«01_k».proof.Proof.IdxExt
public import proofs.«01_k».proof.Proof.Gen.QkPrepRefIdeal.Read

@[expose] public section

set_option maxRecDepth 16384

noncomputable section

namespace Cert.QkPrepRefK

open Idealize.ShloMosaic Idealize.ShloMosaic.TcCoe Idealize.ShloMosaic.ValueIdx
open Cert.Rows Cert.QkPrepSpec Cert.IdxExt Cert.QkPrepRefIdeal Cert.QkPrepRefIdeal.Gen Cert.QkPrepRefIdeal.Read
open scoped BigOperators

variable (x0 : (⟨S9216x11776, .bf16⟩ : BufTy).Contents (Elt Ideal)) (x1 x2 : (⟨S2048x64, .f32⟩ : BufTy).Contents (Elt Ideal))
  (x4 : (⟨S128, .f32⟩ : BufTy).Contents (Elt Ideal))

/-- The row of a token of a sequence. -/
def row (b : Fin 4) (t : Fin 2304) : Fin 9216 := ⟨b.val * 2304 + t.val, by have := b.isLt; have := t.isLt; omega⟩

/-- The keys, head by head. -/
theorem head_at (b : Fin 4) (t : Fin 2304) (h : Fin 2) (d : Fin 128) :
    val_main_v48 (F := Ideal) x0 (ix4 b t h d) = kHead x0 (row b t) h d := by
  rw [val_main_v48_apply, val_main_v47_apply, val_main_v46_apply]
  have hb := b.isLt
  have ht := t.isLt
  have hh := h.isLt
  have hd := d.isLt
  refine congrArg x0 (ext2 ?_ ?_)
  · show (((b.val * 2304 + t.val) * 2 + h.val) * 128 + d.val) / 256 = b.val * 2304 + t.val
    omega
  · show 11008 + (((b.val * 2304 + t.val) * 2 + h.val) * 128 + d.val) % 256 = 11008 + (h.val * 128 + d.val)
    omega

/-- A head's sum of squares. -/
theorem squares_at (b : Fin 4) (t : Fin 2304) (h : Fin 2) :
    val_main_v50 (F := Ideal) x0 (ix3 b t h) = ∑ e, kHead x0 (row b t) h e * kHead x0 (row b t) h e := by
  rw [val_main_v50_apply, val_main_cst_3_apply]
  refine (congrArg (fun u => u + _) Ideal.ofBits_zero_f32).trans ((zero_add _).trans ?_)
  refine Finset.sum_congr rfl fun e _ => ?_
  rw [show idx_main_v50 (ix3 b t h) e = ix4 b t h e from ext4 rfl rfl rfl rfl, val_main_v49_apply, head_at]
  rfl

/-- The heads normed. -/
theorem norm_at (b : Fin 4) (t : Fin 2304) (h : Fin 2) (d : Fin 128) :
    val_main_v61 (F := Ideal) x0 x4 (ix4 b t h d) = norm (kHead x0 (row b t) h) (fun e => x4 (ix1 e)) d := by
  rw [val_main_v61_apply, val_main_v58_apply, val_main_v57_apply, val_main_v56_apply, val_main_v55_apply, val_main_v53_apply, val_main_v51_apply, val_main_v52_apply, val_main_cst_4_apply, val_main_v54_apply, val_main_cst_5_apply, val_main_v60_apply, val_main_v59_apply, head_at,
    show idx_main_v51 (idx_main_v57 (ix4 b t h d)) = ix3 b t h from ext3 rfl rfl rfl, squares_at,
    show idx_main_v59 (idx_main_v60 (ix4 b t h d)) = ix1 d from funext fun a => by match a with | ⟨0, _⟩ => rfl]
  rfl

/-- A token past the first 256. -/
def later (q : Fin 2048) : Fin 2304 := ⟨256 + q.val, by have := q.isLt; omega⟩

/-- The first entry of each pair of a later token. -/
theorem fst_at (b : Fin 4) (q : Fin 2048) (h : Fin 2) (p : Fin 64) :
    val_main_v66 (F := Ideal) x0 x4 (ix4 b q h p) = norm (kHead x0 (row b (later q)) h) (fun e => x4 (ix1 e)) (fst p) := by
  have hb := b.isLt
  have hq := q.isLt
  have hh := h.isLt
  have hp := p.isLt
  have e20 : idx_main_v66 (ix4 b q h p) = ix5 b q h p 0 := by
    refine ext5 ?_ ?_ ?_ ?_ rfl
    · show (((b.val * 2048 + q.val) * 2 + h.val) * 64 + p.val) / 262144 = b.val
      omega
    · show (((b.val * 2048 + q.val) * 2 + h.val) * 64 + p.val) / 128 % 2048 = q.val
      omega
    · show (((b.val * 2048 + q.val) * 2 + h.val) * 64 + p.val) / 64 % 2 = h.val
      omega
    · show (((b.val * 2048 + q.val) * 2 + h.val) * 64 + p.val) / 1 % 64 = p.val
      omega
  have e18 : idx_main_v64 (ix5 b q h p 0) = ix4 b q h (fst p) := by
    refine ext4 ?_ ?_ ?_ ?_
    · show ((((b.val * 2048 + q.val) * 2 + h.val) * 64 + p.val) * 2 + 0) / 524288 = b.val
      omega
    · show ((((b.val * 2048 + q.val) * 2 + h.val) * 64 + p.val) * 2 + 0) / 256 % 2048 = q.val
      omega
    · show ((((b.val * 2048 + q.val) * 2 + h.val) * 64 + p.val) * 2 + 0) / 128 % 2 = h.val
      omega
    · show ((((b.val * 2048 + q.val) * 2 + h.val) * 64 + p.val) * 2 + 0) % 128 = 2 * p.val
      omega
  rw [val_main_v66_apply, e20, val_main_v65_apply, show idx_main_v65 (ix5 b q h p 0) = ix5 b q h p 0 from ext5 rfl rfl rfl rfl rfl, val_main_v64_apply, e18, val_main_v63_apply,
    show idx_main_v63 (ix4 b q h (fst p)) = ix4 b (later q) h (fst p) from ext4 rfl rfl rfl rfl, norm_at]

/-- The second entry of each pair of a later token. -/
theorem snd_at (b : Fin 4) (q : Fin 2048) (h : Fin 2) (p : Fin 64) :
    val_main_v68 (F := Ideal) x0 x4 (ix4 b q h p) = norm (kHead x0 (row b (later q)) h) (fun e => x4 (ix1 e)) (snd p) := by
  have hb := b.isLt
  have hq := q.isLt
  have hh := h.isLt
  have hp := p.isLt
  have e22 : idx_main_v68 (ix4 b q h p) = ix5 b q h p 0 := by
    refine ext5 ?_ ?_ ?_ ?_ rfl
    · show (((b.val * 2048 + q.val) * 2 + h.val) * 64 + p.val) / 262144 = b.val
      omega
    · show (((b.val * 2048 + q.val) * 2 + h.val) * 64 + p.val) / 128 % 2048 = q.val
      omega
    · show (((b.val * 2048 + q.val) * 2 + h.val) * 64 + p.val) / 64 % 2 = h.val
      omega
    · show (((b.val * 2048 + q.val) * 2 + h.val) * 64 + p.val) / 1 % 64 = p.val
      omega
  have e18 : idx_main_v64 (ix5 b q h p 1) = ix4 b q h (snd p) := by
    refine ext4 ?_ ?_ ?_ ?_
    · show ((((b.val * 2048 + q.val) * 2 + h.val) * 64 + p.val) * 2 + 1) / 524288 = b.val
      omega
    · show ((((b.val * 2048 + q.val) * 2 + h.val) * 64 + p.val) * 2 + 1) / 256 % 2048 = q.val
      omega
    · show ((((b.val * 2048 + q.val) * 2 + h.val) * 64 + p.val) * 2 + 1) / 128 % 2 = h.val
      omega
    · show ((((b.val * 2048 + q.val) * 2 + h.val) * 64 + p.val) * 2 + 1) % 128 = 2 * p.val + 1
      omega
  rw [val_main_v68_apply, e22, val_main_v67_apply, show idx_main_v67 (ix5 b q h p 0) = ix5 b q h p 1 from ext5 rfl rfl rfl rfl rfl, val_main_v64_apply, e18, val_main_v63_apply,
    show idx_main_v63 (ix4 b q h (snd p)) = ix4 b (later q) h (snd p) from ext4 rfl rfl rfl rfl, norm_at]

/-- The first entry of a turned pair. -/
theorem turn_fst (b : Fin 4) (q : Fin 2048) (h : Fin 2) (p : Fin 64) :
    val_main_v77 (F := Ideal) x0 x1 x2 x4 (ix4 b q h p)
      = norm (kHead x0 (row b (later q)) h) (fun e => x4 (ix1 e)) (fst p) * x1 (ix2 q p)
        - norm (kHead x0 (row b (later q)) h) (fun e => x4 (ix1 e)) (snd p) * x2 (ix2 q p) := by
  rw [val_main_v77_apply, val_main_v73_apply, val_main_v76_apply, fst_at, snd_at, val_main_v72_apply, val_main_v71_apply, val_main_v69_apply, val_main_v75_apply, val_main_v74_apply, val_main_v70_apply,
    show idx_main_v69 (idx_main_v71 (idx_main_v72 (ix4 b q h p))) = ix2 q p from ext2 rfl rfl,
    show idx_main_v70 (idx_main_v74 (idx_main_v75 (ix4 b q h p))) = ix2 q p from ext2 rfl rfl]
  rfl

/-- The second entry of a turned pair. -/
theorem turn_snd (b : Fin 4) (q : Fin 2048) (h : Fin 2) (p : Fin 64) :
    val_main_v84 (F := Ideal) x0 x1 x2 x4 (ix4 b q h p)
      = norm (kHead x0 (row b (later q)) h) (fun e => x4 (ix1 e)) (fst p) * x2 (ix2 q p)
        + norm (kHead x0 (row b (later q)) h) (fun e => x4 (ix1 e)) (snd p) * x1 (ix2 q p) := by
  rw [val_main_v84_apply, val_main_v80_apply, val_main_v83_apply, fst_at, snd_at, val_main_v79_apply, val_main_v78_apply, val_main_v70_apply, val_main_v82_apply, val_main_v81_apply, val_main_v69_apply,
    show idx_main_v70 (idx_main_v78 (idx_main_v79 (ix4 b q h p))) = ix2 q p from ext2 rfl rfl,
    show idx_main_v69 (idx_main_v81 (idx_main_v82 (ix4 b q h p))) = ix2 q p from ext2 rfl rfl]
  rfl

/-- A head of a later token, turned. -/
theorem turned_at (b : Fin 4) (q : Fin 2048) (h : Fin 2) (d : Fin 128) :
    val_main_v88 (F := Ideal) x0 x1 x2 x4 (ix4 b q h d)
      = rotate (norm (kHead x0 (row b (later q)) h) (fun e => x4 (ix1 e))) (fun j => x1 (ix2 q j)) (fun j => x2 (ix2 q j)) d := by
  have hb := b.isLt
  have hq := q.isLt
  have hh := h.isLt
  have hd := d.isLt
  have e42 : idx_main_v88 (ix4 b q h d) = ix5 b q h (pair d) (⟨d.val % 2, Nat.mod_lt _ (by norm_num)⟩ : Fin 2) := by
    refine ext5 ?_ ?_ ?_ ?_ ?_
    · show (((b.val * 2048 + q.val) * 2 + h.val) * 128 + d.val) / 524288 = b.val
      omega
    · show (((b.val * 2048 + q.val) * 2 + h.val) * 128 + d.val) / 256 % 2048 = q.val
      omega
    · show (((b.val * 2048 + q.val) * 2 + h.val) * 128 + d.val) / 128 % 2 = h.val
      omega
    · show (((b.val * 2048 + q.val) * 2 + h.val) * 128 + d.val) / 2 % 64 = d.val / 2
      omega
    · show (((b.val * 2048 + q.val) * 2 + h.val) * 128 + d.val) % 2 = d.val % 2
      omega
  rw [val_main_v88_apply, e42]
  unfold rotate val_main_v87
  by_cases he : d.val % 2 = 0
  · rw [if_pos he]
    refine (concatenate_pair_apply_left (t := S4x2048x2x64x2) (s₁ := S4x2048x2x64x1) (s₂ := S4x2048x2x64x1) 4 _ _ _ _ rfl (ix5 b q h (pair d) 0)
      (fun a => by match a with | ⟨0, _⟩ => rfl | ⟨1, _⟩ => rfl | ⟨2, _⟩ => rfl | ⟨3, _⟩ => rfl | ⟨4, _⟩ => exact he.symm)).trans ?_
    rw [val_main_v85_apply, show idx_main_v85 (ix5 b q h (pair d) 0) = ix4 b q h (pair d) from ext4 rfl rfl rfl rfl, turn_fst]
  · rw [if_neg he]
    refine (concatenate_pair_apply_right (t := S4x2048x2x64x2) (s₁ := S4x2048x2x64x1) (s₂ := S4x2048x2x64x1) 4 _ _ _ _ rfl rfl (ix5 b q h (pair d) 0)
      (fun a ha => by match a with | ⟨0, _⟩ => rfl | ⟨1, _⟩ => rfl | ⟨2, _⟩ => rfl | ⟨3, _⟩ => rfl | ⟨4, _⟩ => exact absurd rfl ha)
      (by show 0 + 1 = d.val % 2; omega)).trans ?_
    rw [val_main_v86_apply, show idx_main_v86 (ix5 b q h (pair d) 0) = ix4 b q h (pair d) from ext4 rfl rfl rfl rfl, turn_snd]

/-- A prepared head. -/
theorem prep_at (b : Fin 4) (t : Fin 2304) (h : Fin 2) (d : Fin 128) :
    val_main_v89 (F := Ideal) x0 x1 x2 x4 (ix4 b t h d) = prep (kHead x0 (row b t) h) (fun e => x4 (ix1 e)) x1 x2 t d := by
  unfold prep val_main_v89
  by_cases ht : t.val < 256
  · rw [dif_pos ht]
    refine (concatenate_pair_apply_left (t := S4x2304x2x128) (s₁ := S4x256x2x128) (s₂ := S4x2048x2x128) 1 _ _ _ _ rfl (ix4 b (⟨t.val, ht⟩ : Fin 256) h d)
      (fun a => by match a with | ⟨0, _⟩ => rfl | ⟨1, _⟩ => rfl | ⟨2, _⟩ => rfl | ⟨3, _⟩ => rfl)).trans ?_
    rw [val_main_v62_apply, show idx_main_v62 (ix4 b (⟨t.val, ht⟩ : Fin 256) h d) = ix4 b t h d from ext4 rfl rfl rfl rfl, norm_at]
  · rw [dif_neg ht]
    refine (concatenate_pair_apply_right (t := S4x2304x2x128) (s₁ := S4x256x2x128) (s₂ := S4x2048x2x128) 1 _ _ _ _ rfl rfl (ix4 b (angleRow t ht) h d)
      (fun a ha => by match a with | ⟨0, _⟩ => rfl | ⟨1, _⟩ => exact absurd rfl ha | ⟨2, _⟩ => rfl | ⟨3, _⟩ => rfl)
      (by show t.val - 256 + 256 = t.val; omega)).trans ?_
    rw [turned_at, show later (angleRow t ht) = t from Fin.ext (by show 256 + (t.val - 256) = t.val; omega)]

/-- The reference's keys. -/
theorem keys_eq : val_main_v93 (F := Ideal) x0 x1 x2 x4 = keys x0 x1 x2 x4 := by
  funext i
  obtain ⟨r, k, rfl⟩ : ∃ (r : Fin 9216) (k : Fin 256), i = ix2 r k := ⟨i 0, i 1, eq_ix2 i⟩
  have hr := r.isLt
  have hk := k.isLt
  have hi : idx_main_v92 (ix2 r k) = ix4 (⟨r.val / 2304, by omega⟩ : Fin 4) (place r) (kOf k) (inHead k.val) := by
    refine ext4 ?_ ?_ ?_ ?_
    · show (r.val * 256 + k.val) / 589824 = r.val / 2304
      omega
    · show (r.val * 256 + k.val) / 256 % 2304 = r.val % 2304
      omega
    · show (r.val * 256 + k.val) / 128 % 2 = k.val / 128
      omega
    · show (r.val * 256 + k.val) % 128 = k.val % 128
      omega
  have hrow : row (⟨r.val / 2304, by omega⟩ : Fin 4) (place r) = r :=
    Fin.ext (by show r.val / 2304 * 2304 + r.val % 2304 = r.val; omega)
  rw [val_main_v93_apply, val_main_v92_apply, hi, prep_at, hrow]
  rfl

end Cert.QkPrepRefK

end
-- ==== Proof.QkPrepEq.lean ====
/-
  The reference's queries and keys are the arrays the kernel leaves.
-/
module

public import proofs.«01_k».proof.Proof.QkPrepRefQ
public import proofs.«01_k».proof.Proof.QkPrepRefK
public import proofs.«01_k».proof.Proof.Gen.QkPrepRefIdeal.Run

@[expose] public section

set_option maxRecDepth 16384

noncomputable section

namespace Cert.QkPrepEq

open Idealize.ShloMosaic Idealize.ShloMosaic.TcCoe
open Idealize.SL Idealize.SL.Sem
open Cert.QkPrepSpec Cert.QkPrepRefIdeal Cert.QkPrepRefIdeal.Gen

/-- The reference ends with the queries and the keys, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91)
        = queries (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_v93)
        = keys (m ((c.tc : Thread nD τ).loc main_arg0)) (m ((c.tc : Thread nD τ).loc main_arg1)) (m ((c.tc : Thread nD τ).loc main_arg2))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((Read.val_main_v91_eq m c).trans (QkPrepRefQ.queries_eq _ _ _ _)),
      (h c).2.1.trans ((Read.val_main_v93_eq m c).trans (QkPrepRefK.keys_eq _ _ _ _)), (h c).2.2⟩)
    (Value.run (F := Ideal) m ρ)

end Cert.QkPrepEq

end
-- ==== Proof.S5PowSpec.lean ====
/-
  Complex numbers given by their two parts, and the powers of a transition: products one after the other give the
  exponential of the multiple, where the exponents are real numbers.
-/
module

public import Idealize.ShloMosaic.PureOps.Ideal
public import Mathlib.Analysis.SpecialFunctions.Trigonometric.Basic
public import Mathlib.Analysis.Complex.Trigonometric

@[expose] public section

noncomputable section

namespace Cert.S5PowSpec

open Idealize.ShloMosaic

/-- The product of two complex numbers, by their parts. -/
def mul (x y : EReal × EReal) : EReal × EReal := (x.1 * y.1 - x.2 * y.2, x.1 * y.2 + x.2 * y.1)

/-- The transition over one token: the exponential of the eigenvalue times the step. -/
def step (re im dt : EReal) : EReal × EReal :=
  (Ideal.exp (re * Ideal.exp dt) * Ideal.cos (im * Ideal.exp dt), Ideal.exp (re * Ideal.exp dt) * Ideal.sin (im * Ideal.exp dt))

def square (x : EReal × EReal) : EReal × EReal := mul x x

/-- The transition over a chunk of sixteen tokens. -/
def chunk (x : EReal × EReal) : EReal × EReal := square (square (square (square x)))

/-- A power, by one product after the other. -/
def pow (x : EReal × EReal) : ℕ → EReal × EReal
  | 0 => (1, 0)
  | n + 1 => mul (pow x n) x

/-- Over how many chunks a row of the tables goes, in a direction. -/
def count (d : Fin 2) (r : Fin 16) : ℕ :=
  if r.val < 8 then (if d.val = 0 then r.val else 7 - r.val) else if r.val = 8 then 8 else if r.val = 9 then 1 else if r.val = 10 then 2 else 4

/-- The transition over a number of tokens, by the exponential of the multiple. -/
def power (re im dt : EReal) (n : EReal) : EReal × EReal :=
  (Ideal.exp (n * (re * Ideal.exp dt)) * Ideal.cos (n * (im * Ideal.exp dt)), Ideal.exp (n * (re * Ideal.exp dt)) * Ideal.sin (n * (im * Ideal.exp dt)))

/-- The parts of a complex number. -/
def parts (z : ℂ) : EReal × EReal := ((z.re : EReal), (z.im : EReal))

theorem mul_parts (z w : ℂ) : mul (parts z) (parts w) = parts (z * w) := by
  unfold mul parts
  refine Prod.ext ?_ ?_
  · simp only [Complex.mul_re, EReal.coe_sub, EReal.coe_mul]
  · simp only [Complex.mul_im, EReal.coe_add, EReal.coe_mul]

theorem pow_parts (z : ℂ) (n : ℕ) : pow (parts z) n = parts (z ^ n) := by
  induction n with
  | zero => unfold pow parts; simp
  | succ n ih => rw [pow, ih, mul_parts, pow_succ]

theorem chunk_parts (z : ℂ) : chunk (parts z) = parts (z ^ 16) := by
  unfold chunk square
  simp only [mul_parts]
  congr 1
  ring

theorem exp_parts (x y : ℝ) : parts (Complex.exp ⟨x, y⟩) = (((Real.exp x * Real.cos y : ℝ) : EReal), ((Real.exp x * Real.sin y : ℝ) : EReal)) := by
  unfold parts
  rw [Complex.exp_re, Complex.exp_im]

/-- The powers by products are the exponentials of the multiples. -/
theorem pow_chunk (re im dt : ℝ) (n : ℕ) : pow (chunk (step re im dt)) n = power re im dt ((16 * n : ℕ) : ℝ) := by
  have hs : step re im dt = parts (Complex.exp ⟨re * Real.exp dt, im * Real.exp dt⟩) := by
    rw [exp_parts]
    unfold step
    simp only [Ideal.exp_coe, ← EReal.coe_mul, Ideal.cos_coe, Ideal.sin_coe]
  have he : Complex.exp ⟨re * Real.exp dt, im * Real.exp dt⟩ ^ (16 * n)
      = Complex.exp ⟨((16 * n : ℕ) : ℝ) * (re * Real.exp dt), ((16 * n : ℕ) : ℝ) * (im * Real.exp dt)⟩ := by
    rw [← Complex.exp_nat_mul]
    congr 1
    refine Complex.ext ?_ ?_
    · rw [← Complex.ofReal_natCast, Complex.re_ofReal_mul]
    · rw [← Complex.ofReal_natCast, Complex.im_ofReal_mul]
  rw [hs, chunk_parts, pow_parts, ← pow_mul, he, exp_parts]
  unfold power
  simp only [Ideal.exp_coe, ← EReal.coe_mul, Ideal.cos_coe, Ideal.sin_coe]

end Cert.S5PowSpec

end
-- ==== Proof.S5PowLane.lean ====
/-
  The kernel's products in one lane: four squarings of a direction's transition, and its powers up to the eighth.
-/
module

public import proofs.«01_k».proof.Proof.Gen.S5PowIdeal.Skeleton
public import proofs.«01_k».proof.Proof.S5PowSpec
public import Idealize.ShloMosaic.Lib.IdealHost
public import Idealize.ShloMosaic.Lib.KernelVsHost
public import proofs.«01_k».proof.Proof.IdxExt

@[expose] public section

set_option maxRecDepth 16384

noncomputable section

namespace Cert.S5PowIdeal.Lane

open Idealize.ShloMosaic Idealize.ShloMosaic.TcCoe Idealize.ShloMosaic.Tactic Idealize.ShloMosaic.ValueIdx
open Cert.S5PowSpec Cert.S5PowIdeal Cert.S5PowIdeal.Gen

theorem one_word : (Scalar.ofBits .f32 0x3F800000#32 : Ideal .f32) = (1 : EReal) := Ideal.ofBits_one_f32
theorem zero_word : (Scalar.ofBits .f32 0x00000000#32 : Ideal .f32) = (0 : EReal) := Ideal.ofBits_zero_f32

variable (a b : FVec Ideal S1x128 .f32) (j : S1x128.Idx)

/-- Four squarings of the first direction's transition. -/
theorem chunk_first : ((k0_pay100 (F := Ideal) a b j, k0_pay101 (F := Ideal) a b j) : EReal × EReal) = chunk (a j, b j) := by
  have h1 : ((k0_pay94 (F := Ideal) a b j, k0_pay95 (F := Ideal) a b j) : EReal × EReal) = square (a j, b j) := rfl
  have h2 : ((k0_pay96 (F := Ideal) a b j, k0_pay97 (F := Ideal) a b j) : EReal × EReal) = square (k0_pay94 (F := Ideal) a b j, k0_pay95 (F := Ideal) a b j) := rfl
  have h3 : ((k0_pay98 (F := Ideal) a b j, k0_pay99 (F := Ideal) a b j) : EReal × EReal) = square (k0_pay96 (F := Ideal) a b j, k0_pay97 (F := Ideal) a b j) := rfl
  have h4 : ((k0_pay100 (F := Ideal) a b j, k0_pay101 (F := Ideal) a b j) : EReal × EReal) = square (k0_pay98 (F := Ideal) a b j, k0_pay99 (F := Ideal) a b j) := rfl
  rw [h4, h3, h2, h1]
  rfl

/-- Four squarings of the second direction's transition. -/
theorem chunk_second : ((k0_pay238 (F := Ideal) (k0_pay232 (F := Ideal) a b) (k0_pay233 (F := Ideal) a b) (k0_pay234 (F := Ideal) a b) j,
    k0_pay239 (F := Ideal) (k0_pay232 (F := Ideal) a b) (k0_pay233 (F := Ideal) a b) (k0_pay234 (F := Ideal) a b) j) : EReal × EReal) = chunk (a j, b j) := by
  have h1 : ((k0_pay230 (F := Ideal) a b j, k0_pay231 (F := Ideal) a b j) : EReal × EReal) = square (a j, b j) := rfl
  have h2 : ((k0_pay232 (F := Ideal) a b j, k0_pay235 (F := Ideal) (k0_pay233 (F := Ideal) a b) (k0_pay234 (F := Ideal) a b) j) : EReal × EReal) = square (k0_pay230 (F := Ideal) a b j, k0_pay231 (F := Ideal) a b j) := rfl
  have h3 : ((k0_pay236 (F := Ideal) (k0_pay232 (F := Ideal) a b) (k0_pay233 (F := Ideal) a b) (k0_pay234 (F := Ideal) a b) j, k0_pay237 (F := Ideal) (k0_pay232 (F := Ideal) a b) (k0_pay233 (F := Ideal) a b) (k0_pay234 (F := Ideal) a b) j) : EReal × EReal) = square (k0_pay232 (F := Ideal) a b j, k0_pay235 (F := Ideal) (k0_pay233 (F := Ideal) a b) (k0_pay234 (F := Ideal) a b) j) := rfl
  have h4 : ((k0_pay238 (F := Ideal) (k0_pay232 (F := Ideal) a b) (k0_pay233 (F := Ideal) a b) (k0_pay234 (F := Ideal) a b) j, k0_pay239 (F := Ideal) (k0_pay232 (F := Ideal) a b) (k0_pay233 (F := Ideal) a b) (k0_pay234 (F := Ideal) a b) j) : EReal × EReal) = square (k0_pay236 (F := Ideal) (k0_pay232 (F := Ideal) a b) (k0_pay233 (F := Ideal) a b) (k0_pay234 (F := Ideal) a b) j, k0_pay237 (F := Ideal) (k0_pay232 (F := Ideal) a b) (k0_pay233 (F := Ideal) a b) (k0_pay234 (F := Ideal) a b) j) := rfl
  rw [h4, h3, h2, h1]
  rfl

theorem first0 : ((k0_pay102 (F := Ideal) j, k0_pay103 (F := Ideal) j) : EReal × EReal) = pow (chunk (a j, b j)) 0 := by
  show ((Scalar.ofBits .f32 0x3F800000#32 : Ideal .f32), (Scalar.ofBits .f32 0x00000000#32 : Ideal .f32)) = ((1, 0) : EReal × EReal)
  rw [one_word, zero_word]

theorem first1 : ((k0_pay104 (F := Ideal) a b j, k0_pay106 (F := Ideal) (k0_pay100 (F := Ideal) a b) (k0_pay103 (F := Ideal)) (k0_pay105 (F := Ideal) a b) j) : EReal × EReal) = pow (chunk (a j, b j)) 1 := by
  rw [show pow (chunk (a j, b j)) 1 = mul (pow (chunk (a j, b j)) 0) (chunk (a j, b j)) from rfl, ← first0, ← chunk_first]
  rfl

theorem first2 : ((k0_pay107 (F := Ideal) (k0_pay100 (F := Ideal) a b) (k0_pay101 (F := Ideal) a b) (k0_pay103 (F := Ideal)) (k0_pay104 (F := Ideal) a b) (k0_pay105 (F := Ideal) a b) j, k0_pay108 (F := Ideal) (k0_pay100 (F := Ideal) a b) (k0_pay101 (F := Ideal) a b) (k0_pay103 (F := Ideal)) (k0_pay104 (F := Ideal) a b) (k0_pay105 (F := Ideal) a b) j) : EReal × EReal) = pow (chunk (a j, b j)) 2 := by
  rw [show pow (chunk (a j, b j)) 2 = mul (pow (chunk (a j, b j)) 1) (chunk (a j, b j)) from rfl, ← first1, ← chunk_first]
  rfl

theorem first3 : ((k0_pay109 (F := Ideal) (k0_pay100 (F := Ideal) a b) (k0_pay101 (F := Ideal) a b) (k0_pay103 (F := Ideal)) (k0_pay104 (F := Ideal) a b) (k0_pay105 (F := Ideal) a b) j, k0_pay110 (F := Ideal) (k0_pay100 (F := Ideal) a b) (k0_pay101 (F := Ideal) a b) (k0_pay103 (F := Ideal)) (k0_pay104 (F := Ideal) a b) (k0_pay105 (F := Ideal) a b) j) : EReal × EReal) = pow (chunk (a j, b j)) 3 := by
  rw [show pow (chunk (a j, b j)) 3 = mul (pow (chunk (a j, b j)) 2) (chunk (a j, b j)) from rfl, ← first2, ← chunk_first]
  rfl

theorem first4 : ((k0_pay111 (F := Ideal) (k0_pay100 (F := Ideal) a b) (k0_pay101 (F := Ideal) a b) (k0_pay103 (F := Ideal)) (k0_pay104 (F := Ideal) a b) (k0_pay105 (F := Ideal) a b) j, k0_pay112 (F := Ideal) (k0_pay100 (F := Ideal) a b) (k0_pay101 (F := Ideal) a b) (k0_pay103 (F := Ideal)) (k0_pay104 (F := Ideal) a b) (k0_pay105 (F := Ideal) a b) j) : EReal × EReal) = pow (chunk (a j, b j)) 4 := by
  rw [show pow (chunk (a j, b j)) 4 = mul (pow (chunk (a j, b j)) 3) (chunk (a j, b j)) from rfl, ← first3, ← chunk_first]
  rfl

theorem first5 : ((k0_pay113 (F := Ideal) (k0_pay100 (F := Ideal) a b) (k0_pay101 (F := Ideal) a b) (k0_pay103 (F := Ideal)) (k0_pay104 (F := Ideal) a b) (k0_pay105 (F := Ideal) a b) j, k0_pay114 (F := Ideal) (k0_pay100 (F := Ideal) a b) (k0_pay101 (F := Ideal) a b) (k0_pay103 (F := Ideal)) (k0_pay104 (F := Ideal) a b) (k0_pay105 (F := Ideal) a b) j) : EReal × EReal) = pow (chunk (a j, b j)) 5 := by
  rw [show pow (chunk (a j, b j)) 5 = mul (pow (chunk (a j, b j)) 4) (chunk (a j, b j)) from rfl, ← first4, ← chunk_first]
  rfl

theorem first6 : ((k0_pay115 (F := Ideal) (k0_pay100 (F := Ideal) a b) (k0_pay101 (F := Ideal) a b) (k0_pay103 (F := Ideal)) (k0_pay104 (F := Ideal) a b) (k0_pay105 (F := Ideal) a b) j, k0_pay116 (F := Ideal) (k0_pay100 (F := Ideal) a b) (k0_pay101 (F := Ideal) a b) (k0_pay103 (F := Ideal)) (k0_pay104 (F := Ideal) a b) (k0_pay105 (F := Ideal) a b) j) : EReal × EReal) = pow (chunk (a j, b j)) 6 := by
  rw [show pow (chunk (a j, b j)) 6 = mul (pow (chunk (a j, b j)) 5) (chunk (a j, b j)) from rfl, ← first5, ← chunk_first]
  rfl

theorem first7 : ((k0_pay117 (F := Ideal) (k0_pay100 (F := Ideal) a b) (k0_pay101 (F := Ideal) a b) (k0_pay103 (F := Ideal)) (k0_pay104 (F := Ideal) a b) (k0_pay105 (F := Ideal) a b) j, k0_pay118 (F := Ideal) (k0_pay100 (F := Ideal) a b) (k0_pay101 (F := Ideal) a b) (k0_pay103 (F := Ideal)) (k0_pay104 (F := Ideal) a b) (k0_pay105 (F := Ideal) a b) j) : EReal × EReal) = pow (chunk (a j, b j)) 7 := by
  rw [show pow (chunk (a j, b j)) 7 = mul (pow (chunk (a j, b j)) 6) (chunk (a j, b j)) from rfl, ← first6, ← chunk_first]
  rfl

theorem first8 : ((k0_pay119 (F := Ideal) (k0_pay100 (F := Ideal) a b) (k0_pay101 (F := Ideal) a b) (k0_pay103 (F := Ideal)) (k0_pay104 (F := Ideal) a b) (k0_pay105 (F := Ideal) a b) j, k0_pay120 (F := Ideal) (k0_pay100 (F := Ideal) a b) (k0_pay101 (F := Ideal) a b) (k0_pay103 (F := Ideal)) (k0_pay104 (F := Ideal) a b) (k0_pay105 (F := Ideal) a b) j) : EReal × EReal) = pow (chunk (a j, b j)) 8 := by
  rw [show pow (chunk (a j, b j)) 8 = mul (pow (chunk (a j, b j)) 7) (chunk (a j, b j)) from rfl, ← first7, ← chunk_first]
  rfl

theorem second0 : ((k0_pay240 (F := Ideal) j, k0_pay241 (F := Ideal) j) : EReal × EReal) = pow (chunk (a j, b j)) 0 := by
  show ((Scalar.ofBits .f32 0x3F800000#32 : Ideal .f32), (Scalar.ofBits .f32 0x00000000#32 : Ideal .f32)) = ((1, 0) : EReal × EReal)
  rw [one_word, zero_word]

theorem second1 : ((k0_pay242 (F := Ideal) (k0_pay232 (F := Ideal) a b) (k0_pay233 (F := Ideal) a b) (k0_pay234 (F := Ideal) a b) j, k0_pay243 (F := Ideal) (k0_pay232 (F := Ideal) a b) (k0_pay233 (F := Ideal) a b) (k0_pay234 (F := Ideal) a b) j) : EReal × EReal) = pow (chunk (a j, b j)) 1 := by
  rw [show pow (chunk (a j, b j)) 1 = mul (pow (chunk (a j, b j)) 0) (chunk (a j, b j)) from rfl, ← second0, ← chunk_second]
  rfl

theorem second2 : ((k0_pay244 (F := Ideal) (k0_pay232 (F := Ideal) a b) (k0_pay233 (F := Ideal) a b) (k0_pay234 (F := Ideal) a b) j, k0_pay245 (F := Ideal) (k0_pay232 (F := Ideal) a b) (k0_pay233 (F := Ideal) a b) (k0_pay234 (F := Ideal) a b) j) : EReal × EReal) = pow (chunk (a j, b j)) 2 := by
  rw [show pow (chunk (a j, b j)) 2 = mul (pow (chunk (a j, b j)) 1) (chunk (a j, b j)) from rfl, ← second1, ← chunk_second]
  rfl

theorem second3 : ((k0_pay246 (F := Ideal) (k0_pay232 (F := Ideal) a b) (k0_pay233 (F := Ideal) a b) (k0_pay234 (F := Ideal) a b) j, k0_pay247 (F := Ideal) (k0_pay232 (F := Ideal) a b) (k0_pay233 (F := Ideal) a b) (k0_pay234 (F := Ideal) a b) j) : EReal × EReal) = pow (chunk (a j, b j)) 3 := by
  rw [show pow (chunk (a j, b j)) 3 = mul (pow (chunk (a j, b j)) 2) (chunk (a j, b j)) from rfl, ← second2, ← chunk_second]
  rfl

theorem second4 : ((k0_pay248 (F := Ideal) (k0_pay232 (F := Ideal) a b) (k0_pay233 (F := Ideal) a b) (k0_pay234 (F := Ideal) a b) j, k0_pay249 (F := Ideal) (k0_pay232 (F := Ideal) a b) (k0_pay233 (F := Ideal) a b) (k0_pay234 (F := Ideal) a b) j) : EReal × EReal) = pow (chunk (a j, b j)) 4 := by
  rw [show pow (chunk (a j, b j)) 4 = mul (pow (chunk (a j, b j)) 3) (chunk (a j, b j)) from rfl, ← second3, ← chunk_second]
  rfl

theorem second5 : ((k0_pay250 (F := Ideal) (k0_pay232 (F := Ideal) a b) (k0_pay233 (F := Ideal) a b) (k0_pay234 (F := Ideal) a b) j, k0_pay251 (F := Ideal) (k0_pay232 (F := Ideal) a b) (k0_pay233 (F := Ideal) a b) (k0_pay234 (F := Ideal) a b) j) : EReal × EReal) = pow (chunk (a j, b j)) 5 := by
  rw [show pow (chunk (a j, b j)) 5 = mul (pow (chunk (a j, b j)) 4) (chunk (a j, b j)) from rfl, ← second4, ← chunk_second]
  rfl

theorem second6 : ((k0_pay252 (F := Ideal) (k0_pay232 (F := Ideal) a b) (k0_pay233 (F := Ideal) a b) (k0_pay234 (F := Ideal) a b) j, k0_pay253 (F := Ideal) (k0_pay232 (F := Ideal) a b) (k0_pay233 (F := Ideal) a b) (k0_pay234 (F := Ideal) a b) j) : EReal × EReal) = pow (chunk (a j, b j)) 6 := by
  rw [show pow (chunk (a j, b j)) 6 = mul (pow (chunk (a j, b j)) 5) (chunk (a j, b j)) from rfl, ← second5, ← chunk_second]
  rfl

theorem second7 : ((k0_pay254 (F := Ideal) (k0_pay232 (F := Ideal) a b) (k0_pay233 (F := Ideal) a b) (k0_pay234 (F := Ideal) a b) j, k0_pay255 (F := Ideal) (k0_pay232 (F := Ideal) a b) (k0_pay233 (F := Ideal) a b) (k0_pay234 (F := Ideal) a b) j) : EReal × EReal) = pow (chunk (a j, b j)) 7 := by
  rw [show pow (chunk (a j, b j)) 7 = mul (pow (chunk (a j, b j)) 6) (chunk (a j, b j)) from rfl, ← second6, ← chunk_second]
  rfl

theorem second8 : ((k0_pay257 (F := Ideal) (k0_pay239 (F := Ideal) (k0_pay232 (F := Ideal) a b) (k0_pay233 (F := Ideal) a b) (k0_pay234 (F := Ideal) a b)) (k0_pay255 (F := Ideal) (k0_pay232 (F := Ideal) a b) (k0_pay233 (F := Ideal) a b) (k0_pay234 (F := Ideal) a b)) (k0_pay256 (F := Ideal) (k0_pay232 (F := Ideal) a b) (k0_pay233 (F := Ideal) a b) (k0_pay234 (F := Ideal) a b)) j, k0_pay258 (F := Ideal) (k0_pay238 (F := Ideal) (k0_pay232 (F := Ideal) a b) (k0_pay233 (F := Ideal) a b) (k0_pay234 (F := Ideal) a b)) (k0_pay239 (F := Ideal) (k0_pay232 (F := Ideal) a b) (k0_pay233 (F := Ideal) a b) (k0_pay234 (F := Ideal) a b)) (k0_pay254 (F := Ideal) (k0_pay232 (F := Ideal) a b) (k0_pay233 (F := Ideal) a b) (k0_pay234 (F := Ideal) a b)) (k0_pay255 (F := Ideal) (k0_pay232 (F := Ideal) a b) (k0_pay233 (F := Ideal) a b) (k0_pay234 (F := Ideal) a b)) j) : EReal × EReal) = pow (chunk (a j, b j)) 8 := by
  rw [show pow (chunk (a j, b j)) 8 = mul (pow (chunk (a j, b j)) 7) (chunk (a j, b j)) from rfl, ← second7, ← chunk_second]
  rfl

theorem row (X : FVec Ideal S1x128 .f32) (h : S1x128.ShapeCasts S1x1x1x1x128) (q : Fin 128) : shapeCast S1x1x1x1x128 X h (ix5 0 0 0 0 q) = X (ix2 0 q) := by
  refine shapeCast_apply _ _ _ _ ?_
  rw [Shape.rowMajor_val_two, Shape.rowMajor_val_five]
  rfl

theorem lane (X : FVec Ideal S1x1x1x1x128 .f32) (h : S1x1x1x1x128.ShapeCasts S1x128) (q : Fin 128) : shapeCast S1x128 X h (ix2 0 q) = X (ix5 0 0 0 0 q) := by
  refine shapeCast_apply _ _ _ _ ?_
  rw [Shape.rowMajor_val_two, Shape.rowMajor_val_five]
  rfl

theorem single (X : FVec Ideal S1x1x1x1x1 .f32) (h : S1x1x1x1x1.ShapeCasts S1x1) : shapeCast S1x1 X h (ix2 0 0) = X (ix5 0 0 0 0 0) := by
  refine shapeCast_apply _ _ _ _ ?_
  rw [Shape.rowMajor_val_two, Shape.rowMajor_val_five]
  rfl

theorem spread (X : FVec Ideal S1x1 .f32) (h : S1x1.Broadcasts S1x128) (q : Fin 128) : broadcastTo S1x128 X h (ix2 0 q) = X (ix2 0 0) := by
  refine broadcastTo_apply _ _ _ _ ?_
  intro a
  match a with
  | ⟨0, _⟩ => rfl
  | ⟨1, _⟩ => rfl

/-- The transition of one direction, in a lane. -/
theorem step_first (w : FVec Ideal S1x1x1x1x1 .f32) (u v : FVec Ideal S1x1x1x1x128 .f32) (q : Fin 128) :
    ((k0_pay76 (F := Ideal) (k0_pay4 (F := Ideal) w) u v (ix2 0 q), k0_pay77 (F := Ideal) (k0_pay4 (F := Ideal) w) u v (ix2 0 q)) : EReal × EReal)
      = step (u (ix5 0 0 0 0 q)) (v (ix5 0 0 0 0 q)) (w (ix5 0 0 0 0 0)) := by
  have hu : k0_pay73 (F := Ideal) u (ix2 0 q) = u (ix5 0 0 0 0 q) := lane u _ q
  have hv : k0_pay74 (F := Ideal) v (ix2 0 q) = v (ix5 0 0 0 0 q) := lane v _ q
  have hw : ∀ h, broadcastTo S1x128 (k0_pay4 (F := Ideal) w) h (ix2 0 q) = Ideal.exp (w (ix5 0 0 0 0 0)) := fun h =>
    (spread _ h q).trans (congrArg Ideal.exp (single w _))
  have e : k0_pay75 (F := Ideal) (k0_pay4 (F := Ideal) w) u (ix2 0 q) = Ideal.exp (u (ix5 0 0 0 0 q) * Ideal.exp (w (ix5 0 0 0 0 0))) := by
    rw [← hu, ← hw broadcasts_S1x1_S1x128]
    rfl
  unfold step
  rw [← e, ← hv, ← hw broadcasts_S1x1_S1x128]
  rfl

theorem step_second (w : FVec Ideal S1x1x1x1x1 .f32) (u v : FVec Ideal S1x1x1x1x128 .f32) (q : Fin 128) :
    ((k0_pay217 (F := Ideal) (k0_pay147 (F := Ideal) w) u v (ix2 0 q), k0_pay218 (F := Ideal) (k0_pay147 (F := Ideal) w) u v (ix2 0 q)) : EReal × EReal)
      = step (u (ix5 0 0 0 0 q)) (v (ix5 0 0 0 0 q)) (w (ix5 0 0 0 0 0)) := by
  have hu : k0_pay214 (F := Ideal) u (ix2 0 q) = u (ix5 0 0 0 0 q) := lane u _ q
  have hv : k0_pay215 (F := Ideal) v (ix2 0 q) = v (ix5 0 0 0 0 q) := lane v _ q
  have hw : ∀ h, broadcastTo S1x128 (k0_pay147 (F := Ideal) w) h (ix2 0 q) = Ideal.exp (w (ix5 0 0 0 0 0)) := fun h =>
    (spread _ h q).trans (congrArg Ideal.exp (single w _))
  have e : k0_pay216 (F := Ideal) (k0_pay147 (F := Ideal) w) u (ix2 0 q) = Ideal.exp (u (ix5 0 0 0 0 q) * Ideal.exp (w (ix5 0 0 0 0 0))) := by
    rw [← hu, ← hw broadcasts_S1x1_S1x128]
    rfl
  unfold step
  rw [← e, ← hv, ← hw broadcasts_S1x1_S1x128]
  rfl

end Cert.S5PowIdeal.Lane

end
-- ==== Proof.S5PowTile.lean ====
/-
  A block of a table of powers, and where the rows one trip of the loop writes lie in it.
-/
module

public import proofs.«01_k».proof.Proof.S5PowLane

@[expose] public section

set_option maxRecDepth 16384

noncomputable section

namespace Cert.S5PowIdeal.Tile

open Idealize.ShloMosaic Idealize.ShloMosaic.TcCoe Idealize.ShloMosaic.Tactic Idealize.ShloMosaic.ValueIdx
open Cert.S5PowSpec Cert.S5PowIdeal Cert.S5PowIdeal.Gen Cert.S5PowIdeal.Lane

/-- A block of a table: twelve rows of powers of the transition over a chunk, then four empty rows; `f` takes a part. -/
def tile (f : EReal × EReal → EReal) (x2 x3 : Vec Ideal S1x2x8x1x128 .f32) (x4 : Vec Ideal S1x2x8x1x1 .f32) : Vec Ideal S1x2x8x16x128 .f32 := fun y =>
  (if (y 3).val < 12 then
    f (pow (chunk (step (x2 (ix5 0 (y 1) (y 2) 0 (y 4))) (x3 (ix5 0 (y 1) (y 2) 0 (y 4))) (x4 (ix5 0 (y 1) (y 2) 0 0)))) (count (y 1) (y 3)))
  else 0 : EReal)

theorem trip_lt (k : Fin k0_t1_loop.trips) : k.val < 8 := Nat.lt_of_lt_of_le k.isLt k0_t1_abs.2.1

/-- The group a trip works on. -/
def group (k : Fin k0_t1_loop.trips) : Fin 8 := ⟨k.val, trip_lt k⟩

theorem iv_val (k : Fin k0_t1_loop.trips) : (Scalar.indexCast (Scf.iv 0#32 1#32 k)).toNat = k.val := by
  have h := trip_lt k
  show (0#32 + BitVec.ofNat 32 k.val * 1#32).toNat = k.val
  simp only [BitVec.zero_add, BitVec.mul_one, BitVec.toNat_ofNat]
  omega

/-- The place a trip reads or writes at, in a direction and a row. -/
theorem place (k : Fin k0_t1_loop.trips) (d r : ℕ) : (![0, d, (Scalar.indexCast (Scf.iv 0#32 1#32 k)).toNat, r, 0] : Fin 5 → ℕ) = ![0, d, k.val, r, 0] :=
  congrArg (fun n => (![0, d, n, r, 0] : Fin 5 → ℕ)) (iv_val k)

/-- Where a written row lies. -/
theorem at_row (d : Fin 2) (k : Fin k0_t1_loop.trips) (r : Fin 16) (off : Fin 5 → ℕ) (ho : off = ![0, d.val, k.val, r.val, 0]) (hi) (q : Fin 128) :
    (Rect.unit (s := S1x2x8x16x128) off ![1, 1, 1, 1, 128] hi).emb (ix5 0 0 0 0 q) = ix5 0 d (group k) r q := by
  subst ho
  refine IdxExt.ext5 rfl ?_ ?_ ?_ ?_
  · show d.val + 1 * 0 = d.val; omega
  · show k.val + 1 * 0 = k.val; omega
  · show r.val + 1 * 0 = r.val; omega
  · show 0 + 1 * q.val = q.val; omega

theorem at_rest (d : Fin 2) (k : Fin k0_t1_loop.trips) (off : Fin 5 → ℕ) (ho : off = ![0, d.val, k.val, 12, 0]) (hi) (r : Fin 4) (q : Fin 128) :
    (Rect.unit (s := S1x2x8x16x128) off ![1, 1, 1, 4, 128] hi).emb (ix5 0 0 0 r q) = ix5 0 d (group k) ⟨12 + r.val, by omega⟩ q := by
  subst ho
  refine IdxExt.ext5 rfl ?_ ?_ ?_ ?_
  · show d.val + 1 * 0 = d.val; omega
  · show k.val + 1 * 0 = k.val; omega
  · show 12 + 1 * r.val = 12 + r.val; omega
  · show 0 + 1 * q.val = q.val; omega

/-- Where a lane read lies. -/
theorem at_lane (d : Fin 2) (k : Fin k0_t1_loop.trips) (off : Fin 5 → ℕ) (ho : off = ![0, d.val, k.val, 0, 0]) (hi) (q : Fin 128) :
    (Rect.unit (s := S1x2x8x1x128) off S1x1x1x1x128.size hi).emb (ix5 0 0 0 0 q) = ix5 0 d (group k) 0 q := by
  subst ho
  refine IdxExt.ext5 rfl ?_ ?_ rfl ?_
  · show d.val + 1 * 0 = d.val; omega
  · show k.val + 1 * 0 = k.val; omega
  · show 0 + 1 * q.val = q.val; omega

theorem at_single (d : Fin 2) (k : Fin k0_t1_loop.trips) (off : Fin 5 → ℕ) (ho : off = ![0, d.val, k.val, 0, 0]) (hi) :
    (Rect.unit (s := S1x2x8x1x1) off S1x1x1x1x1.size hi).emb (ix5 0 0 0 0 0) = ix5 0 d (group k) 0 0 := by
  subst ho
  refine IdxExt.ext5 rfl ?_ ?_ rfl rfl
  · show d.val + 1 * 0 = d.val; omega
  · show k.val + 1 * 0 = k.val; omega

theorem idx_row (x : S1x1x1x1x128.Idx) : ∃ q : Fin 128, x = ix5 0 0 0 0 q := by
  refine ⟨x 4, ?_⟩
  rw [eq_ix5 x, Fin.fin_one_eq_zero (x 0), Fin.fin_one_eq_zero (x 1), Fin.fin_one_eq_zero (x 2), Fin.fin_one_eq_zero (x 3)]
  rfl

theorem idx_rest (x : S1x1x1x4x128.Idx) : ∃ (r : Fin 4) (q : Fin 128), x = ix5 0 0 0 r q := by
  refine ⟨x 3, x 4, ?_⟩
  rw [eq_ix5 x, Fin.fin_one_eq_zero (x 0), Fin.fin_one_eq_zero (x 1), Fin.fin_one_eq_zero (x 2)]
  rfl

/-- A written row holds the table's row. -/
theorem piece (f : EReal × EReal → EReal) (x2 x3 : Vec Ideal S1x2x8x1x128 .f32) (x4 : Vec Ideal S1x2x8x1x1 .f32) (d : Fin 2) (k : Fin k0_t1_loop.trips)
    (r : Fin 16) (n : ℕ) (hn : count d r = n) (hr : r.val < 12) (off : Fin 5 → ℕ) (ho : off = ![0, d.val, k.val, r.val, 0]) (hi) (P : Vec Ideal S1x1x1x1x128 .f32)
    (hP : ∀ q, P (ix5 0 0 0 0 q) = f (pow (chunk (step (x2 (ix5 0 d (group k) 0 q)) (x3 (ix5 0 d (group k) 0 q)) (x4 (ix5 0 d (group k) 0 0)))) n))
    (x : S1x1x1x1x128.Idx) : P x = tile f x2 x3 x4 ((Rect.unit (s := S1x2x8x16x128) off ![1, 1, 1, 1, 128] hi).emb x) := by
  obtain ⟨q, rfl⟩ := idx_row x
  rw [hP, at_row d k r off ho hi q, ← hn]
  exact (if_pos hr).symm

/-- The four rows written last are empty. -/
theorem piece_rest (f : EReal × EReal → EReal) (x2 x3 : Vec Ideal S1x2x8x1x128 .f32) (x4 : Vec Ideal S1x2x8x1x1 .f32) (d : Fin 2) (k : Fin k0_t1_loop.trips)
    (off : Fin 5 → ℕ) (ho : off = ![0, d.val, k.val, 12, 0]) (hi) (P : Vec Ideal S1x1x1x4x128 .f32) (hP : ∀ x, P x = (0 : EReal))
    (x : S1x1x1x4x128.Idx) : P x = tile f x2 x3 x4 ((Rect.unit (s := S1x2x8x16x128) off ![1, 1, 1, 4, 128] hi).emb x) := by
  obtain ⟨r, q, rfl⟩ := idx_rest x
  rw [hP, at_rest d k off ho hi r q]
  exact (if_neg (by show ¬ 12 + r.val < 12; omega)).symm

end Cert.S5PowIdeal.Tile

end
-- ==== Proof.S5PowStep.lean ====
/-
  The transition each trip of the loop computes, in both directions.
-/
module

public import proofs.«01_k».proof.Proof.S5PowTile
public import proofs.«01_k».proof.Proof.Gen.S5PowIdeal.Loops

@[expose] public section

set_option maxRecDepth 16384

noncomputable section

namespace Cert.S5PowIdeal.Trip

open Idealize.ShloMosaic Idealize.ShloMosaic.TcCoe Idealize.ShloMosaic.Tactic Idealize.ShloMosaic.ValueIdx
open Idealize.SL Idealize.SL.Sem
open Cert.S5PowSpec Cert.S5PowIdeal Cert.S5PowIdeal.Gen Cert.S5PowIdeal.Lane Cert.S5PowIdeal.Tile

/-- The transition a trip works with, in the first direction. -/
theorem first_step (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) :
    ((trip_k0_t1.sl.r_34 (F := Ideal) arg4 arg5 arg6 X_arg4 X_arg5 X_arg6 k (ix2 0 q), trip_k0_t1.sl.r_35 (F := Ideal) arg4 arg5 arg6 X_arg4 X_arg5 X_arg6 k (ix2 0 q)) : EReal × EReal) = step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)) := by
  unfold trip_k0_t1.sl.r_34 trip_k0_t1.sl.r_35 trip_k0_t1.sl.r_1
  simp only [View.readAt_eq_ld]
  rw [step_first]
  congr 1
  · exact congrArg (arg4.view.read (Elt Ideal) X_arg4) (at_lane 0 k _ (place k 0 0) _ q)
  · exact congrArg (arg5.view.read (Elt Ideal) X_arg5) (at_lane 0 k _ (place k 0 0) _ q)
  · exact congrArg (arg6.view.read (Elt Ideal) X_arg6) (at_single 0 k _ (place k 0 0) _)

/-- The transition a trip works with, in the second direction. -/
theorem second_step (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) :
    ((trip_k0_t1.sl.r_87 (F := Ideal) arg4 arg5 arg6 X_arg4 X_arg5 X_arg6 k (ix2 0 q), trip_k0_t1.sl.r_88 (F := Ideal) arg4 arg5 arg6 X_arg4 X_arg5 X_arg6 k (ix2 0 q)) : EReal × EReal) = step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)) := by
  unfold trip_k0_t1.sl.r_87 trip_k0_t1.sl.r_88 trip_k0_t1.sl.r_61
  simp only [View.readAt_eq_ld]
  rw [step_second]
  congr 1
  · exact congrArg (arg4.view.read (Elt Ideal) X_arg4) (at_lane 1 k _ (place k 1 0) _ q)
  · exact congrArg (arg5.view.read (Elt Ideal) X_arg5) (at_lane 1 k _ (place k 1 0) _ q)
  · exact congrArg (arg6.view.read (Elt Ideal) X_arg6) (at_single 1 k _ (place k 1 0) _)

end Cert.S5PowIdeal.Trip

end
-- ==== Proof.S5PowWords.lean ====
/-
  The powers one trip of the loop computes, part by part and lane by lane.
-/
module

public import proofs.«01_k».proof.Proof.S5PowStep

@[expose] public section

set_option maxRecDepth 16384

noncomputable section

namespace Cert.S5PowIdeal.Trip

open Idealize.ShloMosaic Idealize.ShloMosaic.TcCoe Idealize.ShloMosaic.Tactic Idealize.ShloMosaic.ValueIdx
open Idealize.SL Idealize.SL.Sem
open Cert.S5PowSpec Cert.S5PowIdeal Cert.S5PowIdeal.Gen Cert.S5PowIdeal.Lane Cert.S5PowIdeal.Tile

theorem first0_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : k0_pay102 (F := Ideal) (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 0).1 := by
  have h := first0 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  exact (Prod.ext_iff.mp h).1

theorem first0_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : k0_pay103 (F := Ideal) (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 0).2 := by
  have h := first0 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  exact (Prod.ext_iff.mp h).2

theorem first1_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_44 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 1).1 := by
  have h := first1 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_44
  exact (Prod.ext_iff.mp h).1

theorem first1_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_46 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 1).2 := by
  have h := first1 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_46 trip_k0_t1.sl.r_42 trip_k0_t1.sl.r_45
  exact (Prod.ext_iff.mp h).2

theorem first2_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_47 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 2).1 := by
  have h := first2 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_47 trip_k0_t1.sl.r_42 trip_k0_t1.sl.r_43 trip_k0_t1.sl.r_44 trip_k0_t1.sl.r_45
  exact (Prod.ext_iff.mp h).1

theorem first2_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_48 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 2).2 := by
  have h := first2 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_48 trip_k0_t1.sl.r_42 trip_k0_t1.sl.r_43 trip_k0_t1.sl.r_44 trip_k0_t1.sl.r_45
  exact (Prod.ext_iff.mp h).2

theorem first3_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_49 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 3).1 := by
  have h := first3 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_49 trip_k0_t1.sl.r_42 trip_k0_t1.sl.r_43 trip_k0_t1.sl.r_44 trip_k0_t1.sl.r_45
  exact (Prod.ext_iff.mp h).1

theorem first3_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_50 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 3).2 := by
  have h := first3 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_50 trip_k0_t1.sl.r_42 trip_k0_t1.sl.r_43 trip_k0_t1.sl.r_44 trip_k0_t1.sl.r_45
  exact (Prod.ext_iff.mp h).2

theorem first4_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_51 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 4).1 := by
  have h := first4 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_51 trip_k0_t1.sl.r_42 trip_k0_t1.sl.r_43 trip_k0_t1.sl.r_44 trip_k0_t1.sl.r_45
  exact (Prod.ext_iff.mp h).1

theorem first4_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_52 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 4).2 := by
  have h := first4 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_52 trip_k0_t1.sl.r_42 trip_k0_t1.sl.r_43 trip_k0_t1.sl.r_44 trip_k0_t1.sl.r_45
  exact (Prod.ext_iff.mp h).2

theorem first5_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_53 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 5).1 := by
  have h := first5 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_53 trip_k0_t1.sl.r_42 trip_k0_t1.sl.r_43 trip_k0_t1.sl.r_44 trip_k0_t1.sl.r_45
  exact (Prod.ext_iff.mp h).1

theorem first5_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_54 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 5).2 := by
  have h := first5 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_54 trip_k0_t1.sl.r_42 trip_k0_t1.sl.r_43 trip_k0_t1.sl.r_44 trip_k0_t1.sl.r_45
  exact (Prod.ext_iff.mp h).2

theorem first6_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_55 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 6).1 := by
  have h := first6 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_55 trip_k0_t1.sl.r_42 trip_k0_t1.sl.r_43 trip_k0_t1.sl.r_44 trip_k0_t1.sl.r_45
  exact (Prod.ext_iff.mp h).1

theorem first6_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_56 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 6).2 := by
  have h := first6 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_56 trip_k0_t1.sl.r_42 trip_k0_t1.sl.r_43 trip_k0_t1.sl.r_44 trip_k0_t1.sl.r_45
  exact (Prod.ext_iff.mp h).2

theorem first7_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_57 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 7).1 := by
  have h := first7 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_57 trip_k0_t1.sl.r_42 trip_k0_t1.sl.r_43 trip_k0_t1.sl.r_44 trip_k0_t1.sl.r_45
  exact (Prod.ext_iff.mp h).1

theorem first7_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_58 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 7).2 := by
  have h := first7 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_58 trip_k0_t1.sl.r_42 trip_k0_t1.sl.r_43 trip_k0_t1.sl.r_44 trip_k0_t1.sl.r_45
  exact (Prod.ext_iff.mp h).2

theorem first8_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_59 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 8).1 := by
  have h := first8 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_59 trip_k0_t1.sl.r_42 trip_k0_t1.sl.r_43 trip_k0_t1.sl.r_44 trip_k0_t1.sl.r_45
  exact (Prod.ext_iff.mp h).1

theorem first8_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_60 (F := Ideal) arg4 arg5 arg6 X_arg4 X_arg5 X_arg6 k (ix2 0 q) = (pow (chunk (step (arg4.view.read (Elt Ideal) X_arg4 (ix5 0 0 (group k) 0 q)) (arg5.view.read (Elt Ideal) X_arg5 (ix5 0 0 (group k) 0 q)) (arg6.view.read (Elt Ideal) X_arg6 (ix5 0 0 (group k) 0 0)))) 8).2 := by
  have h := first8 (trip_k0_t1.sl.r_34 (F := Ideal) arg4 arg5 arg6 X_arg4 X_arg5 X_arg6 k) (trip_k0_t1.sl.r_35 (F := Ideal) arg4 arg5 arg6 X_arg4 X_arg5 X_arg6 k) (ix2 0 q)
  rw [first_step arg4 arg5 arg6 X_arg4 X_arg5 X_arg6 k q] at h
  unfold trip_k0_t1.sl.r_60 trip_k0_t1.sl.r_42 trip_k0_t1.sl.r_43 trip_k0_t1.sl.r_44 trip_k0_t1.sl.r_45
  exact (Prod.ext_iff.mp h).2

theorem second0_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : k0_pay240 (F := Ideal) (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 0).1 := by
  have h := second0 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  exact (Prod.ext_iff.mp h).1

theorem second0_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : k0_pay241 (F := Ideal) (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 0).2 := by
  have h := second0 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  exact (Prod.ext_iff.mp h).2

theorem second1_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_99 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 1).1 := by
  have h := second1 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_99 trip_k0_t1.sl.r_94 trip_k0_t1.sl.r_95 trip_k0_t1.sl.r_96
  exact (Prod.ext_iff.mp h).1

theorem second1_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_100 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 1).2 := by
  have h := second1 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_100 trip_k0_t1.sl.r_94 trip_k0_t1.sl.r_95 trip_k0_t1.sl.r_96
  exact (Prod.ext_iff.mp h).2

theorem second2_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_101 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 2).1 := by
  have h := second2 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_101 trip_k0_t1.sl.r_94 trip_k0_t1.sl.r_95 trip_k0_t1.sl.r_96
  exact (Prod.ext_iff.mp h).1

theorem second2_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_102 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 2).2 := by
  have h := second2 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_102 trip_k0_t1.sl.r_94 trip_k0_t1.sl.r_95 trip_k0_t1.sl.r_96
  exact (Prod.ext_iff.mp h).2

theorem second3_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_103 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 3).1 := by
  have h := second3 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_103 trip_k0_t1.sl.r_94 trip_k0_t1.sl.r_95 trip_k0_t1.sl.r_96
  exact (Prod.ext_iff.mp h).1

theorem second3_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_104 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 3).2 := by
  have h := second3 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_104 trip_k0_t1.sl.r_94 trip_k0_t1.sl.r_95 trip_k0_t1.sl.r_96
  exact (Prod.ext_iff.mp h).2

theorem second4_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_105 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 4).1 := by
  have h := second4 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_105 trip_k0_t1.sl.r_94 trip_k0_t1.sl.r_95 trip_k0_t1.sl.r_96
  exact (Prod.ext_iff.mp h).1

theorem second4_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_106 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 4).2 := by
  have h := second4 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_106 trip_k0_t1.sl.r_94 trip_k0_t1.sl.r_95 trip_k0_t1.sl.r_96
  exact (Prod.ext_iff.mp h).2

theorem second5_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_107 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 5).1 := by
  have h := second5 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_107 trip_k0_t1.sl.r_94 trip_k0_t1.sl.r_95 trip_k0_t1.sl.r_96
  exact (Prod.ext_iff.mp h).1

theorem second5_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_108 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 5).2 := by
  have h := second5 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_108 trip_k0_t1.sl.r_94 trip_k0_t1.sl.r_95 trip_k0_t1.sl.r_96
  exact (Prod.ext_iff.mp h).2

theorem second6_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_109 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 6).1 := by
  have h := second6 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_109 trip_k0_t1.sl.r_94 trip_k0_t1.sl.r_95 trip_k0_t1.sl.r_96
  exact (Prod.ext_iff.mp h).1

theorem second6_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_110 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 6).2 := by
  have h := second6 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_110 trip_k0_t1.sl.r_94 trip_k0_t1.sl.r_95 trip_k0_t1.sl.r_96
  exact (Prod.ext_iff.mp h).2

theorem second7_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_111 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 7).1 := by
  have h := second7 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_111 trip_k0_t1.sl.r_94 trip_k0_t1.sl.r_95 trip_k0_t1.sl.r_96
  exact (Prod.ext_iff.mp h).1

theorem second7_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_112 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 7).2 := by
  have h := second7 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_112 trip_k0_t1.sl.r_94 trip_k0_t1.sl.r_95 trip_k0_t1.sl.r_96
  exact (Prod.ext_iff.mp h).2

theorem second8_re (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_114 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 8).1 := by
  have h := second8 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_114 trip_k0_t1.sl.r_98 trip_k0_t1.sl.r_112 trip_k0_t1.sl.r_113 trip_k0_t1.sl.r_94 trip_k0_t1.sl.r_95 trip_k0_t1.sl.r_96
  exact (Prod.ext_iff.mp h).1

theorem second8_im (arg4 arg5 : Memref sig .tc .vmem S1x2x8x1x128 .f32) (arg6 : Memref sig .tc .vmem S1x2x8x1x1 .f32) (X_arg4 : BufTy.Contents (Elt Ideal) arg4.view.ty) (X_arg5 : BufTy.Contents (Elt Ideal) arg5.view.ty) (X_arg6 : BufTy.Contents (Elt Ideal) arg6.view.ty) (k : Fin k0_t1_loop.trips) (q : Fin 128) : trip_k0_t1.sl.r_115 (F := Ideal) arg4 arg5 arg6 X_arg4 X_arg5 X_arg6 k (ix2 0 q) = (pow (chunk (step (arg4.view.read (Elt Ideal) X_arg4 (ix5 0 1 (group k) 0 q)) (arg5.view.read (Elt Ideal) X_arg5 (ix5 0 1 (group k) 0 q)) (arg6.view.read (Elt Ideal) X_arg6 (ix5 0 1 (group k) 0 0)))) 8).2 := by
  have h := second8 (trip_k0_t1.sl.r_87 (F := Ideal) arg4 arg5 arg6 X_arg4 X_arg5 X_arg6 k) (trip_k0_t1.sl.r_88 (F := Ideal) arg4 arg5 arg6 X_arg4 X_arg5 X_arg6 k) (ix2 0 q)
  rw [second_step arg4 arg5 arg6 X_arg4 X_arg5 X_arg6 k q] at h
  unfold trip_k0_t1.sl.r_115 trip_k0_t1.sl.r_97 trip_k0_t1.sl.r_98 trip_k0_t1.sl.r_111 trip_k0_t1.sl.r_112 trip_k0_t1.sl.r_94 trip_k0_t1.sl.r_95 trip_k0_t1.sl.r_96
  exact (Prod.ext_iff.mp h).2

end Cert.S5PowIdeal.Trip

end
-- ==== Proof.S5PowTripRe.lean ====
/-
  The rows one trip of the loop writes: the real parts.
-/
module

public import proofs.«01_k».proof.Proof.S5PowWords

@[expose] public section

set_option maxRecDepth 16384

noncomputable section

namespace Cert.S5PowIdeal.Trip

open Idealize.ShloMosaic Idealize.ShloMosaic.TcCoe Idealize.ShloMosaic.Tactic Idealize.ShloMosaic.ValueIdx
open Idealize.SL Idealize.SL.Sem
open Cert.S5PowSpec Cert.S5PowIdeal Cert.S5PowIdeal.Gen Cert.S5PowIdeal.Lane Cert.S5PowIdeal.Tile

variable (𝒱 : Variants) (c : Dev nD) (bd : Option 𝒱.V) (i : grid0.Coords) (arg2 : Memref sig .tc .vmem S1x2x8x64x1 .f32) (harg2 : arg2.IsWhole) (arg3 : Memref sig .tc .vmem S1x2x8x64x1 .f32) (harg3 : arg3.IsWhole) (arg4 : Memref sig .tc .vmem S1x2x8x1x128 .f32) (harg4 : arg4.IsWhole) (arg5 : Memref sig .tc .vmem S1x2x8x1x128 .f32) (harg5 : arg5.IsWhole) (arg6 : Memref sig .tc .vmem S1x2x8x1x1 .f32) (harg6 : arg6.IsWhole) (arg7 : Memref sig .tc .vmem S1x8x64x16 .f32) (harg7 : arg7.IsWhole) (arg8 : Memref sig .tc .vmem S1x8x64x16 .f32) (harg8 : arg8.IsWhole) (arg9 : Memref sig .tc .vmem S1x8x16x128 .f32) (harg9 : arg9.IsWhole) (arg10 : Memref sig .tc .vmem S1x8x16x128 .f32) (harg10 : arg10.IsWhole) (arg11 : Memref sig .tc .vmem S1x2x8x64x16 .f32) (harg11 : arg11.IsWhole) (arg12 : Memref sig .tc .vmem S1x2x8x64x16 .f32) (harg12 : arg12.IsWhole) (arg13 : Memref sig .tc .vmem S1x2x1x128x2048 .bf16) (harg13 : arg13.IsWhole) (arg14 : Memref sig .tc .vmem S1x2x1x1024x2048 .bf16) (harg14 : arg14.IsWhole) (arg15 : Memref sig .tc .vmem S1x2x1x1024x2048 .bf16) (harg15 : arg15.IsWhole) (arg16 : Memref sig .tc .vmem S1x2x8x16x128 .f32) (harg16 : arg16.IsWhole) (arg17 : Memref sig .tc .vmem S1x2x8x16x128 .f32) (harg17 : arg17.IsWhole) (v24 : IVec S64x256 32) (v25 : IVec S1x128 32) (v46 : FVec Ideal S16x256 .f32) (v131 : IVec S256x2048 1) (v133 : BitVec 32) (v135 : IVec S256x2048 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty)

/-- Every row a trip writes holds the table's row: the real parts. -/
theorem trip_re (k : Fin k0_t1_loop.trips) : ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v24 v25 v46 v131 v133 v135 X_arg2 X_arg3 X_arg4 X_arg5 X_arg6 X_arg7 X_arg8 X_arg9 X_arg10 X_arg11 X_arg12 k).2.2.2.1, ∀ x : p.1.shape.Idx,
    p.2 x = tile Prod.fst (arg4.view.read (Elt Ideal) X_arg4) (arg5.view.read (Elt Ideal) X_arg5) (arg6.view.read (Elt Ideal) X_arg6) (p.1.emb x) := by
  unfold tripL_k0_t1 trip_k0_t1
  dsimp only
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl
  · exact Tile.piece_rest Prod.fst _ _ _ 1 k (k0_off42 k) (place k 1 12) (k0_off42_inb k) _ (fun _ => zero_word) x
  · refine Tile.piece Prod.fst _ _ _ 1 k 11 4 rfl (by decide) (k0_off41 k) (place k 1 11) (k0_off41_inb k) _ ?_ x
    intro q
    dsimp only
    unfold k0_pay281
    exact (row _ _ q).trans (second4_re arg4 arg5 arg6 X_arg4 X_arg5 X_arg6 k q)
  · refine Tile.piece Prod.fst _ _ _ 1 k 10 2 rfl (by decide) (k0_off40 k) (place k 1 10) (k0_off40_inb k) _ ?_ x
    intro q
    dsimp only
    unfold k0_pay279
    exact (row _ _ q).trans (second2_re arg4 arg5 arg6 X_arg4 X_arg5 X_arg6 k q)
  · refine Tile.piece Prod.fst _ _ _ 1 k 9 1 rfl (by decide) (k0_off39 k) (place k 1 9) (k0_off39_inb k) _ ?_ x
    intro q
    dsimp only
    unfold trip_k0_t1.sl.v1136
    exact (row _ _ q).trans (second1_re arg4 arg5 arg6 X_arg4 X_arg5 X_arg6 k q)
  · refine Tile.piece Prod.fst _ _ _ 1 k 8 8 rfl (by decide) (k0_off38 k) (place k 1 8) (k0_off38_inb k) _ ?_ x
    intro q
    dsimp only
    unfold trip_k0_t1.sl.v1152
    exact (row _ _ q).trans (second8_re arg4 arg5 arg6 X_arg4 X_arg5 X_arg6 k q)
  · refine Tile.piece Prod.fst _ _ _ 1 k 7 0 rfl (by decide) (k0_off37 k) (place k 1 7) (k0_off37_inb k) _ ?_ x
    intro q
    dsimp only
    unfold trip_k0_t1.sl.v1144
    exact (row _ _ q).trans (second0_re arg4 arg5 arg6 X_arg4 X_arg5 X_arg6 k q)
  · refine Tile.piece Prod.fst _ _ _ 1 k 6 1 rfl (by decide) (k0_off36 k) (place k 1 6) (k0_off36_inb k) _ ?_ x
    intro q
    dsimp only
    unfold trip_k0_t1.sl.v1136
    exact (row _ _ q).trans (second1_re arg4 arg5 arg6 X_arg4 X_arg5 X_arg6 k q)
  · refine Tile.piece Prod.fst _ _ _ 1 k 5 2 rfl (by decide) (k0_off35 k) (place k 1 5) (k0_off35_inb k) _ ?_ x
    intro q
    dsimp only
    unfold trip_k0_t1.sl.v1128
    exact (row _ _ q).trans (second2_re arg4 arg5 arg6 X_arg4 X_arg5 X_arg6 k q)
  · refine Tile.piece Prod.fst _ _ _ 1 k 4 3 rfl (by decide) (k0_off34 k) (place k 1 4) (k0_off34_inb k) _ ?_ x
    intro q
    dsimp only
    unfold trip_k0_t1.sl.v1120
    exact (row _ _ q).trans (second3_re arg4 arg5 arg6 X_arg4 X_arg5 X_arg6 k q)
  · refine Tile.piece Prod.fst _ _ _ 1 k 3 4 rfl (by decide) (k0_off33 k) (place k 1 3) (k0_off33_inb k) _ ?_ x
    intro q
    dsimp only
    unfold trip_k0_t1.sl.v1112
    exact (row _ _ q).trans (second4_re arg4 arg5 arg6 X_arg4 X_arg5 X_arg6 k q)
  · refine Tile.piece Prod.fst _ _ _ 1 k 2 5 rfl (by decide) (k0_off32 k) (place k 1 2) (k0_off32_inb k) _ ?_ x
    intro q
    dsimp only
    unfold k0_pay263
    exact (row _ _ q).trans (second5_re arg4 arg5 arg6 X_arg4 X_arg5 X_arg6 k q)
  · refine Tile.piece Prod.fst _ _ _ 1 k 1 6 rfl (by decide) (k0_off31 k) (place k 1 1) (k0_off31_inb k) _ ?_ x
    intro q
    dsimp only
    unfold k0_pay261
    exact (row _ _ q).trans (second6_re arg4 arg5 arg6 X_arg4 X_arg5 X_arg6 k q)
  · refine Tile.piece Prod.fst _ _ _ 1 k 0 7 rfl (by decide) (k0_off30 k) (place k 1 0) (k0_off30_inb k) _ ?_ x
    intro q
    dsimp only
    unfold k0_pay259
    exact (row _ _ q).trans (second7_re arg4 arg5 arg6 X_arg4 X_arg5 X_arg6 k q)
  · exact Tile.piece_rest Prod.fst _ _ _ 0 k (k0_off22 k) (place k 0 12) (k0_off22_inb k) _ (fun _ => zero_word) x
  · refine Tile.piece Prod.fst _ _ _ 0 k 11 4 rfl (by decide) (k0_off21 k) (place k 0 11) (k0_off21_inb k) _ ?_ x
    intro q
    dsimp only
    unfold k0_pay143
    exact (row _ _ q).trans (first4_re arg4 arg5 arg6 X_arg4 X_arg5 X_arg6 k q)
  · refine Tile.piece Prod.fst _ _ _ 0 k 10 2 rfl (by decide) (k0_off20 k) (place k 0 10) (k0_off20_inb k) _ ?_ x
    intro q
    dsimp only
    unfold trip_k0_t1.sl.v602
    exact (row _ _ q).trans (first2_re arg4 arg5 arg6 X_arg4 X_arg5 X_arg6 k q)
  · refine Tile.piece Prod.fst _ _ _ 0 k 9 1 rfl (by decide) (k0_off19 k) (place k 0 9) (k0_off19_inb k) _ ?_ x
    intro q
    dsimp only
    unfold trip_k0_t1.sl.v594
    exact (row _ _ q).trans (first1_re arg4 arg5 arg6 X_arg4 X_arg5 X_arg6 k q)
  · refine Tile.piece Prod.fst _ _ _ 0 k 8 8 rfl (by decide) (k0_off18 k) (place k 0 8) (k0_off18_inb k) _ ?_ x
    intro q
    dsimp only
    unfold trip_k0_t1.sl.v650
    exact (row _ _ q).trans (first8_re arg4 arg5 arg6 X_arg4 X_arg5 X_arg6 k q)
  · refine Tile.piece Prod.fst _ _ _ 0 k 7 7 rfl (by decide) (k0_off17 k) (place k 0 7) (k0_off17_inb k) _ ?_ x
    intro q
    dsimp only
    unfold trip_k0_t1.sl.v642
    exact (row _ _ q).trans (first7_re arg4 arg5 arg6 X_arg4 X_arg5 X_arg6 k q)
  · refine Tile.piece Prod.fst _ _ _ 0 k 6 6 rfl (by decide) (k0_off16 k) (place k 0 6) (k0_off16_inb k) _ ?_ x
    intro q
    dsimp only
    unfold trip_k0_t1.sl.v634
    exact (row _ _ q).trans (first6_re arg4 arg5 arg6 X_arg4 X_arg5 X_arg6 k q)
  · refine Tile.piece Prod.fst _ _ _ 0 k 5 5 rfl (by decide) (k0_off15 k) (place k 0 5) (k0_off15_inb k) _ ?_ x
    intro q
    dsimp only
    unfold trip_k0_t1.sl.v626
    exact (row _ _ q).trans (first5_re arg4 arg5 arg6 X_arg4 X_arg5 X_arg6 k q)
  · refine Tile.piece Prod.fst _ _ _ 0 k 4 4 rfl (by decide) (k0_off14 k) (place k 0 4) (k0_off14_inb k) _ ?_ x
    intro q
    dsimp only
    unfold trip_k0_t1.sl.v618
    exact (row _ _ q).trans (first4_re arg4 arg5 arg6 X_arg4 X_arg5 X_arg6 k q)
  · refine Tile.piece Prod.fst _ _ _ 0 k 3 3 rfl (by decide) (k0_off13 k) (place k 0 3) (k0_off13_inb k) _ ?_ x
    intro q
    dsimp only
    unfold trip_k0_t1.sl.v610
    exact (row _ _ q).trans (first3_re arg4 arg5 arg6 X_arg4 X_arg5 X_arg6 k q)
  · refine Tile.piece Prod.fst _ _ _ 0 k 2 2 rfl (by decide) (k0_off12 k) (place k 0 2) (k0_off12_inb k) _ ?_ x
    intro q
    dsimp only
    unfold trip_k0_t1.sl.v602
    exact (row _ _ q).trans (first2_re arg4 arg5 arg6 X_arg4 X_arg5 X_arg6 k q)
  · refine Tile.piece Prod.fst _ _ _ 0 k 1 1 rfl (by decide) (k0_off11 k) (place k 0 1) (k0_off11_inb k) _ ?_ x
    intro q
    dsimp only
    unfold trip_k0_t1.sl.v594
    exact (row _ _ q).trans (first1_re arg4 arg5 arg6 X_arg4 X_arg5 X_arg6 k q)
  · refine Tile.piece Prod.fst _ _ _ 0 k 0 0 rfl (by decide) (k0_off10 k) (place k 0 0) (k0_off10_inb k) _ ?_ x
    intro q
    dsimp only
    unfold k0_pay121
    exact (row _ _ q).trans (first0_re arg4 arg5 arg6 X_arg4 X_arg5 X_arg6 k q)

end Cert.S5PowIdeal.Trip

end
-- ==== Proof.S5PowTripIm.lean ====
/-
  The rows one trip of the loop writes: the imaginary parts.
-/
module

public import proofs.«01_k».proof.Proof.S5PowWords

@[expose] public section

set_option maxRecDepth 16384

noncomputable section

namespace Cert.S5PowIdeal.Trip

open Idealize.ShloMosaic Idealize.ShloMosaic.TcCoe Idealize.ShloMosaic.Tactic Idealize.ShloMosaic.ValueIdx
open Idealize.SL Idealize.SL.Sem
open Cert.S5PowSpec Cert.S5PowIdeal Cert.S5PowIdeal.Gen Cert.S5PowIdeal.Lane Cert.S5PowIdeal.Tile

variable (𝒱 : Variants) (c : Dev nD) (bd : Option 𝒱.V) (i : grid0.Coords) (arg2 : Memref sig .tc .vmem S1x2x8x64x1 .f32) (harg2 : arg2.IsWhole) (arg3 : Memref sig .tc .vmem S1x2x8x64x1 .f32) (harg3 : arg3.IsWhole) (arg4 : Memref sig .tc .vmem S1x2x8x1x128 .f32) (harg4 : arg4.IsWhole) (arg5 : Memref sig .tc .vmem S1x2x8x1x128 .f32) (harg5 : arg5.IsWhole) (arg6 : Memref sig .tc .vmem S1x2x8x1x1 .f32) (harg6 : arg6.IsWhole) (arg7 : Memref sig .tc .vmem S1x8x64x16 .f32) (harg7 : arg7.IsWhole) (arg8 : Memref sig .tc .vmem S1x8x64x16 .f32) (harg8 : arg8.IsWhole) (arg9 : Memref sig .tc .vmem S1x8x16x128 .f32) (harg9 : arg9.IsWhole) (arg10 : Memref sig .tc .vmem S1x8x16x128 .f32) (harg10 : arg10.IsWhole) (arg11 : Memref sig .tc .vmem S1x2x8x64x16 .f32) (harg11 : arg11.IsWhole) (arg12 : Memref sig .tc .vmem S1x2x8x64x16 .f32) (harg12 : arg12.IsWhole) (arg13 : Memref sig .tc .vmem S1x2x1x128x2048 .bf16) (harg13 : arg13.IsWhole) (arg14 : Memref sig .tc .vmem S1x2x1x1024x2048 .bf16) (harg14 : arg14.IsWhole) (arg15 : Memref sig .tc .vmem S1x2x1x1024x2048 .bf16) (harg15 : arg15.IsWhole) (arg16 : Memref sig .tc .vmem S1x2x8x16x128 .f32) (harg16 : arg16.IsWhole) (arg17 : Memref sig .tc .vmem S1x2x8x16x128 .f32) (harg17 : arg17.IsWhole) (v24 : IVec S64x256 32) (v25 : IVec S1x128 32) (v46 : FVec Ideal S16x256 .f32) (v131 : IVec S256x2048 1) (v133 : BitVec 32) (v135 : IVec S256x2048 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty)

/-- Every row a trip writes holds the table's row: the imaginary parts. -/
theorem trip_im (k : Fin k0_t1_loop.trips) : ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v24 v25 v46 v131 v133 v135 X_arg2 X_arg3 X_arg4 X_arg5 X_arg6 X_arg7 X_arg8 X_arg9 X_arg10 X_arg11 X_arg12 k).2.2.2.2, ∀ x : p.1.shape.Idx,
    p.2 x = tile Prod.snd (arg4.view.read (Elt Ideal) X_arg4) (arg5.view.read (Elt Ideal) X_arg5) (arg6.view.read (Elt Ideal) X_arg6) (p.1.emb x) := by
  unfold tripL_k0_t1 trip_k0_t1
  dsimp only
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl
  · exact Tile.piece_rest Prod.snd _ _ _ 1 k (k0_off42 k) (place k 1 12) (k0_off42_inb k) _ (fun _ => zero_word) x
  · refine Tile.piece Prod.snd _ _ _ 1 k 11 4 rfl (by decide) (k0_off41 k) (place k 1 11) (k0_off41_inb k) _ ?_ x
    intro q
    dsimp only
    unfold k0_pay282
    exact (row _ _ q).trans (second4_im arg4 arg5 arg6 X_arg4 X_arg5 X_arg6 k q)
  · refine Tile.piece Prod.snd _ _ _ 1 k 10 2 rfl (by decide) (k0_off40 k) (place k 1 10) (k0_off40_inb k) _ ?_ x
    intro q
    dsimp only
    unfold k0_pay280
    exact (row _ _ q).trans (second2_im arg4 arg5 arg6 X_arg4 X_arg5 X_arg6 k q)
  · refine Tile.piece Prod.snd _ _ _ 1 k 9 1 rfl (by decide) (k0_off39 k) (place k 1 9) (k0_off39_inb k) _ ?_ x
    intro q
    dsimp only
    unfold k0_pay278
    exact (row _ _ q).trans (second1_im arg4 arg5 arg6 X_arg4 X_arg5 X_arg6 k q)
  · refine Tile.piece Prod.snd _ _ _ 1 k 8 8 rfl (by decide) (k0_off38 k) (place k 1 8) (k0_off38_inb k) _ ?_ x
    intro q
    dsimp only
    unfold trip_k0_t1.sl.v1156
    exact (row _ _ q).trans (second8_im arg4 arg5 arg6 X_arg4 X_arg5 X_arg6 k q)
  · refine Tile.piece Prod.snd _ _ _ 1 k 7 0 rfl (by decide) (k0_off37 k) (place k 1 7) (k0_off37_inb k) _ ?_ x
    intro q
    dsimp only
    unfold trip_k0_t1.sl.v1148
    exact (row _ _ q).trans (second0_im arg4 arg5 arg6 X_arg4 X_arg5 X_arg6 k q)
  · refine Tile.piece Prod.snd _ _ _ 1 k 6 1 rfl (by decide) (k0_off36 k) (place k 1 6) (k0_off36_inb k) _ ?_ x
    intro q
    dsimp only
    unfold trip_k0_t1.sl.v1140
    exact (row _ _ q).trans (second1_im arg4 arg5 arg6 X_arg4 X_arg5 X_arg6 k q)
  · refine Tile.piece Prod.snd _ _ _ 1 k 5 2 rfl (by decide) (k0_off35 k) (place k 1 5) (k0_off35_inb k) _ ?_ x
    intro q
    dsimp only
    unfold trip_k0_t1.sl.v1132
    exact (row _ _ q).trans (second2_im arg4 arg5 arg6 X_arg4 X_arg5 X_arg6 k q)
  · refine Tile.piece Prod.snd _ _ _ 1 k 4 3 rfl (by decide) (k0_off34 k) (place k 1 4) (k0_off34_inb k) _ ?_ x
    intro q
    dsimp only
    unfold trip_k0_t1.sl.v1124
    exact (row _ _ q).trans (second3_im arg4 arg5 arg6 X_arg4 X_arg5 X_arg6 k q)
  · refine Tile.piece Prod.snd _ _ _ 1 k 3 4 rfl (by decide) (k0_off33 k) (place k 1 3) (k0_off33_inb k) _ ?_ x
    intro q
    dsimp only
    unfold trip_k0_t1.sl.v1116
    exact (row _ _ q).trans (second4_im arg4 arg5 arg6 X_arg4 X_arg5 X_arg6 k q)
  · refine Tile.piece Prod.snd _ _ _ 1 k 2 5 rfl (by decide) (k0_off32 k) (place k 1 2) (k0_off32_inb k) _ ?_ x
    intro q
    dsimp only
    unfold k0_pay264
    exact (row _ _ q).trans (second5_im arg4 arg5 arg6 X_arg4 X_arg5 X_arg6 k q)
  · refine Tile.piece Prod.snd _ _ _ 1 k 1 6 rfl (by decide) (k0_off31 k) (place k 1 1) (k0_off31_inb k) _ ?_ x
    intro q
    dsimp only
    unfold k0_pay262
    exact (row _ _ q).trans (second6_im arg4 arg5 arg6 X_arg4 X_arg5 X_arg6 k q)
  · refine Tile.piece Prod.snd _ _ _ 1 k 0 7 rfl (by decide) (k0_off30 k) (place k 1 0) (k0_off30_inb k) _ ?_ x
    intro q
    dsimp only
    unfold k0_pay260
    exact (row _ _ q).trans (second7_im arg4 arg5 arg6 X_arg4 X_arg5 X_arg6 k q)
  · exact Tile.piece_rest Prod.snd _ _ _ 0 k (k0_off22 k) (place k 0 12) (k0_off22_inb k) _ (fun _ => zero_word) x
  · refine Tile.piece Prod.snd _ _ _ 0 k 11 4 rfl (by decide) (k0_off21 k) (place k 0 11) (k0_off21_inb k) _ ?_ x
    intro q
    dsimp only
    unfold k0_pay144
    exact (row _ _ q).trans (first4_im arg4 arg5 arg6 X_arg4 X_arg5 X_arg6 k q)
  · refine Tile.piece Prod.snd _ _ _ 0 k 10 2 rfl (by decide) (k0_off20 k) (place k 0 10) (k0_off20_inb k) _ ?_ x
    intro q
    dsimp only
    unfold k0_pay142
    exact (row _ _ q).trans (first2_im arg4 arg5 arg6 X_arg4 X_arg5 X_arg6 k q)
  · refine Tile.piece Prod.snd _ _ _ 0 k 9 1 rfl (by decide) (k0_off19 k) (place k 0 9) (k0_off19_inb k) _ ?_ x
    intro q
    dsimp only
    unfold trip_k0_t1.sl.v598
    exact (row _ _ q).trans (first1_im arg4 arg5 arg6 X_arg4 X_arg5 X_arg6 k q)
  · refine Tile.piece Prod.snd _ _ _ 0 k 8 8 rfl (by decide) (k0_off18 k) (place k 0 8) (k0_off18_inb k) _ ?_ x
    intro q
    dsimp only
    unfold trip_k0_t1.sl.v654
    exact (row _ _ q).trans (first8_im arg4 arg5 arg6 X_arg4 X_arg5 X_arg6 k q)
  · refine Tile.piece Prod.snd _ _ _ 0 k 7 7 rfl (by decide) (k0_off17 k) (place k 0 7) (k0_off17_inb k) _ ?_ x
    intro q
    dsimp only
    unfold trip_k0_t1.sl.v646
    exact (row _ _ q).trans (first7_im arg4 arg5 arg6 X_arg4 X_arg5 X_arg6 k q)
  · refine Tile.piece Prod.snd _ _ _ 0 k 6 6 rfl (by decide) (k0_off16 k) (place k 0 6) (k0_off16_inb k) _ ?_ x
    intro q
    dsimp only
    unfold trip_k0_t1.sl.v638
    exact (row _ _ q).trans (first6_im arg4 arg5 arg6 X_arg4 X_arg5 X_arg6 k q)
  · refine Tile.piece Prod.snd _ _ _ 0 k 5 5 rfl (by decide) (k0_off15 k) (place k 0 5) (k0_off15_inb k) _ ?_ x
    intro q
    dsimp only
    unfold trip_k0_t1.sl.v630
    exact (row _ _ q).trans (first5_im arg4 arg5 arg6 X_arg4 X_arg5 X_arg6 k q)
  · refine Tile.piece Prod.snd _ _ _ 0 k 4 4 rfl (by decide) (k0_off14 k) (place k 0 4) (k0_off14_inb k) _ ?_ x
    intro q
    dsimp only
    unfold trip_k0_t1.sl.v622
    exact (row _ _ q).trans (first4_im arg4 arg5 arg6 X_arg4 X_arg5 X_arg6 k q)
  · refine Tile.piece Prod.snd _ _ _ 0 k 3 3 rfl (by decide) (k0_off13 k) (place k 0 3) (k0_off13_inb k) _ ?_ x
    intro q
    dsimp only
    unfold trip_k0_t1.sl.v614
    exact (row _ _ q).trans (first3_im arg4 arg5 arg6 X_arg4 X_arg5 X_arg6 k q)
  · refine Tile.piece Prod.snd _ _ _ 0 k 2 2 rfl (by decide) (k0_off12 k) (place k 0 2) (k0_off12_inb k) _ ?_ x
    intro q
    dsimp only
    unfold trip_k0_t1.sl.v606
    exact (row _ _ q).trans (first2_im arg4 arg5 arg6 X_arg4 X_arg5 X_arg6 k q)
  · refine Tile.piece Prod.snd _ _ _ 0 k 1 1 rfl (by decide) (k0_off11 k) (place k 0 1) (k0_off11_inb k) _ ?_ x
    intro q
    dsimp only
    unfold trip_k0_t1.sl.v598
    exact (row _ _ q).trans (first1_im arg4 arg5 arg6 X_arg4 X_arg5 X_arg6 k q)
  · refine Tile.piece Prod.snd _ _ _ 0 k 0 0 rfl (by decide) (k0_off10 k) (place k 0 0) (k0_off10_inb k) _ ?_ x
    intro q
    dsimp only
    unfold trip_k0_t1.sl.v590
    exact (row _ _ q).trans (first0_im arg4 arg5 arg6 X_arg4 X_arg5 X_arg6 k q)

end Cert.S5PowIdeal.Trip

end
-- ==== Proof.S5PowLoop.lean ====
/-
  The rows all trips of the loop write.
-/
module

public import proofs.«01_k».proof.Proof.S5PowTripRe
public import proofs.«01_k».proof.Proof.S5PowTripIm

@[expose] public section

set_option maxRecDepth 16384

noncomputable section

namespace Cert.S5PowIdeal.Trip

open Idealize.ShloMosaic Idealize.ShloMosaic.TcCoe Idealize.ShloMosaic.Tactic Idealize.ShloMosaic.ValueIdx
open Idealize.SL Idealize.SL.Sem
open Cert.S5PowSpec Cert.S5PowIdeal Cert.S5PowIdeal.Gen Cert.S5PowIdeal.Lane Cert.S5PowIdeal.Tile

variable (𝒱 : Variants) (c : Dev nD) (bd : Option 𝒱.V) (i : grid0.Coords) (arg2 : Memref sig .tc .vmem S1x2x8x64x1 .f32) (harg2 : arg2.IsWhole) (arg3 : Memref sig .tc .vmem S1x2x8x64x1 .f32) (harg3 : arg3.IsWhole) (arg4 : Memref sig .tc .vmem S1x2x8x1x128 .f32) (harg4 : arg4.IsWhole) (arg5 : Memref sig .tc .vmem S1x2x8x1x128 .f32) (harg5 : arg5.IsWhole) (arg6 : Memref sig .tc .vmem S1x2x8x1x1 .f32) (harg6 : arg6.IsWhole) (arg7 : Memref sig .tc .vmem S1x8x64x16 .f32) (harg7 : arg7.IsWhole) (arg8 : Memref sig .tc .vmem S1x8x64x16 .f32) (harg8 : arg8.IsWhole) (arg9 : Memref sig .tc .vmem S1x8x16x128 .f32) (harg9 : arg9.IsWhole) (arg10 : Memref sig .tc .vmem S1x8x16x128 .f32) (harg10 : arg10.IsWhole) (arg11 : Memref sig .tc .vmem S1x2x8x64x16 .f32) (harg11 : arg11.IsWhole) (arg12 : Memref sig .tc .vmem S1x2x8x64x16 .f32) (harg12 : arg12.IsWhole) (arg13 : Memref sig .tc .vmem S1x2x1x128x2048 .bf16) (harg13 : arg13.IsWhole) (arg14 : Memref sig .tc .vmem S1x2x1x1024x2048 .bf16) (harg14 : arg14.IsWhole) (arg15 : Memref sig .tc .vmem S1x2x1x1024x2048 .bf16) (harg15 : arg15.IsWhole) (arg16 : Memref sig .tc .vmem S1x2x8x16x128 .f32) (harg16 : arg16.IsWhole) (arg17 : Memref sig .tc .vmem S1x2x8x16x128 .f32) (harg17 : arg17.IsWhole) (v24 : IVec S64x256 32) (v25 : IVec S1x128 32) (v46 : FVec Ideal S16x256 .f32) (v131 : IVec S256x2048 1) (v133 : BitVec 32) (v135 : IVec S256x2048 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty)

/-- Every row the first `n` trips write holds the table's row: the real parts. -/
theorem loop_re (n : ℕ) (hn : n ≤ k0_t1_loop.trips) : ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v24 v25 v46 v131 v133 v135 X_arg2 X_arg3 X_arg4 X_arg5 X_arg6 X_arg7 X_arg8 X_arg9 X_arg10 X_arg11 X_arg12 n).2.2.2.1, ∀ x : p.1.shape.Idx,
    p.2 x = tile Prod.fst (arg4.view.read (Elt Ideal) X_arg4) (arg5.view.read (Elt Ideal) X_arg5) (arg6.view.read (Elt Ideal) X_arg6) (p.1.emb x) := by
  induction n with
  | zero =>
    intro p hp
    exact absurd hp (List.not_mem_nil)
  | succ n ih =>
    intro p hp
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v24 v25 v46 v131 v133 v135 X_arg2 X_arg3 X_arg4 X_arg5 X_arg6 X_arg7 X_arg8 X_arg9 X_arg10 X_arg11 X_arg12 ⟨n, hn⟩] at hp
    rcases List.mem_append.mp hp with h | h
    · exact trip_re 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v24 v25 v46 v131 v133 v135 X_arg2 X_arg3 X_arg4 X_arg5 X_arg6 X_arg7 X_arg8 X_arg9 X_arg10 X_arg11 X_arg12 ⟨n, hn⟩ p h
    · exact ih (Nat.le_of_succ_le hn) p h

/-- Every row the first `n` trips write holds the table's row: the imaginary parts. -/
theorem loop_im (n : ℕ) (hn : n ≤ k0_t1_loop.trips) : ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v24 v25 v46 v131 v133 v135 X_arg2 X_arg3 X_arg4 X_arg5 X_arg6 X_arg7 X_arg8 X_arg9 X_arg10 X_arg11 X_arg12 n).2.2.2.2, ∀ x : p.1.shape.Idx,
    p.2 x = tile Prod.snd (arg4.view.read (Elt Ideal) X_arg4) (arg5.view.read (Elt Ideal) X_arg5) (arg6.view.read (Elt Ideal) X_arg6) (p.1.emb x) := by
  induction n with
  | zero =>
    intro p hp
    exact absurd hp (List.not_mem_nil)
  | succ n ih =>
    intro p hp
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v24 v25 v46 v131 v133 v135 X_arg2 X_arg3 X_arg4 X_arg5 X_arg6 X_arg7 X_arg8 X_arg9 X_arg10 X_arg11 X_arg12 ⟨n, hn⟩] at hp
    rcases List.mem_append.mp hp with h | h
    · exact trip_im 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v24 v25 v46 v131 v133 v135 X_arg2 X_arg3 X_arg4 X_arg5 X_arg6 X_arg7 X_arg8 X_arg9 X_arg10 X_arg11 X_arg12 ⟨n, hn⟩ p h
    · exact ih (Nat.le_of_succ_le hn) p h

end Cert.S5PowIdeal.Trip

end
-- ==== Proof.S5PowBlock.lean ====
/-
  The blocks of the two tables of powers one grid point leaves.
-/
module

public import proofs.«01_k».proof.Proof.S5PowLoop
public import proofs.«01_k».proof.Proof.Gen.S5PowIdeal.Frame

@[expose] public section

set_option maxRecDepth 16384

noncomputable section

namespace Cert.S5PowIdeal.Block

open Idealize.ShloMosaic Idealize.ShloMosaic.TcCoe Idealize.ShloMosaic.Tactic Idealize.ShloMosaic.ValueIdx
open Idealize.SL Idealize.SL.Sem
open Cert.S5PowSpec Cert.S5PowIdeal Cert.S5PowIdeal.Gen Cert.S5PowIdeal.Lane Cert.S5PowIdeal.Tile Cert.S5PowIdeal.Trip

variable (c : Dev nD) (i : grid0.Coords) (arg2 : Memref sig .tc .vmem S1x2x8x64x1 .f32) (harg2 : arg2.IsWhole) (arg3 : Memref sig .tc .vmem S1x2x8x64x1 .f32) (harg3 : arg3.IsWhole) (arg4 : Memref sig .tc .vmem S1x2x8x1x128 .f32) (harg4 : arg4.IsWhole) (arg5 : Memref sig .tc .vmem S1x2x8x1x128 .f32) (harg5 : arg5.IsWhole) (arg6 : Memref sig .tc .vmem S1x2x8x1x1 .f32) (harg6 : arg6.IsWhole) (arg7 : Memref sig .tc .vmem S1x8x64x16 .f32) (harg7 : arg7.IsWhole) (arg8 : Memref sig .tc .vmem S1x8x64x16 .f32) (harg8 : arg8.IsWhole) (arg9 : Memref sig .tc .vmem S1x8x16x128 .f32) (harg9 : arg9.IsWhole) (arg10 : Memref sig .tc .vmem S1x8x16x128 .f32) (harg10 : arg10.IsWhole) (arg11 : Memref sig .tc .vmem S1x2x8x64x16 .f32) (harg11 : arg11.IsWhole) (arg12 : Memref sig .tc .vmem S1x2x8x64x16 .f32) (harg12 : arg12.IsWhole) (arg13 : Memref sig .tc .vmem S1x2x1x128x2048 .bf16) (harg13 : arg13.IsWhole) (arg14 : Memref sig .tc .vmem S1x2x1x1024x2048 .bf16) (harg14 : arg14.IsWhole) (arg15 : Memref sig .tc .vmem S1x2x1x1024x2048 .bf16) (harg15 : arg15.IsWhole) (arg16 : Memref sig .tc .vmem S1x2x8x16x128 .f32) (harg16 : arg16.IsWhole) (arg17 : Memref sig .tc .vmem S1x2x8x16x128 .f32) (harg17 : arg17.IsWhole)
    (x0 : Vec Ideal S1x2x8x64x1 .f32) (x1 : Vec Ideal S1x2x8x64x1 .f32) (x2 : Vec Ideal S1x2x8x1x128 .f32) (x3 : Vec Ideal S1x2x8x1x128 .f32) (x4 : Vec Ideal S1x2x8x1x1 .f32) (x5 : Vec Ideal S1x8x64x16 .f32) (x6 : Vec Ideal S1x8x64x16 .f32) (x7 : Vec Ideal S1x8x16x128 .f32) (x8 : Vec Ideal S1x8x16x128 .f32) (x9 : Vec Ideal S1x2x8x64x16 .f32) (x10 : Vec Ideal S1x2x8x64x16 .f32)

/-- The block of real parts one grid point leaves. -/
theorem out_re (y : S1x2x8x16x128.Idx) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y = tile Prod.fst x2 x3 x4 y := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10)]
  refine View.canon_apply_of_pieces (fun y => tile Prod.fst x2 x3 x4 y) _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y)
  unfold kernelRun0_A
  dsimp only
  intro p hp x
  have h := loop_re _ _ _ _ _ _ _ _ _ _ _ _ _ _ _ _ _ _ _ _ _ _ _ _ _ _ _ _ _ _ _ _ _ _ _ _ _ _ _ _ _ _ _ _ _ _ _ _ _ _ _ _ _ _ (le_refl _) p hp x
  rw [harg4.read_unread, harg5.read_unread, harg6.read_unread] at h
  exact h

/-- The block of imaginary parts one grid point leaves. -/
theorem out_im (y : S1x2x8x16x128.Idx) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y = tile Prod.snd x2 x3 x4 y := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10)]
  refine View.canon_apply_of_pieces (fun y => tile Prod.snd x2 x3 x4 y) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y)
  unfold kernelRun0_A
  dsimp only
  intro p hp x
  have h := loop_im _ _ _ _ _ _ _ _ _ _ _ _ _ _ _ _ _ _ _ _ _ _ _ _ _ _ _ _ _ _ _ _ _ _ _ _ _ _ _ _ _ _ _ _ _ _ _ _ _ _ _ _ _ _ (le_refl _) p hp x
  rw [harg4.read_unread, harg5.read_unread, harg6.read_unread] at h
  exact h

end Cert.S5PowIdeal.Block

end
-- ==== Proof.S5PowTable.lean ====
/-
  The tables of powers as whole arrays: a row for each number of chunks, a column for each state, the states twice over.
-/
module

public import proofs.«01_k».proof.Proof.S5PowSpec
public import Idealize.ShloMosaic.Lib.KernelVsHost

@[expose] public section

set_option maxRecDepth 16384

noncomputable section

namespace Cert.S5PowTable

open Idealize.ShloMosaic Idealize.ShloMosaic.ValueIdx Cert.S5PowSpec

/-- The eigenvalues' parts, the steps, and a table. -/
abbrev LA : Type := (⟨4, ![4, 2, 48, 64]⟩ : Shape).Idx → EReal
abbrev DT : Type := (⟨3, ![4, 2, 48]⟩ : Shape).Idx → EReal
abbrev TB : Type := (⟨5, ![4, 2, 48, 16, 128]⟩ : Shape).Idx → EReal

/-- The state of a column. -/
def state (q : Fin 128) : Fin 64 := ⟨q.val % 64, Nat.mod_lt _ (by norm_num)⟩

/-- A table by products one after the other; `f` takes a part. -/
def table (f : EReal × EReal → EReal) (lr li : LA) (ld : DT) : TB := fun i =>
  if (i 3).val < 12 then
    f (pow (chunk (step (lr (ix4 (i 0) (i 1) (i 2) (state (i 4)))) (li (ix4 (i 0) (i 1) (i 2) (state (i 4)))) (ld (ix3 (i 0) (i 1) (i 2))))) (count (i 1) (i 3)))
  else 0

/-- A table by the exponential of the multiple. -/
def powers (f : EReal × EReal → EReal) (lr li : LA) (ld : DT) : TB := fun i =>
  if (i 3).val < 12 then
    f (power (lr (ix4 (i 0) (i 1) (i 2) (state (i 4)))) (li (ix4 (i 0) (i 1) (i 2) (state (i 4)))) (ld (ix3 (i 0) (i 1) (i 2))) ((16 * count (i 1) (i 3) : ℕ) : ℝ))
  else 0

/-- For real eigenvalues and steps the two are the same. -/
theorem table_eq (f : EReal × EReal → EReal) (lr li : LA) (ld : DT) (hr : ∀ i, ∃ x : ℝ, lr i = x) (hi : ∀ i, ∃ x : ℝ, li i = x) (hd : ∀ i, ∃ x : ℝ, ld i = x) :
    table f lr li ld = powers f lr li ld := by
  funext i
  unfold table powers
  obtain ⟨x, hx⟩ := hr (ix4 (i 0) (i 1) (i 2) (state (i 4)))
  obtain ⟨y, hy⟩ := hi (ix4 (i 0) (i 1) (i 2) (state (i 4)))
  obtain ⟨z, hz⟩ := hd (ix3 (i 0) (i 1) (i 2))
  rw [hx, hy, hz, pow_chunk]

end Cert.S5PowTable

end
-- ==== Proof.S5PowArray.lean ====
/-
  The tables the S5 parameter call leaves. Each grid point holds eight groups of a layer; the blocks fill the tables.
-/
module

public import proofs.«01_k».proof.Proof.S5PowBlock
public import proofs.«01_k».proof.Proof.S5PowTable
public import proofs.«01_k».proof.Proof.Gen.S5PowIdeal.Value

@[expose] public section

set_option maxRecDepth 16384

noncomputable section

namespace Cert.S5PowIdeal.Array

open Idealize.ShloMosaic Idealize.ShloMosaic.TcCoe Idealize.ShloMosaic.Tactic Idealize.ShloMosaic.ValueIdx
open Idealize.SL Idealize.SL.Sem
open Cert.S5PowSpec Cert.S5PowTable Cert.S5PowIdeal Cert.S5PowIdeal.Gen Cert.S5PowIdeal.Tile Cert.S5PowIdeal.Block

variable (m : (l : Loc nD τ sig) → Buf (Elt Ideal) l)

/-- Where each window's block lies at a grid point. -/
theorem index2 : ∀ t : Fin cfg0.N, win0_2.index t = ![t.val / 6, 0, t.val % 6, 0, 0] := (by decide +kernel : ∀ t : Fin grid0.N, win0_2.index t = ![t.val / 6, 0, t.val % 6, 0, 0])
theorem index3 : ∀ t : Fin cfg0.N, win0_3.index t = ![t.val / 6, 0, t.val % 6, 0, 0] := (by decide +kernel : ∀ t : Fin grid0.N, win0_3.index t = ![t.val / 6, 0, t.val % 6, 0, 0])
theorem index4 : ∀ t : Fin cfg0.N, win0_4.index t = ![t.val / 6, 0, t.val % 6, 0, 0] := (by decide +kernel : ∀ t : Fin grid0.N, win0_4.index t = ![t.val / 6, 0, t.val % 6, 0, 0])
theorem index14 : ∀ t : Fin cfg0.N, win0_14.index t = ![t.val / 6, 0, t.val % 6, 0, 0] := (by decide +kernel : ∀ t : Fin grid0.N, win0_14.index t = ![t.val / 6, 0, t.val % 6, 0, 0])
theorem index15 : ∀ t : Fin cfg0.N, win0_15.index t = ![t.val / 6, 0, t.val % 6, 0, 0] := (by decide +kernel : ∀ t : Fin grid0.N, win0_15.index t = ![t.val / 6, 0, t.val % 6, 0, 0])

theorem t_lt (t : Fin cfg0.N) : t.val < 24 := lt_of_lt_of_eq t.isLt (show cfg0.N = 24 from N_0)

/-- The arguments as arrays of extended reals. -/
abbrev lrArr (c : Dev nD) : LA := m ((c : Thread nD τ).loc main_arg0)
abbrev liArr (c : Dev nD) : LA := m ((c : Thread nD τ).loc main_arg1)
abbrev ldArr (c : Dev nD) : DT := m ((c : Thread nD τ).loc main_arg2)

/-- The layer and the groups at hand. -/
def layer (t : Fin cfg0.N) : Fin 4 := ⟨t.val / 6, by have := t_lt t; omega⟩
def groupOf (t : Fin cfg0.N) (g : Fin 8) : Fin 48 := ⟨t.val % 6 * 8 + g.val, by have := g.isLt; omega⟩

/-- The states twice over, read at a column. -/
theorem twice (x : S4x2x48x64.Idx → EReal) (l : Fin 4) (d : Fin 2) (g : Fin 48) (q : Fin 128) :
    shapeCast S4x2x48x1x128 (concatenate S4x2x48x128 3 [⟨S4x2x48x64, x⟩, ⟨S4x2x48x64, x⟩] concatenates_S4x2x48x64_S4x2x48x64_S4x2x48x128_d3)
      shapeCasts_S4x2x48x128_S4x2x48x1x128 (ix5 l d g 0 q) = x (ix4 l d g (state q)) := by
  refine (shapeCast_apply _ _ _ (ix4 l d g q) ?_).trans ?_
  · rw [Shape.rowMajor_val_four, Shape.rowMajor_val_five]
    show ((l.val * 2 + d.val) * 48 + g.val) * 128 + q.val = (((l.val * 2 + d.val) * 48 + g.val) * 1 + 0) * 128 + q.val
    omega
  · have hq := q.isLt
    by_cases h : q.val < 64
    · exact concatenate_pair_apply_left (t := S4x2x48x128) (s₁ := S4x2x48x64) (s₂ := S4x2x48x64) 3 x x _ _ rfl (ix4 l d g (state q))
        (fun a => by match a with | ⟨0, _⟩ => rfl | ⟨1, _⟩ => rfl | ⟨2, _⟩ => rfl | ⟨3, _⟩ => exact Nat.mod_eq_of_lt h)
    · exact concatenate_pair_apply_right (t := S4x2x48x128) (s₁ := S4x2x48x64) (s₂ := S4x2x48x64) 3 x x _ _ rfl rfl (ix4 l d g (state q))
        (fun a ha => by match a with | ⟨0, _⟩ => rfl | ⟨1, _⟩ => rfl | ⟨2, _⟩ => rfl | ⟨3, _⟩ => exact absurd rfl ha)
        (by show q.val % 64 + 64 = q.val; omega)

theorem lr_apply (c : Dev nD) (t : Fin cfg0.N) (d : Fin 2) (g : Fin 8) (q : Fin 128) :
    (iblk m c 2 t : S1x2x8x1x128.Idx → EReal) (ix5 0 d g 0 q) = lrArr m c (ix4 (layer t) d (groupOf t g) (state q)) := by
  have h : V m c main_v3 = shapeCast S4x2x48x1x128 (concatenate S4x2x48x128 3 [⟨S4x2x48x64, m ((c : Thread nD τ).loc main_arg0)⟩, ⟨S4x2x48x64, m ((c : Thread nD τ).loc main_arg0)⟩]
      concatenates_S4x2x48x64_S4x2x48x64_S4x2x48x128_d3) shapeCasts_S4x2x48x128_S4x2x48x1x128 := by
    show StableHlo.after hostOps0 _ (Proc.devRef .tc main_v3) = _
    after_results
    rfl
  refine Eq.trans ?_ ((congrFun h (ix5 (layer t) d (groupOf t g) 0 q)).trans (twice _ _ _ _ _))
  show V m c main_v3 ((win0_2.rect t).emb (ix5 0 d g 0 q)) = _
  refine congrArg (V m c main_v3) (funext fun a => Fin.ext ?_)
  rw [Pipeline.Window.rect_emb_val win0_2 t, index2]
  match a with
  | ⟨0, _⟩ => show t.val / 6 * 1 + 0 = t.val / 6; omega
  | ⟨1, _⟩ => show 0 * 2 + d.val = d.val; omega
  | ⟨2, _⟩ => rfl
  | ⟨3, _⟩ => rfl
  | ⟨4, _⟩ => show 0 * 128 + q.val = q.val; omega

theorem li_apply (c : Dev nD) (t : Fin cfg0.N) (d : Fin 2) (g : Fin 8) (q : Fin 128) :
    (iblk m c 3 t : S1x2x8x1x128.Idx → EReal) (ix5 0 d g 0 q) = liArr m c (ix4 (layer t) d (groupOf t g) (state q)) := by
  have h : V m c main_v5 = shapeCast S4x2x48x1x128 (concatenate S4x2x48x128 3 [⟨S4x2x48x64, m ((c : Thread nD τ).loc main_arg1)⟩, ⟨S4x2x48x64, m ((c : Thread nD τ).loc main_arg1)⟩]
      concatenates_S4x2x48x64_S4x2x48x64_S4x2x48x128_d3) shapeCasts_S4x2x48x128_S4x2x48x1x128 := by
    show StableHlo.after hostOps0 _ (Proc.devRef .tc main_v5) = _
    after_results
    rfl
  refine Eq.trans ?_ ((congrFun h (ix5 (layer t) d (groupOf t g) 0 q)).trans (twice _ _ _ _ _))
  show V m c main_v5 ((win0_3.rect t).emb (ix5 0 d g 0 q)) = _
  refine congrArg (V m c main_v5) (funext fun a => Fin.ext ?_)
  rw [Pipeline.Window.rect_emb_val win0_3 t, index3]
  match a with
  | ⟨0, _⟩ => show t.val / 6 * 1 + 0 = t.val / 6; omega
  | ⟨1, _⟩ => show 0 * 2 + d.val = d.val; omega
  | ⟨2, _⟩ => rfl
  | ⟨3, _⟩ => rfl
  | ⟨4, _⟩ => show 0 * 128 + q.val = q.val; omega

theorem ld_apply (c : Dev nD) (t : Fin cfg0.N) (d : Fin 2) (g : Fin 8) :
    (iblk m c 4 t : S1x2x8x1x1.Idx → EReal) (ix5 0 d g 0 0) = ldArr m c (ix3 (layer t) d (groupOf t g)) := by
  have h : V m c main_v6 = shapeCast S4x2x48x1x1 (m ((c : Thread nD τ).loc main_arg2)) shapeCasts_S4x2x48_S4x2x48x1x1 := by
    show StableHlo.after hostOps0 _ (Proc.devRef .tc main_v6) = _
    after_results
    rfl
  refine Eq.trans ?_ ((congrFun h (ix5 (layer t) d (groupOf t g) 0 0)).trans (shapeCast_apply _ _ _ (ix3 (layer t) d (groupOf t g)) ?_))
  · show V m c main_v6 ((win0_4.rect t).emb (ix5 0 d g 0 0)) = _
    refine congrArg (V m c main_v6) (funext fun a => Fin.ext ?_)
    rw [Pipeline.Window.rect_emb_val win0_4 t, index4]
    match a with
    | ⟨0, _⟩ => show t.val / 6 * 1 + 0 = t.val / 6; omega
    | ⟨1, _⟩ => show 0 * 2 + d.val = d.val; omega
    | ⟨2, _⟩ => rfl
    | ⟨3, _⟩ => rfl
    | ⟨4, _⟩ => rfl
  · rw [Shape.rowMajor_val_three, Shape.rowMajor_val_five]
    show ((layer t).val * 2 + d.val) * 48 + (groupOf t g).val = ((((layer t).val * 2 + d.val) * 48 + (groupOf t g).val) * 1 + 0) * 1 + 0
    omega

/-- The block of a table at a grid point. -/
theorem tile_table (f : EReal × EReal → EReal) (c : Dev nD) (t : Fin cfg0.N) (d : Fin 2) (g : Fin 8) (r : Fin 16) (q : Fin 128) :
    tile f (iblk m c 2 t) (iblk m c 3 t) (iblk m c 4 t) (ix5 0 d g r q)
      = table f (lrArr m c) (liArr m c) (ldArr m c) (ix5 (layer t) d (groupOf t g) r q) := by
  show (if r.val < 12 then f (pow (chunk (step ((iblk m c 2 t : S1x2x8x1x128.Idx → EReal) (ix5 0 d g 0 q)) ((iblk m c 3 t : S1x2x8x1x128.Idx → EReal) (ix5 0 d g 0 q))
      ((iblk m c 4 t : S1x2x8x1x1.Idx → EReal) (ix5 0 d g 0 0)))) (count d r)) else 0) = _
  rw [lr_apply, li_apply, ld_apply]
  rfl

/-- The place in the array of an entry of the block written at point `t`. -/
theorem emb14 (t : Fin cfg0.N) (d : Fin 2) (g : Fin 8) (r : Fin 16) (q : Fin 128) :
    ((win0_14.rect t).emb (ix5 0 d g r q) : S4x2x48x16x128.Idx) = ix5 (layer t) d (groupOf t g) r q := by
  refine funext fun a => Fin.ext ?_
  rw [Pipeline.Window.rect_emb_val win0_14 t, index14]
  match a with
  | ⟨0, _⟩ => show t.val / 6 * 1 + 0 = t.val / 6; omega
  | ⟨1, _⟩ => show 0 * 2 + d.val = d.val; omega
  | ⟨2, _⟩ => rfl
  | ⟨3, _⟩ => show 0 * 16 + r.val = r.val; omega
  | ⟨4, _⟩ => show 0 * 128 + q.val = q.val; omega

/-- The whole table. -/
def result_re (c : Dev nD) : S4x2x48x16x128.Idx → EReal := table Prod.fst (lrArr m c) (liArr m c) (ldArr m c)

theorem flushed_re (c : Dev nD) (t : Fin cfg0.N) :
    (dats m 0 c).flushed 14 t = ((cfg0.win 14).blk t).view.read (Elt Ideal) (result_re m c) := by
  funext y
  obtain ⟨d, g, r, q, rfl⟩ : ∃ (d : Fin 2) (g : Fin 8) (r : Fin 16) (q : Fin 128), y = ix5 0 d g r q :=
    ⟨y 1, y 2, y 3, y 4, (eq_ix5 y).trans (congrArg (fun z => ix5 z (y 1) (y 2) (y 3) (y 4)) (Fin.fin_one_eq_zero (y 0)))⟩
  have hR : ((cfg0.win 14).blk t).view.read (Elt Ideal) (result_re m c) (ix5 0 d g r q) = result_re m c ((win0_14.rect t).emb (ix5 0 d g r q)) := rfl
  rw [hR, emb14, Value.flushed14_A]
  exact (Block.out_re c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix5 0 d g r q)).trans (tile_table m Prod.fst c t d g r q)

/-- The blocks fill the table. -/
theorem final_re (c : Dev nD) : (dats m 0 c).arrAt 14 cfg0.N = result_re m c := by
  refine (dats m 0 c).arrAt_eq_of_cover 14 (result_re m c) (fun t _ => flushed_re m c t) fun i => ?_
  obtain ⟨l, d, g, r, q, rfl⟩ : ∃ (l : Fin 4) (d : Fin 2) (g : Fin 48) (r : Fin 16) (q : Fin 128), i = ix5 l d g r q := ⟨i 0, i 1, i 2, i 3, i 4, eq_ix5 i⟩
  have hl := l.isLt
  have hg := g.isLt
  have hlt : l.val * 6 + g.val / 8 < cfg0.N := by rw [show cfg0.N = 24 from N_0]; omega
  refine ⟨⟨l.val * 6 + g.val / 8, hlt⟩, flush0_14 _, ?_⟩
  have hi : (ix5 l d g r q : S4x2x48x16x128.Idx) = (win0_14.rect ⟨l.val * 6 + g.val / 8, hlt⟩).emb
      (ix5 0 d (⟨g.val % 8, Nat.mod_lt _ (by norm_num)⟩ : Fin 8) r q) := by
    rw [emb14]
    refine IdxExt.ext5 ?_ rfl ?_ rfl rfl
    · show l.val = (l.val * 6 + g.val / 8) / 6
      omega
    · show g.val = (l.val * 6 + g.val / 8) % 6 * 8 + g.val % 8
      omega
  rw [hi]
  exact ((cfg0.win 14).blk ⟨l.val * 6 + g.val / 8, hlt⟩).view.emb_mem_set _

/-- The place in the array of an entry of the block written at point `t`. -/
theorem emb15 (t : Fin cfg0.N) (d : Fin 2) (g : Fin 8) (r : Fin 16) (q : Fin 128) :
    ((win0_15.rect t).emb (ix5 0 d g r q) : S4x2x48x16x128.Idx) = ix5 (layer t) d (groupOf t g) r q := by
  refine funext fun a => Fin.ext ?_
  rw [Pipeline.Window.rect_emb_val win0_15 t, index15]
  match a with
  | ⟨0, _⟩ => show t.val / 6 * 1 + 0 = t.val / 6; omega
  | ⟨1, _⟩ => show 0 * 2 + d.val = d.val; omega
  | ⟨2, _⟩ => rfl
  | ⟨3, _⟩ => show 0 * 16 + r.val = r.val; omega
  | ⟨4, _⟩ => show 0 * 128 + q.val = q.val; omega

/-- The whole table. -/
def result_im (c : Dev nD) : S4x2x48x16x128.Idx → EReal := table Prod.snd (lrArr m c) (liArr m c) (ldArr m c)

theorem flushed_im (c : Dev nD) (t : Fin cfg0.N) :
    (dats m 0 c).flushed 15 t = ((cfg0.win 15).blk t).view.read (Elt Ideal) (result_im m c) := by
  funext y
  obtain ⟨d, g, r, q, rfl⟩ : ∃ (d : Fin 2) (g : Fin 8) (r : Fin 16) (q : Fin 128), y = ix5 0 d g r q :=
    ⟨y 1, y 2, y 3, y 4, (eq_ix5 y).trans (congrArg (fun z => ix5 z (y 1) (y 2) (y 3) (y 4)) (Fin.fin_one_eq_zero (y 0)))⟩
  have hR : ((cfg0.win 15).blk t).view.read (Elt Ideal) (result_im m c) (ix5 0 d g r q) = result_im m c ((win0_15.rect t).emb (ix5 0 d g r q)) := rfl
  rw [hR, emb15, Value.flushed15_A]
  exact (Block.out_im c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix5 0 d g r q)).trans (tile_table m Prod.snd c t d g r q)

/-- The blocks fill the table. -/
theorem final_im (c : Dev nD) : (dats m 0 c).arrAt 15 cfg0.N = result_im m c := by
  refine (dats m 0 c).arrAt_eq_of_cover 15 (result_im m c) (fun t _ => flushed_im m c t) fun i => ?_
  obtain ⟨l, d, g, r, q, rfl⟩ : ∃ (l : Fin 4) (d : Fin 2) (g : Fin 48) (r : Fin 16) (q : Fin 128), i = ix5 l d g r q := ⟨i 0, i 1, i 2, i 3, i 4, eq_ix5 i⟩
  have hl := l.isLt
  have hg := g.isLt
  have hlt : l.val * 6 + g.val / 8 < cfg0.N := by rw [show cfg0.N = 24 from N_0]; omega
  refine ⟨⟨l.val * 6 + g.val / 8, hlt⟩, flush0_15 _, ?_⟩
  have hi : (ix5 l d g r q : S4x2x48x16x128.Idx) = (win0_15.rect ⟨l.val * 6 + g.val / 8, hlt⟩).emb
      (ix5 0 d (⟨g.val % 8, Nat.mod_lt _ (by norm_num)⟩ : Fin 8) r q) := by
    rw [emb15]
    refine IdxExt.ext5 ?_ rfl ?_ rfl rfl
    · show l.val = (l.val * 6 + g.val / 8) / 6
      omega
    · show g.val = (l.val * 6 + g.val / 8) % 6 * 8 + g.val % 8
      omega
  rw [hi]
  exact ((cfg0.win 15).blk ⟨l.val * 6 + g.val / 8, hlt⟩).view.emb_mem_set _

/-- The kernel ends with the two tables, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v13_3) = result_re m c
      ∧ r.2.mem ((c : Thread nD τ).loc main_v13_4) = result_im m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).2.2.2.1.trans (final_re m c), (h c).2.2.2.2.1.trans (final_im m c), (h c).2.2.2.2.2⟩) (Value.run_blocks m ρ)

end Cert.S5PowIdeal.Array

end
-- ==== Proof.S5PowRef.lean ====
/-
  The reference's tables, read off its operations.
-/
module

public import proofs.«01_k».proof.Proof.S5PowTable
public import proofs.«01_k».proof.Proof.IdxExt
public import proofs.«01_k».proof.Proof.Gen.S5PowRefIdeal.Read

@[expose] public section

set_option maxRecDepth 16384

noncomputable section

namespace Cert.S5PowRef

open Idealize.ShloMosaic Idealize.ShloMosaic.TcCoe Idealize.ShloMosaic.ValueIdx
open Cert.S5PowSpec Cert.S5PowTable Cert.IdxExt Cert.S5PowRefIdeal Cert.S5PowRefIdeal.Gen Cert.S5PowRefIdeal.Read

/-- Over how many tokens a row goes, in a direction. -/
theorem tokens : ∀ (d : Fin 2) (r : Fin 16), (val_main_v30 (F := Ideal) (ix2 d r) : BitVec 32).toInt = ((16 * count d r : ℕ) : ℤ) := by
  decide +kernel

theorem tokens_at (d : Fin 2) (r : Fin 16) : (val_main_v31 (F := Ideal) (ix2 d r) : EReal) = (((16 * count d r : ℕ) : ℝ) : EReal) := by
  rw [val_main_v31_apply]
  show (((val_main_v30 (F := Ideal) (ix2 d r) : BitVec 32).toInt : ℝ) : EReal) = _
  rw [tokens]
  norm_cast

/-- The rows that are filled. -/
theorem filled (r : Fin 16) : (val_main_v41 (F := Ideal) (ix2 r 0) : BitVec 1) = if r.val < 12 then 1#1 else 0#1 := by
  revert r
  decide +kernel

variable (x0 x1 : (⟨S4x2x48x64, .f32⟩ : BufTy).Contents (Elt Ideal)) (x2 : (⟨S4x2x48, .f32⟩ : BufTy).Contents (Elt Ideal))

/-- The real part of an eigenvalue times its step. -/
theorem re_at (l : Fin 4) (d : Fin 2) (g : Fin 48) (s : Fin 64) :
    (val_main_v3 (F := Ideal) x0 x2 (ix4 l d g s) : EReal) = x0 (ix4 l d g s) * Ideal.exp (x2 (ix3 l d g)) := by
  rw [val_main_v3_apply, val_main_v2_apply, val_main_v1_apply, val_main_v0_apply,
    show idx_main_v1 (idx_main_v2 (ix4 l d g s)) = ix3 l d g from ext3 rfl rfl rfl]
  rfl

theorem im_at (l : Fin 4) (d : Fin 2) (g : Fin 48) (s : Fin 64) :
    (val_main_v6 (F := Ideal) x1 x2 (ix4 l d g s) : EReal) = x1 (ix4 l d g s) * Ideal.exp (x2 (ix3 l d g)) := by
  rw [val_main_v6_apply, val_main_v5_apply, val_main_v1_apply, val_main_v0_apply,
    show idx_main_v1 (idx_main_v5 (ix4 l d g s)) = ix3 l d g from ext3 rfl rfl rfl]
  rfl

/-- The multiple of the real part. -/
theorem modulus_at (l : Fin 4) (d : Fin 2) (g : Fin 48) (r : Fin 16) (s : Fin 64) :
    (val_main_v36 (F := Ideal) x0 x2 (ix5 l d g r s) : EReal) = (((16 * count d r : ℕ) : ℝ) : EReal) * (x0 (ix4 l d g s) * Ideal.exp (x2 (ix3 l d g))) := by
  rw [val_main_v36_apply, val_main_v34_apply, val_main_v33_apply, val_main_v32_apply, val_main_v35_apply, val_main_v4_apply,
    show idx_main_v32 (idx_main_v33 (idx_main_v34 (ix5 l d g r s))) = ix2 d r from ext2 rfl rfl,
    show idx_main_v4 (idx_main_v35 (ix5 l d g r s)) = ix4 l d g s from ext4 rfl rfl rfl rfl, tokens_at, re_at]
  rfl

/-- The multiple of the imaginary part. -/
theorem angle_at (l : Fin 4) (d : Fin 2) (g : Fin 48) (r : Fin 16) (s : Fin 64) :
    (val_main_v45 (F := Ideal) x1 x2 (ix5 l d g r s) : EReal) = (((16 * count d r : ℕ) : ℝ) : EReal) * (x1 (ix4 l d g s) * Ideal.exp (x2 (ix3 l d g))) := by
  rw [val_main_v45_apply, val_main_v43_apply, val_main_v42_apply, val_main_v32_apply, val_main_v44_apply, val_main_v7_apply,
    show idx_main_v32 (idx_main_v42 (idx_main_v43 (ix5 l d g r s))) = ix2 d r from ext2 rfl rfl,
    show idx_main_v7 (idx_main_v44 (ix5 l d g r s)) = ix4 l d g s from ext4 rfl rfl rfl rfl, tokens_at, im_at]
  rfl

theorem angle2_at (l : Fin 4) (d : Fin 2) (g : Fin 48) (r : Fin 16) (s : Fin 64) :
    (val_main_v53 (F := Ideal) x1 x2 (ix5 l d g r s) : EReal) = (((16 * count d r : ℕ) : ℝ) : EReal) * (x1 (ix4 l d g s) * Ideal.exp (x2 (ix3 l d g))) := by
  rw [val_main_v53_apply, val_main_v51_apply, val_main_v50_apply, val_main_v32_apply, val_main_v52_apply, val_main_v7_apply,
    show idx_main_v32 (idx_main_v50 (idx_main_v51 (ix5 l d g r s))) = ix2 d r from ext2 rfl rfl,
    show idx_main_v7 (idx_main_v52 (ix5 l d g r s)) = ix4 l d g s from ext4 rfl rfl rfl rfl, tokens_at, im_at]
  rfl

/-- An entry with the cosine. -/
theorem re_entry (l : Fin 4) (d : Fin 2) (g : Fin 48) (r : Fin 16) (s : Fin 64) :
    (val_main_v47 (F := Ideal) x0 x1 x2 (ix5 l d g r s) : EReal) = Prod.fst (power (x0 (ix4 l d g s)) (x1 (ix4 l d g s)) (x2 (ix3 l d g)) (((16 * count d r : ℕ) : ℝ) : EReal)) := by
  rw [val_main_v47_apply, val_main_v37_apply, val_main_v46_apply, modulus_at, angle_at]
  rfl

/-- The states twice over. -/
theorem re_twice (l : Fin 4) (d : Fin 2) (g : Fin 48) (r : Fin 16) (q : Fin 128) :
    (val_main_v48 (F := Ideal) x0 x1 x2 (ix5 l d g r q) : EReal) = val_main_v47 (F := Ideal) x0 x1 x2 (ix5 l d g r (state q)) := by
  have hq := q.isLt
  unfold val_main_v48
  by_cases h : q.val < 64
  · exact concatenate_pair_apply_left (t := S4x2x48x16x128) (s₁ := S4x2x48x16x64) (s₂ := S4x2x48x16x64) 4 _ _ _ _ rfl (ix5 l d g r (state q))
      (fun a => by match a with | ⟨0, _⟩ => rfl | ⟨1, _⟩ => rfl | ⟨2, _⟩ => rfl | ⟨3, _⟩ => rfl | ⟨4, _⟩ => exact Nat.mod_eq_of_lt h)
  · exact concatenate_pair_apply_right (t := S4x2x48x16x128) (s₁ := S4x2x48x16x64) (s₂ := S4x2x48x16x64) 4 _ _ _ _ rfl rfl (ix5 l d g r (state q))
      (fun a ha => by match a with | ⟨0, _⟩ => rfl | ⟨1, _⟩ => rfl | ⟨2, _⟩ => rfl | ⟨3, _⟩ => rfl | ⟨4, _⟩ => exact absurd rfl ha)
      (by show q.val % 64 + 64 = q.val; omega)

/-- The reference's table with the cosine. -/
theorem re_eq : (val_main_v49 (F := Ideal) x0 x1 x2 : TB) = powers Prod.fst x0 x1 x2 := by
  funext i
  obtain ⟨l, d, g, r, q, rfl⟩ : ∃ (l : Fin 4) (d : Fin 2) (g : Fin 48) (r : Fin 16) (q : Fin 128), i = ix5 l d g r q := ⟨i 0, i 1, i 2, i 3, i 4, eq_ix5 i⟩
  rw [val_main_v49_apply, val_main_call5_v1_apply, val_main_call5_v2_apply,
    show idx_main_call5_v1 (ix5 l d g r q) = ix2 r 0 from ext2 rfl rfl, filled, re_twice, re_entry]
  show _ = if r.val < 12 then _ else _
  by_cases h : r.val < 12
  · rw [if_pos h, if_pos h]
    exact if_pos rfl
  · rw [if_neg h, if_neg h]
    refine (if_neg (by decide)).trans ?_
    rw [val_main_call5_v0_apply, val_main_cst_apply]
    show Ideal.ofBits .f32 0x00000000#32 = (0 : EReal)
    simp [Ideal.ofBits, Ideal.ieee]

/-- An entry with the sine. -/
theorem im_entry (l : Fin 4) (d : Fin 2) (g : Fin 48) (r : Fin 16) (s : Fin 64) :
    (val_main_v55 (F := Ideal) x0 x1 x2 (ix5 l d g r s) : EReal) = Prod.snd (power (x0 (ix4 l d g s)) (x1 (ix4 l d g s)) (x2 (ix3 l d g)) (((16 * count d r : ℕ) : ℝ) : EReal)) := by
  rw [val_main_v55_apply, val_main_v37_apply, val_main_v54_apply, modulus_at, angle2_at]
  rfl

/-- The states twice over. -/
theorem im_twice (l : Fin 4) (d : Fin 2) (g : Fin 48) (r : Fin 16) (q : Fin 128) :
    (val_main_v56 (F := Ideal) x0 x1 x2 (ix5 l d g r q) : EReal) = val_main_v55 (F := Ideal) x0 x1 x2 (ix5 l d g r (state q)) := by
  have hq := q.isLt
  unfold val_main_v56
  by_cases h : q.val < 64
  · exact concatenate_pair_apply_left (t := S4x2x48x16x128) (s₁ := S4x2x48x16x64) (s₂ := S4x2x48x16x64) 4 _ _ _ _ rfl (ix5 l d g r (state q))
      (fun a => by match a with | ⟨0, _⟩ => rfl | ⟨1, _⟩ => rfl | ⟨2, _⟩ => rfl | ⟨3, _⟩ => rfl | ⟨4, _⟩ => exact Nat.mod_eq_of_lt h)
  · exact concatenate_pair_apply_right (t := S4x2x48x16x128) (s₁ := S4x2x48x16x64) (s₂ := S4x2x48x16x64) 4 _ _ _ _ rfl rfl (ix5 l d g r (state q))
      (fun a ha => by match a with | ⟨0, _⟩ => rfl | ⟨1, _⟩ => rfl | ⟨2, _⟩ => rfl | ⟨3, _⟩ => rfl | ⟨4, _⟩ => exact absurd rfl ha)
      (by show q.val % 64 + 64 = q.val; omega)

/-- The reference's table with the sine. -/
theorem im_eq : (val_main_v57 (F := Ideal) x0 x1 x2 : TB) = powers Prod.snd x0 x1 x2 := by
  funext i
  obtain ⟨l, d, g, r, q, rfl⟩ : ∃ (l : Fin 4) (d : Fin 2) (g : Fin 48) (r : Fin 16) (q : Fin 128), i = ix5 l d g r q := ⟨i 0, i 1, i 2, i 3, i 4, eq_ix5 i⟩
  rw [val_main_v57_apply, val_main_call6_v1_apply, val_main_call6_v2_apply,
    show idx_main_call6_v1 (ix5 l d g r q) = ix2 r 0 from ext2 rfl rfl, filled, im_twice, im_entry]
  show _ = if r.val < 12 then _ else _
  by_cases h : r.val < 12
  · rw [if_pos h, if_pos h]
    exact if_pos rfl
  · rw [if_neg h, if_neg h]
    refine (if_neg (by decide)).trans ?_
    rw [val_main_call6_v0_apply, val_main_cst_11_apply]
    show Ideal.ofBits .f32 0x00000000#32 = (0 : EReal)
    simp [Ideal.ofBits, Ideal.ieee]

end Cert.S5PowRef

end
-- ==== Proof.S5PowEq.lean ====
/-
  With finite eigenvalues and steps the transitions are complex numbers, and then the kernel's powers by products
  and the reference's exponentials of the multiples give the same tables.
-/
module

public import proofs.«01_k».proof.Proof.S5PowArray
public import proofs.«01_k».proof.Proof.S5PowRef
public import proofs.«01_k».proof.Proof.Gen.S5PowRefIdeal.Run
public import proofs.«01_k».proof.Defs
public import Idealize.ShloMosaic.Lib.ReduceAll

@[expose] public section

set_option maxRecDepth 16384

noncomputable section

namespace Cert.S5PowEq

open Idealize.ShloMosaic Idealize.ShloMosaic.TcCoe Idealize.ShloMosaic.ValueIdx
open Idealize.SL Idealize.SL.Sem
open Cert.S5PowSpec Cert.S5PowTable

/-! ## What the precondition says -/

/-- A value whose magnitude is below infinity is a real number. -/
theorem real_of_abs_lt (x : EReal) (h : max x (-x) < ⊤) : ∃ r : ℝ, x = r := by
  refine ⟨x.toReal, (EReal.coe_toReal ?_ ?_).symm⟩
  · intro e; rw [e] at h; simp at h
  · intro e; rw [e] at h; simp at h

/-- The test the precondition makes of one element. -/
theorem real_of_test (x : EReal)
    (h : FloatOps.cmpf (F := Ideal) (φ := .f32) .olt (FloatOps.absf (F := Ideal) (φ := .f32) x) (FloatOps.ofBits (F := Ideal) .f32 0x7F800000#32) = 1#1) :
    ∃ r : ℝ, x = r := by
  have ht : (FloatOps.ofBits (F := Ideal) .f32 0x7F800000#32 : EReal) = ⊤ := by
    simp [Ideal.ofBits_def, Ideal.ofBits, Ideal.ieee]
  rw [ht] at h
  refine real_of_abs_lt x ?_
  by_contra hn
  have h' : Ideal.cmp .olt (max x (-x)) ⊤ = 1#1 := h
  simp [Ideal.cmp, hn] at h'

theorem subsingleton_scalar : Subsingleton Cert.Pre_finite_transitions.S_.Idx := ⟨fun a b => funext fun i => i.elim0⟩

section
variable [Cert.Pre_finite_transitions.Facts]
variable (a0 : FVec Ideal Cert.Pre_finite_transitions.S4x2x48x64 .f32) (a1 : FVec Ideal Cert.Pre_finite_transitions.S4x2x48x64 .f32) (a2 : FVec Ideal Cert.Pre_finite_transitions.S4x2x48 .f32) (a3 : FVec Ideal Cert.Pre_finite_transitions.S4x48x64x16 .f32) (a4 : FVec Ideal Cert.Pre_finite_transitions.S4x48x64x16 .f32) (a5 : FVec Ideal Cert.Pre_finite_transitions.S4x2x48x16x64 .f32) (a6 : FVec Ideal Cert.Pre_finite_transitions.S4x2x48x16x64 .f32)

/-- The precondition makes every real part of an eigenvalue real. -/
theorem re_real (h : (Cert.Pre_finite_transitions.fn (F := Ideal) a0 a1 a2 a3 a4 a5 a6).1 = fun _ => 1#1) (i : Cert.Pre_finite_transitions.S4x2x48x64.Idx) :
    ∃ r : ℝ, (a0 i : EReal) = r := by
  have := subsingleton_scalar
  have h0 := congrFun h ix0
  dsimp only [Cert.Pre_finite_transitions.fn] at h0
  exact real_of_test (a0 i) (Host.reduce_andi_all _ _ _ _ _ h0 i)

/-- The precondition makes every imaginary part of an eigenvalue real. -/
theorem im_real (h : (Cert.Pre_finite_transitions.fn (F := Ideal) a0 a1 a2 a3 a4 a5 a6).2.1 = fun _ => 1#1) (i : Cert.Pre_finite_transitions.S4x2x48x64.Idx) :
    ∃ r : ℝ, (a1 i : EReal) = r := by
  have := subsingleton_scalar
  have h0 := congrFun h ix0
  dsimp only [Cert.Pre_finite_transitions.fn] at h0
  exact real_of_test (a1 i) (Host.reduce_andi_all _ _ _ _ _ h0 i)

/-- The precondition makes every logarithm of a step real. -/
theorem dt_real (h : (Cert.Pre_finite_transitions.fn (F := Ideal) a0 a1 a2 a3 a4 a5 a6).2.2 = fun _ => 1#1) (i : Cert.Pre_finite_transitions.S4x2x48.Idx) :
    ∃ r : ℝ, (a2 i : EReal) = r := by
  have := subsingleton_scalar
  have h0 := congrFun h ix0
  dsimp only [Cert.Pre_finite_transitions.fn] at h0
  exact real_of_test (a2 i) (Host.reduce_andi_all _ _ _ _ _ h0 i)

end

/-! ## The equation -/

open Cert.S5PowRefIdeal in
/-- From finite eigenvalues and steps the reference ends with the kernel's tables of its operands. -/
theorem run_ref (m : (ℓ : Loc nD τ sig) → Buf (Elt Ideal) ℓ) (ρ : Dev nD → PrngReg)
    (hr : ∀ (c : Dev nD) (i : S4x2x48x64.Idx), ∃ r : ℝ, @Eq EReal (m ((c.tc : Thread nD τ).loc main_arg0) i) r)
    (hi : ∀ (c : Dev nD) (i : S4x2x48x64.Idx), ∃ r : ℝ, @Eq EReal (m ((c.tc : Thread nD τ).loc main_arg1) i) r)
    (hd : ∀ (c : Dev nD) (i : S4x2x48.Idx), ∃ r : ℝ, @Eq EReal (m ((c.tc : Thread nD τ).loc main_arg2) i) r) :
    θ_run defs (onTc (τ := τ) (main (F := Ideal))) ⟨m, fun _ => 0, ρ⟩ fun r => ∀ c : Dev nD,
      r.2.mem ((c.tc : Thread nD τ).loc main_v49) = table Prod.fst (m ((c.tc : Thread nD τ).loc main_arg0)) (m ((c.tc : Thread nD τ).loc main_arg1)) (m ((c.tc : Thread nD τ).loc main_arg2))
      ∧ r.2.mem ((c.tc : Thread nD τ).loc main_v57) = table Prod.snd (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((Read.val_main_v49_eq m c).trans ((S5PowRef.re_eq _ _ _).trans (table_eq Prod.fst _ _ _ (hr c) (hi c) (hd c)).symm)),
      (h c).2.1.trans ((Read.val_main_v57_eq m c).trans ((S5PowRef.im_eq _ _ _).trans (table_eq Prod.snd _ _ _ (hr c) (hi c) (hd c)).symm)), (h c).2.2⟩)
    (Value.run (F := Ideal) m ρ)

end Cert.S5PowEq

end
-- ==== Proof.lean ====
/-
  The certificate: calls of the layer — attention, feed-forward, input projection, mixing and output
  projection, the last S5 stage, the modulation table, the query and key preparation,
  the power tables of the S5 transitions — each with its frames, its idealization and, where stated, its equation with the reference.
-/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.S5Out
public import proofs.«01_k».proof.Proof.Gen.S5Out.Skeleton
public import proofs.«01_k».proof.Proof.Gen.S5Out.Launch
public import proofs.«01_k».proof.Proof.Gen.S5Out.Points
public import proofs.«01_k».proof.Proof.Gen.S5Out.Frame
public import proofs.«01_k».proof.Proof.Gen.S5OutIdeal
public import proofs.«01_k».proof.Proof.Gen.S5OutIdeal.Skeleton
public import proofs.«01_k».proof.Proof.Gen.S5OutIdeal.Launch
public import proofs.«01_k».proof.Proof.Gen.S5OutIdeal.Points
public import proofs.«01_k».proof.Proof.Gen.S5OutIdeal.Frame
public import proofs.«01_k».proof.Proof.Gen.S5OutIdeal.Value
public import proofs.«01_k».proof.Proof.Gen.S5OutRefIdeal
public import proofs.«01_k».proof.Proof.Gen.S5OutRefIdeal.Run
public import proofs.«01_k».proof.Proof.Gen.S5OutRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.QkPrep
public import proofs.«01_k».proof.Proof.Gen.QkPrep.Skeleton
public import proofs.«01_k».proof.Proof.Gen.QkPrep.Launch
public import proofs.«01_k».proof.Proof.Gen.QkPrep.Points
public import proofs.«01_k».proof.Proof.Gen.QkPrep.Frame
public import proofs.«01_k».proof.Proof.Gen.QkPrepIdeal
public import proofs.«01_k».proof.Proof.Gen.QkPrepIdeal.Skeleton
public import proofs.«01_k».proof.Proof.Gen.QkPrepIdeal.Launch
public import proofs.«01_k».proof.Proof.Gen.QkPrepIdeal.Points
public import proofs.«01_k».proof.Proof.Gen.QkPrepIdeal.Frame
public import proofs.«01_k».proof.Proof.Gen.QkPrepIdeal.Value
public import proofs.«01_k».proof.Proof.Gen.QkPrepRefIdeal
public import proofs.«01_k».proof.Proof.Gen.QkPrepRefIdeal.Run
public import proofs.«01_k».proof.Proof.Gen.QkPrepRefIdeal.Read
public import proofs.«01_k».proof.Proof.Gen.Pre_finite_scores
public import proofs.«01_k».proof.Proof.AttnEq
public import proofs.«01_k».proof.Proof.FfnEq
public import proofs.«01_k».proof.Proof.InProjEq
public import proofs.«01_k».proof.Proof.MixOutEq
public import proofs.«01_k».proof.Proof.S5OutArray
public import proofs.«01_k».proof.Proof.S5OutEq
public import proofs.«01_k».proof.Proof.AdaArray
public import proofs.«01_k».proof.Proof.AdaEq
public import proofs.«01_k».proof.Proof.QkPrepArray
public import proofs.«01_k».proof.Proof.QkPrepEq
public import proofs.«01_k».proof.Proof.Gen.S5Pow
public import proofs.«01_k».proof.Proof.Gen.S5Pow.Skeleton
public import proofs.«01_k».proof.Proof.Gen.S5Pow.Loops
public import proofs.«01_k».proof.Proof.Gen.S5Pow.Launch
public import proofs.«01_k».proof.Proof.Gen.S5Pow.Points
public import proofs.«01_k».proof.Proof.Gen.S5Pow.Frame
public import proofs.«01_k».proof.Proof.Gen.S5PowIdeal
public import proofs.«01_k».proof.Proof.Gen.S5PowIdeal.Skeleton
public import proofs.«01_k».proof.Proof.Gen.S5PowIdeal.Loops
public import proofs.«01_k».proof.Proof.Gen.S5PowIdeal.Launch
public import proofs.«01_k».proof.Proof.Gen.S5PowIdeal.Points
public import proofs.«01_k».proof.Proof.Gen.S5PowIdeal.Frame
public import proofs.«01_k».proof.Proof.Gen.S5PowIdeal.Value
public import proofs.«01_k».proof.Proof.Gen.S5PowRefIdeal
public import proofs.«01_k».proof.Proof.Gen.S5PowRefIdeal.Run
public import proofs.«01_k».proof.Proof.Gen.S5PowRefIdeal.Read
public import proofs.«01_k».proof.Proof.Gen.Pre_finite_transitions
public import proofs.«01_k».proof.Proof.S5PowArray
public import proofs.«01_k».proof.Proof.S5PowEq
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference `AttnRefIdeal` terminates, leaves its arguments alone and ends with every semaphore at zero. -/
theorem frame_AttnRefIdeal : quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- The reference `FfnRefIdeal` terminates, leaves its arguments alone and ends with every semaphore at zero. -/
theorem frame_FfnRefIdeal : quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- The reference `InProjRefIdeal` terminates, leaves its arguments alone and ends with every semaphore at zero. -/
theorem frame_InProjRefIdeal : quiescent_InProjRefIdeal := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)

/-- The reference `MixOutRefIdeal` terminates, leaves its arguments alone and ends with every semaphore at zero. -/
theorem frame_MixOutRefIdeal : quiescent_MixOutRefIdeal := fun m ρ _ =>
  (θ_run Cert.MixOutRefIdeal.defs _ _).mono
    (fun r h => ⟨fun c => (h c).2, Idealize.ShloMosaic.sem_eq_zero_of_no_sems (by decide) r.2⟩)
    (Cert.MixOutRefIdeal.Value.run (F := Ideal) m ρ)

/-- The reference `S5OutRefIdeal` terminates, leaves its arguments alone and ends with every semaphore at zero. -/
theorem frame_S5OutRefIdeal : quiescent_S5OutRefIdeal := fun m ρ _ =>
  (θ_run Cert.S5OutRefIdeal.defs _ _).mono
    (fun r h => ⟨fun c => (h c).2, Idealize.ShloMosaic.sem_eq_zero_of_no_sems (by decide) r.2⟩)
    (Cert.S5OutRefIdeal.Value.run (F := Ideal) m ρ)

/-- The reference `AdaRefIdeal` terminates, leaves its arguments alone and ends with every semaphore at zero. -/
theorem frame_AdaRefIdeal : quiescent_AdaRefIdeal := fun m ρ _ =>
  (θ_run Cert.AdaRefIdeal.defs _ _).mono
    (fun r h => ⟨fun c => (h c).2, Idealize.ShloMosaic.sem_eq_zero_of_no_sems (by decide) r.2⟩)
    (Cert.AdaRefIdeal.Value.run (F := Ideal) m ρ)

/-- The reference `QkPrepRefIdeal` terminates, leaves its arguments alone and ends with every semaphore at zero. -/
theorem frame_QkPrepRefIdeal : quiescent_QkPrepRefIdeal := fun m ρ _ =>
  (θ_run Cert.QkPrepRefIdeal.defs _ _).mono
    (fun r h => ⟨fun c => (h c).2.2, Idealize.ShloMosaic.sem_eq_zero_of_no_sems (by decide) r.2⟩)
    (Cert.QkPrepRefIdeal.Value.run (F := Ideal) m ρ)

/-- From finite queries and keys the attention kernel and its reference end with equal results. -/
theorem equal_Attn : algebraic_AttnIdeal_AttnRefIdeal_pre_finite_scores := fun m ρ m' ρ' hpre hag =>
  ⟨fun c => AttnIdeal.Array.result m c, AttnIdeal.Array.run m ρ,
    (θ_run _ _ _).mono
      (fun _ h c => ⟨(h c).1.trans (by rw [(hag c).1, (hag c).2.1, (hag c).2.2]; rfl), (h c).2⟩)
      (AttnEq.run_ref m' ρ'
        (fun c i => by rw [(hag c).1]; exact AttnEq.queries_real _ _ _ (hpre c).1 i)
        (fun c i => by rw [(hag c).2.1]; exact AttnEq.keys_real _ _ _ (hpre c).2 i))⟩

/-- The feed-forward kernel and its reference end with equal results. -/
theorem equal_Ffn : algebraic_FfnIdeal_FfnRefIdeal := fun m ρ m' ρ' _ hag =>
  ⟨fun c => FfnIdeal.Array.result m c, FfnIdeal.Array.run m ρ,
    (θ_run _ _ _).mono
      (fun _ h c => ⟨(h c).1.trans (by rw [(hag c).1, (hag c).2.1, (hag c).2.2.1, (hag c).2.2.2.1, (hag c).2.2.2.2.1, (hag c).2.2.2.2.2]; rfl), (h c).2⟩)
      (FfnEq.run_ref m' ρ')⟩

/-- The input projection and its reference end with equal results. -/
theorem equal_InProj : algebraic_InProjIdeal_InProjRefIdeal := fun m ρ m' ρ' _ hag =>
  ⟨fun c => InProjIdeal.Array.result m c, InProjIdeal.Array.run m ρ,
    (θ_run _ _ _).mono
      (fun _ h c => ⟨(h c).1.trans (by rw [(hag c).1, (hag c).2.1, (hag c).2.2]; rfl), (h c).2⟩)
      (InProjEq.run_ref m' ρ')⟩

/-- The mixing and output projection and its reference end with equal results. -/
theorem equal_MixOut : algebraic_MixOutIdeal_MixOutRefIdeal := fun m ρ m' ρ' _ hag =>
  ⟨fun c => MixOutIdeal.Array.result m c, MixOutIdeal.Array.run m ρ,
    (θ_run _ _ _).mono
      (fun _ h c => ⟨(h c).1.trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]; rfl), (h c).2⟩)
      (MixOutEq.run_ref m' ρ')⟩

/-- The last S5 stage and its reference end with equal results. -/
theorem equal_S5Out : algebraic_S5OutIdeal_S5OutRefIdeal := fun m ρ m' ρ' _ hag =>
  ⟨fun c => S5OutIdeal.Array.result m c, S5OutIdeal.Array.run m ρ,
    (θ_run _ _ _).mono
      (fun _ h c => ⟨(h c).1.trans (by rw [(hag c).1, (hag c).2.1, (hag c).2.2.1, (hag c).2.2.2]; rfl), (h c).2⟩)
      (S5OutEq.run_ref m' ρ')⟩

/-- The modulation table and its reference end with equal results. -/
theorem equal_Ada : algebraic_AdaIdeal_AdaRefIdeal := fun m ρ m' ρ' _ hag =>
  ⟨fun c => AdaIdeal.Array.result m c, AdaIdeal.Array.run m ρ,
    (θ_run _ _ _).mono
      (fun _ h c => ⟨(h c).1.trans (by rw [(hag c).1, (hag c).2.1, (hag c).2.2]; rfl), (h c).2⟩)
      (AdaEq.run_ref m' ρ')⟩

/-- The query and key preparation and its reference end with equal results. -/
theorem equal_QkPrep : algebraic_QkPrepIdeal_QkPrepRefIdeal := fun m ρ m' ρ' _ hag =>
  ⟨fun c => QkPrepIdeal.Array.result_q m c, fun c => QkPrepIdeal.Array.result_k m c, QkPrepIdeal.Array.run m ρ,
    (θ_run _ _ _).mono
      (fun _ h c => ⟨(h c).1.trans (by rw [(hag c).1, (hag c).2.1, (hag c).2.2.1, (hag c).2.2.2.1]; rfl),
        (h c).2.1.trans (by rw [(hag c).1, (hag c).2.1, (hag c).2.2.1, (hag c).2.2.2.2]; rfl), (h c).2.2⟩)
      (QkPrepEq.run_ref m' ρ')⟩

/-- The reference `S5PowRefIdeal` terminates, leaves its arguments alone and ends with every semaphore at zero. -/
theorem frame_S5PowRefIdeal : quiescent_S5PowRefIdeal := fun m ρ _ =>
  (θ_run Cert.S5PowRefIdeal.defs _ _).mono
    (fun r h => ⟨fun c => (h c).2.2, Idealize.ShloMosaic.sem_eq_zero_of_no_sems (by decide) r.2⟩)
    (Cert.S5PowRefIdeal.Value.run (F := Ideal) m ρ)

/-- From finite eigenvalues and steps the power tables and their reference end with equal results. -/
theorem equal_S5Pow : algebraic_S5PowIdeal_S5PowRefIdeal_pre_finite_transitions := fun m ρ m' ρ' hpre hag =>
  ⟨fun c => S5PowIdeal.Array.result_re m c, fun c => S5PowIdeal.Array.result_im m c, S5PowIdeal.Array.run m ρ,
    (θ_run _ _ _).mono
      (fun _ h c => ⟨(h c).1.trans (by rw [(hag c).1, (hag c).2.1, (hag c).2.2.1]; rfl),
        (h c).2.1.trans (by rw [(hag c).1, (hag c).2.1, (hag c).2.2.1]; rfl), (h c).2.2⟩)
      (S5PowEq.run_ref m' ρ'
        (fun c i => by rw [(hag c).1]; exact S5PowEq.re_real _ _ _ _ _ _ _ (hpre c).1 i)
        (fun c i => by rw [(hag c).2.1]; exact S5PowEq.im_real _ _ _ _ _ _ _ (hpre c).2.1 i)
        (fun c i => by rw [(hag c).2.2.1]; exact S5PowEq.dt_real _ _ _ _ _ _ _ (hpre c).2.2 i))⟩

/-- Every claim of the certificate. -/
theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.MixOut.Gen.facts, Cert.MixOutIdeal.Gen.facts, Cert.MixOutRefIdeal.Gen.facts, Cert.S5Out.Gen.facts, Cert.S5OutIdeal.Gen.facts, Cert.S5OutRefIdeal.Gen.facts, Cert.Ada.Gen.facts, Cert.AdaIdeal.Gen.facts, Cert.AdaRefIdeal.Gen.facts, Cert.QkPrep.Gen.facts, Cert.QkPrepIdeal.Gen.facts, Cert.QkPrepRefIdeal.Gen.facts, Cert.S5Pow.Gen.facts, Cert.S5PowIdeal.Gen.facts, Cert.S5PowRefIdeal.Gen.facts, Cert.Pre_finite_scores.Gen.facts, Cert.Pre_finite_transitions.Gen.facts,
    fun m ρ _ => Cert.Attn.Gen.frame m ρ,
    fun m ρ _ => Cert.AttnIdeal.Gen.frame m ρ,
    fun m ρ _ => Cert.AttnIdeal.Gen.frame m ρ,
    frame_AttnRefIdeal,
    fun m ρ _ => frame_AttnRefIdeal m ρ trivial,
    fun m ρ _ => Cert.Ffn.Gen.frame m ρ,
    fun m ρ _ => Cert.FfnIdeal.Gen.frame m ρ,
    frame_FfnRefIdeal,
    fun m ρ _ => Cert.InProj.Gen.frame m ρ,
    fun m ρ _ => Cert.InProjIdeal.Gen.frame m ρ,
    frame_InProjRefIdeal,
    fun m ρ _ => Cert.MixOut.Gen.frame m ρ,
    fun m ρ _ => Cert.MixOutIdeal.Gen.frame m ρ,
    frame_MixOutRefIdeal,
    fun m ρ _ => Cert.S5Out.Gen.frame m ρ,
    fun m ρ _ => Cert.S5OutIdeal.Gen.frame m ρ,
    frame_S5OutRefIdeal,
    fun m ρ _ => Cert.Ada.Gen.frame m ρ,
    fun m ρ _ => Cert.AdaIdeal.Gen.frame m ρ,
    frame_AdaRefIdeal,
    fun m ρ _ => Cert.QkPrep.Gen.frame m ρ,
    fun m ρ _ => Cert.QkPrepIdeal.Gen.frame m ρ,
    frame_QkPrepRefIdeal,
    fun m ρ _ => Cert.S5Pow.Gen.frame m ρ,
    fun m ρ _ => Cert.S5PowIdeal.Gen.frame m ρ,
    fun m ρ _ => Cert.S5PowIdeal.Gen.frame m ρ,
    frame_S5PowRefIdeal,
    fun m ρ _ => frame_S5PowRefIdeal m ρ trivial,
    trivial,
    equal_Attn,
    trivial,
    equal_Ffn,
    trivial,
    equal_InProj,
    trivial,
    equal_MixOut,
    trivial,
    equal_S5Out,
    trivial,
    equal_Ada,
    trivial,
    equal_QkPrep,
    trivial,
    equal_S5Pow⟩

end Cert.Proof

end
